-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_columns [hPre_finite_columns : Cert.Pre_finite_columns.Facts] (m : (ℓ : Loc Cert.KernelIdeal.nD Cert.KernelIdeal.τ Cert.KernelIdeal.sig) → Buf (Elt Ideal) ℓ) : Prop :=
  ∀ c : Dev Cert.KernelIdeal.nD,
    (Cert.Pre_finite_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_columns [hPre_finite_columns : Cert.Pre_finite_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_columns [hKernelIdeal : Cert.KernelIdeal.Facts] [hPre_finite_columns : Cert.Pre_finite_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_columns m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_columns [hReferenceIdeal : Cert.ReferenceIdeal.Facts] [hPre_finite_columns : Cert.Pre_finite_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pack.Statement Cert.KernelIdeal.S1024x2048

def algebraic_KernelIdeal_ReferenceIdeal_pre_finite_columns [hKernelIdeal : Cert.KernelIdeal.Facts] [hReferenceIdeal : Cert.ReferenceIdeal.Facts] [hPre_finite_columns : Cert.Pre_finite_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_columns m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_columns : Cert.Pre_finite_columns.Facts),
    quiescent_Kernel (hKernel := hKernel)
    ∧ quiescent_KernelIdeal (hKernelIdeal := hKernelIdeal)
    ∧ quiescent_KernelIdeal_pre_finite_columns (hKernelIdeal := hKernelIdeal) (hPre_finite_columns := hPre_finite_columns)
    ∧ quiescent_ReferenceIdeal (hReferenceIdeal := hReferenceIdeal)
    ∧ quiescent_ReferenceIdeal_pre_finite_columns (hReferenceIdeal := hReferenceIdeal) (hPre_finite_columns := hPre_finite_columns)
    ∧ preserves_Kernel_KernelIdeal
    ∧ algebraic_KernelIdeal_ReferenceIdeal_pre_finite_columns (hKernelIdeal := hKernelIdeal) (hReferenceIdeal := hReferenceIdeal) (hPre_finite_columns := hPre_finite_columns)
-- ==== Pre_finite_columns.lean ====
abbrev S4x1024x2048 : Shape := ⟨3, ![4, 1024, 2048]⟩
abbrev S4x2048x2048 : Shape := ⟨3, ![4, 2048, 2048]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel

variable [Facts]

def fn {F : FTy → Type} [FloatOps F] (main_arg0 : FVec F S4x1024x2048 .f32) (main_arg1 : FVec F S4x2048x2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  main_v3
-- ==== Kernel.lean ====
abbrev S4x1024x2048 : Shape := ⟨3, ![4, 1024, 2048]⟩
abbrev S4x2048x2048 : Shape := ⟨3, ![4, 2048, 2048]⟩
abbrev S4x1x2048 : Shape := ⟨3, ![4, 1, 2048]⟩
abbrev S1x1024x2048 : Shape := ⟨3, ![1, 1024, 2048]⟩
abbrev S1x1x2048 : Shape := ⟨3, ![1, 1, 2048]⟩
abbrev S8x2048 : Shape := ⟨2, ![8, 2048]⟩
abbrev S1x8x2048 : Shape := ⟨3, ![1, 8, 2048]⟩
abbrev S4x2048 : Shape := ⟨2, ![4, 2048]⟩
abbrev S2x2048 : Shape := ⟨2, ![2, 2048]⟩
abbrev S1x2048 : Shape := ⟨2, ![1, 2048]⟩
abbrev S4x256 : Shape := ⟨2, ![4, 256]⟩
abbrev S4x16x128 : Shape := ⟨3, ![4, 16, 128]⟩
abbrev S4x16x127 : Shape := ⟨3, ![4, 16, 127]⟩
abbrev S4x16x1 : Shape := ⟨3, ![4, 16, 1]⟩
abbrev S4x16x126 : Shape := ⟨3, ![4, 16, 126]⟩
abbrev S4x16x2 : Shape := ⟨3, ![4, 16, 2]⟩
abbrev S4x16x124 : Shape := ⟨3, ![4, 16, 124]⟩
abbrev S4x16x4 : Shape := ⟨3, ![4, 16, 4]⟩
abbrev S4x16x120 : Shape := ⟨3, ![4, 16, 120]⟩
abbrev S4x16x8 : Shape := ⟨3, ![4, 16, 8]⟩
abbrev S4x16x112 : Shape := ⟨3, ![4, 16, 112]⟩
abbrev S4x16x16 : Shape := ⟨3, ![4, 16, 16]⟩
abbrev S4x16x96 : Shape := ⟨3, ![4, 16, 96]⟩
abbrev S4x16x32 : Shape := ⟨3, ![4, 16, 32]⟩
abbrev S4x16x64 : Shape := ⟨3, ![4, 16, 64]⟩
abbrev S4x15x128 : Shape := ⟨3, ![4, 15, 128]⟩
abbrev S4x1x128 : Shape := ⟨3, ![4, 1, 128]⟩
abbrev S4x14x128 : Shape := ⟨3, ![4, 14, 128]⟩
abbrev S4x2x128 : Shape := ⟨3, ![4, 2, 128]⟩
abbrev S4x12x128 : Shape := ⟨3, ![4, 12, 128]⟩
abbrev S4x4x128 : Shape := ⟨3, ![4, 4, 128]⟩
abbrev S4x8x128 : Shape := ⟨3, ![4, 8, 128]⟩
abbrev S1x1024x256 : Shape := ⟨3, ![1, 1024, 256]⟩
abbrev S256 : Shape := ⟨1, ![256]⟩
abbrev S32x2048 : Shape := ⟨2, ![32, 2048]⟩
abbrev S32x256 : Shape := ⟨2, ![32, 256]⟩
abbrev S_ : Shape := ⟨0, ![]⟩
abbrev S1x256 : Shape := ⟨2, ![1, 256]⟩
abbrev S1x32x2048 : Shape := ⟨3, ![1, 32, 2048]⟩
abbrev S16 : Shape := ⟨1, ![16]⟩
abbrev S1x16 : Shape := ⟨2, ![1, 16]⟩
abbrev S1x32x256 : Shape := ⟨3, ![1, 32, 256]⟩
abbrev S4x1x256 : Shape := ⟨3, ![4, 1, 256]⟩
abbrev S3x1024x256 : Shape := ⟨3, ![3, 1024, 256]⟩
abbrev S1x1x256 : Shape := ⟨3, ![1, 1, 256]⟩
abbrev S2048x256 : Shape := ⟨2, ![2048, 256]⟩
abbrev S1024x2048 : Shape := ⟨2, ![1024, 2048]⟩
abbrev S1024x256 : Shape := ⟨2, ![1024, 256]⟩
abbrev S4x1024x256 : Shape := ⟨3, ![4, 1024, 256]⟩

abbrev nBuf : Table → Nat
  | .hbm => 9
  | .local .tc .vmem => 13
  | .local .scVector .vmem => 3
  | _ => 0

abbrev bufTy : (tb : Table) → Fin (nBuf tb) → BufTy
  | .hbm, ⟨0, _⟩ => ⟨S4x1024x2048, .f32⟩
  | .hbm, ⟨1, _⟩ => ⟨S4x2048x2048, .f32⟩
  | .hbm, ⟨2, _⟩ => ⟨S4x1x2048, .f32⟩
  | .hbm, ⟨3, _⟩ => ⟨S4x2048, .f32⟩
  | .hbm, ⟨4, _⟩ => ⟨S4x256, .i32⟩
  | .hbm, ⟨5, _⟩ => ⟨S1x1024x256, .f32⟩
  | .hbm, ⟨6, _⟩ => ⟨S4x1x256, .i32⟩
  | .hbm, ⟨7, _⟩ => ⟨S3x1024x256, .f32⟩
  | .hbm, ⟨8, _⟩ => ⟨S4x1024x256, .f32⟩
  | .local .tc .vmem, ⟨0, _⟩ => ⟨S1x1024x2048, .f32⟩
  | .local .tc .vmem, ⟨1, _⟩ => ⟨S1x1024x2048, .f32⟩
  | .local .tc .vmem, ⟨2, _⟩ => ⟨S1x1x2048, .f32⟩
  | .local .tc .vmem, ⟨3, _⟩ => ⟨S1x1x2048, .f32⟩
  | .local .tc .vmem, ⟨4, _⟩ => ⟨S8x2048, .f32⟩
  | .local .tc .vmem, ⟨5, _⟩ => ⟨S4x2048, .f32⟩
  | .local .tc .vmem, ⟨6, _⟩ => ⟨S4x256, .i32⟩
  | .local .tc .vmem, ⟨7, _⟩ => ⟨S1x1024x2048, .f32⟩
  | .local .tc .vmem, ⟨8, _⟩ => ⟨S1x1024x2048, .f32⟩
  | .local .tc .vmem, ⟨9, _⟩ => ⟨S1x1x256, .i32⟩
  | .local .tc .vmem, ⟨10, _⟩ => ⟨S1x1x256, .i32⟩
  | .local .tc .vmem, ⟨11, _⟩ => ⟨S1x1024x256, .f32⟩
  | .local .tc .vmem, ⟨12, _⟩ => ⟨S1x1024x256, .f32⟩
  | .local .scVector .vmem, ⟨0, _⟩ => ⟨S256, .i32⟩
  | .local .scVector .vmem, ⟨1, _⟩ => ⟨S32x2048, .f32⟩
  | .local .scVector .vmem, ⟨2, _⟩ => ⟨S32x256, .f32⟩
  | _, _ => ⟨S4x1024x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_arg0_scv : Ref sig .scVector := ⟨.hbm, 0, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc3_stg0_0 : Ref sig .tc := ⟨.vmem, 7, rfl⟩
abbrev cc3_stg0_1 : Ref sig .tc := ⟨.vmem, 8, rfl⟩
abbrev cc3_stg1_0 : Ref sig .tc := ⟨.vmem, 9, rfl⟩
abbrev cc3_stg1_1 : Ref sig .tc := ⟨.vmem, 10, rfl⟩
abbrev cc3_stg2_0 : Ref sig .tc := ⟨.vmem, 11, rfl⟩
abbrev cc3_stg2_1 : Ref sig .tc := ⟨.vmem, 12, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc3_sem0_0 : DmaSem sig := 10
abbrev cc3_sem0_1 : DmaSem sig := 11
abbrev cc3_sem1_0 : DmaSem sig := 12
abbrev cc3_sem1_1 : DmaSem sig := 13
abbrev cc3_sem2_0 : DmaSem sig := 14
abbrev cc3_sem2_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v391 : BitVec 1 := Scalar.cmpi .eq arg1 c1_i32
  let v392 : BitVec 32 := Scalar.extui v391
  let c0_i32_261 : BitVec 32 := 0#32
  let v393 : BitVec 1 := Scalar.cmpi .ne v392 c0_i32_261
  v393

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S4x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x256 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c32_i32 : BitVec 32 := 32#32
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let v2 : BitVec 32 := Scalar.divsi v1 c32_i32
  let c1_i32 : BitVec 32 := 1#32
  let v17 : BitVec 32 := Scalar.subi v2 c1_i32
  let v18 : BitVec 32 := Scalar.select v16 v17 v2
  let c3_i32 : BitVec 32 := 3#32
  let v19 : BitVec 32 := Scalar.addi v18 c3_i32
  let c0_i32_1539_r0 : BitVec 32 := 0#32
  ![v19.toNat, 0]
def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c32_i32 : BitVec 32 := 32#32
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let v2 : BitVec 32 := Scalar.divsi v1 c32_i32
  let c1_i32 : BitVec 32 := 1#32
  let v17 : BitVec 32 := Scalar.subi v2 c1_i32
  let v18 : BitVec 32 := Scalar.select v16 v17 v2
  let c3_i32 : BitVec 32 := 3#32
  let v19 : BitVec 32 := Scalar.addi v18 c3_i32
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c32_i32_10 : BitVec 32 := 32#32
  let v30 : BitVec 32 := Scalar.muli v29 c32_i32_10
  let c0_i32_12 : BitVec 32 := 0#32
  let c32_i32_13 : BitVec 32 := 32#32
  let v31 : BitVec 32 := Scalar.muli c0_i32_12 c32_i32_13
  let v32 : BitVec 32 := Scalar.addi v30 v31
  let c0_i32_1539_r1 : BitVec 32 := 0#32
  ![v19.toNat, v32.toNat, 0]

def k2_chk1 (v33 : IVec S16 32) (v34 : IVec S16 32) : Prop :=
  (∀ a x, ((![v33, v34] : Fin 2 → IVec S16 32) a x).toNat < S32x2048.size a)
theorem k2_idx1_inb : ∀ (v33 : IVec S16 32) (v34 : IVec S16 32) (k2_hw1 : k2_chk1 v33 v34), ∀ a x, ((![v33, v34] : Fin 2 → IVec S16 32) a x).toNat < S32x2048.size a := fun v33 v34 k2_hw1 => k2_hw1

def k2_chk2 (v33 : IVec S16 32) (v38 : IVec S16 32) : Prop :=
  (∀ a x, ((![v33, v38] : Fin 2 → IVec S16 32) a x).toNat < S32x2048.size a)
theorem k2_idx2_inb : ∀ (v33 : IVec S16 32) (v38 : IVec S16 32) (k2_hw2 : k2_chk2 v33 v38), ∀ a x, ((![v33, v38] : Fin 2 → IVec S16 32) a x).toNat < S32x2048.size a := fun v33 v38 k2_hw2 => k2_hw2

def k2_chk3 (v33 : IVec S16 32) (v42 : IVec S16 32) : Prop :=
  (∀ a x, ((![v33, v42] : Fin 2 → IVec S16 32) a x).toNat < S32x2048.size a)
theorem k2_idx3_inb : ∀ (v33 : IVec S16 32) (v42 : IVec S16 32) (k2_hw3 : k2_chk3 v33 v42), ∀ a x, ((![v33, v42] : Fin 2 → IVec S16 32) a x).toNat < S32x2048.size a := fun v33 v42 k2_hw3 => k2_hw3

def k2_chk4 (v33 : IVec S16 32) (v46 : IVec S16 32) : Prop :=
  (∀ a x, ((![v33, v46] : Fin 2 → IVec S16 32) a x).toNat < S32x2048.size a)
theorem k2_idx4_inb : ∀ (v33 : IVec S16 32) (v46 : IVec S16 32) (k2_hw4 : k2_chk4 v33 v46), ∀ a x, ((![v33, v46] : Fin 2 → IVec S16 32) a x).toNat < S32x2048.size a := fun v33 v46 k2_hw4 => k2_hw4

def k2_chk5 (v33 : IVec S16 32) (v50 : IVec S16 32) : Prop :=
  (∀ a x, ((![v33, v50] : Fin 2 → IVec S16 32) a x).toNat < S32x2048.size a)
theorem k2_idx5_inb : ∀ (v33 : IVec S16 32) (v50 : IVec S16 32) (k2_hw5 : k2_chk5 v33 v50), ∀ a x, ((![v33, v50] : Fin 2 → IVec S16 32) a x).toNat < S32x2048.size a := fun v33 v50 k2_hw5 => k2_hw5

def k2_chk6 (v33 : IVec S16 32) (v54 : IVec S16 32) : Prop :=
  (∀ a x, ((![v33, v54] : Fin 2 → IVec S16 32) a x).toNat < S32x2048.size a)
theorem k2_idx6_inb : ∀ (v33 : IVec S16 32) (v54 : IVec S16 32) (k2_hw6 : k2_chk6 v33 v54), ∀ a x, ((![v33, v54] : Fin 2 → IVec S16 32) a x).toNat < S32x2048.size a := fun v33 v54 k2_hw6 => k2_hw6

def k2_chk7 (v33 : IVec S16 32) (v58 : IVec S16 32) : Prop :=
  (∀ a x, ((![v33, v58] : Fin 2 → IVec S16 32) a x).toNat < S32x2048.size a)
theorem k2_idx7_inb : ∀ (v33 : IVec S16 32) (v58 : IVec S16 32) (k2_hw7 : k2_chk7 v33 v58), ∀ a x, ((![v33, v58] : Fin 2 → IVec S16 32) a x).toNat < S32x2048.size a := fun v33 v58 k2_hw7 => k2_hw7

def k2_chk8 (v33 : IVec S16 32) (v62 : IVec S16 32) : Prop :=
  (∀ a x, ((![v33, v62] : Fin 2 → IVec S16 32) a x).toNat < S32x2048.size a)
theorem k2_idx8_inb : ∀ (v33 : IVec S16 32) (v62 : IVec S16 32) (k2_hw8 : k2_chk8 v33 v62), ∀ a x, ((![v33, v62] : Fin 2 → IVec S16 32) a x).toNat < S32x2048.size a := fun v33 v62 k2_hw8 => k2_hw8

def k2_chk9 (v33 : IVec S16 32) (v66 : IVec S16 32) : Prop :=
  (∀ a x, ((![v33, v66] : Fin 2 → IVec S16 32) a x).toNat < S32x2048.size a)
theorem k2_idx9_inb : ∀ (v33 : IVec S16 32) (v66 : IVec S16 32) (k2_hw9 : k2_chk9 v33 v66), ∀ a x, ((![v33, v66] : Fin 2 → IVec S16 32) a x).toNat < S32x2048.size a := fun v33 v66 k2_hw9 => k2_hw9

def k2_chk10 (v33 : IVec S16 32) (v70 : IVec S16 32) : Prop :=
  (∀ a x, ((![v33, v70] : Fin 2 → IVec S16 32) a x).toNat < S32x2048.size a)
theorem k2_idx10_inb : ∀ (v33 : IVec S16 32) (v70 : IVec S16 32) (k2_hw10 : k2_chk10 v33 v70), ∀ a x, ((![v33, v70] : Fin 2 → IVec S16 32) a x).toNat < S32x2048.size a := fun v33 v70 k2_hw10 => k2_hw10

def k2_chk11 (v33 : IVec S16 32) (v74 : IVec S16 32) : Prop :=
  (∀ a x, ((![v33, v74] : Fin 2 → IVec S16 32) a x).toNat < S32x2048.size a)
theorem k2_idx11_inb : ∀ (v33 : IVec S16 32) (v74 : IVec S16 32) (k2_hw11 : k2_chk11 v33 v74), ∀ a x, ((![v33, v74] : Fin 2 → IVec S16 32) a x).toNat < S32x2048.size a := fun v33 v74 k2_hw11 => k2_hw11

def k2_chk12 (v33 : IVec S16 32) (v78 : IVec S16 32) : Prop :=
  (∀ a x, ((![v33, v78] : Fin 2 → IVec S16 32) a x).toNat < S32x2048.size a)
theorem k2_idx12_inb : ∀ (v33 : IVec S16 32) (v78 : IVec S16 32) (k2_hw12 : k2_chk12 v33 v78), ∀ a x, ((![v33, v78] : Fin 2 → IVec S16 32) a x).toNat < S32x2048.size a := fun v33 v78 k2_hw12 => k2_hw12

def k2_chk13 (v33 : IVec S16 32) (v82 : IVec S16 32) : Prop :=
  (∀ a x, ((![v33, v82] : Fin 2 → IVec S16 32) a x).toNat < S32x2048.size a)
theorem k2_idx13_inb : ∀ (v33 : IVec S16 32) (v82 : IVec S16 32) (k2_hw13 : k2_chk13 v33 v82), ∀ a x, ((![v33, v82] : Fin 2 → IVec S16 32) a x).toNat < S32x2048.size a := fun v33 v82 k2_hw13 => k2_hw13

def k2_chk14 (v33 : IVec S16 32) (v86 : IVec S16 32) : Prop :=
  (∀ a x, ((![v33, v86] : Fin 2 → IVec S16 32) a x).toNat < S32x2048.size a)
theorem k2_idx14_inb : ∀ (v33 : IVec S16 32) (v86 : IVec S16 32) (k2_hw14 : k2_chk14 v33 v86), ∀ a x, ((![v33, v86] : Fin 2 → IVec S16 32) a x).toNat < S32x2048.size a := fun v33 v86 k2_hw14 => k2_hw14

def k2_chk15 (v33 : IVec S16 32) (v90 : IVec S16 32) : Prop :=
  (∀ a x, ((![v33, v90] : Fin 2 → IVec S16 32) a x).toNat < S32x2048.size a)
theorem k2_idx15_inb : ∀ (v33 : IVec S16 32) (v90 : IVec S16 32) (k2_hw15 : k2_chk15 v33 v90), ∀ a x, ((![v33, v90] : Fin 2 → IVec S16 32) a x).toNat < S32x2048.size a := fun v33 v90 k2_hw15 => k2_hw15

def k2_chk16 (v33 : IVec S16 32) (v94 : IVec S16 32) : Prop :=
  (∀ a x, ((![v33, v94] : Fin 2 → IVec S16 32) a x).toNat < S32x2048.size a)
theorem k2_idx16_inb : ∀ (v33 : IVec S16 32) (v94 : IVec S16 32) (k2_hw16 : k2_chk16 v33 v94), ∀ a x, ((![v33, v94] : Fin 2 → IVec S16 32) a x).toNat < S32x2048.size a := fun v33 v94 k2_hw16 => k2_hw16

def k2_chk17 (v98 : IVec S16 32) (v99 : IVec S16 32) : Prop :=
  (∀ a x, ((![v98, v99] : Fin 2 → IVec S16 32) a x).toNat < S32x2048.size a)
theorem k2_idx17_inb : ∀ (v98 : IVec S16 32) (v99 : IVec S16 32) (k2_hw17 : k2_chk17 v98 v99), ∀ a x, ((![v98, v99] : Fin 2 → IVec S16 32) a x).toNat < S32x2048.size a := fun v98 v99 k2_hw17 => k2_hw17

def k2_chk18 (v98 : IVec S16 32) (v103 : IVec S16 32) : Prop :=
  (∀ a x, ((![v98, v103] : Fin 2 → IVec S16 32) a x).toNat < S32x2048.size a)
theorem k2_idx18_inb : ∀ (v98 : IVec S16 32) (v103 : IVec S16 32) (k2_hw18 : k2_chk18 v98 v103), ∀ a x, ((![v98, v103] : Fin 2 → IVec S16 32) a x).toNat < S32x2048.size a := fun v98 v103 k2_hw18 => k2_hw18

def k2_chk19 (v98 : IVec S16 32) (v107 : IVec S16 32) : Prop :=
  (∀ a x, ((![v98, v107] : Fin 2 → IVec S16 32) a x).toNat < S32x2048.size a)
theorem k2_idx19_inb : ∀ (v98 : IVec S16 32) (v107 : IVec S16 32) (k2_hw19 : k2_chk19 v98 v107), ∀ a x, ((![v98, v107] : Fin 2 → IVec S16 32) a x).toNat < S32x2048.size a := fun v98 v107 k2_hw19 => k2_hw19

def k2_chk20 (v98 : IVec S16 32) (v111 : IVec S16 32) : Prop :=
  (∀ a x, ((![v98, v111] : Fin 2 → IVec S16 32) a x).toNat < S32x2048.size a)
theorem k2_idx20_inb : ∀ (v98 : IVec S16 32) (v111 : IVec S16 32) (k2_hw20 : k2_chk20 v98 v111), ∀ a x, ((![v98, v111] : Fin 2 → IVec S16 32) a x).toNat < S32x2048.size a := fun v98 v111 k2_hw20 => k2_hw20

def k2_chk21 (v98 : IVec S16 32) (v115 : IVec S16 32) : Prop :=
  (∀ a x, ((![v98, v115] : Fin 2 → IVec S16 32) a x).toNat < S32x2048.size a)
theorem k2_idx21_inb : ∀ (v98 : IVec S16 32) (v115 : IVec S16 32) (k2_hw21 : k2_chk21 v98 v115), ∀ a x, ((![v98, v115] : Fin 2 → IVec S16 32) a x).toNat < S32x2048.size a := fun v98 v115 k2_hw21 => k2_hw21

def k2_chk22 (v98 : IVec S16 32) (v119 : IVec S16 32) : Prop :=
  (∀ a x, ((![v98, v119] : Fin 2 → IVec S16 32) a x).toNat < S32x2048.size a)
theorem k2_idx22_inb : ∀ (v98 : IVec S16 32) (v119 : IVec S16 32) (k2_hw22 : k2_chk22 v98 v119), ∀ a x, ((![v98, v119] : Fin 2 → IVec S16 32) a x).toNat < S32x2048.size a := fun v98 v119 k2_hw22 => k2_hw22

def k2_chk23 (v98 : IVec S16 32) (v123 : IVec S16 32) : Prop :=
  (∀ a x, ((![v98, v123] : Fin 2 → IVec S16 32) a x).toNat < S32x2048.size a)
theorem k2_idx23_inb : ∀ (v98 : IVec S16 32) (v123 : IVec S16 32) (k2_hw23 : k2_chk23 v98 v123), ∀ a x, ((![v98, v123] : Fin 2 → IVec S16 32) a x).toNat < S32x2048.size a := fun v98 v123 k2_hw23 => k2_hw23

def k2_chk24 (v98 : IVec S16 32) (v127 : IVec S16 32) : Prop :=
  (∀ a x, ((![v98, v127] : Fin 2 → IVec S16 32) a x).toNat < S32x2048.size a)
theorem k2_idx24_inb : ∀ (v98 : IVec S16 32) (v127 : IVec S16 32) (k2_hw24 : k2_chk24 v98 v127), ∀ a x, ((![v98, v127] : Fin 2 → IVec S16 32) a x).toNat < S32x2048.size a := fun v98 v127 k2_hw24 => k2_hw24

def k2_chk25 (v98 : IVec S16 32) (v131 : IVec S16 32) : Prop :=
  (∀ a x, ((![v98, v131] : Fin 2 → IVec S16 32) a x).toNat < S32x2048.size a)
theorem k2_idx25_inb : ∀ (v98 : IVec S16 32) (v131 : IVec S16 32) (k2_hw25 : k2_chk25 v98 v131), ∀ a x, ((![v98, v131] : Fin 2 → IVec S16 32) a x).toNat < S32x2048.size a := fun v98 v131 k2_hw25 => k2_hw25

def k2_chk26 (v98 : IVec S16 32) (v135 : IVec S16 32) : Prop :=
  (∀ a x, ((![v98, v135] : Fin 2 → IVec S16 32) a x).toNat < S32x2048.size a)
theorem k2_idx26_inb : ∀ (v98 : IVec S16 32) (v135 : IVec S16 32) (k2_hw26 : k2_chk26 v98 v135), ∀ a x, ((![v98, v135] : Fin 2 → IVec S16 32) a x).toNat < S32x2048.size a := fun v98 v135 k2_hw26 => k2_hw26

def k2_chk27 (v98 : IVec S16 32) (v139 : IVec S16 32) : Prop :=
  (∀ a x, ((![v98, v139] : Fin 2 → IVec S16 32) a x).toNat < S32x2048.size a)
theorem k2_idx27_inb : ∀ (v98 : IVec S16 32) (v139 : IVec S16 32) (k2_hw27 : k2_chk27 v98 v139), ∀ a x, ((![v98, v139] : Fin 2 → IVec S16 32) a x).toNat < S32x2048.size a := fun v98 v139 k2_hw27 => k2_hw27

def k2_chk28 (v98 : IVec S16 32) (v143 : IVec S16 32) : Prop :=
  (∀ a x, ((![v98, v143] : Fin 2 → IVec S16 32) a x).toNat < S32x2048.size a)
theorem k2_idx28_inb : ∀ (v98 : IVec S16 32) (v143 : IVec S16 32) (k2_hw28 : k2_chk28 v98 v143), ∀ a x, ((![v98, v143] : Fin 2 → IVec S16 32) a x).toNat < S32x2048.size a := fun v98 v143 k2_hw28 => k2_hw28

def k2_chk29 (v98 : IVec S16 32) (v147 : IVec S16 32) : Prop :=
  (∀ a x, ((![v98, v147] : Fin 2 → IVec S16 32) a x).toNat < S32x2048.size a)
theorem k2_idx29_inb : ∀ (v98 : IVec S16 32) (v147 : IVec S16 32) (k2_hw29 : k2_chk29 v98 v147), ∀ a x, ((![v98, v147] : Fin 2 → IVec S16 32) a x).toNat < S32x2048.size a := fun v98 v147 k2_hw29 => k2_hw29

def k2_chk30 (v98 : IVec S16 32) (v151 : IVec S16 32) : Prop :=
  (∀ a x, ((![v98, v151] : Fin 2 → IVec S16 32) a x).toNat < S32x2048.size a)
theorem k2_idx30_inb : ∀ (v98 : IVec S16 32) (v151 : IVec S16 32) (k2_hw30 : k2_chk30 v98 v151), ∀ a x, ((![v98, v151] : Fin 2 → IVec S16 32) a x).toNat < S32x2048.size a := fun v98 v151 k2_hw30 => k2_hw30

def k2_chk31 (v98 : IVec S16 32) (v155 : IVec S16 32) : Prop :=
  (∀ a x, ((![v98, v155] : Fin 2 → IVec S16 32) a x).toNat < S32x2048.size a)
theorem k2_idx31_inb : ∀ (v98 : IVec S16 32) (v155 : IVec S16 32) (k2_hw31 : k2_chk31 v98 v155), ∀ a x, ((![v98, v155] : Fin 2 → IVec S16 32) a x).toNat < S32x2048.size a := fun v98 v155 k2_hw31 => k2_hw31

def k2_chk32 (v98 : IVec S16 32) (v159 : IVec S16 32) : Prop :=
  (∀ a x, ((![v98, v159] : Fin 2 → IVec S16 32) a x).toNat < S32x2048.size a)
theorem k2_idx32_inb : ∀ (v98 : IVec S16 32) (v159 : IVec S16 32) (k2_hw32 : k2_chk32 v98 v159), ∀ a x, ((![v98, v159] : Fin 2 → IVec S16 32) a x).toNat < S32x2048.size a := fun v98 v159 k2_hw32 => k2_hw32

def k2_chk33 (v163 : IVec S16 32) (v164 : IVec S16 32) : Prop :=
  (∀ a x, ((![v163, v164] : Fin 2 → IVec S16 32) a x).toNat < S32x2048.size a)
theorem k2_idx33_inb : ∀ (v163 : IVec S16 32) (v164 : IVec S16 32) (k2_hw33 : k2_chk33 v163 v164), ∀ a x, ((![v163, v164] : Fin 2 → IVec S16 32) a x).toNat < S32x2048.size a := fun v163 v164 k2_hw33 => k2_hw33

def k2_chk34 (v163 : IVec S16 32) (v168 : IVec S16 32) : Prop :=
  (∀ a x, ((![v163, v168] : Fin 2 → IVec S16 32) a x).toNat < S32x2048.size a)
theorem k2_idx34_inb : ∀ (v163 : IVec S16 32) (v168 : IVec S16 32) (k2_hw34 : k2_chk34 v163 v168), ∀ a x, ((![v163, v168] : Fin 2 → IVec S16 32) a x).toNat < S32x2048.size a := fun v163 v168 k2_hw34 => k2_hw34

def k2_chk35 (v163 : IVec S16 32) (v172 : IVec S16 32) : Prop :=
  (∀ a x, ((![v163, v172] : Fin 2 → IVec S16 32) a x).toNat < S32x2048.size a)
theorem k2_idx35_inb : ∀ (v163 : IVec S16 32) (v172 : IVec S16 32) (k2_hw35 : k2_chk35 v163 v172), ∀ a x, ((![v163, v172] : Fin 2 → IVec S16 32) a x).toNat < S32x2048.size a := fun v163 v172 k2_hw35 => k2_hw35

def k2_chk36 (v163 : IVec S16 32) (v176 : IVec S16 32) : Prop :=
  (∀ a x, ((![v163, v176] : Fin 2 → IVec S16 32) a x).toNat < S32x2048.size a)
theorem k2_idx36_inb : ∀ (v163 : IVec S16 32) (v176 : IVec S16 32) (k2_hw36 : k2_chk36 v163 v176), ∀ a x, ((![v163, v176] : Fin 2 → IVec S16 32) a x).toNat < S32x2048.size a := fun v163 v176 k2_hw36 => k2_hw36

def k2_chk37 (v163 : IVec S16 32) (v180 : IVec S16 32) : Prop :=
  (∀ a x, ((![v163, v180] : Fin 2 → IVec S16 32) a x).toNat < S32x2048.size a)
theorem k2_idx37_inb : ∀ (v163 : IVec S16 32) (v180 : IVec S16 32) (k2_hw37 : k2_chk37 v163 v180), ∀ a x, ((![v163, v180] : Fin 2 → IVec S16 32) a x).toNat < S32x2048.size a := fun v163 v180 k2_hw37 => k2_hw37

def k2_chk38 (v163 : IVec S16 32) (v184 : IVec S16 32) : Prop :=
  (∀ a x, ((![v163, v184] : Fin 2 → IVec S16 32) a x).toNat < S32x2048.size a)
theorem k2_idx38_inb : ∀ (v163 : IVec S16 32) (v184 : IVec S16 32) (k2_hw38 : k2_chk38 v163 v184), ∀ a x, ((![v163, v184] : Fin 2 → IVec S16 32) a x).toNat < S32x2048.size a := fun v163 v184 k2_hw38 => k2_hw38

def k2_chk39 (v163 : IVec S16 32) (v188 : IVec S16 32) : Prop :=
  (∀ a x, ((![v163, v188] : Fin 2 → IVec S16 32) a x).toNat < S32x2048.size a)
theorem k2_idx39_inb : ∀ (v163 : IVec S16 32) (v188 : IVec S16 32) (k2_hw39 : k2_chk39 v163 v188), ∀ a x, ((![v163, v188] : Fin 2 → IVec S16 32) a x).toNat < S32x2048.size a := fun v163 v188 k2_hw39 => k2_hw39

def k2_chk40 (v163 : IVec S16 32) (v192 : IVec S16 32) : Prop :=
  (∀ a x, ((![v163, v192] : Fin 2 → IVec S16 32) a x).toNat < S32x2048.size a)
theorem k2_idx40_inb : ∀ (v163 : IVec S16 32) (v192 : IVec S16 32) (k2_hw40 : k2_chk40 v163 v192), ∀ a x, ((![v163, v192] : Fin 2 → IVec S16 32) a x).toNat < S32x2048.size a := fun v163 v192 k2_hw40 => k2_hw40

def k2_chk41 (v163 : IVec S16 32) (v196 : IVec S16 32) : Prop :=
  (∀ a x, ((![v163, v196] : Fin 2 → IVec S16 32) a x).toNat < S32x2048.size a)
theorem k2_idx41_inb : ∀ (v163 : IVec S16 32) (v196 : IVec S16 32) (k2_hw41 : k2_chk41 v163 v196), ∀ a x, ((![v163, v196] : Fin 2 → IVec S16 32) a x).toNat < S32x2048.size a := fun v163 v196 k2_hw41 => k2_hw41

def k2_chk42 (v163 : IVec S16 32) (v200 : IVec S16 32) : Prop :=
  (∀ a x, ((![v163, v200] : Fin 2 → IVec S16 32) a x).toNat < S32x2048.size a)
theorem k2_idx42_inb : ∀ (v163 : IVec S16 32) (v200 : IVec S16 32) (k2_hw42 : k2_chk42 v163 v200), ∀ a x, ((![v163, v200] : Fin 2 → IVec S16 32) a x).toNat < S32x2048.size a := fun v163 v200 k2_hw42 => k2_hw42

def k2_chk43 (v163 : IVec S16 32) (v204 : IVec S16 32) : Prop :=
  (∀ a x, ((![v163, v204] : Fin 2 → IVec S16 32) a x).toNat < S32x2048.size a)
theorem k2_idx43_inb : ∀ (v163 : IVec S16 32) (v204 : IVec S16 32) (k2_hw43 : k2_chk43 v163 v204), ∀ a x, ((![v163, v204] : Fin 2 → IVec S16 32) a x).toNat < S32x2048.size a := fun v163 v204 k2_hw43 => k2_hw43

def k2_chk44 (v163 : IVec S16 32) (v208 : IVec S16 32) : Prop :=
  (∀ a x, ((![v163, v208] : Fin 2 → IVec S16 32) a x).toNat < S32x2048.size a)
theorem k2_idx44_inb : ∀ (v163 : IVec S16 32) (v208 : IVec S16 32) (k2_hw44 : k2_chk44 v163 v208), ∀ a x, ((![v163, v208] : Fin 2 → IVec S16 32) a x).toNat < S32x2048.size a := fun v163 v208 k2_hw44 => k2_hw44

def k2_chk45 (v163 : IVec S16 32) (v212 : IVec S16 32) : Prop :=
  (∀ a x, ((![v163, v212] : Fin 2 → IVec S16 32) a x).toNat < S32x2048.size a)
theorem k2_idx45_inb : ∀ (v163 : IVec S16 32) (v212 : IVec S16 32) (k2_hw45 : k2_chk45 v163 v212), ∀ a x, ((![v163, v212] : Fin 2 → IVec S16 32) a x).toNat < S32x2048.size a := fun v163 v212 k2_hw45 => k2_hw45

def k2_chk46 (v163 : IVec S16 32) (v216 : IVec S16 32) : Prop :=
  (∀ a x, ((![v163, v216] : Fin 2 → IVec S16 32) a x).toNat < S32x2048.size a)
theorem k2_idx46_inb : ∀ (v163 : IVec S16 32) (v216 : IVec S16 32) (k2_hw46 : k2_chk46 v163 v216), ∀ a x, ((![v163, v216] : Fin 2 → IVec S16 32) a x).toNat < S32x2048.size a := fun v163 v216 k2_hw46 => k2_hw46

def k2_chk47 (v163 : IVec S16 32) (v220 : IVec S16 32) : Prop :=
  (∀ a x, ((![v163, v220] : Fin 2 → IVec S16 32) a x).toNat < S32x2048.size a)
theorem k2_idx47_inb : ∀ (v163 : IVec S16 32) (v220 : IVec S16 32) (k2_hw47 : k2_chk47 v163 v220), ∀ a x, ((![v163, v220] : Fin 2 → IVec S16 32) a x).toNat < S32x2048.size a := fun v163 v220 k2_hw47 => k2_hw47

def k2_chk48 (v163 : IVec S16 32) (v224 : IVec S16 32) : Prop :=
  (∀ a x, ((![v163, v224] : Fin 2 → IVec S16 32) a x).toNat < S32x2048.size a)
theorem k2_idx48_inb : ∀ (v163 : IVec S16 32) (v224 : IVec S16 32) (k2_hw48 : k2_chk48 v163 v224), ∀ a x, ((![v163, v224] : Fin 2 → IVec S16 32) a x).toNat < S32x2048.size a := fun v163 v224 k2_hw48 => k2_hw48

def k2_chk49 (v228 : IVec S16 32) (v229 : IVec S16 32) : Prop :=
  (∀ a x, ((![v228, v229] : Fin 2 → IVec S16 32) a x).toNat < S32x2048.size a)
theorem k2_idx49_inb : ∀ (v228 : IVec S16 32) (v229 : IVec S16 32) (k2_hw49 : k2_chk49 v228 v229), ∀ a x, ((![v228, v229] : Fin 2 → IVec S16 32) a x).toNat < S32x2048.size a := fun v228 v229 k2_hw49 => k2_hw49

def k2_chk50 (v228 : IVec S16 32) (v233 : IVec S16 32) : Prop :=
  (∀ a x, ((![v228, v233] : Fin 2 → IVec S16 32) a x).toNat < S32x2048.size a)
theorem k2_idx50_inb : ∀ (v228 : IVec S16 32) (v233 : IVec S16 32) (k2_hw50 : k2_chk50 v228 v233), ∀ a x, ((![v228, v233] : Fin 2 → IVec S16 32) a x).toNat < S32x2048.size a := fun v228 v233 k2_hw50 => k2_hw50

def k2_chk51 (v228 : IVec S16 32) (v237 : IVec S16 32) : Prop :=
  (∀ a x, ((![v228, v237] : Fin 2 → IVec S16 32) a x).toNat < S32x2048.size a)
theorem k2_idx51_inb : ∀ (v228 : IVec S16 32) (v237 : IVec S16 32) (k2_hw51 : k2_chk51 v228 v237), ∀ a x, ((![v228, v237] : Fin 2 → IVec S16 32) a x).toNat < S32x2048.size a := fun v228 v237 k2_hw51 => k2_hw51

def k2_chk52 (v228 : IVec S16 32) (v241 : IVec S16 32) : Prop :=
  (∀ a x, ((![v228, v241] : Fin 2 → IVec S16 32) a x).toNat < S32x2048.size a)
theorem k2_idx52_inb : ∀ (v228 : IVec S16 32) (v241 : IVec S16 32) (k2_hw52 : k2_chk52 v228 v241), ∀ a x, ((![v228, v241] : Fin 2 → IVec S16 32) a x).toNat < S32x2048.size a := fun v228 v241 k2_hw52 => k2_hw52

def k2_chk53 (v228 : IVec S16 32) (v245 : IVec S16 32) : Prop :=
  (∀ a x, ((![v228, v245] : Fin 2 → IVec S16 32) a x).toNat < S32x2048.size a)
theorem k2_idx53_inb : ∀ (v228 : IVec S16 32) (v245 : IVec S16 32) (k2_hw53 : k2_chk53 v228 v245), ∀ a x, ((![v228, v245] : Fin 2 → IVec S16 32) a x).toNat < S32x2048.size a := fun v228 v245 k2_hw53 => k2_hw53

def k2_chk54 (v228 : IVec S16 32) (v249 : IVec S16 32) : Prop :=
  (∀ a x, ((![v228, v249] : Fin 2 → IVec S16 32) a x).toNat < S32x2048.size a)
theorem k2_idx54_inb : ∀ (v228 : IVec S16 32) (v249 : IVec S16 32) (k2_hw54 : k2_chk54 v228 v249), ∀ a x, ((![v228, v249] : Fin 2 → IVec S16 32) a x).toNat < S32x2048.size a := fun v228 v249 k2_hw54 => k2_hw54

def k2_chk55 (v228 : IVec S16 32) (v253 : IVec S16 32) : Prop :=
  (∀ a x, ((![v228, v253] : Fin 2 → IVec S16 32) a x).toNat < S32x2048.size a)
theorem k2_idx55_inb : ∀ (v228 : IVec S16 32) (v253 : IVec S16 32) (k2_hw55 : k2_chk55 v228 v253), ∀ a x, ((![v228, v253] : Fin 2 → IVec S16 32) a x).toNat < S32x2048.size a := fun v228 v253 k2_hw55 => k2_hw55

def k2_chk56 (v228 : IVec S16 32) (v257 : IVec S16 32) : Prop :=
  (∀ a x, ((![v228, v257] : Fin 2 → IVec S16 32) a x).toNat < S32x2048.size a)
theorem k2_idx56_inb : ∀ (v228 : IVec S16 32) (v257 : IVec S16 32) (k2_hw56 : k2_chk56 v228 v257), ∀ a x, ((![v228, v257] : Fin 2 → IVec S16 32) a x).toNat < S32x2048.size a := fun v228 v257 k2_hw56 => k2_hw56

def k2_chk57 (v228 : IVec S16 32) (v261 : IVec S16 32) : Prop :=
  (∀ a x, ((![v228, v261] : Fin 2 → IVec S16 32) a x).toNat < S32x2048.size a)
theorem k2_idx57_inb : ∀ (v228 : IVec S16 32) (v261 : IVec S16 32) (k2_hw57 : k2_chk57 v228 v261), ∀ a x, ((![v228, v261] : Fin 2 → IVec S16 32) a x).toNat < S32x2048.size a := fun v228 v261 k2_hw57 => k2_hw57

def k2_chk58 (v228 : IVec S16 32) (v265 : IVec S16 32) : Prop :=
  (∀ a x, ((![v228, v265] : Fin 2 → IVec S16 32) a x).toNat < S32x2048.size a)
theorem k2_idx58_inb : ∀ (v228 : IVec S16 32) (v265 : IVec S16 32) (k2_hw58 : k2_chk58 v228 v265), ∀ a x, ((![v228, v265] : Fin 2 → IVec S16 32) a x).toNat < S32x2048.size a := fun v228 v265 k2_hw58 => k2_hw58

def k2_chk59 (v228 : IVec S16 32) (v269 : IVec S16 32) : Prop :=
  (∀ a x, ((![v228, v269] : Fin 2 → IVec S16 32) a x).toNat < S32x2048.size a)
theorem k2_idx59_inb : ∀ (v228 : IVec S16 32) (v269 : IVec S16 32) (k2_hw59 : k2_chk59 v228 v269), ∀ a x, ((![v228, v269] : Fin 2 → IVec S16 32) a x).toNat < S32x2048.size a := fun v228 v269 k2_hw59 => k2_hw59

def k2_chk60 (v228 : IVec S16 32) (v273 : IVec S16 32) : Prop :=
  (∀ a x, ((![v228, v273] : Fin 2 → IVec S16 32) a x).toNat < S32x2048.size a)
theorem k2_idx60_inb : ∀ (v228 : IVec S16 32) (v273 : IVec S16 32) (k2_hw60 : k2_chk60 v228 v273), ∀ a x, ((![v228, v273] : Fin 2 → IVec S16 32) a x).toNat < S32x2048.size a := fun v228 v273 k2_hw60 => k2_hw60

def k2_chk61 (v228 : IVec S16 32) (v277 : IVec S16 32) : Prop :=
  (∀ a x, ((![v228, v277] : Fin 2 → IVec S16 32) a x).toNat < S32x2048.size a)
theorem k2_idx61_inb : ∀ (v228 : IVec S16 32) (v277 : IVec S16 32) (k2_hw61 : k2_chk61 v228 v277), ∀ a x, ((![v228, v277] : Fin 2 → IVec S16 32) a x).toNat < S32x2048.size a := fun v228 v277 k2_hw61 => k2_hw61

def k2_chk62 (v228 : IVec S16 32) (v281 : IVec S16 32) : Prop :=
  (∀ a x, ((![v228, v281] : Fin 2 → IVec S16 32) a x).toNat < S32x2048.size a)
theorem k2_idx62_inb : ∀ (v228 : IVec S16 32) (v281 : IVec S16 32) (k2_hw62 : k2_chk62 v228 v281), ∀ a x, ((![v228, v281] : Fin 2 → IVec S16 32) a x).toNat < S32x2048.size a := fun v228 v281 k2_hw62 => k2_hw62

def k2_chk63 (v228 : IVec S16 32) (v285 : IVec S16 32) : Prop :=
  (∀ a x, ((![v228, v285] : Fin 2 → IVec S16 32) a x).toNat < S32x2048.size a)
theorem k2_idx63_inb : ∀ (v228 : IVec S16 32) (v285 : IVec S16 32) (k2_hw63 : k2_chk63 v228 v285), ∀ a x, ((![v228, v285] : Fin 2 → IVec S16 32) a x).toNat < S32x2048.size a := fun v228 v285 k2_hw63 => k2_hw63

def k2_chk64 (v228 : IVec S16 32) (v289 : IVec S16 32) : Prop :=
  (∀ a x, ((![v228, v289] : Fin 2 → IVec S16 32) a x).toNat < S32x2048.size a)
theorem k2_idx64_inb : ∀ (v228 : IVec S16 32) (v289 : IVec S16 32) (k2_hw64 : k2_chk64 v228 v289), ∀ a x, ((![v228, v289] : Fin 2 → IVec S16 32) a x).toNat < S32x2048.size a := fun v228 v289 k2_hw64 => k2_hw64

def k2_chk65 (v293 : IVec S16 32) (v294 : IVec S16 32) : Prop :=
  (∀ a x, ((![v293, v294] : Fin 2 → IVec S16 32) a x).toNat < S32x2048.size a)
theorem k2_idx65_inb : ∀ (v293 : IVec S16 32) (v294 : IVec S16 32) (k2_hw65 : k2_chk65 v293 v294), ∀ a x, ((![v293, v294] : Fin 2 → IVec S16 32) a x).toNat < S32x2048.size a := fun v293 v294 k2_hw65 => k2_hw65

def k2_chk66 (v293 : IVec S16 32) (v298 : IVec S16 32) : Prop :=
  (∀ a x, ((![v293, v298] : Fin 2 → IVec S16 32) a x).toNat < S32x2048.size a)
theorem k2_idx66_inb : ∀ (v293 : IVec S16 32) (v298 : IVec S16 32) (k2_hw66 : k2_chk66 v293 v298), ∀ a x, ((![v293, v298] : Fin 2 → IVec S16 32) a x).toNat < S32x2048.size a := fun v293 v298 k2_hw66 => k2_hw66

def k2_chk67 (v293 : IVec S16 32) (v302 : IVec S16 32) : Prop :=
  (∀ a x, ((![v293, v302] : Fin 2 → IVec S16 32) a x).toNat < S32x2048.size a)
theorem k2_idx67_inb : ∀ (v293 : IVec S16 32) (v302 : IVec S16 32) (k2_hw67 : k2_chk67 v293 v302), ∀ a x, ((![v293, v302] : Fin 2 → IVec S16 32) a x).toNat < S32x2048.size a := fun v293 v302 k2_hw67 => k2_hw67

def k2_chk68 (v293 : IVec S16 32) (v306 : IVec S16 32) : Prop :=
  (∀ a x, ((![v293, v306] : Fin 2 → IVec S16 32) a x).toNat < S32x2048.size a)
theorem k2_idx68_inb : ∀ (v293 : IVec S16 32) (v306 : IVec S16 32) (k2_hw68 : k2_chk68 v293 v306), ∀ a x, ((![v293, v306] : Fin 2 → IVec S16 32) a x).toNat < S32x2048.size a := fun v293 v306 k2_hw68 => k2_hw68

def k2_chk69 (v293 : IVec S16 32) (v310 : IVec S16 32) : Prop :=
  (∀ a x, ((![v293, v310] : Fin 2 → IVec S16 32) a x).toNat < S32x2048.size a)
theorem k2_idx69_inb : ∀ (v293 : IVec S16 32) (v310 : IVec S16 32) (k2_hw69 : k2_chk69 v293 v310), ∀ a x, ((![v293, v310] : Fin 2 → IVec S16 32) a x).toNat < S32x2048.size a := fun v293 v310 k2_hw69 => k2_hw69

def k2_chk70 (v293 : IVec S16 32) (v314 : IVec S16 32) : Prop :=
  (∀ a x, ((![v293, v314] : Fin 2 → IVec S16 32) a x).toNat < S32x2048.size a)
theorem k2_idx70_inb : ∀ (v293 : IVec S16 32) (v314 : IVec S16 32) (k2_hw70 : k2_chk70 v293 v314), ∀ a x, ((![v293, v314] : Fin 2 → IVec S16 32) a x).toNat < S32x2048.size a := fun v293 v314 k2_hw70 => k2_hw70

def k2_chk71 (v293 : IVec S16 32) (v318 : IVec S16 32) : Prop :=
  (∀ a x, ((![v293, v318] : Fin 2 → IVec S16 32) a x).toNat < S32x2048.size a)
theorem k2_idx71_inb : ∀ (v293 : IVec S16 32) (v318 : IVec S16 32) (k2_hw71 : k2_chk71 v293 v318), ∀ a x, ((![v293, v318] : Fin 2 → IVec S16 32) a x).toNat < S32x2048.size a := fun v293 v318 k2_hw71 => k2_hw71

def k2_chk72 (v293 : IVec S16 32) (v322 : IVec S16 32) : Prop :=
  (∀ a x, ((![v293, v322] : Fin 2 → IVec S16 32) a x).toNat < S32x2048.size a)
theorem k2_idx72_inb : ∀ (v293 : IVec S16 32) (v322 : IVec S16 32) (k2_hw72 : k2_chk72 v293 v322), ∀ a x, ((![v293, v322] : Fin 2 → IVec S16 32) a x).toNat < S32x2048.size a := fun v293 v322 k2_hw72 => k2_hw72

def k2_chk73 (v293 : IVec S16 32) (v326 : IVec S16 32) : Prop :=
  (∀ a x, ((![v293, v326] : Fin 2 → IVec S16 32) a x).toNat < S32x2048.size a)
theorem k2_idx73_inb : ∀ (v293 : IVec S16 32) (v326 : IVec S16 32) (k2_hw73 : k2_chk73 v293 v326), ∀ a x, ((![v293, v326] : Fin 2 → IVec S16 32) a x).toNat < S32x2048.size a := fun v293 v326 k2_hw73 => k2_hw73

def k2_chk74 (v293 : IVec S16 32) (v330 : IVec S16 32) : Prop :=
  (∀ a x, ((![v293, v330] : Fin 2 → IVec S16 32) a x).toNat < S32x2048.size a)
theorem k2_idx74_inb : ∀ (v293 : IVec S16 32) (v330 : IVec S16 32) (k2_hw74 : k2_chk74 v293 v330), ∀ a x, ((![v293, v330] : Fin 2 → IVec S16 32) a x).toNat < S32x2048.size a := fun v293 v330 k2_hw74 => k2_hw74

def k2_chk75 (v293 : IVec S16 32) (v334 : IVec S16 32) : Prop :=
  (∀ a x, ((![v293, v334] : Fin 2 → IVec S16 32) a x).toNat < S32x2048.size a)
theorem k2_idx75_inb : ∀ (v293 : IVec S16 32) (v334 : IVec S16 32) (k2_hw75 : k2_chk75 v293 v334), ∀ a x, ((![v293, v334] : Fin 2 → IVec S16 32) a x).toNat < S32x2048.size a := fun v293 v334 k2_hw75 => k2_hw75

def k2_chk76 (v293 : IVec S16 32) (v338 : IVec S16 32) : Prop :=
  (∀ a x, ((![v293, v338] : Fin 2 → IVec S16 32) a x).toNat < S32x2048.size a)
theorem k2_idx76_inb : ∀ (v293 : IVec S16 32) (v338 : IVec S16 32) (k2_hw76 : k2_chk76 v293 v338), ∀ a x, ((![v293, v338] : Fin 2 → IVec S16 32) a x).toNat < S32x2048.size a := fun v293 v338 k2_hw76 => k2_hw76

def k2_chk77 (v293 : IVec S16 32) (v342 : IVec S16 32) : Prop :=
  (∀ a x, ((![v293, v342] : Fin 2 → IVec S16 32) a x).toNat < S32x2048.size a)
theorem k2_idx77_inb : ∀ (v293 : IVec S16 32) (v342 : IVec S16 32) (k2_hw77 : k2_chk77 v293 v342), ∀ a x, ((![v293, v342] : Fin 2 → IVec S16 32) a x).toNat < S32x2048.size a := fun v293 v342 k2_hw77 => k2_hw77

def k2_chk78 (v293 : IVec S16 32) (v346 : IVec S16 32) : Prop :=
  (∀ a x, ((![v293, v346] : Fin 2 → IVec S16 32) a x).toNat < S32x2048.size a)
theorem k2_idx78_inb : ∀ (v293 : IVec S16 32) (v346 : IVec S16 32) (k2_hw78 : k2_chk78 v293 v346), ∀ a x, ((![v293, v346] : Fin 2 → IVec S16 32) a x).toNat < S32x2048.size a := fun v293 v346 k2_hw78 => k2_hw78

def k2_chk79 (v293 : IVec S16 32) (v350 : IVec S16 32) : Prop :=
  (∀ a x, ((![v293, v350] : Fin 2 → IVec S16 32) a x).toNat < S32x2048.size a)
theorem k2_idx79_inb : ∀ (v293 : IVec S16 32) (v350 : IVec S16 32) (k2_hw79 : k2_chk79 v293 v350), ∀ a x, ((![v293, v350] : Fin 2 → IVec S16 32) a x).toNat < S32x2048.size a := fun v293 v350 k2_hw79 => k2_hw79

def k2_chk80 (v293 : IVec S16 32) (v354 : IVec S16 32) : Prop :=
  (∀ a x, ((![v293, v354] : Fin 2 → IVec S16 32) a x).toNat < S32x2048.size a)
theorem k2_idx80_inb : ∀ (v293 : IVec S16 32) (v354 : IVec S16 32) (k2_hw80 : k2_chk80 v293 v354), ∀ a x, ((![v293, v354] : Fin 2 → IVec S16 32) a x).toNat < S32x2048.size a := fun v293 v354 k2_hw80 => k2_hw80

def k2_chk81 (v358 : IVec S16 32) (v359 : IVec S16 32) : Prop :=
  (∀ a x, ((![v358, v359] : Fin 2 → IVec S16 32) a x).toNat < S32x2048.size a)
theorem k2_idx81_inb : ∀ (v358 : IVec S16 32) (v359 : IVec S16 32) (k2_hw81 : k2_chk81 v358 v359), ∀ a x, ((![v358, v359] : Fin 2 → IVec S16 32) a x).toNat < S32x2048.size a := fun v358 v359 k2_hw81 => k2_hw81

def k2_chk82 (v358 : IVec S16 32) (v363 : IVec S16 32) : Prop :=
  (∀ a x, ((![v358, v363] : Fin 2 → IVec S16 32) a x).toNat < S32x2048.size a)
theorem k2_idx82_inb : ∀ (v358 : IVec S16 32) (v363 : IVec S16 32) (k2_hw82 : k2_chk82 v358 v363), ∀ a x, ((![v358, v363] : Fin 2 → IVec S16 32) a x).toNat < S32x2048.size a := fun v358 v363 k2_hw82 => k2_hw82

def k2_chk83 (v358 : IVec S16 32) (v367 : IVec S16 32) : Prop :=
  (∀ a x, ((![v358, v367] : Fin 2 → IVec S16 32) a x).toNat < S32x2048.size a)
theorem k2_idx83_inb : ∀ (v358 : IVec S16 32) (v367 : IVec S16 32) (k2_hw83 : k2_chk83 v358 v367), ∀ a x, ((![v358, v367] : Fin 2 → IVec S16 32) a x).toNat < S32x2048.size a := fun v358 v367 k2_hw83 => k2_hw83

def k2_chk84 (v358 : IVec S16 32) (v371 : IVec S16 32) : Prop :=
  (∀ a x, ((![v358, v371] : Fin 2 → IVec S16 32) a x).toNat < S32x2048.size a)
theorem k2_idx84_inb : ∀ (v358 : IVec S16 32) (v371 : IVec S16 32) (k2_hw84 : k2_chk84 v358 v371), ∀ a x, ((![v358, v371] : Fin 2 → IVec S16 32) a x).toNat < S32x2048.size a := fun v358 v371 k2_hw84 => k2_hw84

def k2_chk85 (v358 : IVec S16 32) (v375 : IVec S16 32) : Prop :=
  (∀ a x, ((![v358, v375] : Fin 2 → IVec S16 32) a x).toNat < S32x2048.size a)
theorem k2_idx85_inb : ∀ (v358 : IVec S16 32) (v375 : IVec S16 32) (k2_hw85 : k2_chk85 v358 v375), ∀ a x, ((![v358, v375] : Fin 2 → IVec S16 32) a x).toNat < S32x2048.size a := fun v358 v375 k2_hw85 => k2_hw85

def k2_chk86 (v358 : IVec S16 32) (v379 : IVec S16 32) : Prop :=
  (∀ a x, ((![v358, v379] : Fin 2 → IVec S16 32) a x).toNat < S32x2048.size a)
theorem k2_idx86_inb : ∀ (v358 : IVec S16 32) (v379 : IVec S16 32) (k2_hw86 : k2_chk86 v358 v379), ∀ a x, ((![v358, v379] : Fin 2 → IVec S16 32) a x).toNat < S32x2048.size a := fun v358 v379 k2_hw86 => k2_hw86

def k2_chk87 (v358 : IVec S16 32) (v383 : IVec S16 32) : Prop :=
  (∀ a x, ((![v358, v383] : Fin 2 → IVec S16 32) a x).toNat < S32x2048.size a)
theorem k2_idx87_inb : ∀ (v358 : IVec S16 32) (v383 : IVec S16 32) (k2_hw87 : k2_chk87 v358 v383), ∀ a x, ((![v358, v383] : Fin 2 → IVec S16 32) a x).toNat < S32x2048.size a := fun v358 v383 k2_hw87 => k2_hw87

def k2_chk88 (v358 : IVec S16 32) (v387 : IVec S16 32) : Prop :=
  (∀ a x, ((![v358, v387] : Fin 2 → IVec S16 32) a x).toNat < S32x2048.size a)
theorem k2_idx88_inb : ∀ (v358 : IVec S16 32) (v387 : IVec S16 32) (k2_hw88 : k2_chk88 v358 v387), ∀ a x, ((![v358, v387] : Fin 2 → IVec S16 32) a x).toNat < S32x2048.size a := fun v358 v387 k2_hw88 => k2_hw88

def k2_chk89 (v358 : IVec S16 32) (v391 : IVec S16 32) : Prop :=
  (∀ a x, ((![v358, v391] : Fin 2 → IVec S16 32) a x).toNat < S32x2048.size a)
theorem k2_idx89_inb : ∀ (v358 : IVec S16 32) (v391 : IVec S16 32) (k2_hw89 : k2_chk89 v358 v391), ∀ a x, ((![v358, v391] : Fin 2 → IVec S16 32) a x).toNat < S32x2048.size a := fun v358 v391 k2_hw89 => k2_hw89

def k2_chk90 (v358 : IVec S16 32) (v395 : IVec S16 32) : Prop :=
  (∀ a x, ((![v358, v395] : Fin 2 → IVec S16 32) a x).toNat < S32x2048.size a)
theorem k2_idx90_inb : ∀ (v358 : IVec S16 32) (v395 : IVec S16 32) (k2_hw90 : k2_chk90 v358 v395), ∀ a x, ((![v358, v395] : Fin 2 → IVec S16 32) a x).toNat < S32x2048.size a := fun v358 v395 k2_hw90 => k2_hw90

def k2_chk91 (v358 : IVec S16 32) (v399 : IVec S16 32) : Prop :=
  (∀ a x, ((![v358, v399] : Fin 2 → IVec S16 32) a x).toNat < S32x2048.size a)
theorem k2_idx91_inb : ∀ (v358 : IVec S16 32) (v399 : IVec S16 32) (k2_hw91 : k2_chk91 v358 v399), ∀ a x, ((![v358, v399] : Fin 2 → IVec S16 32) a x).toNat < S32x2048.size a := fun v358 v399 k2_hw91 => k2_hw91

def k2_chk92 (v358 : IVec S16 32) (v403 : IVec S16 32) : Prop :=
  (∀ a x, ((![v358, v403] : Fin 2 → IVec S16 32) a x).toNat < S32x2048.size a)
theorem k2_idx92_inb : ∀ (v358 : IVec S16 32) (v403 : IVec S16 32) (k2_hw92 : k2_chk92 v358 v403), ∀ a x, ((![v358, v403] : Fin 2 → IVec S16 32) a x).toNat < S32x2048.size a := fun v358 v403 k2_hw92 => k2_hw92

def k2_chk93 (v358 : IVec S16 32) (v407 : IVec S16 32) : Prop :=
  (∀ a x, ((![v358, v407] : Fin 2 → IVec S16 32) a x).toNat < S32x2048.size a)
theorem k2_idx93_inb : ∀ (v358 : IVec S16 32) (v407 : IVec S16 32) (k2_hw93 : k2_chk93 v358 v407), ∀ a x, ((![v358, v407] : Fin 2 → IVec S16 32) a x).toNat < S32x2048.size a := fun v358 v407 k2_hw93 => k2_hw93

def k2_chk94 (v358 : IVec S16 32) (v411 : IVec S16 32) : Prop :=
  (∀ a x, ((![v358, v411] : Fin 2 → IVec S16 32) a x).toNat < S32x2048.size a)
theorem k2_idx94_inb : ∀ (v358 : IVec S16 32) (v411 : IVec S16 32) (k2_hw94 : k2_chk94 v358 v411), ∀ a x, ((![v358, v411] : Fin 2 → IVec S16 32) a x).toNat < S32x2048.size a := fun v358 v411 k2_hw94 => k2_hw94

def k2_chk95 (v358 : IVec S16 32) (v415 : IVec S16 32) : Prop :=
  (∀ a x, ((![v358, v415] : Fin 2 → IVec S16 32) a x).toNat < S32x2048.size a)
theorem k2_idx95_inb : ∀ (v358 : IVec S16 32) (v415 : IVec S16 32) (k2_hw95 : k2_chk95 v358 v415), ∀ a x, ((![v358, v415] : Fin 2 → IVec S16 32) a x).toNat < S32x2048.size a := fun v358 v415 k2_hw95 => k2_hw95

def k2_chk96 (v358 : IVec S16 32) (v419 : IVec S16 32) : Prop :=
  (∀ a x, ((![v358, v419] : Fin 2 → IVec S16 32) a x).toNat < S32x2048.size a)
theorem k2_idx96_inb : ∀ (v358 : IVec S16 32) (v419 : IVec S16 32) (k2_hw96 : k2_chk96 v358 v419), ∀ a x, ((![v358, v419] : Fin 2 → IVec S16 32) a x).toNat < S32x2048.size a := fun v358 v419 k2_hw96 => k2_hw96

def k2_chk97 (v423 : IVec S16 32) (v424 : IVec S16 32) : Prop :=
  (∀ a x, ((![v423, v424] : Fin 2 → IVec S16 32) a x).toNat < S32x2048.size a)
theorem k2_idx97_inb : ∀ (v423 : IVec S16 32) (v424 : IVec S16 32) (k2_hw97 : k2_chk97 v423 v424), ∀ a x, ((![v423, v424] : Fin 2 → IVec S16 32) a x).toNat < S32x2048.size a := fun v423 v424 k2_hw97 => k2_hw97

def k2_chk98 (v423 : IVec S16 32) (v428 : IVec S16 32) : Prop :=
  (∀ a x, ((![v423, v428] : Fin 2 → IVec S16 32) a x).toNat < S32x2048.size a)
theorem k2_idx98_inb : ∀ (v423 : IVec S16 32) (v428 : IVec S16 32) (k2_hw98 : k2_chk98 v423 v428), ∀ a x, ((![v423, v428] : Fin 2 → IVec S16 32) a x).toNat < S32x2048.size a := fun v423 v428 k2_hw98 => k2_hw98

def k2_chk99 (v423 : IVec S16 32) (v432 : IVec S16 32) : Prop :=
  (∀ a x, ((![v423, v432] : Fin 2 → IVec S16 32) a x).toNat < S32x2048.size a)
theorem k2_idx99_inb : ∀ (v423 : IVec S16 32) (v432 : IVec S16 32) (k2_hw99 : k2_chk99 v423 v432), ∀ a x, ((![v423, v432] : Fin 2 → IVec S16 32) a x).toNat < S32x2048.size a := fun v423 v432 k2_hw99 => k2_hw99

def k2_chk100 (v423 : IVec S16 32) (v436 : IVec S16 32) : Prop :=
  (∀ a x, ((![v423, v436] : Fin 2 → IVec S16 32) a x).toNat < S32x2048.size a)
theorem k2_idx100_inb : ∀ (v423 : IVec S16 32) (v436 : IVec S16 32) (k2_hw100 : k2_chk100 v423 v436), ∀ a x, ((![v423, v436] : Fin 2 → IVec S16 32) a x).toNat < S32x2048.size a := fun v423 v436 k2_hw100 => k2_hw100

def k2_chk101 (v423 : IVec S16 32) (v440 : IVec S16 32) : Prop :=
  (∀ a x, ((![v423, v440] : Fin 2 → IVec S16 32) a x).toNat < S32x2048.size a)
theorem k2_idx101_inb : ∀ (v423 : IVec S16 32) (v440 : IVec S16 32) (k2_hw101 : k2_chk101 v423 v440), ∀ a x, ((![v423, v440] : Fin 2 → IVec S16 32) a x).toNat < S32x2048.size a := fun v423 v440 k2_hw101 => k2_hw101

def k2_chk102 (v423 : IVec S16 32) (v444 : IVec S16 32) : Prop :=
  (∀ a x, ((![v423, v444] : Fin 2 → IVec S16 32) a x).toNat < S32x2048.size a)
theorem k2_idx102_inb : ∀ (v423 : IVec S16 32) (v444 : IVec S16 32) (k2_hw102 : k2_chk102 v423 v444), ∀ a x, ((![v423, v444] : Fin 2 → IVec S16 32) a x).toNat < S32x2048.size a := fun v423 v444 k2_hw102 => k2_hw102

def k2_chk103 (v423 : IVec S16 32) (v448 : IVec S16 32) : Prop :=
  (∀ a x, ((![v423, v448] : Fin 2 → IVec S16 32) a x).toNat < S32x2048.size a)
theorem k2_idx103_inb : ∀ (v423 : IVec S16 32) (v448 : IVec S16 32) (k2_hw103 : k2_chk103 v423 v448), ∀ a x, ((![v423, v448] : Fin 2 → IVec S16 32) a x).toNat < S32x2048.size a := fun v423 v448 k2_hw103 => k2_hw103

def k2_chk104 (v423 : IVec S16 32) (v452 : IVec S16 32) : Prop :=
  (∀ a x, ((![v423, v452] : Fin 2 → IVec S16 32) a x).toNat < S32x2048.size a)
theorem k2_idx104_inb : ∀ (v423 : IVec S16 32) (v452 : IVec S16 32) (k2_hw104 : k2_chk104 v423 v452), ∀ a x, ((![v423, v452] : Fin 2 → IVec S16 32) a x).toNat < S32x2048.size a := fun v423 v452 k2_hw104 => k2_hw104

def k2_chk105 (v423 : IVec S16 32) (v456 : IVec S16 32) : Prop :=
  (∀ a x, ((![v423, v456] : Fin 2 → IVec S16 32) a x).toNat < S32x2048.size a)
theorem k2_idx105_inb : ∀ (v423 : IVec S16 32) (v456 : IVec S16 32) (k2_hw105 : k2_chk105 v423 v456), ∀ a x, ((![v423, v456] : Fin 2 → IVec S16 32) a x).toNat < S32x2048.size a := fun v423 v456 k2_hw105 => k2_hw105

def k2_chk106 (v423 : IVec S16 32) (v460 : IVec S16 32) : Prop :=
  (∀ a x, ((![v423, v460] : Fin 2 → IVec S16 32) a x).toNat < S32x2048.size a)
theorem k2_idx106_inb : ∀ (v423 : IVec S16 32) (v460 : IVec S16 32) (k2_hw106 : k2_chk106 v423 v460), ∀ a x, ((![v423, v460] : Fin 2 → IVec S16 32) a x).toNat < S32x2048.size a := fun v423 v460 k2_hw106 => k2_hw106

def k2_chk107 (v423 : IVec S16 32) (v464 : IVec S16 32) : Prop :=
  (∀ a x, ((![v423, v464] : Fin 2 → IVec S16 32) a x).toNat < S32x2048.size a)
theorem k2_idx107_inb : ∀ (v423 : IVec S16 32) (v464 : IVec S16 32) (k2_hw107 : k2_chk107 v423 v464), ∀ a x, ((![v423, v464] : Fin 2 → IVec S16 32) a x).toNat < S32x2048.size a := fun v423 v464 k2_hw107 => k2_hw107

def k2_chk108 (v423 : IVec S16 32) (v468 : IVec S16 32) : Prop :=
  (∀ a x, ((![v423, v468] : Fin 2 → IVec S16 32) a x).toNat < S32x2048.size a)
theorem k2_idx108_inb : ∀ (v423 : IVec S16 32) (v468 : IVec S16 32) (k2_hw108 : k2_chk108 v423 v468), ∀ a x, ((![v423, v468] : Fin 2 → IVec S16 32) a x).toNat < S32x2048.size a := fun v423 v468 k2_hw108 => k2_hw108

def k2_chk109 (v423 : IVec S16 32) (v472 : IVec S16 32) : Prop :=
  (∀ a x, ((![v423, v472] : Fin 2 → IVec S16 32) a x).toNat < S32x2048.size a)
theorem k2_idx109_inb : ∀ (v423 : IVec S16 32) (v472 : IVec S16 32) (k2_hw109 : k2_chk109 v423 v472), ∀ a x, ((![v423, v472] : Fin 2 → IVec S16 32) a x).toNat < S32x2048.size a := fun v423 v472 k2_hw109 => k2_hw109

def k2_chk110 (v423 : IVec S16 32) (v476 : IVec S16 32) : Prop :=
  (∀ a x, ((![v423, v476] : Fin 2 → IVec S16 32) a x).toNat < S32x2048.size a)
theorem k2_idx110_inb : ∀ (v423 : IVec S16 32) (v476 : IVec S16 32) (k2_hw110 : k2_chk110 v423 v476), ∀ a x, ((![v423, v476] : Fin 2 → IVec S16 32) a x).toNat < S32x2048.size a := fun v423 v476 k2_hw110 => k2_hw110

def k2_chk111 (v423 : IVec S16 32) (v480 : IVec S16 32) : Prop :=
  (∀ a x, ((![v423, v480] : Fin 2 → IVec S16 32) a x).toNat < S32x2048.size a)
theorem k2_idx111_inb : ∀ (v423 : IVec S16 32) (v480 : IVec S16 32) (k2_hw111 : k2_chk111 v423 v480), ∀ a x, ((![v423, v480] : Fin 2 → IVec S16 32) a x).toNat < S32x2048.size a := fun v423 v480 k2_hw111 => k2_hw111

def k2_chk112 (v423 : IVec S16 32) (v484 : IVec S16 32) : Prop :=
  (∀ a x, ((![v423, v484] : Fin 2 → IVec S16 32) a x).toNat < S32x2048.size a)
theorem k2_idx112_inb : ∀ (v423 : IVec S16 32) (v484 : IVec S16 32) (k2_hw112 : k2_chk112 v423 v484), ∀ a x, ((![v423, v484] : Fin 2 → IVec S16 32) a x).toNat < S32x2048.size a := fun v423 v484 k2_hw112 => k2_hw112

def k2_chk113 (v488 : IVec S16 32) (v489 : IVec S16 32) : Prop :=
  (∀ a x, ((![v488, v489] : Fin 2 → IVec S16 32) a x).toNat < S32x2048.size a)
theorem k2_idx113_inb : ∀ (v488 : IVec S16 32) (v489 : IVec S16 32) (k2_hw113 : k2_chk113 v488 v489), ∀ a x, ((![v488, v489] : Fin 2 → IVec S16 32) a x).toNat < S32x2048.size a := fun v488 v489 k2_hw113 => k2_hw113

def k2_chk114 (v488 : IVec S16 32) (v493 : IVec S16 32) : Prop :=
  (∀ a x, ((![v488, v493] : Fin 2 → IVec S16 32) a x).toNat < S32x2048.size a)
theorem k2_idx114_inb : ∀ (v488 : IVec S16 32) (v493 : IVec S16 32) (k2_hw114 : k2_chk114 v488 v493), ∀ a x, ((![v488, v493] : Fin 2 → IVec S16 32) a x).toNat < S32x2048.size a := fun v488 v493 k2_hw114 => k2_hw114

def k2_chk115 (v488 : IVec S16 32) (v497 : IVec S16 32) : Prop :=
  (∀ a x, ((![v488, v497] : Fin 2 → IVec S16 32) a x).toNat < S32x2048.size a)
theorem k2_idx115_inb : ∀ (v488 : IVec S16 32) (v497 : IVec S16 32) (k2_hw115 : k2_chk115 v488 v497), ∀ a x, ((![v488, v497] : Fin 2 → IVec S16 32) a x).toNat < S32x2048.size a := fun v488 v497 k2_hw115 => k2_hw115

def k2_chk116 (v488 : IVec S16 32) (v501 : IVec S16 32) : Prop :=
  (∀ a x, ((![v488, v501] : Fin 2 → IVec S16 32) a x).toNat < S32x2048.size a)
theorem k2_idx116_inb : ∀ (v488 : IVec S16 32) (v501 : IVec S16 32) (k2_hw116 : k2_chk116 v488 v501), ∀ a x, ((![v488, v501] : Fin 2 → IVec S16 32) a x).toNat < S32x2048.size a := fun v488 v501 k2_hw116 => k2_hw116

def k2_chk117 (v488 : IVec S16 32) (v505 : IVec S16 32) : Prop :=
  (∀ a x, ((![v488, v505] : Fin 2 → IVec S16 32) a x).toNat < S32x2048.size a)
theorem k2_idx117_inb : ∀ (v488 : IVec S16 32) (v505 : IVec S16 32) (k2_hw117 : k2_chk117 v488 v505), ∀ a x, ((![v488, v505] : Fin 2 → IVec S16 32) a x).toNat < S32x2048.size a := fun v488 v505 k2_hw117 => k2_hw117

def k2_chk118 (v488 : IVec S16 32) (v509 : IVec S16 32) : Prop :=
  (∀ a x, ((![v488, v509] : Fin 2 → IVec S16 32) a x).toNat < S32x2048.size a)
theorem k2_idx118_inb : ∀ (v488 : IVec S16 32) (v509 : IVec S16 32) (k2_hw118 : k2_chk118 v488 v509), ∀ a x, ((![v488, v509] : Fin 2 → IVec S16 32) a x).toNat < S32x2048.size a := fun v488 v509 k2_hw118 => k2_hw118

def k2_chk119 (v488 : IVec S16 32) (v513 : IVec S16 32) : Prop :=
  (∀ a x, ((![v488, v513] : Fin 2 → IVec S16 32) a x).toNat < S32x2048.size a)
theorem k2_idx119_inb : ∀ (v488 : IVec S16 32) (v513 : IVec S16 32) (k2_hw119 : k2_chk119 v488 v513), ∀ a x, ((![v488, v513] : Fin 2 → IVec S16 32) a x).toNat < S32x2048.size a := fun v488 v513 k2_hw119 => k2_hw119

def k2_chk120 (v488 : IVec S16 32) (v517 : IVec S16 32) : Prop :=
  (∀ a x, ((![v488, v517] : Fin 2 → IVec S16 32) a x).toNat < S32x2048.size a)
theorem k2_idx120_inb : ∀ (v488 : IVec S16 32) (v517 : IVec S16 32) (k2_hw120 : k2_chk120 v488 v517), ∀ a x, ((![v488, v517] : Fin 2 → IVec S16 32) a x).toNat < S32x2048.size a := fun v488 v517 k2_hw120 => k2_hw120

def k2_chk121 (v488 : IVec S16 32) (v521 : IVec S16 32) : Prop :=
  (∀ a x, ((![v488, v521] : Fin 2 → IVec S16 32) a x).toNat < S32x2048.size a)
theorem k2_idx121_inb : ∀ (v488 : IVec S16 32) (v521 : IVec S16 32) (k2_hw121 : k2_chk121 v488 v521), ∀ a x, ((![v488, v521] : Fin 2 → IVec S16 32) a x).toNat < S32x2048.size a := fun v488 v521 k2_hw121 => k2_hw121

def k2_chk122 (v488 : IVec S16 32) (v525 : IVec S16 32) : Prop :=
  (∀ a x, ((![v488, v525] : Fin 2 → IVec S16 32) a x).toNat < S32x2048.size a)
theorem k2_idx122_inb : ∀ (v488 : IVec S16 32) (v525 : IVec S16 32) (k2_hw122 : k2_chk122 v488 v525), ∀ a x, ((![v488, v525] : Fin 2 → IVec S16 32) a x).toNat < S32x2048.size a := fun v488 v525 k2_hw122 => k2_hw122

def k2_chk123 (v488 : IVec S16 32) (v529 : IVec S16 32) : Prop :=
  (∀ a x, ((![v488, v529] : Fin 2 → IVec S16 32) a x).toNat < S32x2048.size a)
theorem k2_idx123_inb : ∀ (v488 : IVec S16 32) (v529 : IVec S16 32) (k2_hw123 : k2_chk123 v488 v529), ∀ a x, ((![v488, v529] : Fin 2 → IVec S16 32) a x).toNat < S32x2048.size a := fun v488 v529 k2_hw123 => k2_hw123

def k2_chk124 (v488 : IVec S16 32) (v533 : IVec S16 32) : Prop :=
  (∀ a x, ((![v488, v533] : Fin 2 → IVec S16 32) a x).toNat < S32x2048.size a)
theorem k2_idx124_inb : ∀ (v488 : IVec S16 32) (v533 : IVec S16 32) (k2_hw124 : k2_chk124 v488 v533), ∀ a x, ((![v488, v533] : Fin 2 → IVec S16 32) a x).toNat < S32x2048.size a := fun v488 v533 k2_hw124 => k2_hw124

def k2_chk125 (v488 : IVec S16 32) (v537 : IVec S16 32) : Prop :=
  (∀ a x, ((![v488, v537] : Fin 2 → IVec S16 32) a x).toNat < S32x2048.size a)
theorem k2_idx125_inb : ∀ (v488 : IVec S16 32) (v537 : IVec S16 32) (k2_hw125 : k2_chk125 v488 v537), ∀ a x, ((![v488, v537] : Fin 2 → IVec S16 32) a x).toNat < S32x2048.size a := fun v488 v537 k2_hw125 => k2_hw125

def k2_chk126 (v488 : IVec S16 32) (v541 : IVec S16 32) : Prop :=
  (∀ a x, ((![v488, v541] : Fin 2 → IVec S16 32) a x).toNat < S32x2048.size a)
theorem k2_idx126_inb : ∀ (v488 : IVec S16 32) (v541 : IVec S16 32) (k2_hw126 : k2_chk126 v488 v541), ∀ a x, ((![v488, v541] : Fin 2 → IVec S16 32) a x).toNat < S32x2048.size a := fun v488 v541 k2_hw126 => k2_hw126

def k2_chk127 (v488 : IVec S16 32) (v545 : IVec S16 32) : Prop :=
  (∀ a x, ((![v488, v545] : Fin 2 → IVec S16 32) a x).toNat < S32x2048.size a)
theorem k2_idx127_inb : ∀ (v488 : IVec S16 32) (v545 : IVec S16 32) (k2_hw127 : k2_chk127 v488 v545), ∀ a x, ((![v488, v545] : Fin 2 → IVec S16 32) a x).toNat < S32x2048.size a := fun v488 v545 k2_hw127 => k2_hw127

def k2_chk128 (v488 : IVec S16 32) (v549 : IVec S16 32) : Prop :=
  (∀ a x, ((![v488, v549] : Fin 2 → IVec S16 32) a x).toNat < S32x2048.size a)
theorem k2_idx128_inb : ∀ (v488 : IVec S16 32) (v549 : IVec S16 32) (k2_hw128 : k2_chk128 v488 v549), ∀ a x, ((![v488, v549] : Fin 2 → IVec S16 32) a x).toNat < S32x2048.size a := fun v488 v549 k2_hw128 => k2_hw128

def k2_chk129 (v553 : IVec S16 32) (v554 : IVec S16 32) : Prop :=
  (∀ a x, ((![v553, v554] : Fin 2 → IVec S16 32) a x).toNat < S32x2048.size a)
theorem k2_idx129_inb : ∀ (v553 : IVec S16 32) (v554 : IVec S16 32) (k2_hw129 : k2_chk129 v553 v554), ∀ a x, ((![v553, v554] : Fin 2 → IVec S16 32) a x).toNat < S32x2048.size a := fun v553 v554 k2_hw129 => k2_hw129

def k2_chk130 (v553 : IVec S16 32) (v558 : IVec S16 32) : Prop :=
  (∀ a x, ((![v553, v558] : Fin 2 → IVec S16 32) a x).toNat < S32x2048.size a)
theorem k2_idx130_inb : ∀ (v553 : IVec S16 32) (v558 : IVec S16 32) (k2_hw130 : k2_chk130 v553 v558), ∀ a x, ((![v553, v558] : Fin 2 → IVec S16 32) a x).toNat < S32x2048.size a := fun v553 v558 k2_hw130 => k2_hw130

def k2_chk131 (v553 : IVec S16 32) (v562 : IVec S16 32) : Prop :=
  (∀ a x, ((![v553, v562] : Fin 2 → IVec S16 32) a x).toNat < S32x2048.size a)
theorem k2_idx131_inb : ∀ (v553 : IVec S16 32) (v562 : IVec S16 32) (k2_hw131 : k2_chk131 v553 v562), ∀ a x, ((![v553, v562] : Fin 2 → IVec S16 32) a x).toNat < S32x2048.size a := fun v553 v562 k2_hw131 => k2_hw131

def k2_chk132 (v553 : IVec S16 32) (v566 : IVec S16 32) : Prop :=
  (∀ a x, ((![v553, v566] : Fin 2 → IVec S16 32) a x).toNat < S32x2048.size a)
theorem k2_idx132_inb : ∀ (v553 : IVec S16 32) (v566 : IVec S16 32) (k2_hw132 : k2_chk132 v553 v566), ∀ a x, ((![v553, v566] : Fin 2 → IVec S16 32) a x).toNat < S32x2048.size a := fun v553 v566 k2_hw132 => k2_hw132

def k2_chk133 (v553 : IVec S16 32) (v570 : IVec S16 32) : Prop :=
  (∀ a x, ((![v553, v570] : Fin 2 → IVec S16 32) a x).toNat < S32x2048.size a)
theorem k2_idx133_inb : ∀ (v553 : IVec S16 32) (v570 : IVec S16 32) (k2_hw133 : k2_chk133 v553 v570), ∀ a x, ((![v553, v570] : Fin 2 → IVec S16 32) a x).toNat < S32x2048.size a := fun v553 v570 k2_hw133 => k2_hw133

def k2_chk134 (v553 : IVec S16 32) (v574 : IVec S16 32) : Prop :=
  (∀ a x, ((![v553, v574] : Fin 2 → IVec S16 32) a x).toNat < S32x2048.size a)
theorem k2_idx134_inb : ∀ (v553 : IVec S16 32) (v574 : IVec S16 32) (k2_hw134 : k2_chk134 v553 v574), ∀ a x, ((![v553, v574] : Fin 2 → IVec S16 32) a x).toNat < S32x2048.size a := fun v553 v574 k2_hw134 => k2_hw134

def k2_chk135 (v553 : IVec S16 32) (v578 : IVec S16 32) : Prop :=
  (∀ a x, ((![v553, v578] : Fin 2 → IVec S16 32) a x).toNat < S32x2048.size a)
theorem k2_idx135_inb : ∀ (v553 : IVec S16 32) (v578 : IVec S16 32) (k2_hw135 : k2_chk135 v553 v578), ∀ a x, ((![v553, v578] : Fin 2 → IVec S16 32) a x).toNat < S32x2048.size a := fun v553 v578 k2_hw135 => k2_hw135

def k2_chk136 (v553 : IVec S16 32) (v582 : IVec S16 32) : Prop :=
  (∀ a x, ((![v553, v582] : Fin 2 → IVec S16 32) a x).toNat < S32x2048.size a)
theorem k2_idx136_inb : ∀ (v553 : IVec S16 32) (v582 : IVec S16 32) (k2_hw136 : k2_chk136 v553 v582), ∀ a x, ((![v553, v582] : Fin 2 → IVec S16 32) a x).toNat < S32x2048.size a := fun v553 v582 k2_hw136 => k2_hw136

def k2_chk137 (v553 : IVec S16 32) (v586 : IVec S16 32) : Prop :=
  (∀ a x, ((![v553, v586] : Fin 2 → IVec S16 32) a x).toNat < S32x2048.size a)
theorem k2_idx137_inb : ∀ (v553 : IVec S16 32) (v586 : IVec S16 32) (k2_hw137 : k2_chk137 v553 v586), ∀ a x, ((![v553, v586] : Fin 2 → IVec S16 32) a x).toNat < S32x2048.size a := fun v553 v586 k2_hw137 => k2_hw137

def k2_chk138 (v553 : IVec S16 32) (v590 : IVec S16 32) : Prop :=
  (∀ a x, ((![v553, v590] : Fin 2 → IVec S16 32) a x).toNat < S32x2048.size a)
theorem k2_idx138_inb : ∀ (v553 : IVec S16 32) (v590 : IVec S16 32) (k2_hw138 : k2_chk138 v553 v590), ∀ a x, ((![v553, v590] : Fin 2 → IVec S16 32) a x).toNat < S32x2048.size a := fun v553 v590 k2_hw138 => k2_hw138

def k2_chk139 (v553 : IVec S16 32) (v594 : IVec S16 32) : Prop :=
  (∀ a x, ((![v553, v594] : Fin 2 → IVec S16 32) a x).toNat < S32x2048.size a)
theorem k2_idx139_inb : ∀ (v553 : IVec S16 32) (v594 : IVec S16 32) (k2_hw139 : k2_chk139 v553 v594), ∀ a x, ((![v553, v594] : Fin 2 → IVec S16 32) a x).toNat < S32x2048.size a := fun v553 v594 k2_hw139 => k2_hw139

def k2_chk140 (v553 : IVec S16 32) (v598 : IVec S16 32) : Prop :=
  (∀ a x, ((![v553, v598] : Fin 2 → IVec S16 32) a x).toNat < S32x2048.size a)
theorem k2_idx140_inb : ∀ (v553 : IVec S16 32) (v598 : IVec S16 32) (k2_hw140 : k2_chk140 v553 v598), ∀ a x, ((![v553, v598] : Fin 2 → IVec S16 32) a x).toNat < S32x2048.size a := fun v553 v598 k2_hw140 => k2_hw140

def k2_chk141 (v553 : IVec S16 32) (v602 : IVec S16 32) : Prop :=
  (∀ a x, ((![v553, v602] : Fin 2 → IVec S16 32) a x).toNat < S32x2048.size a)
theorem k2_idx141_inb : ∀ (v553 : IVec S16 32) (v602 : IVec S16 32) (k2_hw141 : k2_chk141 v553 v602), ∀ a x, ((![v553, v602] : Fin 2 → IVec S16 32) a x).toNat < S32x2048.size a := fun v553 v602 k2_hw141 => k2_hw141

def k2_chk142 (v553 : IVec S16 32) (v606 : IVec S16 32) : Prop :=
  (∀ a x, ((![v553, v606] : Fin 2 → IVec S16 32) a x).toNat < S32x2048.size a)
theorem k2_idx142_inb : ∀ (v553 : IVec S16 32) (v606 : IVec S16 32) (k2_hw142 : k2_chk142 v553 v606), ∀ a x, ((![v553, v606] : Fin 2 → IVec S16 32) a x).toNat < S32x2048.size a := fun v553 v606 k2_hw142 => k2_hw142

def k2_chk143 (v553 : IVec S16 32) (v610 : IVec S16 32) : Prop :=
  (∀ a x, ((![v553, v610] : Fin 2 → IVec S16 32) a x).toNat < S32x2048.size a)
theorem k2_idx143_inb : ∀ (v553 : IVec S16 32) (v610 : IVec S16 32) (k2_hw143 : k2_chk143 v553 v610), ∀ a x, ((![v553, v610] : Fin 2 → IVec S16 32) a x).toNat < S32x2048.size a := fun v553 v610 k2_hw143 => k2_hw143

def k2_chk144 (v553 : IVec S16 32) (v614 : IVec S16 32) : Prop :=
  (∀ a x, ((![v553, v614] : Fin 2 → IVec S16 32) a x).toNat < S32x2048.size a)
theorem k2_idx144_inb : ∀ (v553 : IVec S16 32) (v614 : IVec S16 32) (k2_hw144 : k2_chk144 v553 v614), ∀ a x, ((![v553, v614] : Fin 2 → IVec S16 32) a x).toNat < S32x2048.size a := fun v553 v614 k2_hw144 => k2_hw144

def k2_chk145 (v618 : IVec S16 32) (v619 : IVec S16 32) : Prop :=
  (∀ a x, ((![v618, v619] : Fin 2 → IVec S16 32) a x).toNat < S32x2048.size a)
theorem k2_idx145_inb : ∀ (v618 : IVec S16 32) (v619 : IVec S16 32) (k2_hw145 : k2_chk145 v618 v619), ∀ a x, ((![v618, v619] : Fin 2 → IVec S16 32) a x).toNat < S32x2048.size a := fun v618 v619 k2_hw145 => k2_hw145

def k2_chk146 (v618 : IVec S16 32) (v623 : IVec S16 32) : Prop :=
  (∀ a x, ((![v618, v623] : Fin 2 → IVec S16 32) a x).toNat < S32x2048.size a)
theorem k2_idx146_inb : ∀ (v618 : IVec S16 32) (v623 : IVec S16 32) (k2_hw146 : k2_chk146 v618 v623), ∀ a x, ((![v618, v623] : Fin 2 → IVec S16 32) a x).toNat < S32x2048.size a := fun v618 v623 k2_hw146 => k2_hw146

def k2_chk147 (v618 : IVec S16 32) (v627 : IVec S16 32) : Prop :=
  (∀ a x, ((![v618, v627] : Fin 2 → IVec S16 32) a x).toNat < S32x2048.size a)
theorem k2_idx147_inb : ∀ (v618 : IVec S16 32) (v627 : IVec S16 32) (k2_hw147 : k2_chk147 v618 v627), ∀ a x, ((![v618, v627] : Fin 2 → IVec S16 32) a x).toNat < S32x2048.size a := fun v618 v627 k2_hw147 => k2_hw147

def k2_chk148 (v618 : IVec S16 32) (v631 : IVec S16 32) : Prop :=
  (∀ a x, ((![v618, v631] : Fin 2 → IVec S16 32) a x).toNat < S32x2048.size a)
theorem k2_idx148_inb : ∀ (v618 : IVec S16 32) (v631 : IVec S16 32) (k2_hw148 : k2_chk148 v618 v631), ∀ a x, ((![v618, v631] : Fin 2 → IVec S16 32) a x).toNat < S32x2048.size a := fun v618 v631 k2_hw148 => k2_hw148

def k2_chk149 (v618 : IVec S16 32) (v635 : IVec S16 32) : Prop :=
  (∀ a x, ((![v618, v635] : Fin 2 → IVec S16 32) a x).toNat < S32x2048.size a)
theorem k2_idx149_inb : ∀ (v618 : IVec S16 32) (v635 : IVec S16 32) (k2_hw149 : k2_chk149 v618 v635), ∀ a x, ((![v618, v635] : Fin 2 → IVec S16 32) a x).toNat < S32x2048.size a := fun v618 v635 k2_hw149 => k2_hw149

def k2_chk150 (v618 : IVec S16 32) (v639 : IVec S16 32) : Prop :=
  (∀ a x, ((![v618, v639] : Fin 2 → IVec S16 32) a x).toNat < S32x2048.size a)
theorem k2_idx150_inb : ∀ (v618 : IVec S16 32) (v639 : IVec S16 32) (k2_hw150 : k2_chk150 v618 v639), ∀ a x, ((![v618, v639] : Fin 2 → IVec S16 32) a x).toNat < S32x2048.size a := fun v618 v639 k2_hw150 => k2_hw150

def k2_chk151 (v618 : IVec S16 32) (v643 : IVec S16 32) : Prop :=
  (∀ a x, ((![v618, v643] : Fin 2 → IVec S16 32) a x).toNat < S32x2048.size a)
theorem k2_idx151_inb : ∀ (v618 : IVec S16 32) (v643 : IVec S16 32) (k2_hw151 : k2_chk151 v618 v643), ∀ a x, ((![v618, v643] : Fin 2 → IVec S16 32) a x).toNat < S32x2048.size a := fun v618 v643 k2_hw151 => k2_hw151

def k2_chk152 (v618 : IVec S16 32) (v647 : IVec S16 32) : Prop :=
  (∀ a x, ((![v618, v647] : Fin 2 → IVec S16 32) a x).toNat < S32x2048.size a)
theorem k2_idx152_inb : ∀ (v618 : IVec S16 32) (v647 : IVec S16 32) (k2_hw152 : k2_chk152 v618 v647), ∀ a x, ((![v618, v647] : Fin 2 → IVec S16 32) a x).toNat < S32x2048.size a := fun v618 v647 k2_hw152 => k2_hw152

def k2_chk153 (v618 : IVec S16 32) (v651 : IVec S16 32) : Prop :=
  (∀ a x, ((![v618, v651] : Fin 2 → IVec S16 32) a x).toNat < S32x2048.size a)
theorem k2_idx153_inb : ∀ (v618 : IVec S16 32) (v651 : IVec S16 32) (k2_hw153 : k2_chk153 v618 v651), ∀ a x, ((![v618, v651] : Fin 2 → IVec S16 32) a x).toNat < S32x2048.size a := fun v618 v651 k2_hw153 => k2_hw153

def k2_chk154 (v618 : IVec S16 32) (v655 : IVec S16 32) : Prop :=
  (∀ a x, ((![v618, v655] : Fin 2 → IVec S16 32) a x).toNat < S32x2048.size a)
theorem k2_idx154_inb : ∀ (v618 : IVec S16 32) (v655 : IVec S16 32) (k2_hw154 : k2_chk154 v618 v655), ∀ a x, ((![v618, v655] : Fin 2 → IVec S16 32) a x).toNat < S32x2048.size a := fun v618 v655 k2_hw154 => k2_hw154

def k2_chk155 (v618 : IVec S16 32) (v659 : IVec S16 32) : Prop :=
  (∀ a x, ((![v618, v659] : Fin 2 → IVec S16 32) a x).toNat < S32x2048.size a)
theorem k2_idx155_inb : ∀ (v618 : IVec S16 32) (v659 : IVec S16 32) (k2_hw155 : k2_chk155 v618 v659), ∀ a x, ((![v618, v659] : Fin 2 → IVec S16 32) a x).toNat < S32x2048.size a := fun v618 v659 k2_hw155 => k2_hw155

def k2_chk156 (v618 : IVec S16 32) (v663 : IVec S16 32) : Prop :=
  (∀ a x, ((![v618, v663] : Fin 2 → IVec S16 32) a x).toNat < S32x2048.size a)
theorem k2_idx156_inb : ∀ (v618 : IVec S16 32) (v663 : IVec S16 32) (k2_hw156 : k2_chk156 v618 v663), ∀ a x, ((![v618, v663] : Fin 2 → IVec S16 32) a x).toNat < S32x2048.size a := fun v618 v663 k2_hw156 => k2_hw156

def k2_chk157 (v618 : IVec S16 32) (v667 : IVec S16 32) : Prop :=
  (∀ a x, ((![v618, v667] : Fin 2 → IVec S16 32) a x).toNat < S32x2048.size a)
theorem k2_idx157_inb : ∀ (v618 : IVec S16 32) (v667 : IVec S16 32) (k2_hw157 : k2_chk157 v618 v667), ∀ a x, ((![v618, v667] : Fin 2 → IVec S16 32) a x).toNat < S32x2048.size a := fun v618 v667 k2_hw157 => k2_hw157

def k2_chk158 (v618 : IVec S16 32) (v671 : IVec S16 32) : Prop :=
  (∀ a x, ((![v618, v671] : Fin 2 → IVec S16 32) a x).toNat < S32x2048.size a)
theorem k2_idx158_inb : ∀ (v618 : IVec S16 32) (v671 : IVec S16 32) (k2_hw158 : k2_chk158 v618 v671), ∀ a x, ((![v618, v671] : Fin 2 → IVec S16 32) a x).toNat < S32x2048.size a := fun v618 v671 k2_hw158 => k2_hw158

def k2_chk159 (v618 : IVec S16 32) (v675 : IVec S16 32) : Prop :=
  (∀ a x, ((![v618, v675] : Fin 2 → IVec S16 32) a x).toNat < S32x2048.size a)
theorem k2_idx159_inb : ∀ (v618 : IVec S16 32) (v675 : IVec S16 32) (k2_hw159 : k2_chk159 v618 v675), ∀ a x, ((![v618, v675] : Fin 2 → IVec S16 32) a x).toNat < S32x2048.size a := fun v618 v675 k2_hw159 => k2_hw159

def k2_chk160 (v618 : IVec S16 32) (v679 : IVec S16 32) : Prop :=
  (∀ a x, ((![v618, v679] : Fin 2 → IVec S16 32) a x).toNat < S32x2048.size a)
theorem k2_idx160_inb : ∀ (v618 : IVec S16 32) (v679 : IVec S16 32) (k2_hw160 : k2_chk160 v618 v679), ∀ a x, ((![v618, v679] : Fin 2 → IVec S16 32) a x).toNat < S32x2048.size a := fun v618 v679 k2_hw160 => k2_hw160

def k2_chk161 (v683 : IVec S16 32) (v684 : IVec S16 32) : Prop :=
  (∀ a x, ((![v683, v684] : Fin 2 → IVec S16 32) a x).toNat < S32x2048.size a)
theorem k2_idx161_inb : ∀ (v683 : IVec S16 32) (v684 : IVec S16 32) (k2_hw161 : k2_chk161 v683 v684), ∀ a x, ((![v683, v684] : Fin 2 → IVec S16 32) a x).toNat < S32x2048.size a := fun v683 v684 k2_hw161 => k2_hw161

def k2_chk162 (v683 : IVec S16 32) (v688 : IVec S16 32) : Prop :=
  (∀ a x, ((![v683, v688] : Fin 2 → IVec S16 32) a x).toNat < S32x2048.size a)
theorem k2_idx162_inb : ∀ (v683 : IVec S16 32) (v688 : IVec S16 32) (k2_hw162 : k2_chk162 v683 v688), ∀ a x, ((![v683, v688] : Fin 2 → IVec S16 32) a x).toNat < S32x2048.size a := fun v683 v688 k2_hw162 => k2_hw162

def k2_chk163 (v683 : IVec S16 32) (v692 : IVec S16 32) : Prop :=
  (∀ a x, ((![v683, v692] : Fin 2 → IVec S16 32) a x).toNat < S32x2048.size a)
theorem k2_idx163_inb : ∀ (v683 : IVec S16 32) (v692 : IVec S16 32) (k2_hw163 : k2_chk163 v683 v692), ∀ a x, ((![v683, v692] : Fin 2 → IVec S16 32) a x).toNat < S32x2048.size a := fun v683 v692 k2_hw163 => k2_hw163

def k2_chk164 (v683 : IVec S16 32) (v696 : IVec S16 32) : Prop :=
  (∀ a x, ((![v683, v696] : Fin 2 → IVec S16 32) a x).toNat < S32x2048.size a)
theorem k2_idx164_inb : ∀ (v683 : IVec S16 32) (v696 : IVec S16 32) (k2_hw164 : k2_chk164 v683 v696), ∀ a x, ((![v683, v696] : Fin 2 → IVec S16 32) a x).toNat < S32x2048.size a := fun v683 v696 k2_hw164 => k2_hw164

def k2_chk165 (v683 : IVec S16 32) (v700 : IVec S16 32) : Prop :=
  (∀ a x, ((![v683, v700] : Fin 2 → IVec S16 32) a x).toNat < S32x2048.size a)
theorem k2_idx165_inb : ∀ (v683 : IVec S16 32) (v700 : IVec S16 32) (k2_hw165 : k2_chk165 v683 v700), ∀ a x, ((![v683, v700] : Fin 2 → IVec S16 32) a x).toNat < S32x2048.size a := fun v683 v700 k2_hw165 => k2_hw165

def k2_chk166 (v683 : IVec S16 32) (v704 : IVec S16 32) : Prop :=
  (∀ a x, ((![v683, v704] : Fin 2 → IVec S16 32) a x).toNat < S32x2048.size a)
theorem k2_idx166_inb : ∀ (v683 : IVec S16 32) (v704 : IVec S16 32) (k2_hw166 : k2_chk166 v683 v704), ∀ a x, ((![v683, v704] : Fin 2 → IVec S16 32) a x).toNat < S32x2048.size a := fun v683 v704 k2_hw166 => k2_hw166

def k2_chk167 (v683 : IVec S16 32) (v708 : IVec S16 32) : Prop :=
  (∀ a x, ((![v683, v708] : Fin 2 → IVec S16 32) a x).toNat < S32x2048.size a)
theorem k2_idx167_inb : ∀ (v683 : IVec S16 32) (v708 : IVec S16 32) (k2_hw167 : k2_chk167 v683 v708), ∀ a x, ((![v683, v708] : Fin 2 → IVec S16 32) a x).toNat < S32x2048.size a := fun v683 v708 k2_hw167 => k2_hw167

def k2_chk168 (v683 : IVec S16 32) (v712 : IVec S16 32) : Prop :=
  (∀ a x, ((![v683, v712] : Fin 2 → IVec S16 32) a x).toNat < S32x2048.size a)
theorem k2_idx168_inb : ∀ (v683 : IVec S16 32) (v712 : IVec S16 32) (k2_hw168 : k2_chk168 v683 v712), ∀ a x, ((![v683, v712] : Fin 2 → IVec S16 32) a x).toNat < S32x2048.size a := fun v683 v712 k2_hw168 => k2_hw168

def k2_chk169 (v683 : IVec S16 32) (v716 : IVec S16 32) : Prop :=
  (∀ a x, ((![v683, v716] : Fin 2 → IVec S16 32) a x).toNat < S32x2048.size a)
theorem k2_idx169_inb : ∀ (v683 : IVec S16 32) (v716 : IVec S16 32) (k2_hw169 : k2_chk169 v683 v716), ∀ a x, ((![v683, v716] : Fin 2 → IVec S16 32) a x).toNat < S32x2048.size a := fun v683 v716 k2_hw169 => k2_hw169

def k2_chk170 (v683 : IVec S16 32) (v720 : IVec S16 32) : Prop :=
  (∀ a x, ((![v683, v720] : Fin 2 → IVec S16 32) a x).toNat < S32x2048.size a)
theorem k2_idx170_inb : ∀ (v683 : IVec S16 32) (v720 : IVec S16 32) (k2_hw170 : k2_chk170 v683 v720), ∀ a x, ((![v683, v720] : Fin 2 → IVec S16 32) a x).toNat < S32x2048.size a := fun v683 v720 k2_hw170 => k2_hw170

def k2_chk171 (v683 : IVec S16 32) (v724 : IVec S16 32) : Prop :=
  (∀ a x, ((![v683, v724] : Fin 2 → IVec S16 32) a x).toNat < S32x2048.size a)
theorem k2_idx171_inb : ∀ (v683 : IVec S16 32) (v724 : IVec S16 32) (k2_hw171 : k2_chk171 v683 v724), ∀ a x, ((![v683, v724] : Fin 2 → IVec S16 32) a x).toNat < S32x2048.size a := fun v683 v724 k2_hw171 => k2_hw171

def k2_chk172 (v683 : IVec S16 32) (v728 : IVec S16 32) : Prop :=
  (∀ a x, ((![v683, v728] : Fin 2 → IVec S16 32) a x).toNat < S32x2048.size a)
theorem k2_idx172_inb : ∀ (v683 : IVec S16 32) (v728 : IVec S16 32) (k2_hw172 : k2_chk172 v683 v728), ∀ a x, ((![v683, v728] : Fin 2 → IVec S16 32) a x).toNat < S32x2048.size a := fun v683 v728 k2_hw172 => k2_hw172

def k2_chk173 (v683 : IVec S16 32) (v732 : IVec S16 32) : Prop :=
  (∀ a x, ((![v683, v732] : Fin 2 → IVec S16 32) a x).toNat < S32x2048.size a)
theorem k2_idx173_inb : ∀ (v683 : IVec S16 32) (v732 : IVec S16 32) (k2_hw173 : k2_chk173 v683 v732), ∀ a x, ((![v683, v732] : Fin 2 → IVec S16 32) a x).toNat < S32x2048.size a := fun v683 v732 k2_hw173 => k2_hw173

def k2_chk174 (v683 : IVec S16 32) (v736 : IVec S16 32) : Prop :=
  (∀ a x, ((![v683, v736] : Fin 2 → IVec S16 32) a x).toNat < S32x2048.size a)
theorem k2_idx174_inb : ∀ (v683 : IVec S16 32) (v736 : IVec S16 32) (k2_hw174 : k2_chk174 v683 v736), ∀ a x, ((![v683, v736] : Fin 2 → IVec S16 32) a x).toNat < S32x2048.size a := fun v683 v736 k2_hw174 => k2_hw174

def k2_chk175 (v683 : IVec S16 32) (v740 : IVec S16 32) : Prop :=
  (∀ a x, ((![v683, v740] : Fin 2 → IVec S16 32) a x).toNat < S32x2048.size a)
theorem k2_idx175_inb : ∀ (v683 : IVec S16 32) (v740 : IVec S16 32) (k2_hw175 : k2_chk175 v683 v740), ∀ a x, ((![v683, v740] : Fin 2 → IVec S16 32) a x).toNat < S32x2048.size a := fun v683 v740 k2_hw175 => k2_hw175

def k2_chk176 (v683 : IVec S16 32) (v744 : IVec S16 32) : Prop :=
  (∀ a x, ((![v683, v744] : Fin 2 → IVec S16 32) a x).toNat < S32x2048.size a)
theorem k2_idx176_inb : ∀ (v683 : IVec S16 32) (v744 : IVec S16 32) (k2_hw176 : k2_chk176 v683 v744), ∀ a x, ((![v683, v744] : Fin 2 → IVec S16 32) a x).toNat < S32x2048.size a := fun v683 v744 k2_hw176 => k2_hw176

def k2_chk177 (v748 : IVec S16 32) (v749 : IVec S16 32) : Prop :=
  (∀ a x, ((![v748, v749] : Fin 2 → IVec S16 32) a x).toNat < S32x2048.size a)
theorem k2_idx177_inb : ∀ (v748 : IVec S16 32) (v749 : IVec S16 32) (k2_hw177 : k2_chk177 v748 v749), ∀ a x, ((![v748, v749] : Fin 2 → IVec S16 32) a x).toNat < S32x2048.size a := fun v748 v749 k2_hw177 => k2_hw177

def k2_chk178 (v748 : IVec S16 32) (v753 : IVec S16 32) : Prop :=
  (∀ a x, ((![v748, v753] : Fin 2 → IVec S16 32) a x).toNat < S32x2048.size a)
theorem k2_idx178_inb : ∀ (v748 : IVec S16 32) (v753 : IVec S16 32) (k2_hw178 : k2_chk178 v748 v753), ∀ a x, ((![v748, v753] : Fin 2 → IVec S16 32) a x).toNat < S32x2048.size a := fun v748 v753 k2_hw178 => k2_hw178

def k2_chk179 (v748 : IVec S16 32) (v757 : IVec S16 32) : Prop :=
  (∀ a x, ((![v748, v757] : Fin 2 → IVec S16 32) a x).toNat < S32x2048.size a)
theorem k2_idx179_inb : ∀ (v748 : IVec S16 32) (v757 : IVec S16 32) (k2_hw179 : k2_chk179 v748 v757), ∀ a x, ((![v748, v757] : Fin 2 → IVec S16 32) a x).toNat < S32x2048.size a := fun v748 v757 k2_hw179 => k2_hw179

def k2_chk180 (v748 : IVec S16 32) (v761 : IVec S16 32) : Prop :=
  (∀ a x, ((![v748, v761] : Fin 2 → IVec S16 32) a x).toNat < S32x2048.size a)
theorem k2_idx180_inb : ∀ (v748 : IVec S16 32) (v761 : IVec S16 32) (k2_hw180 : k2_chk180 v748 v761), ∀ a x, ((![v748, v761] : Fin 2 → IVec S16 32) a x).toNat < S32x2048.size a := fun v748 v761 k2_hw180 => k2_hw180

def k2_chk181 (v748 : IVec S16 32) (v765 : IVec S16 32) : Prop :=
  (∀ a x, ((![v748, v765] : Fin 2 → IVec S16 32) a x).toNat < S32x2048.size a)
theorem k2_idx181_inb : ∀ (v748 : IVec S16 32) (v765 : IVec S16 32) (k2_hw181 : k2_chk181 v748 v765), ∀ a x, ((![v748, v765] : Fin 2 → IVec S16 32) a x).toNat < S32x2048.size a := fun v748 v765 k2_hw181 => k2_hw181

def k2_chk182 (v748 : IVec S16 32) (v769 : IVec S16 32) : Prop :=
  (∀ a x, ((![v748, v769] : Fin 2 → IVec S16 32) a x).toNat < S32x2048.size a)
theorem k2_idx182_inb : ∀ (v748 : IVec S16 32) (v769 : IVec S16 32) (k2_hw182 : k2_chk182 v748 v769), ∀ a x, ((![v748, v769] : Fin 2 → IVec S16 32) a x).toNat < S32x2048.size a := fun v748 v769 k2_hw182 => k2_hw182

def k2_chk183 (v748 : IVec S16 32) (v773 : IVec S16 32) : Prop :=
  (∀ a x, ((![v748, v773] : Fin 2 → IVec S16 32) a x).toNat < S32x2048.size a)
theorem k2_idx183_inb : ∀ (v748 : IVec S16 32) (v773 : IVec S16 32) (k2_hw183 : k2_chk183 v748 v773), ∀ a x, ((![v748, v773] : Fin 2 → IVec S16 32) a x).toNat < S32x2048.size a := fun v748 v773 k2_hw183 => k2_hw183

def k2_chk184 (v748 : IVec S16 32) (v777 : IVec S16 32) : Prop :=
  (∀ a x, ((![v748, v777] : Fin 2 → IVec S16 32) a x).toNat < S32x2048.size a)
theorem k2_idx184_inb : ∀ (v748 : IVec S16 32) (v777 : IVec S16 32) (k2_hw184 : k2_chk184 v748 v777), ∀ a x, ((![v748, v777] : Fin 2 → IVec S16 32) a x).toNat < S32x2048.size a := fun v748 v777 k2_hw184 => k2_hw184

def k2_chk185 (v748 : IVec S16 32) (v781 : IVec S16 32) : Prop :=
  (∀ a x, ((![v748, v781] : Fin 2 → IVec S16 32) a x).toNat < S32x2048.size a)
theorem k2_idx185_inb : ∀ (v748 : IVec S16 32) (v781 : IVec S16 32) (k2_hw185 : k2_chk185 v748 v781), ∀ a x, ((![v748, v781] : Fin 2 → IVec S16 32) a x).toNat < S32x2048.size a := fun v748 v781 k2_hw185 => k2_hw185

def k2_chk186 (v748 : IVec S16 32) (v785 : IVec S16 32) : Prop :=
  (∀ a x, ((![v748, v785] : Fin 2 → IVec S16 32) a x).toNat < S32x2048.size a)
theorem k2_idx186_inb : ∀ (v748 : IVec S16 32) (v785 : IVec S16 32) (k2_hw186 : k2_chk186 v748 v785), ∀ a x, ((![v748, v785] : Fin 2 → IVec S16 32) a x).toNat < S32x2048.size a := fun v748 v785 k2_hw186 => k2_hw186

def k2_chk187 (v748 : IVec S16 32) (v789 : IVec S16 32) : Prop :=
  (∀ a x, ((![v748, v789] : Fin 2 → IVec S16 32) a x).toNat < S32x2048.size a)
theorem k2_idx187_inb : ∀ (v748 : IVec S16 32) (v789 : IVec S16 32) (k2_hw187 : k2_chk187 v748 v789), ∀ a x, ((![v748, v789] : Fin 2 → IVec S16 32) a x).toNat < S32x2048.size a := fun v748 v789 k2_hw187 => k2_hw187

def k2_chk188 (v748 : IVec S16 32) (v793 : IVec S16 32) : Prop :=
  (∀ a x, ((![v748, v793] : Fin 2 → IVec S16 32) a x).toNat < S32x2048.size a)
theorem k2_idx188_inb : ∀ (v748 : IVec S16 32) (v793 : IVec S16 32) (k2_hw188 : k2_chk188 v748 v793), ∀ a x, ((![v748, v793] : Fin 2 → IVec S16 32) a x).toNat < S32x2048.size a := fun v748 v793 k2_hw188 => k2_hw188

def k2_chk189 (v748 : IVec S16 32) (v797 : IVec S16 32) : Prop :=
  (∀ a x, ((![v748, v797] : Fin 2 → IVec S16 32) a x).toNat < S32x2048.size a)
theorem k2_idx189_inb : ∀ (v748 : IVec S16 32) (v797 : IVec S16 32) (k2_hw189 : k2_chk189 v748 v797), ∀ a x, ((![v748, v797] : Fin 2 → IVec S16 32) a x).toNat < S32x2048.size a := fun v748 v797 k2_hw189 => k2_hw189

def k2_chk190 (v748 : IVec S16 32) (v801 : IVec S16 32) : Prop :=
  (∀ a x, ((![v748, v801] : Fin 2 → IVec S16 32) a x).toNat < S32x2048.size a)
theorem k2_idx190_inb : ∀ (v748 : IVec S16 32) (v801 : IVec S16 32) (k2_hw190 : k2_chk190 v748 v801), ∀ a x, ((![v748, v801] : Fin 2 → IVec S16 32) a x).toNat < S32x2048.size a := fun v748 v801 k2_hw190 => k2_hw190

def k2_chk191 (v748 : IVec S16 32) (v805 : IVec S16 32) : Prop :=
  (∀ a x, ((![v748, v805] : Fin 2 → IVec S16 32) a x).toNat < S32x2048.size a)
theorem k2_idx191_inb : ∀ (v748 : IVec S16 32) (v805 : IVec S16 32) (k2_hw191 : k2_chk191 v748 v805), ∀ a x, ((![v748, v805] : Fin 2 → IVec S16 32) a x).toNat < S32x2048.size a := fun v748 v805 k2_hw191 => k2_hw191

def k2_chk192 (v748 : IVec S16 32) (v809 : IVec S16 32) : Prop :=
  (∀ a x, ((![v748, v809] : Fin 2 → IVec S16 32) a x).toNat < S32x2048.size a)
theorem k2_idx192_inb : ∀ (v748 : IVec S16 32) (v809 : IVec S16 32) (k2_hw192 : k2_chk192 v748 v809), ∀ a x, ((![v748, v809] : Fin 2 → IVec S16 32) a x).toNat < S32x2048.size a := fun v748 v809 k2_hw192 => k2_hw192

def k2_chk193 (v813 : IVec S16 32) (v814 : IVec S16 32) : Prop :=
  (∀ a x, ((![v813, v814] : Fin 2 → IVec S16 32) a x).toNat < S32x2048.size a)
theorem k2_idx193_inb : ∀ (v813 : IVec S16 32) (v814 : IVec S16 32) (k2_hw193 : k2_chk193 v813 v814), ∀ a x, ((![v813, v814] : Fin 2 → IVec S16 32) a x).toNat < S32x2048.size a := fun v813 v814 k2_hw193 => k2_hw193

def k2_chk194 (v813 : IVec S16 32) (v818 : IVec S16 32) : Prop :=
  (∀ a x, ((![v813, v818] : Fin 2 → IVec S16 32) a x).toNat < S32x2048.size a)
theorem k2_idx194_inb : ∀ (v813 : IVec S16 32) (v818 : IVec S16 32) (k2_hw194 : k2_chk194 v813 v818), ∀ a x, ((![v813, v818] : Fin 2 → IVec S16 32) a x).toNat < S32x2048.size a := fun v813 v818 k2_hw194 => k2_hw194

def k2_chk195 (v813 : IVec S16 32) (v822 : IVec S16 32) : Prop :=
  (∀ a x, ((![v813, v822] : Fin 2 → IVec S16 32) a x).toNat < S32x2048.size a)
theorem k2_idx195_inb : ∀ (v813 : IVec S16 32) (v822 : IVec S16 32) (k2_hw195 : k2_chk195 v813 v822), ∀ a x, ((![v813, v822] : Fin 2 → IVec S16 32) a x).toNat < S32x2048.size a := fun v813 v822 k2_hw195 => k2_hw195

def k2_chk196 (v813 : IVec S16 32) (v826 : IVec S16 32) : Prop :=
  (∀ a x, ((![v813, v826] : Fin 2 → IVec S16 32) a x).toNat < S32x2048.size a)
theorem k2_idx196_inb : ∀ (v813 : IVec S16 32) (v826 : IVec S16 32) (k2_hw196 : k2_chk196 v813 v826), ∀ a x, ((![v813, v826] : Fin 2 → IVec S16 32) a x).toNat < S32x2048.size a := fun v813 v826 k2_hw196 => k2_hw196

def k2_chk197 (v813 : IVec S16 32) (v830 : IVec S16 32) : Prop :=
  (∀ a x, ((![v813, v830] : Fin 2 → IVec S16 32) a x).toNat < S32x2048.size a)
theorem k2_idx197_inb : ∀ (v813 : IVec S16 32) (v830 : IVec S16 32) (k2_hw197 : k2_chk197 v813 v830), ∀ a x, ((![v813, v830] : Fin 2 → IVec S16 32) a x).toNat < S32x2048.size a := fun v813 v830 k2_hw197 => k2_hw197

def k2_chk198 (v813 : IVec S16 32) (v834 : IVec S16 32) : Prop :=
  (∀ a x, ((![v813, v834] : Fin 2 → IVec S16 32) a x).toNat < S32x2048.size a)
theorem k2_idx198_inb : ∀ (v813 : IVec S16 32) (v834 : IVec S16 32) (k2_hw198 : k2_chk198 v813 v834), ∀ a x, ((![v813, v834] : Fin 2 → IVec S16 32) a x).toNat < S32x2048.size a := fun v813 v834 k2_hw198 => k2_hw198

def k2_chk199 (v813 : IVec S16 32) (v838 : IVec S16 32) : Prop :=
  (∀ a x, ((![v813, v838] : Fin 2 → IVec S16 32) a x).toNat < S32x2048.size a)
theorem k2_idx199_inb : ∀ (v813 : IVec S16 32) (v838 : IVec S16 32) (k2_hw199 : k2_chk199 v813 v838), ∀ a x, ((![v813, v838] : Fin 2 → IVec S16 32) a x).toNat < S32x2048.size a := fun v813 v838 k2_hw199 => k2_hw199

def k2_chk200 (v813 : IVec S16 32) (v842 : IVec S16 32) : Prop :=
  (∀ a x, ((![v813, v842] : Fin 2 → IVec S16 32) a x).toNat < S32x2048.size a)
theorem k2_idx200_inb : ∀ (v813 : IVec S16 32) (v842 : IVec S16 32) (k2_hw200 : k2_chk200 v813 v842), ∀ a x, ((![v813, v842] : Fin 2 → IVec S16 32) a x).toNat < S32x2048.size a := fun v813 v842 k2_hw200 => k2_hw200

def k2_chk201 (v813 : IVec S16 32) (v846 : IVec S16 32) : Prop :=
  (∀ a x, ((![v813, v846] : Fin 2 → IVec S16 32) a x).toNat < S32x2048.size a)
theorem k2_idx201_inb : ∀ (v813 : IVec S16 32) (v846 : IVec S16 32) (k2_hw201 : k2_chk201 v813 v846), ∀ a x, ((![v813, v846] : Fin 2 → IVec S16 32) a x).toNat < S32x2048.size a := fun v813 v846 k2_hw201 => k2_hw201

def k2_chk202 (v813 : IVec S16 32) (v850 : IVec S16 32) : Prop :=
  (∀ a x, ((![v813, v850] : Fin 2 → IVec S16 32) a x).toNat < S32x2048.size a)
theorem k2_idx202_inb : ∀ (v813 : IVec S16 32) (v850 : IVec S16 32) (k2_hw202 : k2_chk202 v813 v850), ∀ a x, ((![v813, v850] : Fin 2 → IVec S16 32) a x).toNat < S32x2048.size a := fun v813 v850 k2_hw202 => k2_hw202

def k2_chk203 (v813 : IVec S16 32) (v854 : IVec S16 32) : Prop :=
  (∀ a x, ((![v813, v854] : Fin 2 → IVec S16 32) a x).toNat < S32x2048.size a)
theorem k2_idx203_inb : ∀ (v813 : IVec S16 32) (v854 : IVec S16 32) (k2_hw203 : k2_chk203 v813 v854), ∀ a x, ((![v813, v854] : Fin 2 → IVec S16 32) a x).toNat < S32x2048.size a := fun v813 v854 k2_hw203 => k2_hw203

def k2_chk204 (v813 : IVec S16 32) (v858 : IVec S16 32) : Prop :=
  (∀ a x, ((![v813, v858] : Fin 2 → IVec S16 32) a x).toNat < S32x2048.size a)
theorem k2_idx204_inb : ∀ (v813 : IVec S16 32) (v858 : IVec S16 32) (k2_hw204 : k2_chk204 v813 v858), ∀ a x, ((![v813, v858] : Fin 2 → IVec S16 32) a x).toNat < S32x2048.size a := fun v813 v858 k2_hw204 => k2_hw204

def k2_chk205 (v813 : IVec S16 32) (v862 : IVec S16 32) : Prop :=
  (∀ a x, ((![v813, v862] : Fin 2 → IVec S16 32) a x).toNat < S32x2048.size a)
theorem k2_idx205_inb : ∀ (v813 : IVec S16 32) (v862 : IVec S16 32) (k2_hw205 : k2_chk205 v813 v862), ∀ a x, ((![v813, v862] : Fin 2 → IVec S16 32) a x).toNat < S32x2048.size a := fun v813 v862 k2_hw205 => k2_hw205

def k2_chk206 (v813 : IVec S16 32) (v866 : IVec S16 32) : Prop :=
  (∀ a x, ((![v813, v866] : Fin 2 → IVec S16 32) a x).toNat < S32x2048.size a)
theorem k2_idx206_inb : ∀ (v813 : IVec S16 32) (v866 : IVec S16 32) (k2_hw206 : k2_chk206 v813 v866), ∀ a x, ((![v813, v866] : Fin 2 → IVec S16 32) a x).toNat < S32x2048.size a := fun v813 v866 k2_hw206 => k2_hw206

def k2_chk207 (v813 : IVec S16 32) (v870 : IVec S16 32) : Prop :=
  (∀ a x, ((![v813, v870] : Fin 2 → IVec S16 32) a x).toNat < S32x2048.size a)
theorem k2_idx207_inb : ∀ (v813 : IVec S16 32) (v870 : IVec S16 32) (k2_hw207 : k2_chk207 v813 v870), ∀ a x, ((![v813, v870] : Fin 2 → IVec S16 32) a x).toNat < S32x2048.size a := fun v813 v870 k2_hw207 => k2_hw207

def k2_chk208 (v813 : IVec S16 32) (v874 : IVec S16 32) : Prop :=
  (∀ a x, ((![v813, v874] : Fin 2 → IVec S16 32) a x).toNat < S32x2048.size a)
theorem k2_idx208_inb : ∀ (v813 : IVec S16 32) (v874 : IVec S16 32) (k2_hw208 : k2_chk208 v813 v874), ∀ a x, ((![v813, v874] : Fin 2 → IVec S16 32) a x).toNat < S32x2048.size a := fun v813 v874 k2_hw208 => k2_hw208

def k2_chk209 (v878 : IVec S16 32) (v879 : IVec S16 32) : Prop :=
  (∀ a x, ((![v878, v879] : Fin 2 → IVec S16 32) a x).toNat < S32x2048.size a)
theorem k2_idx209_inb : ∀ (v878 : IVec S16 32) (v879 : IVec S16 32) (k2_hw209 : k2_chk209 v878 v879), ∀ a x, ((![v878, v879] : Fin 2 → IVec S16 32) a x).toNat < S32x2048.size a := fun v878 v879 k2_hw209 => k2_hw209

def k2_chk210 (v878 : IVec S16 32) (v883 : IVec S16 32) : Prop :=
  (∀ a x, ((![v878, v883] : Fin 2 → IVec S16 32) a x).toNat < S32x2048.size a)
theorem k2_idx210_inb : ∀ (v878 : IVec S16 32) (v883 : IVec S16 32) (k2_hw210 : k2_chk210 v878 v883), ∀ a x, ((![v878, v883] : Fin 2 → IVec S16 32) a x).toNat < S32x2048.size a := fun v878 v883 k2_hw210 => k2_hw210

def k2_chk211 (v878 : IVec S16 32) (v887 : IVec S16 32) : Prop :=
  (∀ a x, ((![v878, v887] : Fin 2 → IVec S16 32) a x).toNat < S32x2048.size a)
theorem k2_idx211_inb : ∀ (v878 : IVec S16 32) (v887 : IVec S16 32) (k2_hw211 : k2_chk211 v878 v887), ∀ a x, ((![v878, v887] : Fin 2 → IVec S16 32) a x).toNat < S32x2048.size a := fun v878 v887 k2_hw211 => k2_hw211

def k2_chk212 (v878 : IVec S16 32) (v891 : IVec S16 32) : Prop :=
  (∀ a x, ((![v878, v891] : Fin 2 → IVec S16 32) a x).toNat < S32x2048.size a)
theorem k2_idx212_inb : ∀ (v878 : IVec S16 32) (v891 : IVec S16 32) (k2_hw212 : k2_chk212 v878 v891), ∀ a x, ((![v878, v891] : Fin 2 → IVec S16 32) a x).toNat < S32x2048.size a := fun v878 v891 k2_hw212 => k2_hw212

def k2_chk213 (v878 : IVec S16 32) (v895 : IVec S16 32) : Prop :=
  (∀ a x, ((![v878, v895] : Fin 2 → IVec S16 32) a x).toNat < S32x2048.size a)
theorem k2_idx213_inb : ∀ (v878 : IVec S16 32) (v895 : IVec S16 32) (k2_hw213 : k2_chk213 v878 v895), ∀ a x, ((![v878, v895] : Fin 2 → IVec S16 32) a x).toNat < S32x2048.size a := fun v878 v895 k2_hw213 => k2_hw213

def k2_chk214 (v878 : IVec S16 32) (v899 : IVec S16 32) : Prop :=
  (∀ a x, ((![v878, v899] : Fin 2 → IVec S16 32) a x).toNat < S32x2048.size a)
theorem k2_idx214_inb : ∀ (v878 : IVec S16 32) (v899 : IVec S16 32) (k2_hw214 : k2_chk214 v878 v899), ∀ a x, ((![v878, v899] : Fin 2 → IVec S16 32) a x).toNat < S32x2048.size a := fun v878 v899 k2_hw214 => k2_hw214

def k2_chk215 (v878 : IVec S16 32) (v903 : IVec S16 32) : Prop :=
  (∀ a x, ((![v878, v903] : Fin 2 → IVec S16 32) a x).toNat < S32x2048.size a)
theorem k2_idx215_inb : ∀ (v878 : IVec S16 32) (v903 : IVec S16 32) (k2_hw215 : k2_chk215 v878 v903), ∀ a x, ((![v878, v903] : Fin 2 → IVec S16 32) a x).toNat < S32x2048.size a := fun v878 v903 k2_hw215 => k2_hw215

def k2_chk216 (v878 : IVec S16 32) (v907 : IVec S16 32) : Prop :=
  (∀ a x, ((![v878, v907] : Fin 2 → IVec S16 32) a x).toNat < S32x2048.size a)
theorem k2_idx216_inb : ∀ (v878 : IVec S16 32) (v907 : IVec S16 32) (k2_hw216 : k2_chk216 v878 v907), ∀ a x, ((![v878, v907] : Fin 2 → IVec S16 32) a x).toNat < S32x2048.size a := fun v878 v907 k2_hw216 => k2_hw216

def k2_chk217 (v878 : IVec S16 32) (v911 : IVec S16 32) : Prop :=
  (∀ a x, ((![v878, v911] : Fin 2 → IVec S16 32) a x).toNat < S32x2048.size a)
theorem k2_idx217_inb : ∀ (v878 : IVec S16 32) (v911 : IVec S16 32) (k2_hw217 : k2_chk217 v878 v911), ∀ a x, ((![v878, v911] : Fin 2 → IVec S16 32) a x).toNat < S32x2048.size a := fun v878 v911 k2_hw217 => k2_hw217

def k2_chk218 (v878 : IVec S16 32) (v915 : IVec S16 32) : Prop :=
  (∀ a x, ((![v878, v915] : Fin 2 → IVec S16 32) a x).toNat < S32x2048.size a)
theorem k2_idx218_inb : ∀ (v878 : IVec S16 32) (v915 : IVec S16 32) (k2_hw218 : k2_chk218 v878 v915), ∀ a x, ((![v878, v915] : Fin 2 → IVec S16 32) a x).toNat < S32x2048.size a := fun v878 v915 k2_hw218 => k2_hw218

def k2_chk219 (v878 : IVec S16 32) (v919 : IVec S16 32) : Prop :=
  (∀ a x, ((![v878, v919] : Fin 2 → IVec S16 32) a x).toNat < S32x2048.size a)
theorem k2_idx219_inb : ∀ (v878 : IVec S16 32) (v919 : IVec S16 32) (k2_hw219 : k2_chk219 v878 v919), ∀ a x, ((![v878, v919] : Fin 2 → IVec S16 32) a x).toNat < S32x2048.size a := fun v878 v919 k2_hw219 => k2_hw219

def k2_chk220 (v878 : IVec S16 32) (v923 : IVec S16 32) : Prop :=
  (∀ a x, ((![v878, v923] : Fin 2 → IVec S16 32) a x).toNat < S32x2048.size a)
theorem k2_idx220_inb : ∀ (v878 : IVec S16 32) (v923 : IVec S16 32) (k2_hw220 : k2_chk220 v878 v923), ∀ a x, ((![v878, v923] : Fin 2 → IVec S16 32) a x).toNat < S32x2048.size a := fun v878 v923 k2_hw220 => k2_hw220

def k2_chk221 (v878 : IVec S16 32) (v927 : IVec S16 32) : Prop :=
  (∀ a x, ((![v878, v927] : Fin 2 → IVec S16 32) a x).toNat < S32x2048.size a)
theorem k2_idx221_inb : ∀ (v878 : IVec S16 32) (v927 : IVec S16 32) (k2_hw221 : k2_chk221 v878 v927), ∀ a x, ((![v878, v927] : Fin 2 → IVec S16 32) a x).toNat < S32x2048.size a := fun v878 v927 k2_hw221 => k2_hw221

def k2_chk222 (v878 : IVec S16 32) (v931 : IVec S16 32) : Prop :=
  (∀ a x, ((![v878, v931] : Fin 2 → IVec S16 32) a x).toNat < S32x2048.size a)
theorem k2_idx222_inb : ∀ (v878 : IVec S16 32) (v931 : IVec S16 32) (k2_hw222 : k2_chk222 v878 v931), ∀ a x, ((![v878, v931] : Fin 2 → IVec S16 32) a x).toNat < S32x2048.size a := fun v878 v931 k2_hw222 => k2_hw222

def k2_chk223 (v878 : IVec S16 32) (v935 : IVec S16 32) : Prop :=
  (∀ a x, ((![v878, v935] : Fin 2 → IVec S16 32) a x).toNat < S32x2048.size a)
theorem k2_idx223_inb : ∀ (v878 : IVec S16 32) (v935 : IVec S16 32) (k2_hw223 : k2_chk223 v878 v935), ∀ a x, ((![v878, v935] : Fin 2 → IVec S16 32) a x).toNat < S32x2048.size a := fun v878 v935 k2_hw223 => k2_hw223

def k2_chk224 (v878 : IVec S16 32) (v939 : IVec S16 32) : Prop :=
  (∀ a x, ((![v878, v939] : Fin 2 → IVec S16 32) a x).toNat < S32x2048.size a)
theorem k2_idx224_inb : ∀ (v878 : IVec S16 32) (v939 : IVec S16 32) (k2_hw224 : k2_chk224 v878 v939), ∀ a x, ((![v878, v939] : Fin 2 → IVec S16 32) a x).toNat < S32x2048.size a := fun v878 v939 k2_hw224 => k2_hw224

def k2_chk225 (v943 : IVec S16 32) (v944 : IVec S16 32) : Prop :=
  (∀ a x, ((![v943, v944] : Fin 2 → IVec S16 32) a x).toNat < S32x2048.size a)
theorem k2_idx225_inb : ∀ (v943 : IVec S16 32) (v944 : IVec S16 32) (k2_hw225 : k2_chk225 v943 v944), ∀ a x, ((![v943, v944] : Fin 2 → IVec S16 32) a x).toNat < S32x2048.size a := fun v943 v944 k2_hw225 => k2_hw225

def k2_chk226 (v943 : IVec S16 32) (v948 : IVec S16 32) : Prop :=
  (∀ a x, ((![v943, v948] : Fin 2 → IVec S16 32) a x).toNat < S32x2048.size a)
theorem k2_idx226_inb : ∀ (v943 : IVec S16 32) (v948 : IVec S16 32) (k2_hw226 : k2_chk226 v943 v948), ∀ a x, ((![v943, v948] : Fin 2 → IVec S16 32) a x).toNat < S32x2048.size a := fun v943 v948 k2_hw226 => k2_hw226

def k2_chk227 (v943 : IVec S16 32) (v952 : IVec S16 32) : Prop :=
  (∀ a x, ((![v943, v952] : Fin 2 → IVec S16 32) a x).toNat < S32x2048.size a)
theorem k2_idx227_inb : ∀ (v943 : IVec S16 32) (v952 : IVec S16 32) (k2_hw227 : k2_chk227 v943 v952), ∀ a x, ((![v943, v952] : Fin 2 → IVec S16 32) a x).toNat < S32x2048.size a := fun v943 v952 k2_hw227 => k2_hw227

def k2_chk228 (v943 : IVec S16 32) (v956 : IVec S16 32) : Prop :=
  (∀ a x, ((![v943, v956] : Fin 2 → IVec S16 32) a x).toNat < S32x2048.size a)
theorem k2_idx228_inb : ∀ (v943 : IVec S16 32) (v956 : IVec S16 32) (k2_hw228 : k2_chk228 v943 v956), ∀ a x, ((![v943, v956] : Fin 2 → IVec S16 32) a x).toNat < S32x2048.size a := fun v943 v956 k2_hw228 => k2_hw228

def k2_chk229 (v943 : IVec S16 32) (v960 : IVec S16 32) : Prop :=
  (∀ a x, ((![v943, v960] : Fin 2 → IVec S16 32) a x).toNat < S32x2048.size a)
theorem k2_idx229_inb : ∀ (v943 : IVec S16 32) (v960 : IVec S16 32) (k2_hw229 : k2_chk229 v943 v960), ∀ a x, ((![v943, v960] : Fin 2 → IVec S16 32) a x).toNat < S32x2048.size a := fun v943 v960 k2_hw229 => k2_hw229

def k2_chk230 (v943 : IVec S16 32) (v964 : IVec S16 32) : Prop :=
  (∀ a x, ((![v943, v964] : Fin 2 → IVec S16 32) a x).toNat < S32x2048.size a)
theorem k2_idx230_inb : ∀ (v943 : IVec S16 32) (v964 : IVec S16 32) (k2_hw230 : k2_chk230 v943 v964), ∀ a x, ((![v943, v964] : Fin 2 → IVec S16 32) a x).toNat < S32x2048.size a := fun v943 v964 k2_hw230 => k2_hw230

def k2_chk231 (v943 : IVec S16 32) (v968 : IVec S16 32) : Prop :=
  (∀ a x, ((![v943, v968] : Fin 2 → IVec S16 32) a x).toNat < S32x2048.size a)
theorem k2_idx231_inb : ∀ (v943 : IVec S16 32) (v968 : IVec S16 32) (k2_hw231 : k2_chk231 v943 v968), ∀ a x, ((![v943, v968] : Fin 2 → IVec S16 32) a x).toNat < S32x2048.size a := fun v943 v968 k2_hw231 => k2_hw231

def k2_chk232 (v943 : IVec S16 32) (v972 : IVec S16 32) : Prop :=
  (∀ a x, ((![v943, v972] : Fin 2 → IVec S16 32) a x).toNat < S32x2048.size a)
theorem k2_idx232_inb : ∀ (v943 : IVec S16 32) (v972 : IVec S16 32) (k2_hw232 : k2_chk232 v943 v972), ∀ a x, ((![v943, v972] : Fin 2 → IVec S16 32) a x).toNat < S32x2048.size a := fun v943 v972 k2_hw232 => k2_hw232

def k2_chk233 (v943 : IVec S16 32) (v976 : IVec S16 32) : Prop :=
  (∀ a x, ((![v943, v976] : Fin 2 → IVec S16 32) a x).toNat < S32x2048.size a)
theorem k2_idx233_inb : ∀ (v943 : IVec S16 32) (v976 : IVec S16 32) (k2_hw233 : k2_chk233 v943 v976), ∀ a x, ((![v943, v976] : Fin 2 → IVec S16 32) a x).toNat < S32x2048.size a := fun v943 v976 k2_hw233 => k2_hw233

def k2_chk234 (v943 : IVec S16 32) (v980 : IVec S16 32) : Prop :=
  (∀ a x, ((![v943, v980] : Fin 2 → IVec S16 32) a x).toNat < S32x2048.size a)
theorem k2_idx234_inb : ∀ (v943 : IVec S16 32) (v980 : IVec S16 32) (k2_hw234 : k2_chk234 v943 v980), ∀ a x, ((![v943, v980] : Fin 2 → IVec S16 32) a x).toNat < S32x2048.size a := fun v943 v980 k2_hw234 => k2_hw234

def k2_chk235 (v943 : IVec S16 32) (v984 : IVec S16 32) : Prop :=
  (∀ a x, ((![v943, v984] : Fin 2 → IVec S16 32) a x).toNat < S32x2048.size a)
theorem k2_idx235_inb : ∀ (v943 : IVec S16 32) (v984 : IVec S16 32) (k2_hw235 : k2_chk235 v943 v984), ∀ a x, ((![v943, v984] : Fin 2 → IVec S16 32) a x).toNat < S32x2048.size a := fun v943 v984 k2_hw235 => k2_hw235

def k2_chk236 (v943 : IVec S16 32) (v988 : IVec S16 32) : Prop :=
  (∀ a x, ((![v943, v988] : Fin 2 → IVec S16 32) a x).toNat < S32x2048.size a)
theorem k2_idx236_inb : ∀ (v943 : IVec S16 32) (v988 : IVec S16 32) (k2_hw236 : k2_chk236 v943 v988), ∀ a x, ((![v943, v988] : Fin 2 → IVec S16 32) a x).toNat < S32x2048.size a := fun v943 v988 k2_hw236 => k2_hw236

def k2_chk237 (v943 : IVec S16 32) (v992 : IVec S16 32) : Prop :=
  (∀ a x, ((![v943, v992] : Fin 2 → IVec S16 32) a x).toNat < S32x2048.size a)
theorem k2_idx237_inb : ∀ (v943 : IVec S16 32) (v992 : IVec S16 32) (k2_hw237 : k2_chk237 v943 v992), ∀ a x, ((![v943, v992] : Fin 2 → IVec S16 32) a x).toNat < S32x2048.size a := fun v943 v992 k2_hw237 => k2_hw237

def k2_chk238 (v943 : IVec S16 32) (v996 : IVec S16 32) : Prop :=
  (∀ a x, ((![v943, v996] : Fin 2 → IVec S16 32) a x).toNat < S32x2048.size a)
theorem k2_idx238_inb : ∀ (v943 : IVec S16 32) (v996 : IVec S16 32) (k2_hw238 : k2_chk238 v943 v996), ∀ a x, ((![v943, v996] : Fin 2 → IVec S16 32) a x).toNat < S32x2048.size a := fun v943 v996 k2_hw238 => k2_hw238

def k2_chk239 (v943 : IVec S16 32) (v1000 : IVec S16 32) : Prop :=
  (∀ a x, ((![v943, v1000] : Fin 2 → IVec S16 32) a x).toNat < S32x2048.size a)
theorem k2_idx239_inb : ∀ (v943 : IVec S16 32) (v1000 : IVec S16 32) (k2_hw239 : k2_chk239 v943 v1000), ∀ a x, ((![v943, v1000] : Fin 2 → IVec S16 32) a x).toNat < S32x2048.size a := fun v943 v1000 k2_hw239 => k2_hw239

def k2_chk240 (v943 : IVec S16 32) (v1004 : IVec S16 32) : Prop :=
  (∀ a x, ((![v943, v1004] : Fin 2 → IVec S16 32) a x).toNat < S32x2048.size a)
theorem k2_idx240_inb : ∀ (v943 : IVec S16 32) (v1004 : IVec S16 32) (k2_hw240 : k2_chk240 v943 v1004), ∀ a x, ((![v943, v1004] : Fin 2 → IVec S16 32) a x).toNat < S32x2048.size a := fun v943 v1004 k2_hw240 => k2_hw240

def k2_chk241 (v1008 : IVec S16 32) (v1009 : IVec S16 32) : Prop :=
  (∀ a x, ((![v1008, v1009] : Fin 2 → IVec S16 32) a x).toNat < S32x2048.size a)
theorem k2_idx241_inb : ∀ (v1008 : IVec S16 32) (v1009 : IVec S16 32) (k2_hw241 : k2_chk241 v1008 v1009), ∀ a x, ((![v1008, v1009] : Fin 2 → IVec S16 32) a x).toNat < S32x2048.size a := fun v1008 v1009 k2_hw241 => k2_hw241

def k2_chk242 (v1008 : IVec S16 32) (v1013 : IVec S16 32) : Prop :=
  (∀ a x, ((![v1008, v1013] : Fin 2 → IVec S16 32) a x).toNat < S32x2048.size a)
theorem k2_idx242_inb : ∀ (v1008 : IVec S16 32) (v1013 : IVec S16 32) (k2_hw242 : k2_chk242 v1008 v1013), ∀ a x, ((![v1008, v1013] : Fin 2 → IVec S16 32) a x).toNat < S32x2048.size a := fun v1008 v1013 k2_hw242 => k2_hw242

def k2_chk243 (v1008 : IVec S16 32) (v1017 : IVec S16 32) : Prop :=
  (∀ a x, ((![v1008, v1017] : Fin 2 → IVec S16 32) a x).toNat < S32x2048.size a)
theorem k2_idx243_inb : ∀ (v1008 : IVec S16 32) (v1017 : IVec S16 32) (k2_hw243 : k2_chk243 v1008 v1017), ∀ a x, ((![v1008, v1017] : Fin 2 → IVec S16 32) a x).toNat < S32x2048.size a := fun v1008 v1017 k2_hw243 => k2_hw243

def k2_chk244 (v1008 : IVec S16 32) (v1021 : IVec S16 32) : Prop :=
  (∀ a x, ((![v1008, v1021] : Fin 2 → IVec S16 32) a x).toNat < S32x2048.size a)
theorem k2_idx244_inb : ∀ (v1008 : IVec S16 32) (v1021 : IVec S16 32) (k2_hw244 : k2_chk244 v1008 v1021), ∀ a x, ((![v1008, v1021] : Fin 2 → IVec S16 32) a x).toNat < S32x2048.size a := fun v1008 v1021 k2_hw244 => k2_hw244

def k2_chk245 (v1008 : IVec S16 32) (v1025 : IVec S16 32) : Prop :=
  (∀ a x, ((![v1008, v1025] : Fin 2 → IVec S16 32) a x).toNat < S32x2048.size a)
theorem k2_idx245_inb : ∀ (v1008 : IVec S16 32) (v1025 : IVec S16 32) (k2_hw245 : k2_chk245 v1008 v1025), ∀ a x, ((![v1008, v1025] : Fin 2 → IVec S16 32) a x).toNat < S32x2048.size a := fun v1008 v1025 k2_hw245 => k2_hw245

def k2_chk246 (v1008 : IVec S16 32) (v1029 : IVec S16 32) : Prop :=
  (∀ a x, ((![v1008, v1029] : Fin 2 → IVec S16 32) a x).toNat < S32x2048.size a)
theorem k2_idx246_inb : ∀ (v1008 : IVec S16 32) (v1029 : IVec S16 32) (k2_hw246 : k2_chk246 v1008 v1029), ∀ a x, ((![v1008, v1029] : Fin 2 → IVec S16 32) a x).toNat < S32x2048.size a := fun v1008 v1029 k2_hw246 => k2_hw246

def k2_chk247 (v1008 : IVec S16 32) (v1033 : IVec S16 32) : Prop :=
  (∀ a x, ((![v1008, v1033] : Fin 2 → IVec S16 32) a x).toNat < S32x2048.size a)
theorem k2_idx247_inb : ∀ (v1008 : IVec S16 32) (v1033 : IVec S16 32) (k2_hw247 : k2_chk247 v1008 v1033), ∀ a x, ((![v1008, v1033] : Fin 2 → IVec S16 32) a x).toNat < S32x2048.size a := fun v1008 v1033 k2_hw247 => k2_hw247

def k2_chk248 (v1008 : IVec S16 32) (v1037 : IVec S16 32) : Prop :=
  (∀ a x, ((![v1008, v1037] : Fin 2 → IVec S16 32) a x).toNat < S32x2048.size a)
theorem k2_idx248_inb : ∀ (v1008 : IVec S16 32) (v1037 : IVec S16 32) (k2_hw248 : k2_chk248 v1008 v1037), ∀ a x, ((![v1008, v1037] : Fin 2 → IVec S16 32) a x).toNat < S32x2048.size a := fun v1008 v1037 k2_hw248 => k2_hw248

def k2_chk249 (v1008 : IVec S16 32) (v1041 : IVec S16 32) : Prop :=
  (∀ a x, ((![v1008, v1041] : Fin 2 → IVec S16 32) a x).toNat < S32x2048.size a)
theorem k2_idx249_inb : ∀ (v1008 : IVec S16 32) (v1041 : IVec S16 32) (k2_hw249 : k2_chk249 v1008 v1041), ∀ a x, ((![v1008, v1041] : Fin 2 → IVec S16 32) a x).toNat < S32x2048.size a := fun v1008 v1041 k2_hw249 => k2_hw249

def k2_chk250 (v1008 : IVec S16 32) (v1045 : IVec S16 32) : Prop :=
  (∀ a x, ((![v1008, v1045] : Fin 2 → IVec S16 32) a x).toNat < S32x2048.size a)
theorem k2_idx250_inb : ∀ (v1008 : IVec S16 32) (v1045 : IVec S16 32) (k2_hw250 : k2_chk250 v1008 v1045), ∀ a x, ((![v1008, v1045] : Fin 2 → IVec S16 32) a x).toNat < S32x2048.size a := fun v1008 v1045 k2_hw250 => k2_hw250

def k2_chk251 (v1008 : IVec S16 32) (v1049 : IVec S16 32) : Prop :=
  (∀ a x, ((![v1008, v1049] : Fin 2 → IVec S16 32) a x).toNat < S32x2048.size a)
theorem k2_idx251_inb : ∀ (v1008 : IVec S16 32) (v1049 : IVec S16 32) (k2_hw251 : k2_chk251 v1008 v1049), ∀ a x, ((![v1008, v1049] : Fin 2 → IVec S16 32) a x).toNat < S32x2048.size a := fun v1008 v1049 k2_hw251 => k2_hw251

def k2_chk252 (v1008 : IVec S16 32) (v1053 : IVec S16 32) : Prop :=
  (∀ a x, ((![v1008, v1053] : Fin 2 → IVec S16 32) a x).toNat < S32x2048.size a)
theorem k2_idx252_inb : ∀ (v1008 : IVec S16 32) (v1053 : IVec S16 32) (k2_hw252 : k2_chk252 v1008 v1053), ∀ a x, ((![v1008, v1053] : Fin 2 → IVec S16 32) a x).toNat < S32x2048.size a := fun v1008 v1053 k2_hw252 => k2_hw252

def k2_chk253 (v1008 : IVec S16 32) (v1057 : IVec S16 32) : Prop :=
  (∀ a x, ((![v1008, v1057] : Fin 2 → IVec S16 32) a x).toNat < S32x2048.size a)
theorem k2_idx253_inb : ∀ (v1008 : IVec S16 32) (v1057 : IVec S16 32) (k2_hw253 : k2_chk253 v1008 v1057), ∀ a x, ((![v1008, v1057] : Fin 2 → IVec S16 32) a x).toNat < S32x2048.size a := fun v1008 v1057 k2_hw253 => k2_hw253

def k2_chk254 (v1008 : IVec S16 32) (v1061 : IVec S16 32) : Prop :=
  (∀ a x, ((![v1008, v1061] : Fin 2 → IVec S16 32) a x).toNat < S32x2048.size a)
theorem k2_idx254_inb : ∀ (v1008 : IVec S16 32) (v1061 : IVec S16 32) (k2_hw254 : k2_chk254 v1008 v1061), ∀ a x, ((![v1008, v1061] : Fin 2 → IVec S16 32) a x).toNat < S32x2048.size a := fun v1008 v1061 k2_hw254 => k2_hw254

def k2_chk255 (v1008 : IVec S16 32) (v1065 : IVec S16 32) : Prop :=
  (∀ a x, ((![v1008, v1065] : Fin 2 → IVec S16 32) a x).toNat < S32x2048.size a)
theorem k2_idx255_inb : ∀ (v1008 : IVec S16 32) (v1065 : IVec S16 32) (k2_hw255 : k2_chk255 v1008 v1065), ∀ a x, ((![v1008, v1065] : Fin 2 → IVec S16 32) a x).toNat < S32x2048.size a := fun v1008 v1065 k2_hw255 => k2_hw255

def k2_chk256 (v1008 : IVec S16 32) (v1069 : IVec S16 32) : Prop :=
  (∀ a x, ((![v1008, v1069] : Fin 2 → IVec S16 32) a x).toNat < S32x2048.size a)
theorem k2_idx256_inb : ∀ (v1008 : IVec S16 32) (v1069 : IVec S16 32) (k2_hw256 : k2_chk256 v1008 v1069), ∀ a x, ((![v1008, v1069] : Fin 2 → IVec S16 32) a x).toNat < S32x2048.size a := fun v1008 v1069 k2_hw256 => k2_hw256

def k2_chk257 (v1073 : IVec S16 32) (v1074 : IVec S16 32) : Prop :=
  (∀ a x, ((![v1073, v1074] : Fin 2 → IVec S16 32) a x).toNat < S32x2048.size a)
theorem k2_idx257_inb : ∀ (v1073 : IVec S16 32) (v1074 : IVec S16 32) (k2_hw257 : k2_chk257 v1073 v1074), ∀ a x, ((![v1073, v1074] : Fin 2 → IVec S16 32) a x).toNat < S32x2048.size a := fun v1073 v1074 k2_hw257 => k2_hw257

def k2_chk258 (v1073 : IVec S16 32) (v1078 : IVec S16 32) : Prop :=
  (∀ a x, ((![v1073, v1078] : Fin 2 → IVec S16 32) a x).toNat < S32x2048.size a)
theorem k2_idx258_inb : ∀ (v1073 : IVec S16 32) (v1078 : IVec S16 32) (k2_hw258 : k2_chk258 v1073 v1078), ∀ a x, ((![v1073, v1078] : Fin 2 → IVec S16 32) a x).toNat < S32x2048.size a := fun v1073 v1078 k2_hw258 => k2_hw258

def k2_chk259 (v1073 : IVec S16 32) (v1082 : IVec S16 32) : Prop :=
  (∀ a x, ((![v1073, v1082] : Fin 2 → IVec S16 32) a x).toNat < S32x2048.size a)
theorem k2_idx259_inb : ∀ (v1073 : IVec S16 32) (v1082 : IVec S16 32) (k2_hw259 : k2_chk259 v1073 v1082), ∀ a x, ((![v1073, v1082] : Fin 2 → IVec S16 32) a x).toNat < S32x2048.size a := fun v1073 v1082 k2_hw259 => k2_hw259

def k2_chk260 (v1073 : IVec S16 32) (v1086 : IVec S16 32) : Prop :=
  (∀ a x, ((![v1073, v1086] : Fin 2 → IVec S16 32) a x).toNat < S32x2048.size a)
theorem k2_idx260_inb : ∀ (v1073 : IVec S16 32) (v1086 : IVec S16 32) (k2_hw260 : k2_chk260 v1073 v1086), ∀ a x, ((![v1073, v1086] : Fin 2 → IVec S16 32) a x).toNat < S32x2048.size a := fun v1073 v1086 k2_hw260 => k2_hw260

def k2_chk261 (v1073 : IVec S16 32) (v1090 : IVec S16 32) : Prop :=
  (∀ a x, ((![v1073, v1090] : Fin 2 → IVec S16 32) a x).toNat < S32x2048.size a)
theorem k2_idx261_inb : ∀ (v1073 : IVec S16 32) (v1090 : IVec S16 32) (k2_hw261 : k2_chk261 v1073 v1090), ∀ a x, ((![v1073, v1090] : Fin 2 → IVec S16 32) a x).toNat < S32x2048.size a := fun v1073 v1090 k2_hw261 => k2_hw261

def k2_chk262 (v1073 : IVec S16 32) (v1094 : IVec S16 32) : Prop :=
  (∀ a x, ((![v1073, v1094] : Fin 2 → IVec S16 32) a x).toNat < S32x2048.size a)
theorem k2_idx262_inb : ∀ (v1073 : IVec S16 32) (v1094 : IVec S16 32) (k2_hw262 : k2_chk262 v1073 v1094), ∀ a x, ((![v1073, v1094] : Fin 2 → IVec S16 32) a x).toNat < S32x2048.size a := fun v1073 v1094 k2_hw262 => k2_hw262

def k2_chk263 (v1073 : IVec S16 32) (v1098 : IVec S16 32) : Prop :=
  (∀ a x, ((![v1073, v1098] : Fin 2 → IVec S16 32) a x).toNat < S32x2048.size a)
theorem k2_idx263_inb : ∀ (v1073 : IVec S16 32) (v1098 : IVec S16 32) (k2_hw263 : k2_chk263 v1073 v1098), ∀ a x, ((![v1073, v1098] : Fin 2 → IVec S16 32) a x).toNat < S32x2048.size a := fun v1073 v1098 k2_hw263 => k2_hw263

def k2_chk264 (v1073 : IVec S16 32) (v1102 : IVec S16 32) : Prop :=
  (∀ a x, ((![v1073, v1102] : Fin 2 → IVec S16 32) a x).toNat < S32x2048.size a)
theorem k2_idx264_inb : ∀ (v1073 : IVec S16 32) (v1102 : IVec S16 32) (k2_hw264 : k2_chk264 v1073 v1102), ∀ a x, ((![v1073, v1102] : Fin 2 → IVec S16 32) a x).toNat < S32x2048.size a := fun v1073 v1102 k2_hw264 => k2_hw264

def k2_chk265 (v1073 : IVec S16 32) (v1106 : IVec S16 32) : Prop :=
  (∀ a x, ((![v1073, v1106] : Fin 2 → IVec S16 32) a x).toNat < S32x2048.size a)
theorem k2_idx265_inb : ∀ (v1073 : IVec S16 32) (v1106 : IVec S16 32) (k2_hw265 : k2_chk265 v1073 v1106), ∀ a x, ((![v1073, v1106] : Fin 2 → IVec S16 32) a x).toNat < S32x2048.size a := fun v1073 v1106 k2_hw265 => k2_hw265

def k2_chk266 (v1073 : IVec S16 32) (v1110 : IVec S16 32) : Prop :=
  (∀ a x, ((![v1073, v1110] : Fin 2 → IVec S16 32) a x).toNat < S32x2048.size a)
theorem k2_idx266_inb : ∀ (v1073 : IVec S16 32) (v1110 : IVec S16 32) (k2_hw266 : k2_chk266 v1073 v1110), ∀ a x, ((![v1073, v1110] : Fin 2 → IVec S16 32) a x).toNat < S32x2048.size a := fun v1073 v1110 k2_hw266 => k2_hw266

def k2_chk267 (v1073 : IVec S16 32) (v1114 : IVec S16 32) : Prop :=
  (∀ a x, ((![v1073, v1114] : Fin 2 → IVec S16 32) a x).toNat < S32x2048.size a)
theorem k2_idx267_inb : ∀ (v1073 : IVec S16 32) (v1114 : IVec S16 32) (k2_hw267 : k2_chk267 v1073 v1114), ∀ a x, ((![v1073, v1114] : Fin 2 → IVec S16 32) a x).toNat < S32x2048.size a := fun v1073 v1114 k2_hw267 => k2_hw267

def k2_chk268 (v1073 : IVec S16 32) (v1118 : IVec S16 32) : Prop :=
  (∀ a x, ((![v1073, v1118] : Fin 2 → IVec S16 32) a x).toNat < S32x2048.size a)
theorem k2_idx268_inb : ∀ (v1073 : IVec S16 32) (v1118 : IVec S16 32) (k2_hw268 : k2_chk268 v1073 v1118), ∀ a x, ((![v1073, v1118] : Fin 2 → IVec S16 32) a x).toNat < S32x2048.size a := fun v1073 v1118 k2_hw268 => k2_hw268

def k2_chk269 (v1073 : IVec S16 32) (v1122 : IVec S16 32) : Prop :=
  (∀ a x, ((![v1073, v1122] : Fin 2 → IVec S16 32) a x).toNat < S32x2048.size a)
theorem k2_idx269_inb : ∀ (v1073 : IVec S16 32) (v1122 : IVec S16 32) (k2_hw269 : k2_chk269 v1073 v1122), ∀ a x, ((![v1073, v1122] : Fin 2 → IVec S16 32) a x).toNat < S32x2048.size a := fun v1073 v1122 k2_hw269 => k2_hw269

def k2_chk270 (v1073 : IVec S16 32) (v1126 : IVec S16 32) : Prop :=
  (∀ a x, ((![v1073, v1126] : Fin 2 → IVec S16 32) a x).toNat < S32x2048.size a)
theorem k2_idx270_inb : ∀ (v1073 : IVec S16 32) (v1126 : IVec S16 32) (k2_hw270 : k2_chk270 v1073 v1126), ∀ a x, ((![v1073, v1126] : Fin 2 → IVec S16 32) a x).toNat < S32x2048.size a := fun v1073 v1126 k2_hw270 => k2_hw270

def k2_chk271 (v1073 : IVec S16 32) (v1130 : IVec S16 32) : Prop :=
  (∀ a x, ((![v1073, v1130] : Fin 2 → IVec S16 32) a x).toNat < S32x2048.size a)
theorem k2_idx271_inb : ∀ (v1073 : IVec S16 32) (v1130 : IVec S16 32) (k2_hw271 : k2_chk271 v1073 v1130), ∀ a x, ((![v1073, v1130] : Fin 2 → IVec S16 32) a x).toNat < S32x2048.size a := fun v1073 v1130 k2_hw271 => k2_hw271

def k2_chk272 (v1073 : IVec S16 32) (v1134 : IVec S16 32) : Prop :=
  (∀ a x, ((![v1073, v1134] : Fin 2 → IVec S16 32) a x).toNat < S32x2048.size a)
theorem k2_idx272_inb : ∀ (v1073 : IVec S16 32) (v1134 : IVec S16 32) (k2_hw272 : k2_chk272 v1073 v1134), ∀ a x, ((![v1073, v1134] : Fin 2 → IVec S16 32) a x).toNat < S32x2048.size a := fun v1073 v1134 k2_hw272 => k2_hw272

def k2_chk273 (v1138 : IVec S16 32) (v1139 : IVec S16 32) : Prop :=
  (∀ a x, ((![v1138, v1139] : Fin 2 → IVec S16 32) a x).toNat < S32x2048.size a)
theorem k2_idx273_inb : ∀ (v1138 : IVec S16 32) (v1139 : IVec S16 32) (k2_hw273 : k2_chk273 v1138 v1139), ∀ a x, ((![v1138, v1139] : Fin 2 → IVec S16 32) a x).toNat < S32x2048.size a := fun v1138 v1139 k2_hw273 => k2_hw273

def k2_chk274 (v1138 : IVec S16 32) (v1143 : IVec S16 32) : Prop :=
  (∀ a x, ((![v1138, v1143] : Fin 2 → IVec S16 32) a x).toNat < S32x2048.size a)
theorem k2_idx274_inb : ∀ (v1138 : IVec S16 32) (v1143 : IVec S16 32) (k2_hw274 : k2_chk274 v1138 v1143), ∀ a x, ((![v1138, v1143] : Fin 2 → IVec S16 32) a x).toNat < S32x2048.size a := fun v1138 v1143 k2_hw274 => k2_hw274

def k2_chk275 (v1138 : IVec S16 32) (v1147 : IVec S16 32) : Prop :=
  (∀ a x, ((![v1138, v1147] : Fin 2 → IVec S16 32) a x).toNat < S32x2048.size a)
theorem k2_idx275_inb : ∀ (v1138 : IVec S16 32) (v1147 : IVec S16 32) (k2_hw275 : k2_chk275 v1138 v1147), ∀ a x, ((![v1138, v1147] : Fin 2 → IVec S16 32) a x).toNat < S32x2048.size a := fun v1138 v1147 k2_hw275 => k2_hw275

def k2_chk276 (v1138 : IVec S16 32) (v1151 : IVec S16 32) : Prop :=
  (∀ a x, ((![v1138, v1151] : Fin 2 → IVec S16 32) a x).toNat < S32x2048.size a)
theorem k2_idx276_inb : ∀ (v1138 : IVec S16 32) (v1151 : IVec S16 32) (k2_hw276 : k2_chk276 v1138 v1151), ∀ a x, ((![v1138, v1151] : Fin 2 → IVec S16 32) a x).toNat < S32x2048.size a := fun v1138 v1151 k2_hw276 => k2_hw276

def k2_chk277 (v1138 : IVec S16 32) (v1155 : IVec S16 32) : Prop :=
  (∀ a x, ((![v1138, v1155] : Fin 2 → IVec S16 32) a x).toNat < S32x2048.size a)
theorem k2_idx277_inb : ∀ (v1138 : IVec S16 32) (v1155 : IVec S16 32) (k2_hw277 : k2_chk277 v1138 v1155), ∀ a x, ((![v1138, v1155] : Fin 2 → IVec S16 32) a x).toNat < S32x2048.size a := fun v1138 v1155 k2_hw277 => k2_hw277

def k2_chk278 (v1138 : IVec S16 32) (v1159 : IVec S16 32) : Prop :=
  (∀ a x, ((![v1138, v1159] : Fin 2 → IVec S16 32) a x).toNat < S32x2048.size a)
theorem k2_idx278_inb : ∀ (v1138 : IVec S16 32) (v1159 : IVec S16 32) (k2_hw278 : k2_chk278 v1138 v1159), ∀ a x, ((![v1138, v1159] : Fin 2 → IVec S16 32) a x).toNat < S32x2048.size a := fun v1138 v1159 k2_hw278 => k2_hw278

def k2_chk279 (v1138 : IVec S16 32) (v1163 : IVec S16 32) : Prop :=
  (∀ a x, ((![v1138, v1163] : Fin 2 → IVec S16 32) a x).toNat < S32x2048.size a)
theorem k2_idx279_inb : ∀ (v1138 : IVec S16 32) (v1163 : IVec S16 32) (k2_hw279 : k2_chk279 v1138 v1163), ∀ a x, ((![v1138, v1163] : Fin 2 → IVec S16 32) a x).toNat < S32x2048.size a := fun v1138 v1163 k2_hw279 => k2_hw279

def k2_chk280 (v1138 : IVec S16 32) (v1167 : IVec S16 32) : Prop :=
  (∀ a x, ((![v1138, v1167] : Fin 2 → IVec S16 32) a x).toNat < S32x2048.size a)
theorem k2_idx280_inb : ∀ (v1138 : IVec S16 32) (v1167 : IVec S16 32) (k2_hw280 : k2_chk280 v1138 v1167), ∀ a x, ((![v1138, v1167] : Fin 2 → IVec S16 32) a x).toNat < S32x2048.size a := fun v1138 v1167 k2_hw280 => k2_hw280

def k2_chk281 (v1138 : IVec S16 32) (v1171 : IVec S16 32) : Prop :=
  (∀ a x, ((![v1138, v1171] : Fin 2 → IVec S16 32) a x).toNat < S32x2048.size a)
theorem k2_idx281_inb : ∀ (v1138 : IVec S16 32) (v1171 : IVec S16 32) (k2_hw281 : k2_chk281 v1138 v1171), ∀ a x, ((![v1138, v1171] : Fin 2 → IVec S16 32) a x).toNat < S32x2048.size a := fun v1138 v1171 k2_hw281 => k2_hw281

def k2_chk282 (v1138 : IVec S16 32) (v1175 : IVec S16 32) : Prop :=
  (∀ a x, ((![v1138, v1175] : Fin 2 → IVec S16 32) a x).toNat < S32x2048.size a)
theorem k2_idx282_inb : ∀ (v1138 : IVec S16 32) (v1175 : IVec S16 32) (k2_hw282 : k2_chk282 v1138 v1175), ∀ a x, ((![v1138, v1175] : Fin 2 → IVec S16 32) a x).toNat < S32x2048.size a := fun v1138 v1175 k2_hw282 => k2_hw282

def k2_chk283 (v1138 : IVec S16 32) (v1179 : IVec S16 32) : Prop :=
  (∀ a x, ((![v1138, v1179] : Fin 2 → IVec S16 32) a x).toNat < S32x2048.size a)
theorem k2_idx283_inb : ∀ (v1138 : IVec S16 32) (v1179 : IVec S16 32) (k2_hw283 : k2_chk283 v1138 v1179), ∀ a x, ((![v1138, v1179] : Fin 2 → IVec S16 32) a x).toNat < S32x2048.size a := fun v1138 v1179 k2_hw283 => k2_hw283

def k2_chk284 (v1138 : IVec S16 32) (v1183 : IVec S16 32) : Prop :=
  (∀ a x, ((![v1138, v1183] : Fin 2 → IVec S16 32) a x).toNat < S32x2048.size a)
theorem k2_idx284_inb : ∀ (v1138 : IVec S16 32) (v1183 : IVec S16 32) (k2_hw284 : k2_chk284 v1138 v1183), ∀ a x, ((![v1138, v1183] : Fin 2 → IVec S16 32) a x).toNat < S32x2048.size a := fun v1138 v1183 k2_hw284 => k2_hw284

def k2_chk285 (v1138 : IVec S16 32) (v1187 : IVec S16 32) : Prop :=
  (∀ a x, ((![v1138, v1187] : Fin 2 → IVec S16 32) a x).toNat < S32x2048.size a)
theorem k2_idx285_inb : ∀ (v1138 : IVec S16 32) (v1187 : IVec S16 32) (k2_hw285 : k2_chk285 v1138 v1187), ∀ a x, ((![v1138, v1187] : Fin 2 → IVec S16 32) a x).toNat < S32x2048.size a := fun v1138 v1187 k2_hw285 => k2_hw285

def k2_chk286 (v1138 : IVec S16 32) (v1191 : IVec S16 32) : Prop :=
  (∀ a x, ((![v1138, v1191] : Fin 2 → IVec S16 32) a x).toNat < S32x2048.size a)
theorem k2_idx286_inb : ∀ (v1138 : IVec S16 32) (v1191 : IVec S16 32) (k2_hw286 : k2_chk286 v1138 v1191), ∀ a x, ((![v1138, v1191] : Fin 2 → IVec S16 32) a x).toNat < S32x2048.size a := fun v1138 v1191 k2_hw286 => k2_hw286

def k2_chk287 (v1138 : IVec S16 32) (v1195 : IVec S16 32) : Prop :=
  (∀ a x, ((![v1138, v1195] : Fin 2 → IVec S16 32) a x).toNat < S32x2048.size a)
theorem k2_idx287_inb : ∀ (v1138 : IVec S16 32) (v1195 : IVec S16 32) (k2_hw287 : k2_chk287 v1138 v1195), ∀ a x, ((![v1138, v1195] : Fin 2 → IVec S16 32) a x).toNat < S32x2048.size a := fun v1138 v1195 k2_hw287 => k2_hw287

def k2_chk288 (v1138 : IVec S16 32) (v1199 : IVec S16 32) : Prop :=
  (∀ a x, ((![v1138, v1199] : Fin 2 → IVec S16 32) a x).toNat < S32x2048.size a)
theorem k2_idx288_inb : ∀ (v1138 : IVec S16 32) (v1199 : IVec S16 32) (k2_hw288 : k2_chk288 v1138 v1199), ∀ a x, ((![v1138, v1199] : Fin 2 → IVec S16 32) a x).toNat < S32x2048.size a := fun v1138 v1199 k2_hw288 => k2_hw288

def k2_chk289 (v1203 : IVec S16 32) (v1204 : IVec S16 32) : Prop :=
  (∀ a x, ((![v1203, v1204] : Fin 2 → IVec S16 32) a x).toNat < S32x2048.size a)
theorem k2_idx289_inb : ∀ (v1203 : IVec S16 32) (v1204 : IVec S16 32) (k2_hw289 : k2_chk289 v1203 v1204), ∀ a x, ((![v1203, v1204] : Fin 2 → IVec S16 32) a x).toNat < S32x2048.size a := fun v1203 v1204 k2_hw289 => k2_hw289

def k2_chk290 (v1203 : IVec S16 32) (v1208 : IVec S16 32) : Prop :=
  (∀ a x, ((![v1203, v1208] : Fin 2 → IVec S16 32) a x).toNat < S32x2048.size a)
theorem k2_idx290_inb : ∀ (v1203 : IVec S16 32) (v1208 : IVec S16 32) (k2_hw290 : k2_chk290 v1203 v1208), ∀ a x, ((![v1203, v1208] : Fin 2 → IVec S16 32) a x).toNat < S32x2048.size a := fun v1203 v1208 k2_hw290 => k2_hw290

def k2_chk291 (v1203 : IVec S16 32) (v1212 : IVec S16 32) : Prop :=
  (∀ a x, ((![v1203, v1212] : Fin 2 → IVec S16 32) a x).toNat < S32x2048.size a)
theorem k2_idx291_inb : ∀ (v1203 : IVec S16 32) (v1212 : IVec S16 32) (k2_hw291 : k2_chk291 v1203 v1212), ∀ a x, ((![v1203, v1212] : Fin 2 → IVec S16 32) a x).toNat < S32x2048.size a := fun v1203 v1212 k2_hw291 => k2_hw291

def k2_chk292 (v1203 : IVec S16 32) (v1216 : IVec S16 32) : Prop :=
  (∀ a x, ((![v1203, v1216] : Fin 2 → IVec S16 32) a x).toNat < S32x2048.size a)
theorem k2_idx292_inb : ∀ (v1203 : IVec S16 32) (v1216 : IVec S16 32) (k2_hw292 : k2_chk292 v1203 v1216), ∀ a x, ((![v1203, v1216] : Fin 2 → IVec S16 32) a x).toNat < S32x2048.size a := fun v1203 v1216 k2_hw292 => k2_hw292

def k2_chk293 (v1203 : IVec S16 32) (v1220 : IVec S16 32) : Prop :=
  (∀ a x, ((![v1203, v1220] : Fin 2 → IVec S16 32) a x).toNat < S32x2048.size a)
theorem k2_idx293_inb : ∀ (v1203 : IVec S16 32) (v1220 : IVec S16 32) (k2_hw293 : k2_chk293 v1203 v1220), ∀ a x, ((![v1203, v1220] : Fin 2 → IVec S16 32) a x).toNat < S32x2048.size a := fun v1203 v1220 k2_hw293 => k2_hw293

def k2_chk294 (v1203 : IVec S16 32) (v1224 : IVec S16 32) : Prop :=
  (∀ a x, ((![v1203, v1224] : Fin 2 → IVec S16 32) a x).toNat < S32x2048.size a)
theorem k2_idx294_inb : ∀ (v1203 : IVec S16 32) (v1224 : IVec S16 32) (k2_hw294 : k2_chk294 v1203 v1224), ∀ a x, ((![v1203, v1224] : Fin 2 → IVec S16 32) a x).toNat < S32x2048.size a := fun v1203 v1224 k2_hw294 => k2_hw294

def k2_chk295 (v1203 : IVec S16 32) (v1228 : IVec S16 32) : Prop :=
  (∀ a x, ((![v1203, v1228] : Fin 2 → IVec S16 32) a x).toNat < S32x2048.size a)
theorem k2_idx295_inb : ∀ (v1203 : IVec S16 32) (v1228 : IVec S16 32) (k2_hw295 : k2_chk295 v1203 v1228), ∀ a x, ((![v1203, v1228] : Fin 2 → IVec S16 32) a x).toNat < S32x2048.size a := fun v1203 v1228 k2_hw295 => k2_hw295

def k2_chk296 (v1203 : IVec S16 32) (v1232 : IVec S16 32) : Prop :=
  (∀ a x, ((![v1203, v1232] : Fin 2 → IVec S16 32) a x).toNat < S32x2048.size a)
theorem k2_idx296_inb : ∀ (v1203 : IVec S16 32) (v1232 : IVec S16 32) (k2_hw296 : k2_chk296 v1203 v1232), ∀ a x, ((![v1203, v1232] : Fin 2 → IVec S16 32) a x).toNat < S32x2048.size a := fun v1203 v1232 k2_hw296 => k2_hw296

def k2_chk297 (v1203 : IVec S16 32) (v1236 : IVec S16 32) : Prop :=
  (∀ a x, ((![v1203, v1236] : Fin 2 → IVec S16 32) a x).toNat < S32x2048.size a)
theorem k2_idx297_inb : ∀ (v1203 : IVec S16 32) (v1236 : IVec S16 32) (k2_hw297 : k2_chk297 v1203 v1236), ∀ a x, ((![v1203, v1236] : Fin 2 → IVec S16 32) a x).toNat < S32x2048.size a := fun v1203 v1236 k2_hw297 => k2_hw297

def k2_chk298 (v1203 : IVec S16 32) (v1240 : IVec S16 32) : Prop :=
  (∀ a x, ((![v1203, v1240] : Fin 2 → IVec S16 32) a x).toNat < S32x2048.size a)
theorem k2_idx298_inb : ∀ (v1203 : IVec S16 32) (v1240 : IVec S16 32) (k2_hw298 : k2_chk298 v1203 v1240), ∀ a x, ((![v1203, v1240] : Fin 2 → IVec S16 32) a x).toNat < S32x2048.size a := fun v1203 v1240 k2_hw298 => k2_hw298

def k2_chk299 (v1203 : IVec S16 32) (v1244 : IVec S16 32) : Prop :=
  (∀ a x, ((![v1203, v1244] : Fin 2 → IVec S16 32) a x).toNat < S32x2048.size a)
theorem k2_idx299_inb : ∀ (v1203 : IVec S16 32) (v1244 : IVec S16 32) (k2_hw299 : k2_chk299 v1203 v1244), ∀ a x, ((![v1203, v1244] : Fin 2 → IVec S16 32) a x).toNat < S32x2048.size a := fun v1203 v1244 k2_hw299 => k2_hw299

def k2_chk300 (v1203 : IVec S16 32) (v1248 : IVec S16 32) : Prop :=
  (∀ a x, ((![v1203, v1248] : Fin 2 → IVec S16 32) a x).toNat < S32x2048.size a)
theorem k2_idx300_inb : ∀ (v1203 : IVec S16 32) (v1248 : IVec S16 32) (k2_hw300 : k2_chk300 v1203 v1248), ∀ a x, ((![v1203, v1248] : Fin 2 → IVec S16 32) a x).toNat < S32x2048.size a := fun v1203 v1248 k2_hw300 => k2_hw300

def k2_chk301 (v1203 : IVec S16 32) (v1252 : IVec S16 32) : Prop :=
  (∀ a x, ((![v1203, v1252] : Fin 2 → IVec S16 32) a x).toNat < S32x2048.size a)
theorem k2_idx301_inb : ∀ (v1203 : IVec S16 32) (v1252 : IVec S16 32) (k2_hw301 : k2_chk301 v1203 v1252), ∀ a x, ((![v1203, v1252] : Fin 2 → IVec S16 32) a x).toNat < S32x2048.size a := fun v1203 v1252 k2_hw301 => k2_hw301

def k2_chk302 (v1203 : IVec S16 32) (v1256 : IVec S16 32) : Prop :=
  (∀ a x, ((![v1203, v1256] : Fin 2 → IVec S16 32) a x).toNat < S32x2048.size a)
theorem k2_idx302_inb : ∀ (v1203 : IVec S16 32) (v1256 : IVec S16 32) (k2_hw302 : k2_chk302 v1203 v1256), ∀ a x, ((![v1203, v1256] : Fin 2 → IVec S16 32) a x).toNat < S32x2048.size a := fun v1203 v1256 k2_hw302 => k2_hw302

def k2_chk303 (v1203 : IVec S16 32) (v1260 : IVec S16 32) : Prop :=
  (∀ a x, ((![v1203, v1260] : Fin 2 → IVec S16 32) a x).toNat < S32x2048.size a)
theorem k2_idx303_inb : ∀ (v1203 : IVec S16 32) (v1260 : IVec S16 32) (k2_hw303 : k2_chk303 v1203 v1260), ∀ a x, ((![v1203, v1260] : Fin 2 → IVec S16 32) a x).toNat < S32x2048.size a := fun v1203 v1260 k2_hw303 => k2_hw303

def k2_chk304 (v1203 : IVec S16 32) (v1264 : IVec S16 32) : Prop :=
  (∀ a x, ((![v1203, v1264] : Fin 2 → IVec S16 32) a x).toNat < S32x2048.size a)
theorem k2_idx304_inb : ∀ (v1203 : IVec S16 32) (v1264 : IVec S16 32) (k2_hw304 : k2_chk304 v1203 v1264), ∀ a x, ((![v1203, v1264] : Fin 2 → IVec S16 32) a x).toNat < S32x2048.size a := fun v1203 v1264 k2_hw304 => k2_hw304

def k2_chk305 (v1268 : IVec S16 32) (v1269 : IVec S16 32) : Prop :=
  (∀ a x, ((![v1268, v1269] : Fin 2 → IVec S16 32) a x).toNat < S32x2048.size a)
theorem k2_idx305_inb : ∀ (v1268 : IVec S16 32) (v1269 : IVec S16 32) (k2_hw305 : k2_chk305 v1268 v1269), ∀ a x, ((![v1268, v1269] : Fin 2 → IVec S16 32) a x).toNat < S32x2048.size a := fun v1268 v1269 k2_hw305 => k2_hw305

def k2_chk306 (v1268 : IVec S16 32) (v1273 : IVec S16 32) : Prop :=
  (∀ a x, ((![v1268, v1273] : Fin 2 → IVec S16 32) a x).toNat < S32x2048.size a)
theorem k2_idx306_inb : ∀ (v1268 : IVec S16 32) (v1273 : IVec S16 32) (k2_hw306 : k2_chk306 v1268 v1273), ∀ a x, ((![v1268, v1273] : Fin 2 → IVec S16 32) a x).toNat < S32x2048.size a := fun v1268 v1273 k2_hw306 => k2_hw306

def k2_chk307 (v1268 : IVec S16 32) (v1277 : IVec S16 32) : Prop :=
  (∀ a x, ((![v1268, v1277] : Fin 2 → IVec S16 32) a x).toNat < S32x2048.size a)
theorem k2_idx307_inb : ∀ (v1268 : IVec S16 32) (v1277 : IVec S16 32) (k2_hw307 : k2_chk307 v1268 v1277), ∀ a x, ((![v1268, v1277] : Fin 2 → IVec S16 32) a x).toNat < S32x2048.size a := fun v1268 v1277 k2_hw307 => k2_hw307

def k2_chk308 (v1268 : IVec S16 32) (v1281 : IVec S16 32) : Prop :=
  (∀ a x, ((![v1268, v1281] : Fin 2 → IVec S16 32) a x).toNat < S32x2048.size a)
theorem k2_idx308_inb : ∀ (v1268 : IVec S16 32) (v1281 : IVec S16 32) (k2_hw308 : k2_chk308 v1268 v1281), ∀ a x, ((![v1268, v1281] : Fin 2 → IVec S16 32) a x).toNat < S32x2048.size a := fun v1268 v1281 k2_hw308 => k2_hw308

def k2_chk309 (v1268 : IVec S16 32) (v1285 : IVec S16 32) : Prop :=
  (∀ a x, ((![v1268, v1285] : Fin 2 → IVec S16 32) a x).toNat < S32x2048.size a)
theorem k2_idx309_inb : ∀ (v1268 : IVec S16 32) (v1285 : IVec S16 32) (k2_hw309 : k2_chk309 v1268 v1285), ∀ a x, ((![v1268, v1285] : Fin 2 → IVec S16 32) a x).toNat < S32x2048.size a := fun v1268 v1285 k2_hw309 => k2_hw309

def k2_chk310 (v1268 : IVec S16 32) (v1289 : IVec S16 32) : Prop :=
  (∀ a x, ((![v1268, v1289] : Fin 2 → IVec S16 32) a x).toNat < S32x2048.size a)
theorem k2_idx310_inb : ∀ (v1268 : IVec S16 32) (v1289 : IVec S16 32) (k2_hw310 : k2_chk310 v1268 v1289), ∀ a x, ((![v1268, v1289] : Fin 2 → IVec S16 32) a x).toNat < S32x2048.size a := fun v1268 v1289 k2_hw310 => k2_hw310

def k2_chk311 (v1268 : IVec S16 32) (v1293 : IVec S16 32) : Prop :=
  (∀ a x, ((![v1268, v1293] : Fin 2 → IVec S16 32) a x).toNat < S32x2048.size a)
theorem k2_idx311_inb : ∀ (v1268 : IVec S16 32) (v1293 : IVec S16 32) (k2_hw311 : k2_chk311 v1268 v1293), ∀ a x, ((![v1268, v1293] : Fin 2 → IVec S16 32) a x).toNat < S32x2048.size a := fun v1268 v1293 k2_hw311 => k2_hw311

def k2_chk312 (v1268 : IVec S16 32) (v1297 : IVec S16 32) : Prop :=
  (∀ a x, ((![v1268, v1297] : Fin 2 → IVec S16 32) a x).toNat < S32x2048.size a)
theorem k2_idx312_inb : ∀ (v1268 : IVec S16 32) (v1297 : IVec S16 32) (k2_hw312 : k2_chk312 v1268 v1297), ∀ a x, ((![v1268, v1297] : Fin 2 → IVec S16 32) a x).toNat < S32x2048.size a := fun v1268 v1297 k2_hw312 => k2_hw312

def k2_chk313 (v1268 : IVec S16 32) (v1301 : IVec S16 32) : Prop :=
  (∀ a x, ((![v1268, v1301] : Fin 2 → IVec S16 32) a x).toNat < S32x2048.size a)
theorem k2_idx313_inb : ∀ (v1268 : IVec S16 32) (v1301 : IVec S16 32) (k2_hw313 : k2_chk313 v1268 v1301), ∀ a x, ((![v1268, v1301] : Fin 2 → IVec S16 32) a x).toNat < S32x2048.size a := fun v1268 v1301 k2_hw313 => k2_hw313

def k2_chk314 (v1268 : IVec S16 32) (v1305 : IVec S16 32) : Prop :=
  (∀ a x, ((![v1268, v1305] : Fin 2 → IVec S16 32) a x).toNat < S32x2048.size a)
theorem k2_idx314_inb : ∀ (v1268 : IVec S16 32) (v1305 : IVec S16 32) (k2_hw314 : k2_chk314 v1268 v1305), ∀ a x, ((![v1268, v1305] : Fin 2 → IVec S16 32) a x).toNat < S32x2048.size a := fun v1268 v1305 k2_hw314 => k2_hw314

def k2_chk315 (v1268 : IVec S16 32) (v1309 : IVec S16 32) : Prop :=
  (∀ a x, ((![v1268, v1309] : Fin 2 → IVec S16 32) a x).toNat < S32x2048.size a)
theorem k2_idx315_inb : ∀ (v1268 : IVec S16 32) (v1309 : IVec S16 32) (k2_hw315 : k2_chk315 v1268 v1309), ∀ a x, ((![v1268, v1309] : Fin 2 → IVec S16 32) a x).toNat < S32x2048.size a := fun v1268 v1309 k2_hw315 => k2_hw315

def k2_chk316 (v1268 : IVec S16 32) (v1313 : IVec S16 32) : Prop :=
  (∀ a x, ((![v1268, v1313] : Fin 2 → IVec S16 32) a x).toNat < S32x2048.size a)
theorem k2_idx316_inb : ∀ (v1268 : IVec S16 32) (v1313 : IVec S16 32) (k2_hw316 : k2_chk316 v1268 v1313), ∀ a x, ((![v1268, v1313] : Fin 2 → IVec S16 32) a x).toNat < S32x2048.size a := fun v1268 v1313 k2_hw316 => k2_hw316

def k2_chk317 (v1268 : IVec S16 32) (v1317 : IVec S16 32) : Prop :=
  (∀ a x, ((![v1268, v1317] : Fin 2 → IVec S16 32) a x).toNat < S32x2048.size a)
theorem k2_idx317_inb : ∀ (v1268 : IVec S16 32) (v1317 : IVec S16 32) (k2_hw317 : k2_chk317 v1268 v1317), ∀ a x, ((![v1268, v1317] : Fin 2 → IVec S16 32) a x).toNat < S32x2048.size a := fun v1268 v1317 k2_hw317 => k2_hw317

def k2_chk318 (v1268 : IVec S16 32) (v1321 : IVec S16 32) : Prop :=
  (∀ a x, ((![v1268, v1321] : Fin 2 → IVec S16 32) a x).toNat < S32x2048.size a)
theorem k2_idx318_inb : ∀ (v1268 : IVec S16 32) (v1321 : IVec S16 32) (k2_hw318 : k2_chk318 v1268 v1321), ∀ a x, ((![v1268, v1321] : Fin 2 → IVec S16 32) a x).toNat < S32x2048.size a := fun v1268 v1321 k2_hw318 => k2_hw318

def k2_chk319 (v1268 : IVec S16 32) (v1325 : IVec S16 32) : Prop :=
  (∀ a x, ((![v1268, v1325] : Fin 2 → IVec S16 32) a x).toNat < S32x2048.size a)
theorem k2_idx319_inb : ∀ (v1268 : IVec S16 32) (v1325 : IVec S16 32) (k2_hw319 : k2_chk319 v1268 v1325), ∀ a x, ((![v1268, v1325] : Fin 2 → IVec S16 32) a x).toNat < S32x2048.size a := fun v1268 v1325 k2_hw319 => k2_hw319

def k2_chk320 (v1268 : IVec S16 32) (v1329 : IVec S16 32) : Prop :=
  (∀ a x, ((![v1268, v1329] : Fin 2 → IVec S16 32) a x).toNat < S32x2048.size a)
theorem k2_idx320_inb : ∀ (v1268 : IVec S16 32) (v1329 : IVec S16 32) (k2_hw320 : k2_chk320 v1268 v1329), ∀ a x, ((![v1268, v1329] : Fin 2 → IVec S16 32) a x).toNat < S32x2048.size a := fun v1268 v1329 k2_hw320 => k2_hw320

def k2_chk321 (v1333 : IVec S16 32) (v1334 : IVec S16 32) : Prop :=
  (∀ a x, ((![v1333, v1334] : Fin 2 → IVec S16 32) a x).toNat < S32x2048.size a)
theorem k2_idx321_inb : ∀ (v1333 : IVec S16 32) (v1334 : IVec S16 32) (k2_hw321 : k2_chk321 v1333 v1334), ∀ a x, ((![v1333, v1334] : Fin 2 → IVec S16 32) a x).toNat < S32x2048.size a := fun v1333 v1334 k2_hw321 => k2_hw321

def k2_chk322 (v1333 : IVec S16 32) (v1338 : IVec S16 32) : Prop :=
  (∀ a x, ((![v1333, v1338] : Fin 2 → IVec S16 32) a x).toNat < S32x2048.size a)
theorem k2_idx322_inb : ∀ (v1333 : IVec S16 32) (v1338 : IVec S16 32) (k2_hw322 : k2_chk322 v1333 v1338), ∀ a x, ((![v1333, v1338] : Fin 2 → IVec S16 32) a x).toNat < S32x2048.size a := fun v1333 v1338 k2_hw322 => k2_hw322

def k2_chk323 (v1333 : IVec S16 32) (v1342 : IVec S16 32) : Prop :=
  (∀ a x, ((![v1333, v1342] : Fin 2 → IVec S16 32) a x).toNat < S32x2048.size a)
theorem k2_idx323_inb : ∀ (v1333 : IVec S16 32) (v1342 : IVec S16 32) (k2_hw323 : k2_chk323 v1333 v1342), ∀ a x, ((![v1333, v1342] : Fin 2 → IVec S16 32) a x).toNat < S32x2048.size a := fun v1333 v1342 k2_hw323 => k2_hw323

def k2_chk324 (v1333 : IVec S16 32) (v1346 : IVec S16 32) : Prop :=
  (∀ a x, ((![v1333, v1346] : Fin 2 → IVec S16 32) a x).toNat < S32x2048.size a)
theorem k2_idx324_inb : ∀ (v1333 : IVec S16 32) (v1346 : IVec S16 32) (k2_hw324 : k2_chk324 v1333 v1346), ∀ a x, ((![v1333, v1346] : Fin 2 → IVec S16 32) a x).toNat < S32x2048.size a := fun v1333 v1346 k2_hw324 => k2_hw324

def k2_chk325 (v1333 : IVec S16 32) (v1350 : IVec S16 32) : Prop :=
  (∀ a x, ((![v1333, v1350] : Fin 2 → IVec S16 32) a x).toNat < S32x2048.size a)
theorem k2_idx325_inb : ∀ (v1333 : IVec S16 32) (v1350 : IVec S16 32) (k2_hw325 : k2_chk325 v1333 v1350), ∀ a x, ((![v1333, v1350] : Fin 2 → IVec S16 32) a x).toNat < S32x2048.size a := fun v1333 v1350 k2_hw325 => k2_hw325

def k2_chk326 (v1333 : IVec S16 32) (v1354 : IVec S16 32) : Prop :=
  (∀ a x, ((![v1333, v1354] : Fin 2 → IVec S16 32) a x).toNat < S32x2048.size a)
theorem k2_idx326_inb : ∀ (v1333 : IVec S16 32) (v1354 : IVec S16 32) (k2_hw326 : k2_chk326 v1333 v1354), ∀ a x, ((![v1333, v1354] : Fin 2 → IVec S16 32) a x).toNat < S32x2048.size a := fun v1333 v1354 k2_hw326 => k2_hw326

def k2_chk327 (v1333 : IVec S16 32) (v1358 : IVec S16 32) : Prop :=
  (∀ a x, ((![v1333, v1358] : Fin 2 → IVec S16 32) a x).toNat < S32x2048.size a)
theorem k2_idx327_inb : ∀ (v1333 : IVec S16 32) (v1358 : IVec S16 32) (k2_hw327 : k2_chk327 v1333 v1358), ∀ a x, ((![v1333, v1358] : Fin 2 → IVec S16 32) a x).toNat < S32x2048.size a := fun v1333 v1358 k2_hw327 => k2_hw327

def k2_chk328 (v1333 : IVec S16 32) (v1362 : IVec S16 32) : Prop :=
  (∀ a x, ((![v1333, v1362] : Fin 2 → IVec S16 32) a x).toNat < S32x2048.size a)
theorem k2_idx328_inb : ∀ (v1333 : IVec S16 32) (v1362 : IVec S16 32) (k2_hw328 : k2_chk328 v1333 v1362), ∀ a x, ((![v1333, v1362] : Fin 2 → IVec S16 32) a x).toNat < S32x2048.size a := fun v1333 v1362 k2_hw328 => k2_hw328

def k2_chk329 (v1333 : IVec S16 32) (v1366 : IVec S16 32) : Prop :=
  (∀ a x, ((![v1333, v1366] : Fin 2 → IVec S16 32) a x).toNat < S32x2048.size a)
theorem k2_idx329_inb : ∀ (v1333 : IVec S16 32) (v1366 : IVec S16 32) (k2_hw329 : k2_chk329 v1333 v1366), ∀ a x, ((![v1333, v1366] : Fin 2 → IVec S16 32) a x).toNat < S32x2048.size a := fun v1333 v1366 k2_hw329 => k2_hw329

def k2_chk330 (v1333 : IVec S16 32) (v1370 : IVec S16 32) : Prop :=
  (∀ a x, ((![v1333, v1370] : Fin 2 → IVec S16 32) a x).toNat < S32x2048.size a)
theorem k2_idx330_inb : ∀ (v1333 : IVec S16 32) (v1370 : IVec S16 32) (k2_hw330 : k2_chk330 v1333 v1370), ∀ a x, ((![v1333, v1370] : Fin 2 → IVec S16 32) a x).toNat < S32x2048.size a := fun v1333 v1370 k2_hw330 => k2_hw330

def k2_chk331 (v1333 : IVec S16 32) (v1374 : IVec S16 32) : Prop :=
  (∀ a x, ((![v1333, v1374] : Fin 2 → IVec S16 32) a x).toNat < S32x2048.size a)
theorem k2_idx331_inb : ∀ (v1333 : IVec S16 32) (v1374 : IVec S16 32) (k2_hw331 : k2_chk331 v1333 v1374), ∀ a x, ((![v1333, v1374] : Fin 2 → IVec S16 32) a x).toNat < S32x2048.size a := fun v1333 v1374 k2_hw331 => k2_hw331

def k2_chk332 (v1333 : IVec S16 32) (v1378 : IVec S16 32) : Prop :=
  (∀ a x, ((![v1333, v1378] : Fin 2 → IVec S16 32) a x).toNat < S32x2048.size a)
theorem k2_idx332_inb : ∀ (v1333 : IVec S16 32) (v1378 : IVec S16 32) (k2_hw332 : k2_chk332 v1333 v1378), ∀ a x, ((![v1333, v1378] : Fin 2 → IVec S16 32) a x).toNat < S32x2048.size a := fun v1333 v1378 k2_hw332 => k2_hw332

def k2_chk333 (v1333 : IVec S16 32) (v1382 : IVec S16 32) : Prop :=
  (∀ a x, ((![v1333, v1382] : Fin 2 → IVec S16 32) a x).toNat < S32x2048.size a)
theorem k2_idx333_inb : ∀ (v1333 : IVec S16 32) (v1382 : IVec S16 32) (k2_hw333 : k2_chk333 v1333 v1382), ∀ a x, ((![v1333, v1382] : Fin 2 → IVec S16 32) a x).toNat < S32x2048.size a := fun v1333 v1382 k2_hw333 => k2_hw333

def k2_chk334 (v1333 : IVec S16 32) (v1386 : IVec S16 32) : Prop :=
  (∀ a x, ((![v1333, v1386] : Fin 2 → IVec S16 32) a x).toNat < S32x2048.size a)
theorem k2_idx334_inb : ∀ (v1333 : IVec S16 32) (v1386 : IVec S16 32) (k2_hw334 : k2_chk334 v1333 v1386), ∀ a x, ((![v1333, v1386] : Fin 2 → IVec S16 32) a x).toNat < S32x2048.size a := fun v1333 v1386 k2_hw334 => k2_hw334

def k2_chk335 (v1333 : IVec S16 32) (v1390 : IVec S16 32) : Prop :=
  (∀ a x, ((![v1333, v1390] : Fin 2 → IVec S16 32) a x).toNat < S32x2048.size a)
theorem k2_idx335_inb : ∀ (v1333 : IVec S16 32) (v1390 : IVec S16 32) (k2_hw335 : k2_chk335 v1333 v1390), ∀ a x, ((![v1333, v1390] : Fin 2 → IVec S16 32) a x).toNat < S32x2048.size a := fun v1333 v1390 k2_hw335 => k2_hw335

def k2_chk336 (v1333 : IVec S16 32) (v1394 : IVec S16 32) : Prop :=
  (∀ a x, ((![v1333, v1394] : Fin 2 → IVec S16 32) a x).toNat < S32x2048.size a)
theorem k2_idx336_inb : ∀ (v1333 : IVec S16 32) (v1394 : IVec S16 32) (k2_hw336 : k2_chk336 v1333 v1394), ∀ a x, ((![v1333, v1394] : Fin 2 → IVec S16 32) a x).toNat < S32x2048.size a := fun v1333 v1394 k2_hw336 => k2_hw336

def k2_chk337 (v1398 : IVec S16 32) (v1399 : IVec S16 32) : Prop :=
  (∀ a x, ((![v1398, v1399] : Fin 2 → IVec S16 32) a x).toNat < S32x2048.size a)
theorem k2_idx337_inb : ∀ (v1398 : IVec S16 32) (v1399 : IVec S16 32) (k2_hw337 : k2_chk337 v1398 v1399), ∀ a x, ((![v1398, v1399] : Fin 2 → IVec S16 32) a x).toNat < S32x2048.size a := fun v1398 v1399 k2_hw337 => k2_hw337

def k2_chk338 (v1398 : IVec S16 32) (v1403 : IVec S16 32) : Prop :=
  (∀ a x, ((![v1398, v1403] : Fin 2 → IVec S16 32) a x).toNat < S32x2048.size a)
theorem k2_idx338_inb : ∀ (v1398 : IVec S16 32) (v1403 : IVec S16 32) (k2_hw338 : k2_chk338 v1398 v1403), ∀ a x, ((![v1398, v1403] : Fin 2 → IVec S16 32) a x).toNat < S32x2048.size a := fun v1398 v1403 k2_hw338 => k2_hw338

def k2_chk339 (v1398 : IVec S16 32) (v1407 : IVec S16 32) : Prop :=
  (∀ a x, ((![v1398, v1407] : Fin 2 → IVec S16 32) a x).toNat < S32x2048.size a)
theorem k2_idx339_inb : ∀ (v1398 : IVec S16 32) (v1407 : IVec S16 32) (k2_hw339 : k2_chk339 v1398 v1407), ∀ a x, ((![v1398, v1407] : Fin 2 → IVec S16 32) a x).toNat < S32x2048.size a := fun v1398 v1407 k2_hw339 => k2_hw339

def k2_chk340 (v1398 : IVec S16 32) (v1411 : IVec S16 32) : Prop :=
  (∀ a x, ((![v1398, v1411] : Fin 2 → IVec S16 32) a x).toNat < S32x2048.size a)
theorem k2_idx340_inb : ∀ (v1398 : IVec S16 32) (v1411 : IVec S16 32) (k2_hw340 : k2_chk340 v1398 v1411), ∀ a x, ((![v1398, v1411] : Fin 2 → IVec S16 32) a x).toNat < S32x2048.size a := fun v1398 v1411 k2_hw340 => k2_hw340

def k2_chk341 (v1398 : IVec S16 32) (v1415 : IVec S16 32) : Prop :=
  (∀ a x, ((![v1398, v1415] : Fin 2 → IVec S16 32) a x).toNat < S32x2048.size a)
theorem k2_idx341_inb : ∀ (v1398 : IVec S16 32) (v1415 : IVec S16 32) (k2_hw341 : k2_chk341 v1398 v1415), ∀ a x, ((![v1398, v1415] : Fin 2 → IVec S16 32) a x).toNat < S32x2048.size a := fun v1398 v1415 k2_hw341 => k2_hw341

def k2_chk342 (v1398 : IVec S16 32) (v1419 : IVec S16 32) : Prop :=
  (∀ a x, ((![v1398, v1419] : Fin 2 → IVec S16 32) a x).toNat < S32x2048.size a)
theorem k2_idx342_inb : ∀ (v1398 : IVec S16 32) (v1419 : IVec S16 32) (k2_hw342 : k2_chk342 v1398 v1419), ∀ a x, ((![v1398, v1419] : Fin 2 → IVec S16 32) a x).toNat < S32x2048.size a := fun v1398 v1419 k2_hw342 => k2_hw342

def k2_chk343 (v1398 : IVec S16 32) (v1423 : IVec S16 32) : Prop :=
  (∀ a x, ((![v1398, v1423] : Fin 2 → IVec S16 32) a x).toNat < S32x2048.size a)
theorem k2_idx343_inb : ∀ (v1398 : IVec S16 32) (v1423 : IVec S16 32) (k2_hw343 : k2_chk343 v1398 v1423), ∀ a x, ((![v1398, v1423] : Fin 2 → IVec S16 32) a x).toNat < S32x2048.size a := fun v1398 v1423 k2_hw343 => k2_hw343

def k2_chk344 (v1398 : IVec S16 32) (v1427 : IVec S16 32) : Prop :=
  (∀ a x, ((![v1398, v1427] : Fin 2 → IVec S16 32) a x).toNat < S32x2048.size a)
theorem k2_idx344_inb : ∀ (v1398 : IVec S16 32) (v1427 : IVec S16 32) (k2_hw344 : k2_chk344 v1398 v1427), ∀ a x, ((![v1398, v1427] : Fin 2 → IVec S16 32) a x).toNat < S32x2048.size a := fun v1398 v1427 k2_hw344 => k2_hw344

def k2_chk345 (v1398 : IVec S16 32) (v1431 : IVec S16 32) : Prop :=
  (∀ a x, ((![v1398, v1431] : Fin 2 → IVec S16 32) a x).toNat < S32x2048.size a)
theorem k2_idx345_inb : ∀ (v1398 : IVec S16 32) (v1431 : IVec S16 32) (k2_hw345 : k2_chk345 v1398 v1431), ∀ a x, ((![v1398, v1431] : Fin 2 → IVec S16 32) a x).toNat < S32x2048.size a := fun v1398 v1431 k2_hw345 => k2_hw345

def k2_chk346 (v1398 : IVec S16 32) (v1435 : IVec S16 32) : Prop :=
  (∀ a x, ((![v1398, v1435] : Fin 2 → IVec S16 32) a x).toNat < S32x2048.size a)
theorem k2_idx346_inb : ∀ (v1398 : IVec S16 32) (v1435 : IVec S16 32) (k2_hw346 : k2_chk346 v1398 v1435), ∀ a x, ((![v1398, v1435] : Fin 2 → IVec S16 32) a x).toNat < S32x2048.size a := fun v1398 v1435 k2_hw346 => k2_hw346

def k2_chk347 (v1398 : IVec S16 32) (v1439 : IVec S16 32) : Prop :=
  (∀ a x, ((![v1398, v1439] : Fin 2 → IVec S16 32) a x).toNat < S32x2048.size a)
theorem k2_idx347_inb : ∀ (v1398 : IVec S16 32) (v1439 : IVec S16 32) (k2_hw347 : k2_chk347 v1398 v1439), ∀ a x, ((![v1398, v1439] : Fin 2 → IVec S16 32) a x).toNat < S32x2048.size a := fun v1398 v1439 k2_hw347 => k2_hw347

def k2_chk348 (v1398 : IVec S16 32) (v1443 : IVec S16 32) : Prop :=
  (∀ a x, ((![v1398, v1443] : Fin 2 → IVec S16 32) a x).toNat < S32x2048.size a)
theorem k2_idx348_inb : ∀ (v1398 : IVec S16 32) (v1443 : IVec S16 32) (k2_hw348 : k2_chk348 v1398 v1443), ∀ a x, ((![v1398, v1443] : Fin 2 → IVec S16 32) a x).toNat < S32x2048.size a := fun v1398 v1443 k2_hw348 => k2_hw348

def k2_chk349 (v1398 : IVec S16 32) (v1447 : IVec S16 32) : Prop :=
  (∀ a x, ((![v1398, v1447] : Fin 2 → IVec S16 32) a x).toNat < S32x2048.size a)
theorem k2_idx349_inb : ∀ (v1398 : IVec S16 32) (v1447 : IVec S16 32) (k2_hw349 : k2_chk349 v1398 v1447), ∀ a x, ((![v1398, v1447] : Fin 2 → IVec S16 32) a x).toNat < S32x2048.size a := fun v1398 v1447 k2_hw349 => k2_hw349

def k2_chk350 (v1398 : IVec S16 32) (v1451 : IVec S16 32) : Prop :=
  (∀ a x, ((![v1398, v1451] : Fin 2 → IVec S16 32) a x).toNat < S32x2048.size a)
theorem k2_idx350_inb : ∀ (v1398 : IVec S16 32) (v1451 : IVec S16 32) (k2_hw350 : k2_chk350 v1398 v1451), ∀ a x, ((![v1398, v1451] : Fin 2 → IVec S16 32) a x).toNat < S32x2048.size a := fun v1398 v1451 k2_hw350 => k2_hw350

def k2_chk351 (v1398 : IVec S16 32) (v1455 : IVec S16 32) : Prop :=
  (∀ a x, ((![v1398, v1455] : Fin 2 → IVec S16 32) a x).toNat < S32x2048.size a)
theorem k2_idx351_inb : ∀ (v1398 : IVec S16 32) (v1455 : IVec S16 32) (k2_hw351 : k2_chk351 v1398 v1455), ∀ a x, ((![v1398, v1455] : Fin 2 → IVec S16 32) a x).toNat < S32x2048.size a := fun v1398 v1455 k2_hw351 => k2_hw351

def k2_chk352 (v1398 : IVec S16 32) (v1459 : IVec S16 32) : Prop :=
  (∀ a x, ((![v1398, v1459] : Fin 2 → IVec S16 32) a x).toNat < S32x2048.size a)
theorem k2_idx352_inb : ∀ (v1398 : IVec S16 32) (v1459 : IVec S16 32) (k2_hw352 : k2_chk352 v1398 v1459), ∀ a x, ((![v1398, v1459] : Fin 2 → IVec S16 32) a x).toNat < S32x2048.size a := fun v1398 v1459 k2_hw352 => k2_hw352

def k2_chk353 (v1463 : IVec S16 32) (v1464 : IVec S16 32) : Prop :=
  (∀ a x, ((![v1463, v1464] : Fin 2 → IVec S16 32) a x).toNat < S32x2048.size a)
theorem k2_idx353_inb : ∀ (v1463 : IVec S16 32) (v1464 : IVec S16 32) (k2_hw353 : k2_chk353 v1463 v1464), ∀ a x, ((![v1463, v1464] : Fin 2 → IVec S16 32) a x).toNat < S32x2048.size a := fun v1463 v1464 k2_hw353 => k2_hw353

def k2_chk354 (v1463 : IVec S16 32) (v1468 : IVec S16 32) : Prop :=
  (∀ a x, ((![v1463, v1468] : Fin 2 → IVec S16 32) a x).toNat < S32x2048.size a)
theorem k2_idx354_inb : ∀ (v1463 : IVec S16 32) (v1468 : IVec S16 32) (k2_hw354 : k2_chk354 v1463 v1468), ∀ a x, ((![v1463, v1468] : Fin 2 → IVec S16 32) a x).toNat < S32x2048.size a := fun v1463 v1468 k2_hw354 => k2_hw354

def k2_chk355 (v1463 : IVec S16 32) (v1472 : IVec S16 32) : Prop :=
  (∀ a x, ((![v1463, v1472] : Fin 2 → IVec S16 32) a x).toNat < S32x2048.size a)
theorem k2_idx355_inb : ∀ (v1463 : IVec S16 32) (v1472 : IVec S16 32) (k2_hw355 : k2_chk355 v1463 v1472), ∀ a x, ((![v1463, v1472] : Fin 2 → IVec S16 32) a x).toNat < S32x2048.size a := fun v1463 v1472 k2_hw355 => k2_hw355

def k2_chk356 (v1463 : IVec S16 32) (v1476 : IVec S16 32) : Prop :=
  (∀ a x, ((![v1463, v1476] : Fin 2 → IVec S16 32) a x).toNat < S32x2048.size a)
theorem k2_idx356_inb : ∀ (v1463 : IVec S16 32) (v1476 : IVec S16 32) (k2_hw356 : k2_chk356 v1463 v1476), ∀ a x, ((![v1463, v1476] : Fin 2 → IVec S16 32) a x).toNat < S32x2048.size a := fun v1463 v1476 k2_hw356 => k2_hw356

def k2_chk357 (v1463 : IVec S16 32) (v1480 : IVec S16 32) : Prop :=
  (∀ a x, ((![v1463, v1480] : Fin 2 → IVec S16 32) a x).toNat < S32x2048.size a)
theorem k2_idx357_inb : ∀ (v1463 : IVec S16 32) (v1480 : IVec S16 32) (k2_hw357 : k2_chk357 v1463 v1480), ∀ a x, ((![v1463, v1480] : Fin 2 → IVec S16 32) a x).toNat < S32x2048.size a := fun v1463 v1480 k2_hw357 => k2_hw357

def k2_chk358 (v1463 : IVec S16 32) (v1484 : IVec S16 32) : Prop :=
  (∀ a x, ((![v1463, v1484] : Fin 2 → IVec S16 32) a x).toNat < S32x2048.size a)
theorem k2_idx358_inb : ∀ (v1463 : IVec S16 32) (v1484 : IVec S16 32) (k2_hw358 : k2_chk358 v1463 v1484), ∀ a x, ((![v1463, v1484] : Fin 2 → IVec S16 32) a x).toNat < S32x2048.size a := fun v1463 v1484 k2_hw358 => k2_hw358

def k2_chk359 (v1463 : IVec S16 32) (v1488 : IVec S16 32) : Prop :=
  (∀ a x, ((![v1463, v1488] : Fin 2 → IVec S16 32) a x).toNat < S32x2048.size a)
theorem k2_idx359_inb : ∀ (v1463 : IVec S16 32) (v1488 : IVec S16 32) (k2_hw359 : k2_chk359 v1463 v1488), ∀ a x, ((![v1463, v1488] : Fin 2 → IVec S16 32) a x).toNat < S32x2048.size a := fun v1463 v1488 k2_hw359 => k2_hw359

def k2_chk360 (v1463 : IVec S16 32) (v1492 : IVec S16 32) : Prop :=
  (∀ a x, ((![v1463, v1492] : Fin 2 → IVec S16 32) a x).toNat < S32x2048.size a)
theorem k2_idx360_inb : ∀ (v1463 : IVec S16 32) (v1492 : IVec S16 32) (k2_hw360 : k2_chk360 v1463 v1492), ∀ a x, ((![v1463, v1492] : Fin 2 → IVec S16 32) a x).toNat < S32x2048.size a := fun v1463 v1492 k2_hw360 => k2_hw360

def k2_chk361 (v1463 : IVec S16 32) (v1496 : IVec S16 32) : Prop :=
  (∀ a x, ((![v1463, v1496] : Fin 2 → IVec S16 32) a x).toNat < S32x2048.size a)
theorem k2_idx361_inb : ∀ (v1463 : IVec S16 32) (v1496 : IVec S16 32) (k2_hw361 : k2_chk361 v1463 v1496), ∀ a x, ((![v1463, v1496] : Fin 2 → IVec S16 32) a x).toNat < S32x2048.size a := fun v1463 v1496 k2_hw361 => k2_hw361

def k2_chk362 (v1463 : IVec S16 32) (v1500 : IVec S16 32) : Prop :=
  (∀ a x, ((![v1463, v1500] : Fin 2 → IVec S16 32) a x).toNat < S32x2048.size a)
theorem k2_idx362_inb : ∀ (v1463 : IVec S16 32) (v1500 : IVec S16 32) (k2_hw362 : k2_chk362 v1463 v1500), ∀ a x, ((![v1463, v1500] : Fin 2 → IVec S16 32) a x).toNat < S32x2048.size a := fun v1463 v1500 k2_hw362 => k2_hw362

def k2_chk363 (v1463 : IVec S16 32) (v1504 : IVec S16 32) : Prop :=
  (∀ a x, ((![v1463, v1504] : Fin 2 → IVec S16 32) a x).toNat < S32x2048.size a)
theorem k2_idx363_inb : ∀ (v1463 : IVec S16 32) (v1504 : IVec S16 32) (k2_hw363 : k2_chk363 v1463 v1504), ∀ a x, ((![v1463, v1504] : Fin 2 → IVec S16 32) a x).toNat < S32x2048.size a := fun v1463 v1504 k2_hw363 => k2_hw363

def k2_chk364 (v1463 : IVec S16 32) (v1508 : IVec S16 32) : Prop :=
  (∀ a x, ((![v1463, v1508] : Fin 2 → IVec S16 32) a x).toNat < S32x2048.size a)
theorem k2_idx364_inb : ∀ (v1463 : IVec S16 32) (v1508 : IVec S16 32) (k2_hw364 : k2_chk364 v1463 v1508), ∀ a x, ((![v1463, v1508] : Fin 2 → IVec S16 32) a x).toNat < S32x2048.size a := fun v1463 v1508 k2_hw364 => k2_hw364

def k2_chk365 (v1463 : IVec S16 32) (v1512 : IVec S16 32) : Prop :=
  (∀ a x, ((![v1463, v1512] : Fin 2 → IVec S16 32) a x).toNat < S32x2048.size a)
theorem k2_idx365_inb : ∀ (v1463 : IVec S16 32) (v1512 : IVec S16 32) (k2_hw365 : k2_chk365 v1463 v1512), ∀ a x, ((![v1463, v1512] : Fin 2 → IVec S16 32) a x).toNat < S32x2048.size a := fun v1463 v1512 k2_hw365 => k2_hw365

def k2_chk366 (v1463 : IVec S16 32) (v1516 : IVec S16 32) : Prop :=
  (∀ a x, ((![v1463, v1516] : Fin 2 → IVec S16 32) a x).toNat < S32x2048.size a)
theorem k2_idx366_inb : ∀ (v1463 : IVec S16 32) (v1516 : IVec S16 32) (k2_hw366 : k2_chk366 v1463 v1516), ∀ a x, ((![v1463, v1516] : Fin 2 → IVec S16 32) a x).toNat < S32x2048.size a := fun v1463 v1516 k2_hw366 => k2_hw366

def k2_chk367 (v1463 : IVec S16 32) (v1520 : IVec S16 32) : Prop :=
  (∀ a x, ((![v1463, v1520] : Fin 2 → IVec S16 32) a x).toNat < S32x2048.size a)
theorem k2_idx367_inb : ∀ (v1463 : IVec S16 32) (v1520 : IVec S16 32) (k2_hw367 : k2_chk367 v1463 v1520), ∀ a x, ((![v1463, v1520] : Fin 2 → IVec S16 32) a x).toNat < S32x2048.size a := fun v1463 v1520 k2_hw367 => k2_hw367

def k2_chk368 (v1463 : IVec S16 32) (v1524 : IVec S16 32) : Prop :=
  (∀ a x, ((![v1463, v1524] : Fin 2 → IVec S16 32) a x).toNat < S32x2048.size a)
theorem k2_idx368_inb : ∀ (v1463 : IVec S16 32) (v1524 : IVec S16 32) (k2_hw368 : k2_chk368 v1463 v1524), ∀ a x, ((![v1463, v1524] : Fin 2 → IVec S16 32) a x).toNat < S32x2048.size a := fun v1463 v1524 k2_hw368 => k2_hw368

def k2_chk369 (v1528 : IVec S16 32) (v1529 : IVec S16 32) : Prop :=
  (∀ a x, ((![v1528, v1529] : Fin 2 → IVec S16 32) a x).toNat < S32x2048.size a)
theorem k2_idx369_inb : ∀ (v1528 : IVec S16 32) (v1529 : IVec S16 32) (k2_hw369 : k2_chk369 v1528 v1529), ∀ a x, ((![v1528, v1529] : Fin 2 → IVec S16 32) a x).toNat < S32x2048.size a := fun v1528 v1529 k2_hw369 => k2_hw369

def k2_chk370 (v1528 : IVec S16 32) (v1533 : IVec S16 32) : Prop :=
  (∀ a x, ((![v1528, v1533] : Fin 2 → IVec S16 32) a x).toNat < S32x2048.size a)
theorem k2_idx370_inb : ∀ (v1528 : IVec S16 32) (v1533 : IVec S16 32) (k2_hw370 : k2_chk370 v1528 v1533), ∀ a x, ((![v1528, v1533] : Fin 2 → IVec S16 32) a x).toNat < S32x2048.size a := fun v1528 v1533 k2_hw370 => k2_hw370

def k2_chk371 (v1528 : IVec S16 32) (v1537 : IVec S16 32) : Prop :=
  (∀ a x, ((![v1528, v1537] : Fin 2 → IVec S16 32) a x).toNat < S32x2048.size a)
theorem k2_idx371_inb : ∀ (v1528 : IVec S16 32) (v1537 : IVec S16 32) (k2_hw371 : k2_chk371 v1528 v1537), ∀ a x, ((![v1528, v1537] : Fin 2 → IVec S16 32) a x).toNat < S32x2048.size a := fun v1528 v1537 k2_hw371 => k2_hw371

def k2_chk372 (v1528 : IVec S16 32) (v1541 : IVec S16 32) : Prop :=
  (∀ a x, ((![v1528, v1541] : Fin 2 → IVec S16 32) a x).toNat < S32x2048.size a)
theorem k2_idx372_inb : ∀ (v1528 : IVec S16 32) (v1541 : IVec S16 32) (k2_hw372 : k2_chk372 v1528 v1541), ∀ a x, ((![v1528, v1541] : Fin 2 → IVec S16 32) a x).toNat < S32x2048.size a := fun v1528 v1541 k2_hw372 => k2_hw372

def k2_chk373 (v1528 : IVec S16 32) (v1545 : IVec S16 32) : Prop :=
  (∀ a x, ((![v1528, v1545] : Fin 2 → IVec S16 32) a x).toNat < S32x2048.size a)
theorem k2_idx373_inb : ∀ (v1528 : IVec S16 32) (v1545 : IVec S16 32) (k2_hw373 : k2_chk373 v1528 v1545), ∀ a x, ((![v1528, v1545] : Fin 2 → IVec S16 32) a x).toNat < S32x2048.size a := fun v1528 v1545 k2_hw373 => k2_hw373

def k2_chk374 (v1528 : IVec S16 32) (v1549 : IVec S16 32) : Prop :=
  (∀ a x, ((![v1528, v1549] : Fin 2 → IVec S16 32) a x).toNat < S32x2048.size a)
theorem k2_idx374_inb : ∀ (v1528 : IVec S16 32) (v1549 : IVec S16 32) (k2_hw374 : k2_chk374 v1528 v1549), ∀ a x, ((![v1528, v1549] : Fin 2 → IVec S16 32) a x).toNat < S32x2048.size a := fun v1528 v1549 k2_hw374 => k2_hw374

def k2_chk375 (v1528 : IVec S16 32) (v1553 : IVec S16 32) : Prop :=
  (∀ a x, ((![v1528, v1553] : Fin 2 → IVec S16 32) a x).toNat < S32x2048.size a)
theorem k2_idx375_inb : ∀ (v1528 : IVec S16 32) (v1553 : IVec S16 32) (k2_hw375 : k2_chk375 v1528 v1553), ∀ a x, ((![v1528, v1553] : Fin 2 → IVec S16 32) a x).toNat < S32x2048.size a := fun v1528 v1553 k2_hw375 => k2_hw375

def k2_chk376 (v1528 : IVec S16 32) (v1557 : IVec S16 32) : Prop :=
  (∀ a x, ((![v1528, v1557] : Fin 2 → IVec S16 32) a x).toNat < S32x2048.size a)
theorem k2_idx376_inb : ∀ (v1528 : IVec S16 32) (v1557 : IVec S16 32) (k2_hw376 : k2_chk376 v1528 v1557), ∀ a x, ((![v1528, v1557] : Fin 2 → IVec S16 32) a x).toNat < S32x2048.size a := fun v1528 v1557 k2_hw376 => k2_hw376

def k2_chk377 (v1528 : IVec S16 32) (v1561 : IVec S16 32) : Prop :=
  (∀ a x, ((![v1528, v1561] : Fin 2 → IVec S16 32) a x).toNat < S32x2048.size a)
theorem k2_idx377_inb : ∀ (v1528 : IVec S16 32) (v1561 : IVec S16 32) (k2_hw377 : k2_chk377 v1528 v1561), ∀ a x, ((![v1528, v1561] : Fin 2 → IVec S16 32) a x).toNat < S32x2048.size a := fun v1528 v1561 k2_hw377 => k2_hw377

def k2_chk378 (v1528 : IVec S16 32) (v1565 : IVec S16 32) : Prop :=
  (∀ a x, ((![v1528, v1565] : Fin 2 → IVec S16 32) a x).toNat < S32x2048.size a)
theorem k2_idx378_inb : ∀ (v1528 : IVec S16 32) (v1565 : IVec S16 32) (k2_hw378 : k2_chk378 v1528 v1565), ∀ a x, ((![v1528, v1565] : Fin 2 → IVec S16 32) a x).toNat < S32x2048.size a := fun v1528 v1565 k2_hw378 => k2_hw378

def k2_chk379 (v1528 : IVec S16 32) (v1569 : IVec S16 32) : Prop :=
  (∀ a x, ((![v1528, v1569] : Fin 2 → IVec S16 32) a x).toNat < S32x2048.size a)
theorem k2_idx379_inb : ∀ (v1528 : IVec S16 32) (v1569 : IVec S16 32) (k2_hw379 : k2_chk379 v1528 v1569), ∀ a x, ((![v1528, v1569] : Fin 2 → IVec S16 32) a x).toNat < S32x2048.size a := fun v1528 v1569 k2_hw379 => k2_hw379

def k2_chk380 (v1528 : IVec S16 32) (v1573 : IVec S16 32) : Prop :=
  (∀ a x, ((![v1528, v1573] : Fin 2 → IVec S16 32) a x).toNat < S32x2048.size a)
theorem k2_idx380_inb : ∀ (v1528 : IVec S16 32) (v1573 : IVec S16 32) (k2_hw380 : k2_chk380 v1528 v1573), ∀ a x, ((![v1528, v1573] : Fin 2 → IVec S16 32) a x).toNat < S32x2048.size a := fun v1528 v1573 k2_hw380 => k2_hw380

def k2_chk381 (v1528 : IVec S16 32) (v1577 : IVec S16 32) : Prop :=
  (∀ a x, ((![v1528, v1577] : Fin 2 → IVec S16 32) a x).toNat < S32x2048.size a)
theorem k2_idx381_inb : ∀ (v1528 : IVec S16 32) (v1577 : IVec S16 32) (k2_hw381 : k2_chk381 v1528 v1577), ∀ a x, ((![v1528, v1577] : Fin 2 → IVec S16 32) a x).toNat < S32x2048.size a := fun v1528 v1577 k2_hw381 => k2_hw381

def k2_chk382 (v1528 : IVec S16 32) (v1581 : IVec S16 32) : Prop :=
  (∀ a x, ((![v1528, v1581] : Fin 2 → IVec S16 32) a x).toNat < S32x2048.size a)
theorem k2_idx382_inb : ∀ (v1528 : IVec S16 32) (v1581 : IVec S16 32) (k2_hw382 : k2_chk382 v1528 v1581), ∀ a x, ((![v1528, v1581] : Fin 2 → IVec S16 32) a x).toNat < S32x2048.size a := fun v1528 v1581 k2_hw382 => k2_hw382

def k2_chk383 (v1528 : IVec S16 32) (v1585 : IVec S16 32) : Prop :=
  (∀ a x, ((![v1528, v1585] : Fin 2 → IVec S16 32) a x).toNat < S32x2048.size a)
theorem k2_idx383_inb : ∀ (v1528 : IVec S16 32) (v1585 : IVec S16 32) (k2_hw383 : k2_chk383 v1528 v1585), ∀ a x, ((![v1528, v1585] : Fin 2 → IVec S16 32) a x).toNat < S32x2048.size a := fun v1528 v1585 k2_hw383 => k2_hw383

def k2_chk384 (v1528 : IVec S16 32) (v1589 : IVec S16 32) : Prop :=
  (∀ a x, ((![v1528, v1589] : Fin 2 → IVec S16 32) a x).toNat < S32x2048.size a)
theorem k2_idx384_inb : ∀ (v1528 : IVec S16 32) (v1589 : IVec S16 32) (k2_hw384 : k2_chk384 v1528 v1589), ∀ a x, ((![v1528, v1589] : Fin 2 → IVec S16 32) a x).toNat < S32x2048.size a := fun v1528 v1589 k2_hw384 => k2_hw384

def k2_chk385 (v1593 : IVec S16 32) (v1594 : IVec S16 32) : Prop :=
  (∀ a x, ((![v1593, v1594] : Fin 2 → IVec S16 32) a x).toNat < S32x2048.size a)
theorem k2_idx385_inb : ∀ (v1593 : IVec S16 32) (v1594 : IVec S16 32) (k2_hw385 : k2_chk385 v1593 v1594), ∀ a x, ((![v1593, v1594] : Fin 2 → IVec S16 32) a x).toNat < S32x2048.size a := fun v1593 v1594 k2_hw385 => k2_hw385

def k2_chk386 (v1593 : IVec S16 32) (v1598 : IVec S16 32) : Prop :=
  (∀ a x, ((![v1593, v1598] : Fin 2 → IVec S16 32) a x).toNat < S32x2048.size a)
theorem k2_idx386_inb : ∀ (v1593 : IVec S16 32) (v1598 : IVec S16 32) (k2_hw386 : k2_chk386 v1593 v1598), ∀ a x, ((![v1593, v1598] : Fin 2 → IVec S16 32) a x).toNat < S32x2048.size a := fun v1593 v1598 k2_hw386 => k2_hw386

def k2_chk387 (v1593 : IVec S16 32) (v1602 : IVec S16 32) : Prop :=
  (∀ a x, ((![v1593, v1602] : Fin 2 → IVec S16 32) a x).toNat < S32x2048.size a)
theorem k2_idx387_inb : ∀ (v1593 : IVec S16 32) (v1602 : IVec S16 32) (k2_hw387 : k2_chk387 v1593 v1602), ∀ a x, ((![v1593, v1602] : Fin 2 → IVec S16 32) a x).toNat < S32x2048.size a := fun v1593 v1602 k2_hw387 => k2_hw387

def k2_chk388 (v1593 : IVec S16 32) (v1606 : IVec S16 32) : Prop :=
  (∀ a x, ((![v1593, v1606] : Fin 2 → IVec S16 32) a x).toNat < S32x2048.size a)
theorem k2_idx388_inb : ∀ (v1593 : IVec S16 32) (v1606 : IVec S16 32) (k2_hw388 : k2_chk388 v1593 v1606), ∀ a x, ((![v1593, v1606] : Fin 2 → IVec S16 32) a x).toNat < S32x2048.size a := fun v1593 v1606 k2_hw388 => k2_hw388

def k2_chk389 (v1593 : IVec S16 32) (v1610 : IVec S16 32) : Prop :=
  (∀ a x, ((![v1593, v1610] : Fin 2 → IVec S16 32) a x).toNat < S32x2048.size a)
theorem k2_idx389_inb : ∀ (v1593 : IVec S16 32) (v1610 : IVec S16 32) (k2_hw389 : k2_chk389 v1593 v1610), ∀ a x, ((![v1593, v1610] : Fin 2 → IVec S16 32) a x).toNat < S32x2048.size a := fun v1593 v1610 k2_hw389 => k2_hw389

def k2_chk390 (v1593 : IVec S16 32) (v1614 : IVec S16 32) : Prop :=
  (∀ a x, ((![v1593, v1614] : Fin 2 → IVec S16 32) a x).toNat < S32x2048.size a)
theorem k2_idx390_inb : ∀ (v1593 : IVec S16 32) (v1614 : IVec S16 32) (k2_hw390 : k2_chk390 v1593 v1614), ∀ a x, ((![v1593, v1614] : Fin 2 → IVec S16 32) a x).toNat < S32x2048.size a := fun v1593 v1614 k2_hw390 => k2_hw390

def k2_chk391 (v1593 : IVec S16 32) (v1618 : IVec S16 32) : Prop :=
  (∀ a x, ((![v1593, v1618] : Fin 2 → IVec S16 32) a x).toNat < S32x2048.size a)
theorem k2_idx391_inb : ∀ (v1593 : IVec S16 32) (v1618 : IVec S16 32) (k2_hw391 : k2_chk391 v1593 v1618), ∀ a x, ((![v1593, v1618] : Fin 2 → IVec S16 32) a x).toNat < S32x2048.size a := fun v1593 v1618 k2_hw391 => k2_hw391

def k2_chk392 (v1593 : IVec S16 32) (v1622 : IVec S16 32) : Prop :=
  (∀ a x, ((![v1593, v1622] : Fin 2 → IVec S16 32) a x).toNat < S32x2048.size a)
theorem k2_idx392_inb : ∀ (v1593 : IVec S16 32) (v1622 : IVec S16 32) (k2_hw392 : k2_chk392 v1593 v1622), ∀ a x, ((![v1593, v1622] : Fin 2 → IVec S16 32) a x).toNat < S32x2048.size a := fun v1593 v1622 k2_hw392 => k2_hw392

def k2_chk393 (v1593 : IVec S16 32) (v1626 : IVec S16 32) : Prop :=
  (∀ a x, ((![v1593, v1626] : Fin 2 → IVec S16 32) a x).toNat < S32x2048.size a)
theorem k2_idx393_inb : ∀ (v1593 : IVec S16 32) (v1626 : IVec S16 32) (k2_hw393 : k2_chk393 v1593 v1626), ∀ a x, ((![v1593, v1626] : Fin 2 → IVec S16 32) a x).toNat < S32x2048.size a := fun v1593 v1626 k2_hw393 => k2_hw393

def k2_chk394 (v1593 : IVec S16 32) (v1630 : IVec S16 32) : Prop :=
  (∀ a x, ((![v1593, v1630] : Fin 2 → IVec S16 32) a x).toNat < S32x2048.size a)
theorem k2_idx394_inb : ∀ (v1593 : IVec S16 32) (v1630 : IVec S16 32) (k2_hw394 : k2_chk394 v1593 v1630), ∀ a x, ((![v1593, v1630] : Fin 2 → IVec S16 32) a x).toNat < S32x2048.size a := fun v1593 v1630 k2_hw394 => k2_hw394

def k2_chk395 (v1593 : IVec S16 32) (v1634 : IVec S16 32) : Prop :=
  (∀ a x, ((![v1593, v1634] : Fin 2 → IVec S16 32) a x).toNat < S32x2048.size a)
theorem k2_idx395_inb : ∀ (v1593 : IVec S16 32) (v1634 : IVec S16 32) (k2_hw395 : k2_chk395 v1593 v1634), ∀ a x, ((![v1593, v1634] : Fin 2 → IVec S16 32) a x).toNat < S32x2048.size a := fun v1593 v1634 k2_hw395 => k2_hw395

def k2_chk396 (v1593 : IVec S16 32) (v1638 : IVec S16 32) : Prop :=
  (∀ a x, ((![v1593, v1638] : Fin 2 → IVec S16 32) a x).toNat < S32x2048.size a)
theorem k2_idx396_inb : ∀ (v1593 : IVec S16 32) (v1638 : IVec S16 32) (k2_hw396 : k2_chk396 v1593 v1638), ∀ a x, ((![v1593, v1638] : Fin 2 → IVec S16 32) a x).toNat < S32x2048.size a := fun v1593 v1638 k2_hw396 => k2_hw396

def k2_chk397 (v1593 : IVec S16 32) (v1642 : IVec S16 32) : Prop :=
  (∀ a x, ((![v1593, v1642] : Fin 2 → IVec S16 32) a x).toNat < S32x2048.size a)
theorem k2_idx397_inb : ∀ (v1593 : IVec S16 32) (v1642 : IVec S16 32) (k2_hw397 : k2_chk397 v1593 v1642), ∀ a x, ((![v1593, v1642] : Fin 2 → IVec S16 32) a x).toNat < S32x2048.size a := fun v1593 v1642 k2_hw397 => k2_hw397

def k2_chk398 (v1593 : IVec S16 32) (v1646 : IVec S16 32) : Prop :=
  (∀ a x, ((![v1593, v1646] : Fin 2 → IVec S16 32) a x).toNat < S32x2048.size a)
theorem k2_idx398_inb : ∀ (v1593 : IVec S16 32) (v1646 : IVec S16 32) (k2_hw398 : k2_chk398 v1593 v1646), ∀ a x, ((![v1593, v1646] : Fin 2 → IVec S16 32) a x).toNat < S32x2048.size a := fun v1593 v1646 k2_hw398 => k2_hw398

def k2_chk399 (v1593 : IVec S16 32) (v1650 : IVec S16 32) : Prop :=
  (∀ a x, ((![v1593, v1650] : Fin 2 → IVec S16 32) a x).toNat < S32x2048.size a)
theorem k2_idx399_inb : ∀ (v1593 : IVec S16 32) (v1650 : IVec S16 32) (k2_hw399 : k2_chk399 v1593 v1650), ∀ a x, ((![v1593, v1650] : Fin 2 → IVec S16 32) a x).toNat < S32x2048.size a := fun v1593 v1650 k2_hw399 => k2_hw399

def k2_chk400 (v1593 : IVec S16 32) (v1654 : IVec S16 32) : Prop :=
  (∀ a x, ((![v1593, v1654] : Fin 2 → IVec S16 32) a x).toNat < S32x2048.size a)
theorem k2_idx400_inb : ∀ (v1593 : IVec S16 32) (v1654 : IVec S16 32) (k2_hw400 : k2_chk400 v1593 v1654), ∀ a x, ((![v1593, v1654] : Fin 2 → IVec S16 32) a x).toNat < S32x2048.size a := fun v1593 v1654 k2_hw400 => k2_hw400

def k2_chk401 (v1658 : IVec S16 32) (v1659 : IVec S16 32) : Prop :=
  (∀ a x, ((![v1658, v1659] : Fin 2 → IVec S16 32) a x).toNat < S32x2048.size a)
theorem k2_idx401_inb : ∀ (v1658 : IVec S16 32) (v1659 : IVec S16 32) (k2_hw401 : k2_chk401 v1658 v1659), ∀ a x, ((![v1658, v1659] : Fin 2 → IVec S16 32) a x).toNat < S32x2048.size a := fun v1658 v1659 k2_hw401 => k2_hw401

def k2_chk402 (v1658 : IVec S16 32) (v1663 : IVec S16 32) : Prop :=
  (∀ a x, ((![v1658, v1663] : Fin 2 → IVec S16 32) a x).toNat < S32x2048.size a)
theorem k2_idx402_inb : ∀ (v1658 : IVec S16 32) (v1663 : IVec S16 32) (k2_hw402 : k2_chk402 v1658 v1663), ∀ a x, ((![v1658, v1663] : Fin 2 → IVec S16 32) a x).toNat < S32x2048.size a := fun v1658 v1663 k2_hw402 => k2_hw402

def k2_chk403 (v1658 : IVec S16 32) (v1667 : IVec S16 32) : Prop :=
  (∀ a x, ((![v1658, v1667] : Fin 2 → IVec S16 32) a x).toNat < S32x2048.size a)
theorem k2_idx403_inb : ∀ (v1658 : IVec S16 32) (v1667 : IVec S16 32) (k2_hw403 : k2_chk403 v1658 v1667), ∀ a x, ((![v1658, v1667] : Fin 2 → IVec S16 32) a x).toNat < S32x2048.size a := fun v1658 v1667 k2_hw403 => k2_hw403

def k2_chk404 (v1658 : IVec S16 32) (v1671 : IVec S16 32) : Prop :=
  (∀ a x, ((![v1658, v1671] : Fin 2 → IVec S16 32) a x).toNat < S32x2048.size a)
theorem k2_idx404_inb : ∀ (v1658 : IVec S16 32) (v1671 : IVec S16 32) (k2_hw404 : k2_chk404 v1658 v1671), ∀ a x, ((![v1658, v1671] : Fin 2 → IVec S16 32) a x).toNat < S32x2048.size a := fun v1658 v1671 k2_hw404 => k2_hw404

def k2_chk405 (v1658 : IVec S16 32) (v1675 : IVec S16 32) : Prop :=
  (∀ a x, ((![v1658, v1675] : Fin 2 → IVec S16 32) a x).toNat < S32x2048.size a)
theorem k2_idx405_inb : ∀ (v1658 : IVec S16 32) (v1675 : IVec S16 32) (k2_hw405 : k2_chk405 v1658 v1675), ∀ a x, ((![v1658, v1675] : Fin 2 → IVec S16 32) a x).toNat < S32x2048.size a := fun v1658 v1675 k2_hw405 => k2_hw405

def k2_chk406 (v1658 : IVec S16 32) (v1679 : IVec S16 32) : Prop :=
  (∀ a x, ((![v1658, v1679] : Fin 2 → IVec S16 32) a x).toNat < S32x2048.size a)
theorem k2_idx406_inb : ∀ (v1658 : IVec S16 32) (v1679 : IVec S16 32) (k2_hw406 : k2_chk406 v1658 v1679), ∀ a x, ((![v1658, v1679] : Fin 2 → IVec S16 32) a x).toNat < S32x2048.size a := fun v1658 v1679 k2_hw406 => k2_hw406

def k2_chk407 (v1658 : IVec S16 32) (v1683 : IVec S16 32) : Prop :=
  (∀ a x, ((![v1658, v1683] : Fin 2 → IVec S16 32) a x).toNat < S32x2048.size a)
theorem k2_idx407_inb : ∀ (v1658 : IVec S16 32) (v1683 : IVec S16 32) (k2_hw407 : k2_chk407 v1658 v1683), ∀ a x, ((![v1658, v1683] : Fin 2 → IVec S16 32) a x).toNat < S32x2048.size a := fun v1658 v1683 k2_hw407 => k2_hw407

def k2_chk408 (v1658 : IVec S16 32) (v1687 : IVec S16 32) : Prop :=
  (∀ a x, ((![v1658, v1687] : Fin 2 → IVec S16 32) a x).toNat < S32x2048.size a)
theorem k2_idx408_inb : ∀ (v1658 : IVec S16 32) (v1687 : IVec S16 32) (k2_hw408 : k2_chk408 v1658 v1687), ∀ a x, ((![v1658, v1687] : Fin 2 → IVec S16 32) a x).toNat < S32x2048.size a := fun v1658 v1687 k2_hw408 => k2_hw408

def k2_chk409 (v1658 : IVec S16 32) (v1691 : IVec S16 32) : Prop :=
  (∀ a x, ((![v1658, v1691] : Fin 2 → IVec S16 32) a x).toNat < S32x2048.size a)
theorem k2_idx409_inb : ∀ (v1658 : IVec S16 32) (v1691 : IVec S16 32) (k2_hw409 : k2_chk409 v1658 v1691), ∀ a x, ((![v1658, v1691] : Fin 2 → IVec S16 32) a x).toNat < S32x2048.size a := fun v1658 v1691 k2_hw409 => k2_hw409

def k2_chk410 (v1658 : IVec S16 32) (v1695 : IVec S16 32) : Prop :=
  (∀ a x, ((![v1658, v1695] : Fin 2 → IVec S16 32) a x).toNat < S32x2048.size a)
theorem k2_idx410_inb : ∀ (v1658 : IVec S16 32) (v1695 : IVec S16 32) (k2_hw410 : k2_chk410 v1658 v1695), ∀ a x, ((![v1658, v1695] : Fin 2 → IVec S16 32) a x).toNat < S32x2048.size a := fun v1658 v1695 k2_hw410 => k2_hw410

def k2_chk411 (v1658 : IVec S16 32) (v1699 : IVec S16 32) : Prop :=
  (∀ a x, ((![v1658, v1699] : Fin 2 → IVec S16 32) a x).toNat < S32x2048.size a)
theorem k2_idx411_inb : ∀ (v1658 : IVec S16 32) (v1699 : IVec S16 32) (k2_hw411 : k2_chk411 v1658 v1699), ∀ a x, ((![v1658, v1699] : Fin 2 → IVec S16 32) a x).toNat < S32x2048.size a := fun v1658 v1699 k2_hw411 => k2_hw411

def k2_chk412 (v1658 : IVec S16 32) (v1703 : IVec S16 32) : Prop :=
  (∀ a x, ((![v1658, v1703] : Fin 2 → IVec S16 32) a x).toNat < S32x2048.size a)
theorem k2_idx412_inb : ∀ (v1658 : IVec S16 32) (v1703 : IVec S16 32) (k2_hw412 : k2_chk412 v1658 v1703), ∀ a x, ((![v1658, v1703] : Fin 2 → IVec S16 32) a x).toNat < S32x2048.size a := fun v1658 v1703 k2_hw412 => k2_hw412

def k2_chk413 (v1658 : IVec S16 32) (v1707 : IVec S16 32) : Prop :=
  (∀ a x, ((![v1658, v1707] : Fin 2 → IVec S16 32) a x).toNat < S32x2048.size a)
theorem k2_idx413_inb : ∀ (v1658 : IVec S16 32) (v1707 : IVec S16 32) (k2_hw413 : k2_chk413 v1658 v1707), ∀ a x, ((![v1658, v1707] : Fin 2 → IVec S16 32) a x).toNat < S32x2048.size a := fun v1658 v1707 k2_hw413 => k2_hw413

def k2_chk414 (v1658 : IVec S16 32) (v1711 : IVec S16 32) : Prop :=
  (∀ a x, ((![v1658, v1711] : Fin 2 → IVec S16 32) a x).toNat < S32x2048.size a)
theorem k2_idx414_inb : ∀ (v1658 : IVec S16 32) (v1711 : IVec S16 32) (k2_hw414 : k2_chk414 v1658 v1711), ∀ a x, ((![v1658, v1711] : Fin 2 → IVec S16 32) a x).toNat < S32x2048.size a := fun v1658 v1711 k2_hw414 => k2_hw414

def k2_chk415 (v1658 : IVec S16 32) (v1715 : IVec S16 32) : Prop :=
  (∀ a x, ((![v1658, v1715] : Fin 2 → IVec S16 32) a x).toNat < S32x2048.size a)
theorem k2_idx415_inb : ∀ (v1658 : IVec S16 32) (v1715 : IVec S16 32) (k2_hw415 : k2_chk415 v1658 v1715), ∀ a x, ((![v1658, v1715] : Fin 2 → IVec S16 32) a x).toNat < S32x2048.size a := fun v1658 v1715 k2_hw415 => k2_hw415

def k2_chk416 (v1658 : IVec S16 32) (v1719 : IVec S16 32) : Prop :=
  (∀ a x, ((![v1658, v1719] : Fin 2 → IVec S16 32) a x).toNat < S32x2048.size a)
theorem k2_idx416_inb : ∀ (v1658 : IVec S16 32) (v1719 : IVec S16 32) (k2_hw416 : k2_chk416 v1658 v1719), ∀ a x, ((![v1658, v1719] : Fin 2 → IVec S16 32) a x).toNat < S32x2048.size a := fun v1658 v1719 k2_hw416 => k2_hw416

def k2_chk417 (v1723 : IVec S16 32) (v1724 : IVec S16 32) : Prop :=
  (∀ a x, ((![v1723, v1724] : Fin 2 → IVec S16 32) a x).toNat < S32x2048.size a)
theorem k2_idx417_inb : ∀ (v1723 : IVec S16 32) (v1724 : IVec S16 32) (k2_hw417 : k2_chk417 v1723 v1724), ∀ a x, ((![v1723, v1724] : Fin 2 → IVec S16 32) a x).toNat < S32x2048.size a := fun v1723 v1724 k2_hw417 => k2_hw417

def k2_chk418 (v1723 : IVec S16 32) (v1728 : IVec S16 32) : Prop :=
  (∀ a x, ((![v1723, v1728] : Fin 2 → IVec S16 32) a x).toNat < S32x2048.size a)
theorem k2_idx418_inb : ∀ (v1723 : IVec S16 32) (v1728 : IVec S16 32) (k2_hw418 : k2_chk418 v1723 v1728), ∀ a x, ((![v1723, v1728] : Fin 2 → IVec S16 32) a x).toNat < S32x2048.size a := fun v1723 v1728 k2_hw418 => k2_hw418

def k2_chk419 (v1723 : IVec S16 32) (v1732 : IVec S16 32) : Prop :=
  (∀ a x, ((![v1723, v1732] : Fin 2 → IVec S16 32) a x).toNat < S32x2048.size a)
theorem k2_idx419_inb : ∀ (v1723 : IVec S16 32) (v1732 : IVec S16 32) (k2_hw419 : k2_chk419 v1723 v1732), ∀ a x, ((![v1723, v1732] : Fin 2 → IVec S16 32) a x).toNat < S32x2048.size a := fun v1723 v1732 k2_hw419 => k2_hw419

def k2_chk420 (v1723 : IVec S16 32) (v1736 : IVec S16 32) : Prop :=
  (∀ a x, ((![v1723, v1736] : Fin 2 → IVec S16 32) a x).toNat < S32x2048.size a)
theorem k2_idx420_inb : ∀ (v1723 : IVec S16 32) (v1736 : IVec S16 32) (k2_hw420 : k2_chk420 v1723 v1736), ∀ a x, ((![v1723, v1736] : Fin 2 → IVec S16 32) a x).toNat < S32x2048.size a := fun v1723 v1736 k2_hw420 => k2_hw420

def k2_chk421 (v1723 : IVec S16 32) (v1740 : IVec S16 32) : Prop :=
  (∀ a x, ((![v1723, v1740] : Fin 2 → IVec S16 32) a x).toNat < S32x2048.size a)
theorem k2_idx421_inb : ∀ (v1723 : IVec S16 32) (v1740 : IVec S16 32) (k2_hw421 : k2_chk421 v1723 v1740), ∀ a x, ((![v1723, v1740] : Fin 2 → IVec S16 32) a x).toNat < S32x2048.size a := fun v1723 v1740 k2_hw421 => k2_hw421

def k2_chk422 (v1723 : IVec S16 32) (v1744 : IVec S16 32) : Prop :=
  (∀ a x, ((![v1723, v1744] : Fin 2 → IVec S16 32) a x).toNat < S32x2048.size a)
theorem k2_idx422_inb : ∀ (v1723 : IVec S16 32) (v1744 : IVec S16 32) (k2_hw422 : k2_chk422 v1723 v1744), ∀ a x, ((![v1723, v1744] : Fin 2 → IVec S16 32) a x).toNat < S32x2048.size a := fun v1723 v1744 k2_hw422 => k2_hw422

def k2_chk423 (v1723 : IVec S16 32) (v1748 : IVec S16 32) : Prop :=
  (∀ a x, ((![v1723, v1748] : Fin 2 → IVec S16 32) a x).toNat < S32x2048.size a)
theorem k2_idx423_inb : ∀ (v1723 : IVec S16 32) (v1748 : IVec S16 32) (k2_hw423 : k2_chk423 v1723 v1748), ∀ a x, ((![v1723, v1748] : Fin 2 → IVec S16 32) a x).toNat < S32x2048.size a := fun v1723 v1748 k2_hw423 => k2_hw423

def k2_chk424 (v1723 : IVec S16 32) (v1752 : IVec S16 32) : Prop :=
  (∀ a x, ((![v1723, v1752] : Fin 2 → IVec S16 32) a x).toNat < S32x2048.size a)
theorem k2_idx424_inb : ∀ (v1723 : IVec S16 32) (v1752 : IVec S16 32) (k2_hw424 : k2_chk424 v1723 v1752), ∀ a x, ((![v1723, v1752] : Fin 2 → IVec S16 32) a x).toNat < S32x2048.size a := fun v1723 v1752 k2_hw424 => k2_hw424

def k2_chk425 (v1723 : IVec S16 32) (v1756 : IVec S16 32) : Prop :=
  (∀ a x, ((![v1723, v1756] : Fin 2 → IVec S16 32) a x).toNat < S32x2048.size a)
theorem k2_idx425_inb : ∀ (v1723 : IVec S16 32) (v1756 : IVec S16 32) (k2_hw425 : k2_chk425 v1723 v1756), ∀ a x, ((![v1723, v1756] : Fin 2 → IVec S16 32) a x).toNat < S32x2048.size a := fun v1723 v1756 k2_hw425 => k2_hw425

def k2_chk426 (v1723 : IVec S16 32) (v1760 : IVec S16 32) : Prop :=
  (∀ a x, ((![v1723, v1760] : Fin 2 → IVec S16 32) a x).toNat < S32x2048.size a)
theorem k2_idx426_inb : ∀ (v1723 : IVec S16 32) (v1760 : IVec S16 32) (k2_hw426 : k2_chk426 v1723 v1760), ∀ a x, ((![v1723, v1760] : Fin 2 → IVec S16 32) a x).toNat < S32x2048.size a := fun v1723 v1760 k2_hw426 => k2_hw426

def k2_chk427 (v1723 : IVec S16 32) (v1764 : IVec S16 32) : Prop :=
  (∀ a x, ((![v1723, v1764] : Fin 2 → IVec S16 32) a x).toNat < S32x2048.size a)
theorem k2_idx427_inb : ∀ (v1723 : IVec S16 32) (v1764 : IVec S16 32) (k2_hw427 : k2_chk427 v1723 v1764), ∀ a x, ((![v1723, v1764] : Fin 2 → IVec S16 32) a x).toNat < S32x2048.size a := fun v1723 v1764 k2_hw427 => k2_hw427

def k2_chk428 (v1723 : IVec S16 32) (v1768 : IVec S16 32) : Prop :=
  (∀ a x, ((![v1723, v1768] : Fin 2 → IVec S16 32) a x).toNat < S32x2048.size a)
theorem k2_idx428_inb : ∀ (v1723 : IVec S16 32) (v1768 : IVec S16 32) (k2_hw428 : k2_chk428 v1723 v1768), ∀ a x, ((![v1723, v1768] : Fin 2 → IVec S16 32) a x).toNat < S32x2048.size a := fun v1723 v1768 k2_hw428 => k2_hw428

def k2_chk429 (v1723 : IVec S16 32) (v1772 : IVec S16 32) : Prop :=
  (∀ a x, ((![v1723, v1772] : Fin 2 → IVec S16 32) a x).toNat < S32x2048.size a)
theorem k2_idx429_inb : ∀ (v1723 : IVec S16 32) (v1772 : IVec S16 32) (k2_hw429 : k2_chk429 v1723 v1772), ∀ a x, ((![v1723, v1772] : Fin 2 → IVec S16 32) a x).toNat < S32x2048.size a := fun v1723 v1772 k2_hw429 => k2_hw429

def k2_chk430 (v1723 : IVec S16 32) (v1776 : IVec S16 32) : Prop :=
  (∀ a x, ((![v1723, v1776] : Fin 2 → IVec S16 32) a x).toNat < S32x2048.size a)
theorem k2_idx430_inb : ∀ (v1723 : IVec S16 32) (v1776 : IVec S16 32) (k2_hw430 : k2_chk430 v1723 v1776), ∀ a x, ((![v1723, v1776] : Fin 2 → IVec S16 32) a x).toNat < S32x2048.size a := fun v1723 v1776 k2_hw430 => k2_hw430

def k2_chk431 (v1723 : IVec S16 32) (v1780 : IVec S16 32) : Prop :=
  (∀ a x, ((![v1723, v1780] : Fin 2 → IVec S16 32) a x).toNat < S32x2048.size a)
theorem k2_idx431_inb : ∀ (v1723 : IVec S16 32) (v1780 : IVec S16 32) (k2_hw431 : k2_chk431 v1723 v1780), ∀ a x, ((![v1723, v1780] : Fin 2 → IVec S16 32) a x).toNat < S32x2048.size a := fun v1723 v1780 k2_hw431 => k2_hw431

def k2_chk432 (v1723 : IVec S16 32) (v1784 : IVec S16 32) : Prop :=
  (∀ a x, ((![v1723, v1784] : Fin 2 → IVec S16 32) a x).toNat < S32x2048.size a)
theorem k2_idx432_inb : ∀ (v1723 : IVec S16 32) (v1784 : IVec S16 32) (k2_hw432 : k2_chk432 v1723 v1784), ∀ a x, ((![v1723, v1784] : Fin 2 → IVec S16 32) a x).toNat < S32x2048.size a := fun v1723 v1784 k2_hw432 => k2_hw432

def k2_chk433 (v1788 : IVec S16 32) (v1789 : IVec S16 32) : Prop :=
  (∀ a x, ((![v1788, v1789] : Fin 2 → IVec S16 32) a x).toNat < S32x2048.size a)
theorem k2_idx433_inb : ∀ (v1788 : IVec S16 32) (v1789 : IVec S16 32) (k2_hw433 : k2_chk433 v1788 v1789), ∀ a x, ((![v1788, v1789] : Fin 2 → IVec S16 32) a x).toNat < S32x2048.size a := fun v1788 v1789 k2_hw433 => k2_hw433

def k2_chk434 (v1788 : IVec S16 32) (v1793 : IVec S16 32) : Prop :=
  (∀ a x, ((![v1788, v1793] : Fin 2 → IVec S16 32) a x).toNat < S32x2048.size a)
theorem k2_idx434_inb : ∀ (v1788 : IVec S16 32) (v1793 : IVec S16 32) (k2_hw434 : k2_chk434 v1788 v1793), ∀ a x, ((![v1788, v1793] : Fin 2 → IVec S16 32) a x).toNat < S32x2048.size a := fun v1788 v1793 k2_hw434 => k2_hw434

def k2_chk435 (v1788 : IVec S16 32) (v1797 : IVec S16 32) : Prop :=
  (∀ a x, ((![v1788, v1797] : Fin 2 → IVec S16 32) a x).toNat < S32x2048.size a)
theorem k2_idx435_inb : ∀ (v1788 : IVec S16 32) (v1797 : IVec S16 32) (k2_hw435 : k2_chk435 v1788 v1797), ∀ a x, ((![v1788, v1797] : Fin 2 → IVec S16 32) a x).toNat < S32x2048.size a := fun v1788 v1797 k2_hw435 => k2_hw435

def k2_chk436 (v1788 : IVec S16 32) (v1801 : IVec S16 32) : Prop :=
  (∀ a x, ((![v1788, v1801] : Fin 2 → IVec S16 32) a x).toNat < S32x2048.size a)
theorem k2_idx436_inb : ∀ (v1788 : IVec S16 32) (v1801 : IVec S16 32) (k2_hw436 : k2_chk436 v1788 v1801), ∀ a x, ((![v1788, v1801] : Fin 2 → IVec S16 32) a x).toNat < S32x2048.size a := fun v1788 v1801 k2_hw436 => k2_hw436

def k2_chk437 (v1788 : IVec S16 32) (v1805 : IVec S16 32) : Prop :=
  (∀ a x, ((![v1788, v1805] : Fin 2 → IVec S16 32) a x).toNat < S32x2048.size a)
theorem k2_idx437_inb : ∀ (v1788 : IVec S16 32) (v1805 : IVec S16 32) (k2_hw437 : k2_chk437 v1788 v1805), ∀ a x, ((![v1788, v1805] : Fin 2 → IVec S16 32) a x).toNat < S32x2048.size a := fun v1788 v1805 k2_hw437 => k2_hw437

def k2_chk438 (v1788 : IVec S16 32) (v1809 : IVec S16 32) : Prop :=
  (∀ a x, ((![v1788, v1809] : Fin 2 → IVec S16 32) a x).toNat < S32x2048.size a)
theorem k2_idx438_inb : ∀ (v1788 : IVec S16 32) (v1809 : IVec S16 32) (k2_hw438 : k2_chk438 v1788 v1809), ∀ a x, ((![v1788, v1809] : Fin 2 → IVec S16 32) a x).toNat < S32x2048.size a := fun v1788 v1809 k2_hw438 => k2_hw438

def k2_chk439 (v1788 : IVec S16 32) (v1813 : IVec S16 32) : Prop :=
  (∀ a x, ((![v1788, v1813] : Fin 2 → IVec S16 32) a x).toNat < S32x2048.size a)
theorem k2_idx439_inb : ∀ (v1788 : IVec S16 32) (v1813 : IVec S16 32) (k2_hw439 : k2_chk439 v1788 v1813), ∀ a x, ((![v1788, v1813] : Fin 2 → IVec S16 32) a x).toNat < S32x2048.size a := fun v1788 v1813 k2_hw439 => k2_hw439

def k2_chk440 (v1788 : IVec S16 32) (v1817 : IVec S16 32) : Prop :=
  (∀ a x, ((![v1788, v1817] : Fin 2 → IVec S16 32) a x).toNat < S32x2048.size a)
theorem k2_idx440_inb : ∀ (v1788 : IVec S16 32) (v1817 : IVec S16 32) (k2_hw440 : k2_chk440 v1788 v1817), ∀ a x, ((![v1788, v1817] : Fin 2 → IVec S16 32) a x).toNat < S32x2048.size a := fun v1788 v1817 k2_hw440 => k2_hw440

def k2_chk441 (v1788 : IVec S16 32) (v1821 : IVec S16 32) : Prop :=
  (∀ a x, ((![v1788, v1821] : Fin 2 → IVec S16 32) a x).toNat < S32x2048.size a)
theorem k2_idx441_inb : ∀ (v1788 : IVec S16 32) (v1821 : IVec S16 32) (k2_hw441 : k2_chk441 v1788 v1821), ∀ a x, ((![v1788, v1821] : Fin 2 → IVec S16 32) a x).toNat < S32x2048.size a := fun v1788 v1821 k2_hw441 => k2_hw441

def k2_chk442 (v1788 : IVec S16 32) (v1825 : IVec S16 32) : Prop :=
  (∀ a x, ((![v1788, v1825] : Fin 2 → IVec S16 32) a x).toNat < S32x2048.size a)
theorem k2_idx442_inb : ∀ (v1788 : IVec S16 32) (v1825 : IVec S16 32) (k2_hw442 : k2_chk442 v1788 v1825), ∀ a x, ((![v1788, v1825] : Fin 2 → IVec S16 32) a x).toNat < S32x2048.size a := fun v1788 v1825 k2_hw442 => k2_hw442

def k2_chk443 (v1788 : IVec S16 32) (v1829 : IVec S16 32) : Prop :=
  (∀ a x, ((![v1788, v1829] : Fin 2 → IVec S16 32) a x).toNat < S32x2048.size a)
theorem k2_idx443_inb : ∀ (v1788 : IVec S16 32) (v1829 : IVec S16 32) (k2_hw443 : k2_chk443 v1788 v1829), ∀ a x, ((![v1788, v1829] : Fin 2 → IVec S16 32) a x).toNat < S32x2048.size a := fun v1788 v1829 k2_hw443 => k2_hw443

def k2_chk444 (v1788 : IVec S16 32) (v1833 : IVec S16 32) : Prop :=
  (∀ a x, ((![v1788, v1833] : Fin 2 → IVec S16 32) a x).toNat < S32x2048.size a)
theorem k2_idx444_inb : ∀ (v1788 : IVec S16 32) (v1833 : IVec S16 32) (k2_hw444 : k2_chk444 v1788 v1833), ∀ a x, ((![v1788, v1833] : Fin 2 → IVec S16 32) a x).toNat < S32x2048.size a := fun v1788 v1833 k2_hw444 => k2_hw444

def k2_chk445 (v1788 : IVec S16 32) (v1837 : IVec S16 32) : Prop :=
  (∀ a x, ((![v1788, v1837] : Fin 2 → IVec S16 32) a x).toNat < S32x2048.size a)
theorem k2_idx445_inb : ∀ (v1788 : IVec S16 32) (v1837 : IVec S16 32) (k2_hw445 : k2_chk445 v1788 v1837), ∀ a x, ((![v1788, v1837] : Fin 2 → IVec S16 32) a x).toNat < S32x2048.size a := fun v1788 v1837 k2_hw445 => k2_hw445

def k2_chk446 (v1788 : IVec S16 32) (v1841 : IVec S16 32) : Prop :=
  (∀ a x, ((![v1788, v1841] : Fin 2 → IVec S16 32) a x).toNat < S32x2048.size a)
theorem k2_idx446_inb : ∀ (v1788 : IVec S16 32) (v1841 : IVec S16 32) (k2_hw446 : k2_chk446 v1788 v1841), ∀ a x, ((![v1788, v1841] : Fin 2 → IVec S16 32) a x).toNat < S32x2048.size a := fun v1788 v1841 k2_hw446 => k2_hw446

def k2_chk447 (v1788 : IVec S16 32) (v1845 : IVec S16 32) : Prop :=
  (∀ a x, ((![v1788, v1845] : Fin 2 → IVec S16 32) a x).toNat < S32x2048.size a)
theorem k2_idx447_inb : ∀ (v1788 : IVec S16 32) (v1845 : IVec S16 32) (k2_hw447 : k2_chk447 v1788 v1845), ∀ a x, ((![v1788, v1845] : Fin 2 → IVec S16 32) a x).toNat < S32x2048.size a := fun v1788 v1845 k2_hw447 => k2_hw447

def k2_chk448 (v1788 : IVec S16 32) (v1849 : IVec S16 32) : Prop :=
  (∀ a x, ((![v1788, v1849] : Fin 2 → IVec S16 32) a x).toNat < S32x2048.size a)
theorem k2_idx448_inb : ∀ (v1788 : IVec S16 32) (v1849 : IVec S16 32) (k2_hw448 : k2_chk448 v1788 v1849), ∀ a x, ((![v1788, v1849] : Fin 2 → IVec S16 32) a x).toNat < S32x2048.size a := fun v1788 v1849 k2_hw448 => k2_hw448

def k2_chk449 (v1853 : IVec S16 32) (v1854 : IVec S16 32) : Prop :=
  (∀ a x, ((![v1853, v1854] : Fin 2 → IVec S16 32) a x).toNat < S32x2048.size a)
theorem k2_idx449_inb : ∀ (v1853 : IVec S16 32) (v1854 : IVec S16 32) (k2_hw449 : k2_chk449 v1853 v1854), ∀ a x, ((![v1853, v1854] : Fin 2 → IVec S16 32) a x).toNat < S32x2048.size a := fun v1853 v1854 k2_hw449 => k2_hw449

def k2_chk450 (v1853 : IVec S16 32) (v1858 : IVec S16 32) : Prop :=
  (∀ a x, ((![v1853, v1858] : Fin 2 → IVec S16 32) a x).toNat < S32x2048.size a)
theorem k2_idx450_inb : ∀ (v1853 : IVec S16 32) (v1858 : IVec S16 32) (k2_hw450 : k2_chk450 v1853 v1858), ∀ a x, ((![v1853, v1858] : Fin 2 → IVec S16 32) a x).toNat < S32x2048.size a := fun v1853 v1858 k2_hw450 => k2_hw450

def k2_chk451 (v1853 : IVec S16 32) (v1862 : IVec S16 32) : Prop :=
  (∀ a x, ((![v1853, v1862] : Fin 2 → IVec S16 32) a x).toNat < S32x2048.size a)
theorem k2_idx451_inb : ∀ (v1853 : IVec S16 32) (v1862 : IVec S16 32) (k2_hw451 : k2_chk451 v1853 v1862), ∀ a x, ((![v1853, v1862] : Fin 2 → IVec S16 32) a x).toNat < S32x2048.size a := fun v1853 v1862 k2_hw451 => k2_hw451

def k2_chk452 (v1853 : IVec S16 32) (v1866 : IVec S16 32) : Prop :=
  (∀ a x, ((![v1853, v1866] : Fin 2 → IVec S16 32) a x).toNat < S32x2048.size a)
theorem k2_idx452_inb : ∀ (v1853 : IVec S16 32) (v1866 : IVec S16 32) (k2_hw452 : k2_chk452 v1853 v1866), ∀ a x, ((![v1853, v1866] : Fin 2 → IVec S16 32) a x).toNat < S32x2048.size a := fun v1853 v1866 k2_hw452 => k2_hw452

def k2_chk453 (v1853 : IVec S16 32) (v1870 : IVec S16 32) : Prop :=
  (∀ a x, ((![v1853, v1870] : Fin 2 → IVec S16 32) a x).toNat < S32x2048.size a)
theorem k2_idx453_inb : ∀ (v1853 : IVec S16 32) (v1870 : IVec S16 32) (k2_hw453 : k2_chk453 v1853 v1870), ∀ a x, ((![v1853, v1870] : Fin 2 → IVec S16 32) a x).toNat < S32x2048.size a := fun v1853 v1870 k2_hw453 => k2_hw453

def k2_chk454 (v1853 : IVec S16 32) (v1874 : IVec S16 32) : Prop :=
  (∀ a x, ((![v1853, v1874] : Fin 2 → IVec S16 32) a x).toNat < S32x2048.size a)
theorem k2_idx454_inb : ∀ (v1853 : IVec S16 32) (v1874 : IVec S16 32) (k2_hw454 : k2_chk454 v1853 v1874), ∀ a x, ((![v1853, v1874] : Fin 2 → IVec S16 32) a x).toNat < S32x2048.size a := fun v1853 v1874 k2_hw454 => k2_hw454

def k2_chk455 (v1853 : IVec S16 32) (v1878 : IVec S16 32) : Prop :=
  (∀ a x, ((![v1853, v1878] : Fin 2 → IVec S16 32) a x).toNat < S32x2048.size a)
theorem k2_idx455_inb : ∀ (v1853 : IVec S16 32) (v1878 : IVec S16 32) (k2_hw455 : k2_chk455 v1853 v1878), ∀ a x, ((![v1853, v1878] : Fin 2 → IVec S16 32) a x).toNat < S32x2048.size a := fun v1853 v1878 k2_hw455 => k2_hw455

def k2_chk456 (v1853 : IVec S16 32) (v1882 : IVec S16 32) : Prop :=
  (∀ a x, ((![v1853, v1882] : Fin 2 → IVec S16 32) a x).toNat < S32x2048.size a)
theorem k2_idx456_inb : ∀ (v1853 : IVec S16 32) (v1882 : IVec S16 32) (k2_hw456 : k2_chk456 v1853 v1882), ∀ a x, ((![v1853, v1882] : Fin 2 → IVec S16 32) a x).toNat < S32x2048.size a := fun v1853 v1882 k2_hw456 => k2_hw456

def k2_chk457 (v1853 : IVec S16 32) (v1886 : IVec S16 32) : Prop :=
  (∀ a x, ((![v1853, v1886] : Fin 2 → IVec S16 32) a x).toNat < S32x2048.size a)
theorem k2_idx457_inb : ∀ (v1853 : IVec S16 32) (v1886 : IVec S16 32) (k2_hw457 : k2_chk457 v1853 v1886), ∀ a x, ((![v1853, v1886] : Fin 2 → IVec S16 32) a x).toNat < S32x2048.size a := fun v1853 v1886 k2_hw457 => k2_hw457

def k2_chk458 (v1853 : IVec S16 32) (v1890 : IVec S16 32) : Prop :=
  (∀ a x, ((![v1853, v1890] : Fin 2 → IVec S16 32) a x).toNat < S32x2048.size a)
theorem k2_idx458_inb : ∀ (v1853 : IVec S16 32) (v1890 : IVec S16 32) (k2_hw458 : k2_chk458 v1853 v1890), ∀ a x, ((![v1853, v1890] : Fin 2 → IVec S16 32) a x).toNat < S32x2048.size a := fun v1853 v1890 k2_hw458 => k2_hw458

def k2_chk459 (v1853 : IVec S16 32) (v1894 : IVec S16 32) : Prop :=
  (∀ a x, ((![v1853, v1894] : Fin 2 → IVec S16 32) a x).toNat < S32x2048.size a)
theorem k2_idx459_inb : ∀ (v1853 : IVec S16 32) (v1894 : IVec S16 32) (k2_hw459 : k2_chk459 v1853 v1894), ∀ a x, ((![v1853, v1894] : Fin 2 → IVec S16 32) a x).toNat < S32x2048.size a := fun v1853 v1894 k2_hw459 => k2_hw459

def k2_chk460 (v1853 : IVec S16 32) (v1898 : IVec S16 32) : Prop :=
  (∀ a x, ((![v1853, v1898] : Fin 2 → IVec S16 32) a x).toNat < S32x2048.size a)
theorem k2_idx460_inb : ∀ (v1853 : IVec S16 32) (v1898 : IVec S16 32) (k2_hw460 : k2_chk460 v1853 v1898), ∀ a x, ((![v1853, v1898] : Fin 2 → IVec S16 32) a x).toNat < S32x2048.size a := fun v1853 v1898 k2_hw460 => k2_hw460

def k2_chk461 (v1853 : IVec S16 32) (v1902 : IVec S16 32) : Prop :=
  (∀ a x, ((![v1853, v1902] : Fin 2 → IVec S16 32) a x).toNat < S32x2048.size a)
theorem k2_idx461_inb : ∀ (v1853 : IVec S16 32) (v1902 : IVec S16 32) (k2_hw461 : k2_chk461 v1853 v1902), ∀ a x, ((![v1853, v1902] : Fin 2 → IVec S16 32) a x).toNat < S32x2048.size a := fun v1853 v1902 k2_hw461 => k2_hw461

def k2_chk462 (v1853 : IVec S16 32) (v1906 : IVec S16 32) : Prop :=
  (∀ a x, ((![v1853, v1906] : Fin 2 → IVec S16 32) a x).toNat < S32x2048.size a)
theorem k2_idx462_inb : ∀ (v1853 : IVec S16 32) (v1906 : IVec S16 32) (k2_hw462 : k2_chk462 v1853 v1906), ∀ a x, ((![v1853, v1906] : Fin 2 → IVec S16 32) a x).toNat < S32x2048.size a := fun v1853 v1906 k2_hw462 => k2_hw462

def k2_chk463 (v1853 : IVec S16 32) (v1910 : IVec S16 32) : Prop :=
  (∀ a x, ((![v1853, v1910] : Fin 2 → IVec S16 32) a x).toNat < S32x2048.size a)
theorem k2_idx463_inb : ∀ (v1853 : IVec S16 32) (v1910 : IVec S16 32) (k2_hw463 : k2_chk463 v1853 v1910), ∀ a x, ((![v1853, v1910] : Fin 2 → IVec S16 32) a x).toNat < S32x2048.size a := fun v1853 v1910 k2_hw463 => k2_hw463

def k2_chk464 (v1853 : IVec S16 32) (v1914 : IVec S16 32) : Prop :=
  (∀ a x, ((![v1853, v1914] : Fin 2 → IVec S16 32) a x).toNat < S32x2048.size a)
theorem k2_idx464_inb : ∀ (v1853 : IVec S16 32) (v1914 : IVec S16 32) (k2_hw464 : k2_chk464 v1853 v1914), ∀ a x, ((![v1853, v1914] : Fin 2 → IVec S16 32) a x).toNat < S32x2048.size a := fun v1853 v1914 k2_hw464 => k2_hw464

def k2_chk465 (v1918 : IVec S16 32) (v1919 : IVec S16 32) : Prop :=
  (∀ a x, ((![v1918, v1919] : Fin 2 → IVec S16 32) a x).toNat < S32x2048.size a)
theorem k2_idx465_inb : ∀ (v1918 : IVec S16 32) (v1919 : IVec S16 32) (k2_hw465 : k2_chk465 v1918 v1919), ∀ a x, ((![v1918, v1919] : Fin 2 → IVec S16 32) a x).toNat < S32x2048.size a := fun v1918 v1919 k2_hw465 => k2_hw465

def k2_chk466 (v1918 : IVec S16 32) (v1923 : IVec S16 32) : Prop :=
  (∀ a x, ((![v1918, v1923] : Fin 2 → IVec S16 32) a x).toNat < S32x2048.size a)
theorem k2_idx466_inb : ∀ (v1918 : IVec S16 32) (v1923 : IVec S16 32) (k2_hw466 : k2_chk466 v1918 v1923), ∀ a x, ((![v1918, v1923] : Fin 2 → IVec S16 32) a x).toNat < S32x2048.size a := fun v1918 v1923 k2_hw466 => k2_hw466

def k2_chk467 (v1918 : IVec S16 32) (v1927 : IVec S16 32) : Prop :=
  (∀ a x, ((![v1918, v1927] : Fin 2 → IVec S16 32) a x).toNat < S32x2048.size a)
theorem k2_idx467_inb : ∀ (v1918 : IVec S16 32) (v1927 : IVec S16 32) (k2_hw467 : k2_chk467 v1918 v1927), ∀ a x, ((![v1918, v1927] : Fin 2 → IVec S16 32) a x).toNat < S32x2048.size a := fun v1918 v1927 k2_hw467 => k2_hw467

def k2_chk468 (v1918 : IVec S16 32) (v1931 : IVec S16 32) : Prop :=
  (∀ a x, ((![v1918, v1931] : Fin 2 → IVec S16 32) a x).toNat < S32x2048.size a)
theorem k2_idx468_inb : ∀ (v1918 : IVec S16 32) (v1931 : IVec S16 32) (k2_hw468 : k2_chk468 v1918 v1931), ∀ a x, ((![v1918, v1931] : Fin 2 → IVec S16 32) a x).toNat < S32x2048.size a := fun v1918 v1931 k2_hw468 => k2_hw468

def k2_chk469 (v1918 : IVec S16 32) (v1935 : IVec S16 32) : Prop :=
  (∀ a x, ((![v1918, v1935] : Fin 2 → IVec S16 32) a x).toNat < S32x2048.size a)
theorem k2_idx469_inb : ∀ (v1918 : IVec S16 32) (v1935 : IVec S16 32) (k2_hw469 : k2_chk469 v1918 v1935), ∀ a x, ((![v1918, v1935] : Fin 2 → IVec S16 32) a x).toNat < S32x2048.size a := fun v1918 v1935 k2_hw469 => k2_hw469

def k2_chk470 (v1918 : IVec S16 32) (v1939 : IVec S16 32) : Prop :=
  (∀ a x, ((![v1918, v1939] : Fin 2 → IVec S16 32) a x).toNat < S32x2048.size a)
theorem k2_idx470_inb : ∀ (v1918 : IVec S16 32) (v1939 : IVec S16 32) (k2_hw470 : k2_chk470 v1918 v1939), ∀ a x, ((![v1918, v1939] : Fin 2 → IVec S16 32) a x).toNat < S32x2048.size a := fun v1918 v1939 k2_hw470 => k2_hw470

def k2_chk471 (v1918 : IVec S16 32) (v1943 : IVec S16 32) : Prop :=
  (∀ a x, ((![v1918, v1943] : Fin 2 → IVec S16 32) a x).toNat < S32x2048.size a)
theorem k2_idx471_inb : ∀ (v1918 : IVec S16 32) (v1943 : IVec S16 32) (k2_hw471 : k2_chk471 v1918 v1943), ∀ a x, ((![v1918, v1943] : Fin 2 → IVec S16 32) a x).toNat < S32x2048.size a := fun v1918 v1943 k2_hw471 => k2_hw471

def k2_chk472 (v1918 : IVec S16 32) (v1947 : IVec S16 32) : Prop :=
  (∀ a x, ((![v1918, v1947] : Fin 2 → IVec S16 32) a x).toNat < S32x2048.size a)
theorem k2_idx472_inb : ∀ (v1918 : IVec S16 32) (v1947 : IVec S16 32) (k2_hw472 : k2_chk472 v1918 v1947), ∀ a x, ((![v1918, v1947] : Fin 2 → IVec S16 32) a x).toNat < S32x2048.size a := fun v1918 v1947 k2_hw472 => k2_hw472

def k2_chk473 (v1918 : IVec S16 32) (v1951 : IVec S16 32) : Prop :=
  (∀ a x, ((![v1918, v1951] : Fin 2 → IVec S16 32) a x).toNat < S32x2048.size a)
theorem k2_idx473_inb : ∀ (v1918 : IVec S16 32) (v1951 : IVec S16 32) (k2_hw473 : k2_chk473 v1918 v1951), ∀ a x, ((![v1918, v1951] : Fin 2 → IVec S16 32) a x).toNat < S32x2048.size a := fun v1918 v1951 k2_hw473 => k2_hw473

def k2_chk474 (v1918 : IVec S16 32) (v1955 : IVec S16 32) : Prop :=
  (∀ a x, ((![v1918, v1955] : Fin 2 → IVec S16 32) a x).toNat < S32x2048.size a)
theorem k2_idx474_inb : ∀ (v1918 : IVec S16 32) (v1955 : IVec S16 32) (k2_hw474 : k2_chk474 v1918 v1955), ∀ a x, ((![v1918, v1955] : Fin 2 → IVec S16 32) a x).toNat < S32x2048.size a := fun v1918 v1955 k2_hw474 => k2_hw474

def k2_chk475 (v1918 : IVec S16 32) (v1959 : IVec S16 32) : Prop :=
  (∀ a x, ((![v1918, v1959] : Fin 2 → IVec S16 32) a x).toNat < S32x2048.size a)
theorem k2_idx475_inb : ∀ (v1918 : IVec S16 32) (v1959 : IVec S16 32) (k2_hw475 : k2_chk475 v1918 v1959), ∀ a x, ((![v1918, v1959] : Fin 2 → IVec S16 32) a x).toNat < S32x2048.size a := fun v1918 v1959 k2_hw475 => k2_hw475

def k2_chk476 (v1918 : IVec S16 32) (v1963 : IVec S16 32) : Prop :=
  (∀ a x, ((![v1918, v1963] : Fin 2 → IVec S16 32) a x).toNat < S32x2048.size a)
theorem k2_idx476_inb : ∀ (v1918 : IVec S16 32) (v1963 : IVec S16 32) (k2_hw476 : k2_chk476 v1918 v1963), ∀ a x, ((![v1918, v1963] : Fin 2 → IVec S16 32) a x).toNat < S32x2048.size a := fun v1918 v1963 k2_hw476 => k2_hw476

def k2_chk477 (v1918 : IVec S16 32) (v1967 : IVec S16 32) : Prop :=
  (∀ a x, ((![v1918, v1967] : Fin 2 → IVec S16 32) a x).toNat < S32x2048.size a)
theorem k2_idx477_inb : ∀ (v1918 : IVec S16 32) (v1967 : IVec S16 32) (k2_hw477 : k2_chk477 v1918 v1967), ∀ a x, ((![v1918, v1967] : Fin 2 → IVec S16 32) a x).toNat < S32x2048.size a := fun v1918 v1967 k2_hw477 => k2_hw477

def k2_chk478 (v1918 : IVec S16 32) (v1971 : IVec S16 32) : Prop :=
  (∀ a x, ((![v1918, v1971] : Fin 2 → IVec S16 32) a x).toNat < S32x2048.size a)
theorem k2_idx478_inb : ∀ (v1918 : IVec S16 32) (v1971 : IVec S16 32) (k2_hw478 : k2_chk478 v1918 v1971), ∀ a x, ((![v1918, v1971] : Fin 2 → IVec S16 32) a x).toNat < S32x2048.size a := fun v1918 v1971 k2_hw478 => k2_hw478

def k2_chk479 (v1918 : IVec S16 32) (v1975 : IVec S16 32) : Prop :=
  (∀ a x, ((![v1918, v1975] : Fin 2 → IVec S16 32) a x).toNat < S32x2048.size a)
theorem k2_idx479_inb : ∀ (v1918 : IVec S16 32) (v1975 : IVec S16 32) (k2_hw479 : k2_chk479 v1918 v1975), ∀ a x, ((![v1918, v1975] : Fin 2 → IVec S16 32) a x).toNat < S32x2048.size a := fun v1918 v1975 k2_hw479 => k2_hw479

def k2_chk480 (v1918 : IVec S16 32) (v1979 : IVec S16 32) : Prop :=
  (∀ a x, ((![v1918, v1979] : Fin 2 → IVec S16 32) a x).toNat < S32x2048.size a)
theorem k2_idx480_inb : ∀ (v1918 : IVec S16 32) (v1979 : IVec S16 32) (k2_hw480 : k2_chk480 v1918 v1979), ∀ a x, ((![v1918, v1979] : Fin 2 → IVec S16 32) a x).toNat < S32x2048.size a := fun v1918 v1979 k2_hw480 => k2_hw480

def k2_chk481 (v1983 : IVec S16 32) (v1984 : IVec S16 32) : Prop :=
  (∀ a x, ((![v1983, v1984] : Fin 2 → IVec S16 32) a x).toNat < S32x2048.size a)
theorem k2_idx481_inb : ∀ (v1983 : IVec S16 32) (v1984 : IVec S16 32) (k2_hw481 : k2_chk481 v1983 v1984), ∀ a x, ((![v1983, v1984] : Fin 2 → IVec S16 32) a x).toNat < S32x2048.size a := fun v1983 v1984 k2_hw481 => k2_hw481

def k2_chk482 (v1983 : IVec S16 32) (v1988 : IVec S16 32) : Prop :=
  (∀ a x, ((![v1983, v1988] : Fin 2 → IVec S16 32) a x).toNat < S32x2048.size a)
theorem k2_idx482_inb : ∀ (v1983 : IVec S16 32) (v1988 : IVec S16 32) (k2_hw482 : k2_chk482 v1983 v1988), ∀ a x, ((![v1983, v1988] : Fin 2 → IVec S16 32) a x).toNat < S32x2048.size a := fun v1983 v1988 k2_hw482 => k2_hw482

def k2_chk483 (v1983 : IVec S16 32) (v1992 : IVec S16 32) : Prop :=
  (∀ a x, ((![v1983, v1992] : Fin 2 → IVec S16 32) a x).toNat < S32x2048.size a)
theorem k2_idx483_inb : ∀ (v1983 : IVec S16 32) (v1992 : IVec S16 32) (k2_hw483 : k2_chk483 v1983 v1992), ∀ a x, ((![v1983, v1992] : Fin 2 → IVec S16 32) a x).toNat < S32x2048.size a := fun v1983 v1992 k2_hw483 => k2_hw483

def k2_chk484 (v1983 : IVec S16 32) (v1996 : IVec S16 32) : Prop :=
  (∀ a x, ((![v1983, v1996] : Fin 2 → IVec S16 32) a x).toNat < S32x2048.size a)
theorem k2_idx484_inb : ∀ (v1983 : IVec S16 32) (v1996 : IVec S16 32) (k2_hw484 : k2_chk484 v1983 v1996), ∀ a x, ((![v1983, v1996] : Fin 2 → IVec S16 32) a x).toNat < S32x2048.size a := fun v1983 v1996 k2_hw484 => k2_hw484

def k2_chk485 (v1983 : IVec S16 32) (v2000 : IVec S16 32) : Prop :=
  (∀ a x, ((![v1983, v2000] : Fin 2 → IVec S16 32) a x).toNat < S32x2048.size a)
theorem k2_idx485_inb : ∀ (v1983 : IVec S16 32) (v2000 : IVec S16 32) (k2_hw485 : k2_chk485 v1983 v2000), ∀ a x, ((![v1983, v2000] : Fin 2 → IVec S16 32) a x).toNat < S32x2048.size a := fun v1983 v2000 k2_hw485 => k2_hw485

def k2_chk486 (v1983 : IVec S16 32) (v2004 : IVec S16 32) : Prop :=
  (∀ a x, ((![v1983, v2004] : Fin 2 → IVec S16 32) a x).toNat < S32x2048.size a)
theorem k2_idx486_inb : ∀ (v1983 : IVec S16 32) (v2004 : IVec S16 32) (k2_hw486 : k2_chk486 v1983 v2004), ∀ a x, ((![v1983, v2004] : Fin 2 → IVec S16 32) a x).toNat < S32x2048.size a := fun v1983 v2004 k2_hw486 => k2_hw486

def k2_chk487 (v1983 : IVec S16 32) (v2008 : IVec S16 32) : Prop :=
  (∀ a x, ((![v1983, v2008] : Fin 2 → IVec S16 32) a x).toNat < S32x2048.size a)
theorem k2_idx487_inb : ∀ (v1983 : IVec S16 32) (v2008 : IVec S16 32) (k2_hw487 : k2_chk487 v1983 v2008), ∀ a x, ((![v1983, v2008] : Fin 2 → IVec S16 32) a x).toNat < S32x2048.size a := fun v1983 v2008 k2_hw487 => k2_hw487

def k2_chk488 (v1983 : IVec S16 32) (v2012 : IVec S16 32) : Prop :=
  (∀ a x, ((![v1983, v2012] : Fin 2 → IVec S16 32) a x).toNat < S32x2048.size a)
theorem k2_idx488_inb : ∀ (v1983 : IVec S16 32) (v2012 : IVec S16 32) (k2_hw488 : k2_chk488 v1983 v2012), ∀ a x, ((![v1983, v2012] : Fin 2 → IVec S16 32) a x).toNat < S32x2048.size a := fun v1983 v2012 k2_hw488 => k2_hw488

def k2_chk489 (v1983 : IVec S16 32) (v2016 : IVec S16 32) : Prop :=
  (∀ a x, ((![v1983, v2016] : Fin 2 → IVec S16 32) a x).toNat < S32x2048.size a)
theorem k2_idx489_inb : ∀ (v1983 : IVec S16 32) (v2016 : IVec S16 32) (k2_hw489 : k2_chk489 v1983 v2016), ∀ a x, ((![v1983, v2016] : Fin 2 → IVec S16 32) a x).toNat < S32x2048.size a := fun v1983 v2016 k2_hw489 => k2_hw489

def k2_chk490 (v1983 : IVec S16 32) (v2020 : IVec S16 32) : Prop :=
  (∀ a x, ((![v1983, v2020] : Fin 2 → IVec S16 32) a x).toNat < S32x2048.size a)
theorem k2_idx490_inb : ∀ (v1983 : IVec S16 32) (v2020 : IVec S16 32) (k2_hw490 : k2_chk490 v1983 v2020), ∀ a x, ((![v1983, v2020] : Fin 2 → IVec S16 32) a x).toNat < S32x2048.size a := fun v1983 v2020 k2_hw490 => k2_hw490

def k2_chk491 (v1983 : IVec S16 32) (v2024 : IVec S16 32) : Prop :=
  (∀ a x, ((![v1983, v2024] : Fin 2 → IVec S16 32) a x).toNat < S32x2048.size a)
theorem k2_idx491_inb : ∀ (v1983 : IVec S16 32) (v2024 : IVec S16 32) (k2_hw491 : k2_chk491 v1983 v2024), ∀ a x, ((![v1983, v2024] : Fin 2 → IVec S16 32) a x).toNat < S32x2048.size a := fun v1983 v2024 k2_hw491 => k2_hw491

def k2_chk492 (v1983 : IVec S16 32) (v2028 : IVec S16 32) : Prop :=
  (∀ a x, ((![v1983, v2028] : Fin 2 → IVec S16 32) a x).toNat < S32x2048.size a)
theorem k2_idx492_inb : ∀ (v1983 : IVec S16 32) (v2028 : IVec S16 32) (k2_hw492 : k2_chk492 v1983 v2028), ∀ a x, ((![v1983, v2028] : Fin 2 → IVec S16 32) a x).toNat < S32x2048.size a := fun v1983 v2028 k2_hw492 => k2_hw492

def k2_chk493 (v1983 : IVec S16 32) (v2032 : IVec S16 32) : Prop :=
  (∀ a x, ((![v1983, v2032] : Fin 2 → IVec S16 32) a x).toNat < S32x2048.size a)
theorem k2_idx493_inb : ∀ (v1983 : IVec S16 32) (v2032 : IVec S16 32) (k2_hw493 : k2_chk493 v1983 v2032), ∀ a x, ((![v1983, v2032] : Fin 2 → IVec S16 32) a x).toNat < S32x2048.size a := fun v1983 v2032 k2_hw493 => k2_hw493

def k2_chk494 (v1983 : IVec S16 32) (v2036 : IVec S16 32) : Prop :=
  (∀ a x, ((![v1983, v2036] : Fin 2 → IVec S16 32) a x).toNat < S32x2048.size a)
theorem k2_idx494_inb : ∀ (v1983 : IVec S16 32) (v2036 : IVec S16 32) (k2_hw494 : k2_chk494 v1983 v2036), ∀ a x, ((![v1983, v2036] : Fin 2 → IVec S16 32) a x).toNat < S32x2048.size a := fun v1983 v2036 k2_hw494 => k2_hw494

def k2_chk495 (v1983 : IVec S16 32) (v2040 : IVec S16 32) : Prop :=
  (∀ a x, ((![v1983, v2040] : Fin 2 → IVec S16 32) a x).toNat < S32x2048.size a)
theorem k2_idx495_inb : ∀ (v1983 : IVec S16 32) (v2040 : IVec S16 32) (k2_hw495 : k2_chk495 v1983 v2040), ∀ a x, ((![v1983, v2040] : Fin 2 → IVec S16 32) a x).toNat < S32x2048.size a := fun v1983 v2040 k2_hw495 => k2_hw495

def k2_chk496 (v1983 : IVec S16 32) (v2044 : IVec S16 32) : Prop :=
  (∀ a x, ((![v1983, v2044] : Fin 2 → IVec S16 32) a x).toNat < S32x2048.size a)
theorem k2_idx496_inb : ∀ (v1983 : IVec S16 32) (v2044 : IVec S16 32) (k2_hw496 : k2_chk496 v1983 v2044), ∀ a x, ((![v1983, v2044] : Fin 2 → IVec S16 32) a x).toNat < S32x2048.size a := fun v1983 v2044 k2_hw496 => k2_hw496

def k2_chk497 (v2048 : IVec S16 32) (v2049 : IVec S16 32) : Prop :=
  (∀ a x, ((![v2048, v2049] : Fin 2 → IVec S16 32) a x).toNat < S32x2048.size a)
theorem k2_idx497_inb : ∀ (v2048 : IVec S16 32) (v2049 : IVec S16 32) (k2_hw497 : k2_chk497 v2048 v2049), ∀ a x, ((![v2048, v2049] : Fin 2 → IVec S16 32) a x).toNat < S32x2048.size a := fun v2048 v2049 k2_hw497 => k2_hw497

def k2_chk498 (v2048 : IVec S16 32) (v2053 : IVec S16 32) : Prop :=
  (∀ a x, ((![v2048, v2053] : Fin 2 → IVec S16 32) a x).toNat < S32x2048.size a)
theorem k2_idx498_inb : ∀ (v2048 : IVec S16 32) (v2053 : IVec S16 32) (k2_hw498 : k2_chk498 v2048 v2053), ∀ a x, ((![v2048, v2053] : Fin 2 → IVec S16 32) a x).toNat < S32x2048.size a := fun v2048 v2053 k2_hw498 => k2_hw498

def k2_chk499 (v2048 : IVec S16 32) (v2057 : IVec S16 32) : Prop :=
  (∀ a x, ((![v2048, v2057] : Fin 2 → IVec S16 32) a x).toNat < S32x2048.size a)
theorem k2_idx499_inb : ∀ (v2048 : IVec S16 32) (v2057 : IVec S16 32) (k2_hw499 : k2_chk499 v2048 v2057), ∀ a x, ((![v2048, v2057] : Fin 2 → IVec S16 32) a x).toNat < S32x2048.size a := fun v2048 v2057 k2_hw499 => k2_hw499

def k2_chk500 (v2048 : IVec S16 32) (v2061 : IVec S16 32) : Prop :=
  (∀ a x, ((![v2048, v2061] : Fin 2 → IVec S16 32) a x).toNat < S32x2048.size a)
theorem k2_idx500_inb : ∀ (v2048 : IVec S16 32) (v2061 : IVec S16 32) (k2_hw500 : k2_chk500 v2048 v2061), ∀ a x, ((![v2048, v2061] : Fin 2 → IVec S16 32) a x).toNat < S32x2048.size a := fun v2048 v2061 k2_hw500 => k2_hw500

def k2_chk501 (v2048 : IVec S16 32) (v2065 : IVec S16 32) : Prop :=
  (∀ a x, ((![v2048, v2065] : Fin 2 → IVec S16 32) a x).toNat < S32x2048.size a)
theorem k2_idx501_inb : ∀ (v2048 : IVec S16 32) (v2065 : IVec S16 32) (k2_hw501 : k2_chk501 v2048 v2065), ∀ a x, ((![v2048, v2065] : Fin 2 → IVec S16 32) a x).toNat < S32x2048.size a := fun v2048 v2065 k2_hw501 => k2_hw501

def k2_chk502 (v2048 : IVec S16 32) (v2069 : IVec S16 32) : Prop :=
  (∀ a x, ((![v2048, v2069] : Fin 2 → IVec S16 32) a x).toNat < S32x2048.size a)
theorem k2_idx502_inb : ∀ (v2048 : IVec S16 32) (v2069 : IVec S16 32) (k2_hw502 : k2_chk502 v2048 v2069), ∀ a x, ((![v2048, v2069] : Fin 2 → IVec S16 32) a x).toNat < S32x2048.size a := fun v2048 v2069 k2_hw502 => k2_hw502

def k2_chk503 (v2048 : IVec S16 32) (v2073 : IVec S16 32) : Prop :=
  (∀ a x, ((![v2048, v2073] : Fin 2 → IVec S16 32) a x).toNat < S32x2048.size a)
theorem k2_idx503_inb : ∀ (v2048 : IVec S16 32) (v2073 : IVec S16 32) (k2_hw503 : k2_chk503 v2048 v2073), ∀ a x, ((![v2048, v2073] : Fin 2 → IVec S16 32) a x).toNat < S32x2048.size a := fun v2048 v2073 k2_hw503 => k2_hw503

def k2_chk504 (v2048 : IVec S16 32) (v2077 : IVec S16 32) : Prop :=
  (∀ a x, ((![v2048, v2077] : Fin 2 → IVec S16 32) a x).toNat < S32x2048.size a)
theorem k2_idx504_inb : ∀ (v2048 : IVec S16 32) (v2077 : IVec S16 32) (k2_hw504 : k2_chk504 v2048 v2077), ∀ a x, ((![v2048, v2077] : Fin 2 → IVec S16 32) a x).toNat < S32x2048.size a := fun v2048 v2077 k2_hw504 => k2_hw504

def k2_chk505 (v2048 : IVec S16 32) (v2081 : IVec S16 32) : Prop :=
  (∀ a x, ((![v2048, v2081] : Fin 2 → IVec S16 32) a x).toNat < S32x2048.size a)
theorem k2_idx505_inb : ∀ (v2048 : IVec S16 32) (v2081 : IVec S16 32) (k2_hw505 : k2_chk505 v2048 v2081), ∀ a x, ((![v2048, v2081] : Fin 2 → IVec S16 32) a x).toNat < S32x2048.size a := fun v2048 v2081 k2_hw505 => k2_hw505

def k2_chk506 (v2048 : IVec S16 32) (v2085 : IVec S16 32) : Prop :=
  (∀ a x, ((![v2048, v2085] : Fin 2 → IVec S16 32) a x).toNat < S32x2048.size a)
theorem k2_idx506_inb : ∀ (v2048 : IVec S16 32) (v2085 : IVec S16 32) (k2_hw506 : k2_chk506 v2048 v2085), ∀ a x, ((![v2048, v2085] : Fin 2 → IVec S16 32) a x).toNat < S32x2048.size a := fun v2048 v2085 k2_hw506 => k2_hw506

def k2_chk507 (v2048 : IVec S16 32) (v2089 : IVec S16 32) : Prop :=
  (∀ a x, ((![v2048, v2089] : Fin 2 → IVec S16 32) a x).toNat < S32x2048.size a)
theorem k2_idx507_inb : ∀ (v2048 : IVec S16 32) (v2089 : IVec S16 32) (k2_hw507 : k2_chk507 v2048 v2089), ∀ a x, ((![v2048, v2089] : Fin 2 → IVec S16 32) a x).toNat < S32x2048.size a := fun v2048 v2089 k2_hw507 => k2_hw507

def k2_chk508 (v2048 : IVec S16 32) (v2093 : IVec S16 32) : Prop :=
  (∀ a x, ((![v2048, v2093] : Fin 2 → IVec S16 32) a x).toNat < S32x2048.size a)
theorem k2_idx508_inb : ∀ (v2048 : IVec S16 32) (v2093 : IVec S16 32) (k2_hw508 : k2_chk508 v2048 v2093), ∀ a x, ((![v2048, v2093] : Fin 2 → IVec S16 32) a x).toNat < S32x2048.size a := fun v2048 v2093 k2_hw508 => k2_hw508

def k2_chk509 (v2048 : IVec S16 32) (v2097 : IVec S16 32) : Prop :=
  (∀ a x, ((![v2048, v2097] : Fin 2 → IVec S16 32) a x).toNat < S32x2048.size a)
theorem k2_idx509_inb : ∀ (v2048 : IVec S16 32) (v2097 : IVec S16 32) (k2_hw509 : k2_chk509 v2048 v2097), ∀ a x, ((![v2048, v2097] : Fin 2 → IVec S16 32) a x).toNat < S32x2048.size a := fun v2048 v2097 k2_hw509 => k2_hw509

def k2_chk510 (v2048 : IVec S16 32) (v2101 : IVec S16 32) : Prop :=
  (∀ a x, ((![v2048, v2101] : Fin 2 → IVec S16 32) a x).toNat < S32x2048.size a)
theorem k2_idx510_inb : ∀ (v2048 : IVec S16 32) (v2101 : IVec S16 32) (k2_hw510 : k2_chk510 v2048 v2101), ∀ a x, ((![v2048, v2101] : Fin 2 → IVec S16 32) a x).toNat < S32x2048.size a := fun v2048 v2101 k2_hw510 => k2_hw510

def k2_chk511 (v2048 : IVec S16 32) (v2105 : IVec S16 32) : Prop :=
  (∀ a x, ((![v2048, v2105] : Fin 2 → IVec S16 32) a x).toNat < S32x2048.size a)
theorem k2_idx511_inb : ∀ (v2048 : IVec S16 32) (v2105 : IVec S16 32) (k2_hw511 : k2_chk511 v2048 v2105), ∀ a x, ((![v2048, v2105] : Fin 2 → IVec S16 32) a x).toNat < S32x2048.size a := fun v2048 v2105 k2_hw511 => k2_hw511

def k2_chk512 (v2048 : IVec S16 32) (v2109 : IVec S16 32) : Prop :=
  (∀ a x, ((![v2048, v2109] : Fin 2 → IVec S16 32) a x).toNat < S32x2048.size a)
theorem k2_idx512_inb : ∀ (v2048 : IVec S16 32) (v2109 : IVec S16 32) (k2_hw512 : k2_chk512 v2048 v2109), ∀ a x, ((![v2048, v2109] : Fin 2 → IVec S16 32) a x).toNat < S32x2048.size a := fun v2048 v2109 k2_hw512 => k2_hw512
def k2_off3 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c32_i32 : BitVec 32 := 32#32
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let v2 : BitVec 32 := Scalar.divsi v1 c32_i32
  let c1_i32 : BitVec 32 := 1#32
  let v17 : BitVec 32 := Scalar.subi v2 c1_i32
  let v18 : BitVec 32 := Scalar.select v16 v17 v2
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c32_i32_10 : BitVec 32 := 32#32
  let v30 : BitVec 32 := Scalar.muli v29 c32_i32_10
  let c0_i32_12 : BitVec 32 := 0#32
  let c32_i32_13 : BitVec 32 := 32#32
  let v31 : BitVec 32 := Scalar.muli c0_i32_12 c32_i32_13
  let v32 : BitVec 32 := Scalar.addi v30 v31
  let c0_i32_1539_r2 : BitVec 32 := 0#32
  ![v18.toNat, v32.toNat, 0]
abbrev grid3 : Pipeline.Grid := ⟨1, ![3], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F]
-- ==== ReferenceIdeal.lean ====
abbrev S4x1024x2048 : Shape := ⟨3, ![4, 1024, 2048]⟩
abbrev S4x2048x2048 : Shape := ⟨3, ![4, 2048, 2048]⟩
abbrev S_ : Shape := ⟨0, ![]⟩
abbrev S4x2048 : Shape := ⟨2, ![4, 2048]⟩
abbrev S4x256 : Shape := ⟨2, ![4, 256]⟩
abbrev S4x1x256 : Shape := ⟨3, ![4, 1, 256]⟩
abbrev S4x256x1 : Shape := ⟨3, ![4, 256, 1]⟩
abbrev S1 : Shape := ⟨1, ![1]⟩
abbrev S1x1x1 : Shape := ⟨3, ![1, 1, 1]⟩
abbrev S4x1024x256 : Shape := ⟨3, ![4, 1024, 256]⟩

abbrev nBuf : Space → Nat
  | .hbm => 33
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x2048x2048, .f32⟩
  | .hbm, ⟨2, _⟩ => ⟨S_, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S4x256, .f32⟩
  | .hbm, ⟨8, _⟩ => ⟨S4x256, .i32⟩
  | .hbm, ⟨9, _⟩ => ⟨S4x1x256, .i32⟩
  | .hbm, ⟨10, _⟩ => ⟨S_, .i32⟩
  | .hbm, ⟨11, _⟩ => ⟨S4x1x256, .i32⟩
  | .hbm, ⟨12, _⟩ => ⟨S4x1x256, .i1⟩
  | .hbm, ⟨13, _⟩ => ⟨S_, .i32⟩
  | .hbm, ⟨14, _⟩ => ⟨S4x1x256, .i32⟩
  | .hbm, ⟨15, _⟩ => ⟨S4x1x256, .i32⟩
  | .hbm, ⟨16, _⟩ => ⟨S4x1x256, .i32⟩
  | .hbm, ⟨17, _⟩ => ⟨S4x256x1, .i32⟩
  | .hbm, ⟨18, _⟩ => ⟨S1, .i32⟩
  | .hbm, ⟨19, _⟩ => ⟨S_, .i32⟩
  | .hbm, ⟨20, _⟩ => ⟨S4x256x1, .i32⟩
  | .hbm, ⟨21, _⟩ => ⟨S4x256x1, .i1⟩
  | .hbm, ⟨22, _⟩ => ⟨S1x1x1, .i32⟩
  | .hbm, ⟨23, _⟩ => ⟨S4x256x1, .i32⟩
  | .hbm, ⟨24, _⟩ => ⟨S4x256x1, .i1⟩
  | .hbm, ⟨25, _⟩ => ⟨S4x256x1, .i1⟩
  | .hbm, ⟨26, _⟩ => ⟨S_, .i1⟩
  | .hbm, ⟨27, _⟩ => ⟨S4x256, .i1⟩
  | .hbm, ⟨28, _⟩ => ⟨S4x1024x256, .f32⟩
  | .hbm, ⟨29, _⟩ => ⟨S4x1024x256, .i1⟩
  | .hbm, ⟨30, _⟩ => ⟨S_, .f32⟩
  | .hbm, ⟨31, _⟩ => ⟨S4x1024x256, .f32⟩
  | .hbm, ⟨32, _⟩ => ⟨S4x1024x256, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩

abbrev nD : Nat := 1
abbrev τ : Topo := Topo.v7x

variable {F : FTy → Type} [FloatOps F]
-- ==== Proof.KI.Setup.lean ====
/-
  The program as the launch theorem of the SparseCore library sees it: its labels, its body table, the fixed facts about
  its handshake semaphores, the ghost state of the certificate (the handshakes' rounds, the rounds of the
  TensorCore calls' staging transfers, the counters of the local copies), and names for the arrays and the scratch buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [FloatOps F] : (K (F := F)).nSub 0 = 16 := rfl
theorem nCore_zero [FloatOps F] : (K (F := F)).nCore 0 = 2 := rfl

theorem scFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, the staging transfers' rounds, the copies' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

abbrev xLoc (d : Dev nD) : Loc nD τ sig := (SparseCore.T d).loc main_arg0
/-- `w`, its means over the second axis, the means without the axis of one, and their ranking: the positions of the first entries. -/
abbrev wLoc (d : Dev nD) : Loc nD τ sig := (SparseCore.T d).loc main_arg1
abbrev uLoc (d : Dev nD) : Loc nD τ sig := (SparseCore.T d).loc main_v0
abbrev vLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3
/-- The indices with an axis of one, the TensorCore call's result, the joined result. -/
abbrev kLoc (d : Dev nD) : Loc nD τ sig := (SparseCore.T d).loc main_v4
abbrev tLoc (d : Dev nD) : Loc nD τ sig := (SparseCore.T d).loc main_v5
abbrev rLoc (d : Dev nD) : Loc nD τ sig := (SparseCore.T d).loc main_v6

end Cert.Proof.KI

end
-- ==== Proof.KI.Step.lean ====
/-
  One tile's gather, operation by operation. `T n p` says: from the three scratch buffers — the index row, the rows of `x`
  and the output rows, whose first `n` elements in row-major order already hold what they must — the program `p` runs to
  the postcondition. Each operation of the tile's body steps this predicate; a store of sixteen gathered elements raises
  `n` by sixteen.
-/
module

public import proofs.«01_k».proof.Proof.KI.Setup
public import Idealize.ShloMosaic.Lib.ValueIdxCore
public import Idealize.ShloMosaic.Lib.ValueLayout

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

abbrev sI : Memref sig .scVector .vmem S256 .i32 := Memref.whole cc2_scratch0
abbrev sX : Memref sig .scVector .vmem S32x2048 .f32 := Memref.whole cc2_scratch1
abbrev sO : Memref sig .scVector .vmem S32x256 .f32 := Memref.whole cc2_scratch2

/-- What cell `x` of the output rows must hold: its row of `fX` at the column its position of `fI` names. -/
def gat (fI : S256.Idx → BitVec 32) (fX : S32x2048.Idx → F .f32) (x : S32x256.Idx) : F .f32 :=
  fX (ix2 (x 0) ⟨(fI (ix1 (x 1))).toNat % 2048, Nat.mod_lt _ (by decide)⟩)

/-- The first `n` cells, in row-major order, hold what they must. -/
def Filled (fI : S256.Idx → BitVec 32) (fX : S32x2048.Idx → F .f32) (n : ℕ) (fO : S32x256.Idx → F .f32) : Prop :=
  ∀ x : S32x256.Idx, (x 0).val * 256 + (x 1).val < n → fO x = gat fI fX x

section

variable (d : Dev nD) (c : Fin τ.nSC) (j : Fin τ.nSub) (R : sProp (MT nD τ sig (HIx 1) (Elt F) ℕ UU ℕ))
  (fI : S256.Idx → BitVec 32) (fX : S32x2048.Idx → F .f32) (Φ : PUnit.{1} → sProp (MT nD τ sig (HIx 1) (Elt F) ℕ UU ℕ))

/-- From the scratch buffers, the first `n` output cells filled, and `R`, the program `p` runs to `Φ`. -/
def Tri (n : ℕ) (p : Prog (TpuEff nD τ sig (Elt F) Λ₀ (Proc.scVector c j)) PUnit) : Prop :=
  ∀ fO : S32x256.Idx → F .f32, Filled fI fX n fO →
    iprop(R ∗ ((sI).view.loc (V d c j) ↦{fullShare} fI) ∗ ((sX).view.loc (V d c j) ↦{fullShare} fX) ∗ ((sO).view.loc (V d c j) ↦{fullShare} fO))
      ⊢ wp frame (wpE (defs₀ (F := F)) 𝒱₀ (V d c j) none) Set.univ p Φ

variable {d c j R fI fX Φ} {n : ℕ}

theorem Tri.loadI {r : LoadRect S256} {hl : (sI).view.LoadsAt r} {k : (r.shape.Idx → Elt F .i32) → Prog (TpuEff nD τ sig (Elt F) Λ₀ (Proc.scVector c j)) PUnit}
    (h : Tri d c j R fI fX Φ n (k ((sI).view.readAt (Elt F) r fI))) :
    Tri d c j R fI fX Φ n (.op (.load sI r hl) k) := by
  intro fO hf
  iintro ⟨HR, HI, HX, HO⟩
  iapply (wp_load 𝒱₀ (V d c j) none Set.univ (m := sI) (S := Finset.univ) (Finset.subset_univ _)) $$ HI
  iintro HI
  iapply (h fO hf)
  isplitl [HR]; · iexact HR
  isplitl [HI]; · iexact HI
  isplitl [HX]; · iexact HX
  iexact HO

theorem Tri.loadX {hl : (sX).view.LoadsAt (LoadRect.whole S32x2048)} {k : (S32x2048.Idx → Elt F .f32) → Prog (TpuEff nD τ sig (Elt F) Λ₀ (Proc.scVector c j)) PUnit}
    (h : Tri d c j R fI fX Φ n (k fX)) :
    Tri d c j R fI fX Φ n (.op (.load sX (LoadRect.whole S32x2048) hl) k) := by
  intro fO hf
  iintro ⟨HR, HI, HX, HO⟩
  iapply (wp_load 𝒱₀ (V d c j) none Set.univ (m := sX) (S := Finset.univ) (Finset.subset_univ _)) $$ HX
  iintro HX
  rw [show (sX).view.readAt (Elt F) (LoadRect.whole S32x2048) fX = fX from Memref.readAt_whole (Elt F) cc2_scratch1 fX]
  iapply (h fO hf)
  isplitl [HR]; · iexact HR
  isplitl [HI]; · iexact HI
  isplitl [HX]; · iexact HX
  iexact HO

theorem Tri.loadO {r : LoadRect S32x256} {hl : (sO).view.LoadsAt r} {k : (r.shape.Idx → Elt F .f32) → Prog (TpuEff nD τ sig (Elt F) Λ₀ (Proc.scVector c j)) PUnit}
    (h : ∀ v, Tri d c j R fI fX Φ n (k v)) :
    Tri d c j R fI fX Φ n (.op (.load sO r hl) k) := by
  intro fO hf
  iintro ⟨HR, HI, HX, HO⟩
  iapply (wp_load 𝒱₀ (V d c j) none Set.univ (m := sO) (S := Finset.univ) (Finset.subset_univ _)) $$ HO
  iintro HO
  iapply (h _ fO hf)
  isplitl [HR]; · iexact HR
  isplitl [HI]; · iexact HI
  isplitl [HX]; · iexact HX
  iexact HO

theorem Tri.check {P : Prop} {dP : Decidable P} {k : PLift P → Prog (TpuEff nD τ sig (Elt F) Λ₀ (Proc.scVector c j)) PUnit} (hP : P)
    (h : Tri d c j R fI fX Φ n (k ⟨hP⟩)) :
    Tri d c j R fI fX Φ n (.op (.assume P dP) k) := by
  intro fO hf
  rw [wp_assume_of _ _ _ _ hP]
  exact h fO hf

/-- The check of one gather: a constant row below 32, and columns read from the index row, all below 2048. -/
theorem check_ok {o : ℕ} {w : BitVec 32} {hin : ∀ a, (![o] : Fin 1 → ℕ) a + S16.size a ≤ S256.size a} (hw : w.toNat < 32) (hI : ∀ y, (fI y).toNat < 2048) :
    ∀ a x, ((![broadcast S16 w, (sI).view.readAt (Elt F) (Rect.unit (s := S256) ![o] S16.size hin).toLoadRect fI] : Fin 2 → IVec S16 32) a x).toNat < S32x2048.size a := by
  intro a x
  match a with
  | 0 => exact hw
  | 1 => exact hI _

/-- A store of the sixteen gathered elements at row `a`, columns from `b`, fills the next sixteen cells. -/
theorem filled_store {a b : ℕ} {fO : S32x256.Idx → F .f32} {hin : ∀ a', (![a, b] : Fin 2 → ℕ) a' + S1x16.size a' ≤ S32x256.size a'}
    {v : (Rect.unit (s := S32x256) ![a, b] S1x16.size hin).shape.Idx → F .f32}
    (hn : a * 256 + b = n) (hf : Filled fI fX n fO)
    (hv : ∀ (x : S32x256.Idx) (y : S1x16.Idx), (x 0).val = a → (x 1).val = b + (y 1).val → v y = gat fI fX x) :
    Filled fI fX (n + 16) (((sO).access (Rect.unit (s := S32x256) ![a, b] S1x16.size hin)).write (Elt F) fO v Finset.univ) := by
  intro x hx
  have e := View.write_whole_slice_unit (Val := Elt F) cc2_scratch2 ![a, b] S1x16.size hin fO v
  refine (congrFun e x).trans ?_
  have h0 : (x 0).val < 32 := (x 0).isLt
  have h1 : (x 1).val < 256 := (x 1).isLt
  have hb : b + 16 ≤ 256 := hin 1
  unfold updateSlice
  split
  · next hi =>
    have i0 : a ≤ (x 0).val ∧ (x 0).val < a + 1 := hi 0
    have i1 : b ≤ (x 1).val ∧ (x 1).val < b + 16 := hi 1
    refine hv x _ (by omega) ?_
    show (x 1).val = b + ((x 1).val - b)
    omega
  · next hi =>
    refine hf x ?_
    by_contra hlt
    refine hi fun a' => ?_
    match a' with
    | 0 => show a ≤ (x 0).val ∧ (x 0).val < a + 1; omega
    | 1 => show b ≤ (x 1).val ∧ (x 1).val < b + 16; omega

theorem Tri.storeO {a b o : ℕ} {w : BitVec 32} {hin : ∀ a', (![a, b] : Fin 2 → ℕ) a' + S1x16.size a' ≤ S32x256.size a'}
    {hin' : ∀ a, (![o] : Fin 1 → ℕ) a + S16.size a ≤ S256.size a}
    {hch : ∀ a x, ((![broadcast S16 w, (sI).view.readAt (Elt F) (Rect.unit (s := S256) ![o] S16.size hin').toLoadRect fI] : Fin 2 → IVec S16 32) a x).toNat < S32x2048.size a}
    {hx : ((sO).access (Rect.unit (s := S32x256) ![a, b] S1x16.size hin)).Stores Finset.univ}
    {hm : Finset.univ = Finset.univ ∨ ∀ a', (Rect.unit (s := S32x256) ![a, b] S1x16.size hin).stride a' = 1} {hc : S16.ShapeCasts S1x16}
    {k : PUnit → Prog (TpuEff nD τ sig (Elt F) Λ₀ (Proc.scVector c j)) PUnit}
    (hw : w.toNat = a) (hob : o = b) (hn : a * 256 + b = n)
    (h : Tri d c j R fI fX Φ (a * 256 + b + 16) (k ⟨⟩)) :
    Tri d c j R fI fX Φ n (.op (.store sO (Rect.unit (s := S32x256) ![a, b] S1x16.size hin)
      (shapeCast S1x16 (loadIdx fX ![broadcast S16 w, (sI).view.readAt (Elt F) (Rect.unit (s := S256) ![o] S16.size hin').toLoadRect fI] hch) hc) Finset.univ hx hm) k) := by
  subst hob hn
  intro fO hf
  have hg := filled_store (fI := fI) (fX := fX) (hin := hin)
    (v := shapeCast (α := F .f32) (s := S16) S1x16 (loadIdx (e := .f32) fX ![broadcast S16 w, (sI).view.readAt (Elt F) (Rect.unit (s := S256) ![o] S16.size hin').toLoadRect fI] hch) hc)
    rfl hf fun x y h0 h1 => by
      obtain ⟨y0, y1, rfl⟩ : ∃ (y0 : Fin 1) (y1 : Fin 16), y = ix2 y0 y1 := ⟨_, _, eq_ix2 y⟩
      refine (shapeCast_a_1a_apply _ _ _ _).trans ?_
      unfold gat loadIdx
      congr 1
      funext a'
      match a' with
      | ⟨0, _⟩ => exact Fin.ext (hw.trans h0.symm)
      | ⟨1, _⟩ =>
        refine Fin.ext ?_
        have e : (fI (ix1 (x 1))).toNat = ((sI).view.readAt (Elt F) (Rect.unit (s := S256) ![o] S16.size hin').toLoadRect fI (ix1 y1)).toNat := by
          refine congrArg (fun i => (fI i).toNat) ?_
          funext a''
          match a'' with
          | ⟨0, _⟩ => refine Fin.ext ?_; show (x 1).val = o + 1 * y1.val; rw [h1]; show o + y1.val = _; omega
        show _ = (fI (ix1 (x 1))).toNat % 2048
        rw [e]
        exact (Nat.mod_eq_of_lt (hch 1 (ix1 y1))).symm
  iintro ⟨HR, HI, HX, HO⟩
  iapply (wp_store 𝒱₀ (V d c j) none Set.univ (m := sO) (r := Rect.unit (s := S32x256) ![a, o] S1x16.size hin) (Mk := Finset.univ) (S := Finset.univ) (f := fO) (Finset.subset_univ _)) $$ HO
  iintro HO
  iapply (h _ hg)
  isplitl [HR]; · iexact HR
  isplitl [HI]; · iexact HI
  isplitl [HX]; · iexact HX
  iexact HO

end

end Cert.Proof.KI

end
-- ==== Proof.KI.Run.lean ====
module

public import proofs.«01_k».proof.Proof.KI.Step

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

abbrev cV (L : grid2.Coords) : Fin τ.nSC := (L 0).castLE hcore2
abbrev jV (L : grid2.Coords) : Fin τ.nSub := (L 1).castLE hsub2

abbrev xH : Memref sig .scVector .hbm S4x1024x2048 .f32 := Memref.whole main_arg0_scv
abbrev iH : Memref sig .scVector .hbm S4x256 .i32 := Memref.whole main_v2_scv
abbrev oH : Memref sig .scVector .hbm S1x1024x256 .f32 := Memref.whole main_v3_scv

/-- The row of the index array, the block of rows of `x` and the block of rows of the output that a tile copies. -/
abbrev iRow (L : grid2.Coords) : Memref sig .scVector .hbm S256 .i32 :=
  (iH.slice (Rect.unit (s := S4x256) (k2_off1 L) S1x256.size (k2_off1_inb L)) (fun _ => rfl)).squeeze S256 squeezes_S1x256_S256
abbrev xRow (L : grid2.Coords) : Memref sig .scVector .hbm S32x2048 .f32 :=
  (xH.slice (Rect.unit (s := S4x1024x2048) (k2_off2 L) S1x32x2048.size (k2_off2_inb L)) (fun _ => rfl)).squeeze S32x2048 squeezes_S1x32x2048_S32x2048
abbrev oRow (L : grid2.Coords) : Memref sig .scVector .hbm S32x256 .f32 :=
  (oH.slice (Rect.unit (s := S1x1024x256) (k2_off3 L) S1x32x256.size (k2_off3_inb L)) (fun _ => rfl)).squeeze S32x256 squeezes_S1x32x256_S32x256

section
variable (d : Dev nD) (L : grid2.Coords) (qi qx : PosShare TreeShare)
  (fi : S4x256.Idx → BitVec 32) (fx : S4x1024x2048.Idx → F .f32) (fo : S1x1024x256.Idx → F .f32)
  (O : CellTallies nD τ sig (HIx 1)) (W : Waits sig (HIx 1))

/-- What a tile holds beside its scratch buffers: shares of the index array and of `x`, its block of the output, its
    three semaphores at zero, what it owes. -/
def Rest : sProp (MT nD τ sig (HIx 1) (Elt F) ℕ UU ℕ) :=
  iprop((iH.view.loc (V d (cV L) (jV L)) ↦{qi} fi) ∗ (xH.view.loc (V d (cV L) (jV L)) ↦{qx} fx)
    ∗ ((oRow L).view.loc (V d (cV L) (jV L)) ↦[(oRow L).view.set]{fullShare} fo)
    ∗ semVal (V d (cV L) (jV L), .dma cc2_scoped0.sem) 0 ∗ semVal (V d (cV L) (jV L), .dma cc2_scoped1.sem) 0
    ∗ semVal (V d (cV L) (jV L), .dma cc2_scoped2.sem) 0
    ∗ Transfers.MayWaits (V d (cV L) (jV L)) (default : HIx 1) O
    ∗ ∃ W', ⌜∀ p ∈ W', p ∈ W ∨ p.2 = none⌝ ∗ owes (V d (cV L) (jV L)) O W')

/-- The two copies in. -/
def copiesIn (k : PUnit.{1} → Prog (TpuEff nD τ sig (Elt F) Λ₀ (.scVector (cV L) (jV L))) PUnit.{1}) : Prog (TpuEff nD τ sig (Elt F) Λ₀ (.scVector (cV L) (jV L))) PUnit.{1} := do
  Prog.lift (.enqueueDma (iRow L) (.here sI) (.dma cc2_scoped0.sem) ((View.wordExact_bits rfl).reshape _ _) (Memref.isWhole_whole _).wordExact ⟨Or.inl rfl, trivial⟩)
  Prog.lift (.waitDma2 cc2_scoped0.sem (iRow L) sI ((View.wordExact_bits rfl).reshape _ _) (Memref.isWhole_whole _).wordExact)
  Prog.lift (.enqueueDma (xRow L) (.here sX) (.dma cc2_scoped1.sem) ((View.wordExact_bits rfl).reshape _ _) (Memref.isWhole_whole _).wordExact ⟨Or.inl rfl, trivial⟩)
  Prog.lift (.waitDma2 cc2_scoped1.sem (xRow L) sX ((View.wordExact_bits rfl).reshape _ _) (Memref.isWhole_whole _).wordExact)
  k ⟨⟩

/-- The copy out. -/
def copyOut : Prog (TpuEff nD τ sig (Elt F) Λ₀ (.scVector (cV L) (jV L))) PUnit.{1} := do
  Prog.lift (.enqueueDma sO (.here (oRow L)) (.dma cc2_scoped2.sem) (Memref.isWhole_whole _).wordExact ((View.wordExact_bits rfl).reshape _ _) ⟨Or.inl rfl, trivial⟩)
  Prog.lift (.waitDma2 cc2_scoped2.sem sO (oRow L) (Memref.isWhole_whole _).wordExact ((View.wordExact_bits rfl).reshape _ _))
  pure ⟨⟩

abbrev fI : S256.Idx → BitVec 32 := (iRow L).view.read (Elt F) fi
abbrev fX : S32x2048.Idx → F .f32 := (xRow L).view.read (Elt F) fx

/-- Any scratch contents, then the two copies in, then a run from the row and the block that they brought. -/
theorem run_in (Φ : PUnit.{1} → sProp (MT nD τ sig (HIx 1) (Elt F) ℕ UU ℕ))
    (k : PUnit.{1} → Prog (TpuEff nD τ sig (Elt F) Λ₀ (.scVector (cV L) (jV L))) PUnit.{1})
    (h : Tri d (cV L) (jV L) (Rest d L qi qx fi fx fo O W) (fI (F := F) L fi) (fX L fx) Φ 0 (k ⟨⟩)) (gI gX gO) :
    iprop(Rest d L qi qx fi fx fo O W ∗ (sI.view.loc (V d (cV L) (jV L)) ↦{fullShare} gI)
        ∗ (sX.view.loc (V d (cV L) (jV L)) ↦{fullShare} gX) ∗ (sO.view.loc (V d (cV L) (jV L)) ↦{fullShare} gO))
      ⊢ wp frame (wpE (defs₀ (F := F)) 𝒱₀ (V d (cV L) (jV L)) none) Set.univ (copiesIn L k) Φ := by
  unfold copiesIn
  unfold Rest
  iintro ⟨⟨Hi, Hx, Ho, HsA, HsB, HsC, Hmw, %W', %hW', HO⟩, HI, HX, HOut⟩
  sl_exec
  rw [View.write_whole_univ, View.write_whole_univ]
  iapply (h gO (fun x hx => absurd hx (Nat.not_lt_zero _)))
  unfold Rest
  isplitr [HI HX HOut]
  · isplitl [Hi]; · iexact Hi
    isplitl [Hx]; · iexact Hx
    isplitl [Ho]; · iexact Ho
    isplitl [HsA]; · iexact HsA
    isplitl [HsB]; · iexact HsB
    isplitl [HsC]; · iexact HsC
    isplitl [Hmw]; · iexact Hmw
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  isplitl [HI]; · iexact HI
  isplitl [HX]; · iexact HX
  iexact HOut

theorem run_out :
    Tri d (cV L) (jV L) (Rest d L qi qx fi fx fo O W) (fI (F := F) L fi) (fX L fx)
      (fun _ => iprop(Rest d L qi qx fi fx (View.write (Elt F) (oRow L).view fo (gat (fI (F := F) L fi) (fX L fx)) Finset.univ) O W ∗ (∃ gI, sI.view.loc (V d (cV L) (jV L)) ↦{fullShare} gI)
        ∗ (∃ gX, sX.view.loc (V d (cV L) (jV L)) ↦{fullShare} gX) ∗ (∃ gO, sO.view.loc (V d (cV L) (jV L)) ↦{fullShare} gO))) 8192 (copyOut L) := by
  intro gO hg
  have e : gO = gat (fI (F := F) L fi) (fX L fx) := funext fun x => hg x (by
    have h0 : (x 0).val < 32 := (x 0).isLt
    have h1 : (x 1).val < 256 := (x 1).isLt
    omega)
  subst e
  unfold copyOut Rest
  iintro ⟨⟨Hi, Hx, Ho, HsA, HsB, HsC, Hmw, %W', %hW', HO⟩, HI, HX, HOut⟩
  sl_exec
  sl_step
  isplitr [HI HX HOut]
  · isplitl [Hi]; · iexact Hi
    isplitl [Hx]; · iexact Hx
    isplitl [Ho]
    · rw [show View.write (Elt F) (oRow L).view fo (gat (fI (F := F) L fi) (fX L fx)) Finset.univ
          = (oRow L).view.writes (Elt F) fo [⟨Rect.whole S32x256, gat (fI (F := F) L fi) (fX L fx)⟩] from
        View.write_univ_eq_writes_whole _ _ [] _]
      iexact Ho
    isplitl [HsA]; · iexact HsA
    isplitl [HsB]; · iexact HsB
    isplitl [HsC]; · iexact HsC
    isplitl [Hmw]; · iexact Hmw
    iexists _; isplitr
    swap; · iexact HO
    ipureintro; intro p hp
    rcases Finset.mem_insert.mp hp with hp | hp; · exact .inr (hp ▸ rfl)
    exact hW' p hp
  isplitl [HI]; · iexists _; iexact HI
  isplitl [HX]; · iexists _; iexact HX
  iexists _; iexact HOut
end

end Cert.Proof.KI

end
-- ==== Proof.KI.Geometry.lean ====
/-
  Where a tile's copies lie. Tile `2 s + c`, on SparseCore `c` and subcore `s`, reads row 3 of the index array and rows
  `32 (2 s + c) … + 31` of batch 3 of `x`, and writes the same rows of the output: its block of the 32 equal blocks of rows.
  The rows that a tile leaves in its block are those of `gatRows`, the whole gather.
-/
module

public import proofs.«01_k».proof.Proof.KI.Run

@[expose] public section

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The number of the tile at a pair of SparseCore and subcore. -/
abbrev tileNo (L : grid2.Coords) : ℕ := 2 * (L 1).val + (L 0).val

theorem tileNo_lt (L : grid2.Coords) : tileNo L < 32 := by
  have h0 : (L 0).val < 2 := (L 0).isLt
  have h1 : (L 1).val < 16 := (L 1).isLt
  unfold tileNo; omega

theorem off1_eq : ∀ L : grid2.Coords, k2_off1 L = ![3, 0] := by decide +kernel
theorem off2_eq : ∀ L : grid2.Coords, k2_off2 L = ![3, 32 * tileNo L, 0] := by decide +kernel
theorem off3_eq : ∀ L : grid2.Coords, k2_off3 L = ![0, 32 * tileNo L, 0] := by decide +kernel

/-- The gather: cell `y` of the output is row `y 1` of batch 3 of `x` at the column that position `y 2` of row 3 of the
    index array names. -/
def gatRows (fi : S4x256.Idx → BitVec 32) (fx : S4x1024x2048.Idx → F .f32) (y : S1x1024x256.Idx) : F .f32 :=
  fx (ix3 (3 : Fin 4) (y 1) ⟨(fi (ix2 (3 : Fin 4) (y 2))).toNat % 2048, Nat.mod_lt _ (by decide)⟩)

/-- The gather of all four batches. -/
def gatAll (fi : S4x256.Idx → BitVec 32) (fx : S4x1024x2048.Idx → F .f32) (y : S4x1024x256.Idx) : F .f32 :=
  fx (ix3 (y 0) (y 1) ⟨(fi (ix2 (y 0) (y 2))).toNat % 2048, Nat.mod_lt _ (by decide)⟩)

theorem squeeze_one {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)

theorem emb_iRow (L : grid2.Coords) (a : Fin 256) : (iRow L).view.emb (ix1 a) = ix2 (3 : Fin 4) a := by
  refine (congrArg (Rect.unit (s := S4x256) (k2_off1 L) S1x256.size (k2_off1_inb L)).emb (squeeze_one squeezes_S1x256_S256.numel_eq a)).trans ?_
  funext k
  apply Fin.ext
  refine (Rect.emb_apply _ _ k).trans ?_
  refine (congrArg (· + 1 * _) (congrFun (off1_eq L) k)).trans ?_
  match k with
  | 0 => rfl
  | 1 => show 0 + 1 * a.val = a.val; omega

theorem emb_xRow (L : grid2.Coords) (a : Fin 32) (b : Fin 2048) (h : 32 * tileNo L + a.val < 1024) :
    (xRow L).view.emb (ix2 a b) = ix3 (3 : Fin 4) (⟨32 * tileNo L + a.val, h⟩ : Fin 1024) b := by
  refine (congrArg (Rect.unit (s := S4x1024x2048) (k2_off2 L) S1x32x2048.size (k2_off2_inb L)).emb
    (reshapeEquiv_ix2_1ab squeezes_S1x32x2048_S32x2048.numel_eq a b)).trans ?_
  funext k
  apply Fin.ext
  refine (Rect.emb_apply _ _ k).trans ?_
  refine (congrArg (· + 1 * _) (congrFun (off2_eq L) k)).trans ?_
  match k with
  | 0 => rfl
  | 1 => show 32 * tileNo L + 1 * a.val = 32 * tileNo L + a.val; omega
  | 2 => show 0 + 1 * b.val = b.val; omega

theorem emb_oRow (L : grid2.Coords) (a : Fin 32) (b : Fin 256) (h : 32 * tileNo L + a.val < 1024) :
    (oRow L).view.emb (ix2 a b) = ix3 (0 : Fin 1) (⟨32 * tileNo L + a.val, h⟩ : Fin 1024) b := by
  refine (congrArg (Rect.unit (s := S1x1024x256) (k2_off3 L) S1x32x256.size (k2_off3_inb L)).emb
    (reshapeEquiv_ix2_1ab squeezes_S1x32x256_S32x256.numel_eq a b)).trans ?_
  funext k
  apply Fin.ext
  refine (Rect.emb_apply _ _ k).trans ?_
  refine (congrArg (· + 1 * _) (congrFun (off3_eq L) k)).trans ?_
  match k with
  | 0 => rfl
  | 1 => show 32 * tileNo L + 1 * a.val = 32 * tileNo L + a.val; omega
  | 2 => show 0 + 1 * b.val = b.val; omega

section
variable (L : grid2.Coords) (fi : S4x256.Idx → BitVec 32) (fx : S4x1024x2048.Idx → F .f32) (fo : S1x1024x256.Idx → F .f32)

theorem fI_apply (a : Fin 256) : fI (F := F) L fi (ix1 a) = fi (ix2 (3 : Fin 4) a) :=
  (View.read_apply (Val := Elt F) (v := (iRow L).view) fi (ix1 a)).trans ((cast_eq _ _).trans (congrArg fi (emb_iRow L a)))

theorem fX_apply (a : Fin 32) (b : Fin 2048) (h : 32 * tileNo L + a.val < 1024) :
    fX L fx (ix2 a b) = fx (ix3 (3 : Fin 4) (⟨32 * tileNo L + a.val, h⟩ : Fin 1024) b) :=
  (View.read_apply (Val := Elt F) (v := (xRow L).view) fx (ix2 a b)).trans ((cast_eq _ _).trans (congrArg fx (emb_xRow L a b h)))

/-- On a tile's own block the output that the tile leaves is the gather. -/
theorem written_eq (y : S1x1024x256.Idx) (hy : y ∈ (oRow L).view.set) :
    View.write (Elt F) (oRow L).view fo (gat (fI (F := F) L fi) (fX L fx)) Finset.univ y = gatRows fi fx y := by
  obtain ⟨x, -, rfl⟩ := Finset.mem_map.mp hy
  obtain ⟨a, b, rfl⟩ : ∃ (a : Fin 32) (b : Fin 256), x = ix2 a b := ⟨x 0, x 1, by funext k; match k with | 0 => rfl | 1 => rfl⟩
  have h : 32 * tileNo L + a.val < 1024 := by
    have := tileNo_lt L
    omega
  refine (View.write_emb_of_mem (Val := Elt F) (v := (oRow L).view) fo (gat (fI (F := F) L fi) (fX L fx)) (Finset.mem_univ (ix2 a b))).trans ?_
  refine (cast_eq _ _).trans ?_
  refine Eq.trans ?_ (congrArg (gatRows fi fx) (emb_oRow L a b h)).symm
  unfold gat gatRows
  refine (fX_apply L fx a _ h).trans (congrArg fx ?_)
  refine congrArg (ix3 (3 : Fin 4) (⟨32 * tileNo L + a.val, h⟩ : Fin 1024)) (Fin.ext ?_)
  exact congrArg (fun w : BitVec 32 => w.toNat % 2048) (fI_apply L fi b)
end

/-! ## The blocks of the output -/

theorem odiv : 32 ∣ S1x1024x256.size 1 := ⟨32, rfl⟩

/-- Block `i` of the output's 32 blocks of rows, as a set of cells. -/
abbrev oBlk (i : Fin 32) : Finset S1x1024x256.Idx := (Rect.part (s := S1x1024x256) (a₀ := 1) odiv i).set

theorem set_oRow (L : grid2.Coords) : (oRow L).view.set = oBlk ⟨tileNo L, tileNo_lt L⟩ := by
  have e : Rect.unit (s := S1x1024x256) (k2_off3 L) S1x32x256.size (k2_off3_inb L)
      = Rect.part (s := S1x1024x256) (a₀ := 1) odiv ⟨tileNo L, tileNo_lt L⟩ := by
    unfold Rect.part Rect.block
    congr 1 <;> funext a
    · rw [off3_eq]
      match a with
      | 0 => simp [Shape.partIx, Shape.partSize]
      | 1 => simp [Shape.partIx, Shape.partSize]; omega
      | 2 => simp [Shape.partIx, Shape.partSize]
    · match a with
      | 0 => simp [Shape.partSize]
      | 1 => simp [Shape.partSize]
      | 2 => simp [Shape.partSize]
  show (((oH).view.slice (Rect.unit (s := S1x1024x256) (k2_off3 L) S1x32x256.size (k2_off3_inb L))).reshape S32x256 squeezes_S1x32x256_S32x256.numel_eq).set = _
  rw [View.set_reshape, View.set_slice]
  exact Finset.map_refl.trans (congrArg (fun r : Rect S1x1024x256 => r.set) e)

end Cert.Proof.KI

end
-- ==== Proof.KI.Units.lean ====
module

public import proofs.«01_k».proof.Proof.KI.Run

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 400000000 in
set_option maxRecDepth 1000000 in
/-- The body is the two copies in, then a run from an empty output block to a full one, then the copy out. -/
theorem run_units (d : Dev nD) (L : grid2.Coords) (R : sProp (MT nD τ sig (HIx 1) (Elt F) ℕ UU ℕ))
    (fI : S256.Idx → BitVec 32) (hI : ∀ y, (fI y).toNat < 2048) (fX : S32x2048.Idx → F .f32)
    (Φ : PUnit.{1} → sProp (MT nD τ sig (HIx 1) (Elt F) ℕ UU ℕ))
    (hout : Tri d (cV L) (jV L) R fI fX Φ 8192 (copyOut L)) :
    ∃ k, cc2__gather_sc (F := F) L xH (Memref.isWhole_whole _) iH (Memref.isWhole_whole _) oH (Memref.isWhole_whole _)
        sI (Memref.isWhole_whole _) sX (Memref.isWhole_whole _) sO (Memref.isWhole_whole _) cc2_scratch3 cc2_scoped0 cc2_scoped1 cc2_scoped2
        = copiesIn L k ∧ Tri d (cV L) (jV L) R fI fX Φ 0 (k ⟨⟩) := by
  refine ⟨fun _ => ?k, ?_, ?_⟩
  rotate_left
  · conv => lhs; whnf
    conv => rhs; whnf
    refine congrArg (Prog.op _) (funext fun ⟨⟩ => ?_)
    conv => lhs; whnf
    conv => rhs; whnf
    refine congrArg (Prog.op _) (funext fun ⟨⟩ => ?_)
    conv => lhs; whnf
    conv => rhs; whnf
    refine congrArg (Prog.op _) (funext fun ⟨⟩ => ?_)
    conv => lhs; whnf
    conv => rhs; whnf
    refine congrArg (Prog.op _) (funext fun ⟨⟩ => ?_)
    exact rfl
  iterate 512
    (conv => arg 9; whnf)
    with_reducible refine Tri.loadI (F := F) ?_
    (conv => arg 9; whnf)
    refine Tri.check (F := F) (by refine check_ok (F := F) ?_ hI; decide) ?_
    (conv => arg 9; whnf)
    with_reducible refine Tri.loadX (F := F) ?_
    (conv => arg 9; whnf)
    with_reducible refine Tri.loadO (F := F) ?_
    intro v
    (conv => arg 9; whnf)
    clear v
    with_reducible refine Tri.storeO (F := F) rfl rfl rfl ?_
  exact hout

end Cert.Proof.KI

end
-- ==== Proof.KI.Tile.lean ====
/-
  One tile's task, and how the call's operands go out to the 32 tiles and come back. Every tile reads the index array and
  `x` through a read share of the whole, and has its own block of the output; it hands the block back at the gather's
  values.
-/
module

public import proofs.«01_k».proof.Proof.KI.Geometry
public import proofs.«01_k».proof.Proof.KI.Units

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

/-! ## A subcore's own cells and buffers -/

section Own
variable (d : Dev nD) (L : grid2.Coords)

abbrev semA : GSem nD τ sig := (V d (cV L) (jV L), .dma cc2_scoped0.sem)
abbrev semB : GSem nD τ sig := (V d (cV L) (jV L), .dma cc2_scoped1.sem)
abbrev semC : GSem nD τ sig := (V d (cV L) (jV L), .dma cc2_scoped2.sem)

omit [FloatOps F] in
/-- The three semaphores of the copies are among the subcore's own. -/
theorem ownSems0_split :
    (ownSems0 (V d (cV L) (jV L)) : sProp 𝕄)
      = iprop(semVal (semA d L) 0 ∗ semVal (semB d L) 0 ∗ semVal (semC d L) 0
          ∗ bigSep ((((ownCells (V d (cV L) (jV L))).erase (semA d L)).erase (semB d L)).erase (semC d L)) fun g => semVal g 0) := by
  have own (s : SemLoc sig) (h : s.isScoped .scVector = true) : ((V d (cV L) (jV L), s) : GSem nD τ sig) ∈ ownCells (V d (cV L) (jV L)) :=
    mem_ownCells.mpr ⟨rfl, h⟩
  unfold SparseCore.Cfg.ownSems0
  rw [SparseCore.bigSep_erase' (own (.dma cc2_scoped0.sem) (by decide)),
    SparseCore.bigSep_erase' (Finset.mem_erase.mpr ⟨by simp [semA, semB]; decide, own (.dma cc2_scoped1.sem) (by decide)⟩),
    SparseCore.bigSep_erase' (Finset.mem_erase.mpr ⟨by simp [semB, semC]; decide,
      Finset.mem_erase.mpr ⟨by simp [semA, semC]; decide, own (.dma cc2_scoped2.sem) (by decide)⟩⟩)]

omit [FloatOps F] in
/-- The three scratch buffers are among the subcore's own, at some contents. -/
theorem ownBufs_split :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  have own0 := SparseCore.Cfg.mem_ownRefs_of_owner (p := Proc.scVector (cV L) (jV L)) (b := (Proc.scVector (cV L) (jV L)).devRef cc2_scratch0) rfl
  have own1 := SparseCore.Cfg.mem_ownRefs_of_owner (p := Proc.scVector (cV L) (jV L)) (b := (Proc.scVector (cV L) (jV L)).devRef cc2_scratch1) rfl
  have own2 := SparseCore.Cfg.mem_ownRefs_of_owner (p := Proc.scVector (cV L) (jV L)) (b := (Proc.scVector (cV L) (jV L)).devRef cc2_scratch2) rfl
  have ne (a b : Ref sig .scVector) (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (own0)).trans ?_
  rw [SparseCore.bigSep_erase' (Finset.mem_erase.mpr ⟨ne cc2_scratch1 cc2_scratch0 (by decide), own1⟩),
    SparseCore.bigSep_erase' (Finset.mem_erase.mpr ⟨ne cc2_scratch2 cc2_scratch1 (by decide),
      Finset.mem_erase.mpr ⟨ne cc2_scratch2 cc2_scratch0 (by decide), own2⟩⟩)]
end Own

/-! ## What the handshakes carry -/

/-- The read share of a SparseCore, and of a tile. -/
abbrev coreShare (c : Fin 2) : PosShare TreeShare := Transfers.shareTok fullShare 2 c
abbrev tileShare (c : Fin 2) (j : Fin 16) : PosShare TreeShare := Transfers.shareTok (coreShare c) 16 j

/-- The block of the tile at a pair of SparseCore and subcore. -/
abbrev blkNo (c : Fin 2) (j : Fin 16) : Fin 32 := ⟨2 * j.val + c.val, by omega⟩

section Payload
variable (fi : Dev nD → S4x256.Idx → BitVec 32) (fx : Dev nD → S4x1024x2048.Idx → F .f32) (fo : Dev nD → S1x1024x256.Idx → F .f32)

/-- A tile's part of the operands, its block of the output at `g`; -/
def tilePart (g : Dev nD → S1x1024x256.Idx → F .f32) (d : Dev nD) (c : Fin 2) (j : Fin 16) : sProp 𝕄 :=
  iprop((iLoc d ↦{tileShare c j} fi d) ∗ (xLoc d ↦{tileShare c j} fx d) ∗ oLoc d ↦[oBlk (blkNo c j)]{fullShare} g d)

/-- a SparseCore's. -/
def corePart (g : Dev nD → S1x1024x256.Idx → F .f32) (d : Dev nD) (c : Fin 2) : sProp 𝕄 :=
  iprop((iLoc d ↦{coreShare c} fi d) ∗ (xLoc d ↦{coreShare c} fx d)
    ∗ bigSep Finset.univ fun j : Fin 16 => oLoc d ↦[oBlk (blkNo c j)]{fullShare} g d)

instance tilePart_storable (g) (d : Dev nD) (c : Fin 2) (j : Fin 16) : BI.Storable (upEmb : UEmb _ 𝕄) (tilePart fi fx g d c j) := by
  unfold tilePart; infer_instance
instance corePart_storable (g) (d : Dev nD) (c : Fin 2) : BI.Storable (upEmb : UEmb _ 𝕄) (corePart fi fx g d c) := by
  unfold corePart; infer_instance

/-- The gather of a device's arrays. -/
abbrev res (d : Dev nD) : S1x1024x256.Idx → F .f32 := gatRows (fi d) (fx d)

def P : (K (F := F)).Pay (nD := nD) (Val := Elt F) (Name := ℕ) (U := UU) where
  st := fun q d c => match q with | 0 => corePart fi fx fo d (Fin.cast nCore_zero c)
  dn := fun q d c => match q with | 0 => corePart fi fx (res fi fx) d (Fin.cast nCore_zero c)
  go := fun q d c i => match q with | 0 => tilePart fi fx fo d (Fin.cast nCore_zero c) (Fin.cast nSub_zero i)
  td := fun q d c i => match q with | 0 => tilePart fi fx (res fi fx) d (Fin.cast nCore_zero c) (Fin.cast nSub_zero i)
  x := fun _ _ => iprop(emp)

instance P_storable : (P fi fx fo).IsStorable where
  st q d c := match q with | 0 => corePart_storable fi fx fo d (Fin.cast nCore_zero c)
  dn q d c := match q with | 0 => corePart_storable fi fx (res fi fx) d (Fin.cast nCore_zero c)
  go q d c i := match q with | 0 => tilePart_storable fi fx fo d (Fin.cast nCore_zero c) (Fin.cast nSub_zero i)
  td q d c i := match q with | 0 => tilePart_storable fi fx (res fi fx) d (Fin.cast nCore_zero c) (Fin.cast nSub_zero i)

/-- Every index names a column of `x`. -/
def IdxOK : Prop := ∀ (d : Dev nD) (y : S4x256.Idx), (fi d y).toNat < 2048

/-! ## The task -/

section Task
variable (d : Dev nD) (L : grid2.Coords)

abbrev c2 : Fin 2 := Fin.cast (show grid2.bound 0 = 2 from rfl) (L 0)
abbrev j16 : Fin 16 := Fin.cast (show grid2.bound 1 = 16 from rfl) (L 1)

/-- The tile's block after its last copy: the gather's values there. -/
theorem oRow_out :
    ((oRow L).view.loc (V d (cV L) (jV L)) ↦[(oRow L).view.set]{fullShare}
        View.write (Elt F) (oRow L).view (fo d) (gat (fI (F := F) L (fi d)) (fX L (fx d))) Finset.univ : sProp 𝕄)
      = (oLoc d ↦[oBlk (blkNo (c2 L) (j16 L))]{fullShare} res fi fx d) := by
  refine (pointsTo_congr (fun y hy => written_eq L (fi d) (fx d) (fo d) y hy)).trans ?_
  rw [set_oRow]
  rfl

theorem tile_body (hF : (K (F := F)).Facts) (hfi : IdxOK fi) (O : CellTallies nD τ sig (HIx 1)) (W : Waits sig (HIx 1)) (hO : ∀ g, O g none = 0) :
    iprop(levAts (K (F := F)).L (K (F := F)).lev ∗ emp ∗ tilePart fi fx fo d (c2 L) (j16 L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__gather_sc (F := F) L xH (Memref.isWhole_whole _) iH (Memref.isWhole_whole _) oH (Memref.isWhole_whole _)
            sI (Memref.isWhole_whole _) sX (Memref.isWhole_whole _) sO (Memref.isWhole_whole _) cc2_scratch3 cc2_scoped0 cc2_scoped1 cc2_scoped2)
          fun _ => iprop(tilePart fi fx (res fi fx) d (c2 L) (j16 L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_split, ownBufs_split]
  obtain ⟨k, hk, h⟩ := run_units (F := F) d L
    (Rest d L (tileShare (c2 L) (j16 L)) (tileShare (c2 L) (j16 L)) (fi d) (fx d) (fo d) O W) (fI (F := F) L (fi d))
    (fun y => by
      obtain ⟨a, rfl⟩ : ∃ a : Fin 256, y = ix1 a := ⟨y 0, by funext k; match k with | 0 => rfl⟩
      rw [fI_apply]; exact hfi d _) (fX L (fx d)) _ (run_out d L _ _ (fi d) (fx d) (fo d) O W)
  rw [hk]
  unfold tilePart
  iintro ⟨#Hlv, -, ⟨Hi, Hx, Ho⟩, ⟨⟨%gI, HI⟩, ⟨%gX, HX⟩, ⟨%gO, HOut⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame _ _)
  isplitl [Hi Hx Ho HI HX HOut HsA HsB HsC HO Hmw]
  · iapply (run_in d L (tileShare (c2 L) (j16 L)) (tileShare (c2 L) (j16 L)) (fi d) (fx d) (fo d) O W _ k h gI gX gO)
    isplitl [Hi Hx Ho HsA HsB HsC HO Hmw]
    · unfold Rest
      isplitl [Hi]; · iexact Hi
      isplitl [Hx]; · iexact Hx
      isplitl [Ho]
      · rw [set_oRow]; iexact Ho
      isplitl [HsA]; · iexact HsA
      isplitl [HsB]; · iexact HsB
      isplitl [HsC]; · iexact HsC
      isplitl [Hmw]; · iexact Hmw
      iexists W; isplitr
      · ipureintro; exact fun p hp => .inl hp
      iexact HO
    isplitl [HI]; · iexact HI
    isplitl [HX]; · iexact HX
    iexact HOut
  iintro %_ ⟨Hrest, ⟨%gI', HI⟩, ⟨%gX', HX⟩, ⟨%gO', HOut⟩⟩
  unfold Rest
  icases Hrest with ⟨Hi, Hx, Ho, HsA, HsB, HsC, -, HO⟩
  isplitl [Hi Hx Ho]
  · isplitl [Hi]; · iexact Hi
    isplitl [Hx]; · iexact Hx
    iapply (Entails.of_eq (oRow_out fi fx fo d L)) $$ Ho
  isplitl [HI HX HOut Hbufs]
  · isplitl [HI]; · iexists _; iexact HI
    isplitl [HX]; · iexists _; iexact HX
    isplitl [HOut]; · iexists _; iexact HOut
    iexact Hbufs
  isplitl [HsA HsB HsC Hsems]
  · isplitl [HsA]; · iexact HsA
    isplitl [HsB]; · iexact HsB
    isplitl [HsC]; · iexact HsC
    iexact Hsems
  iexact HO

/-! ## The obligation of the launch -/

def coordsV (c : Fin (grid2.bound 0)) (s : Fin (grid2.bound 1)) : grid2.Coords :=
  fun | 0 => c | 1 => s | ⟨_ + 2, h⟩ => absurd h (Nat.not_lt.2 (Nat.le_add_left _ _))

set_option maxRecDepth 16384 in
theorem defs₀_vector (c : Fin τ.nSC) (s : Fin τ.nSub) :
    defs₀ (F := F) (.scVector c s) 2 ()
      = SparseCore.onTile hcore2 hsub2 (fun c s => cc2__gather_sc (F := F) (coordsV c s) xH (Memref.isWhole_whole _) iH (Memref.isWhole_whole _) oH (Memref.isWhole_whole _)
            sI (Memref.isWhole_whole _) sX (Memref.isWhole_whole _) sO (Memref.isWhole_whole _) cc2_scratch3 cc2_scoped0 cc2_scoped1 cc2_scoped2) ⟨⟩ c s := rfl

omit [FloatOps F] in
theorem post_weaken {thr : Thread nD τ} {A B C : sProp 𝕄} {O : CellTallies nD τ sig (HIx 1)} {W : Waits sig (HIx 1)} {R : HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc2__gather_sc

set_option maxRecDepth 16384 in
theorem tileObl (hF : (K (F := F)).Facts) (hfi : IdxOK fi) : (K (F := F)).TileObl (D (F := F)) 𝒱 (P fi fx fo) v₀ 0 := by
  intro d c i O W hO _ _
  simp only [show (P fi fx fo).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine (tile_body fi fx fo d (coordsV ⟨_, hci.1⟩ ⟨_, hci.2⟩) hF hfi O W hO).trans ?_
  refine wp_mono frame _ _ fun _ => ?_
  have e : tilePart fi fx (res fi fx) d (c2 (coordsV ⟨_, hci.1⟩ ⟨_, hci.2⟩)) (j16 (coordsV ⟨_, hci.1⟩ ⟨_, hci.2⟩)) = (P fi fx fo).td 0 d c i :=
    congrArg₂ (tilePart fi fx (res fi fx) d) (Fin.ext rfl) (Fin.ext rfl)
  rw [e]
  have w := post_weaken (F := F) (thr := V d ((K (F := F)).core 0 c) ((K (F := F)).sub 0 i)) (A := (P fi fx fo).td 0 d c i)
    (B := scopedBufs (V d ((K (F := F)).core 0 c) ((K (F := F)).sub 0 i))) (C := scopedSems0 (V d ((K (F := F)).core 0 c) ((K (F := F)).sub 0 i)))
    (O := O) (W := W) (R := SparseCore.Cfg.Blocks.blk 0)
  exact w

end Task

/-! ## Splitting and joining -/

omit [FloatOps F] in
theorem blkNo_injective : Function.Injective fun p : Fin 2 × Fin 16 => blkNo p.1 p.2 := by
  rintro ⟨c, j⟩ ⟨c', j'⟩ h
  have h' : 2 * j.val + c.val = 2 * j'.val + c'.val := congrArg Fin.val h
  exact Prod.ext (Fin.ext (by show c.val = c'.val; omega)) (Fin.ext (by show j.val = j'.val; omega))
omit [FloatOps F] in
theorem blkNo_surjective (i : Fin 32) : ∃ p : Fin 2 × Fin 16, blkNo p.1 p.2 = i :=
  ⟨(⟨i.val % 2, by omega⟩, ⟨i.val / 2, by omega⟩), Fin.ext (by show 2 * (i.val / 2) + i.val % 2 = i.val; omega)⟩

omit [FloatOps F] in
/-- The output whole is its 32 blocks, SparseCore by SparseCore and tile by tile. -/
theorem oWhole_eq (d : Dev nD) (g : S1x1024x256.Idx → F .f32) :
    (oLoc d ↦{fullShare} g : sProp 𝕄)
      = bigSep Finset.univ fun c : Fin 2 => bigSep Finset.univ fun j : Fin 16 => oLoc d ↦[oBlk (blkNo c j)]{fullShare} g := by
  have hd : ∀ p ∈ (Finset.univ : Finset (Fin 2 × Fin 16)), ∀ p' ∈ (Finset.univ : Finset (Fin 2 × Fin 16)), p ≠ p' →
      Disjoint (oBlk (blkNo p.1 p.2)) (oBlk (blkNo p'.1 p'.2)) :=
    fun p _ p' _ h => Rect.part_disjoint odiv fun e => h (blkNo_injective e)
  have hc : (Finset.univ : Finset (Fin 2 × Fin 16)).biUnion (fun p => oBlk (blkNo p.1 p.2)) = Finset.univ := by
    refine Finset.eq_univ_iff_forall.mpr fun y => ?_
    have hy : y ∈ (Finset.univ : Finset (Fin 32)).biUnion fun i => (Rect.part (s := S1x1024x256) (a₀ := 1) odiv i).set := by
      rw [Rect.biUnion_part odiv]; exact Finset.mem_univ y
    obtain ⟨i, -, hi⟩ := Finset.mem_biUnion.mp hy
    obtain ⟨p, hp⟩ := blkNo_surjective i
    exact Finset.mem_biUnion.mpr ⟨p, Finset.mem_univ _, by rw [hp]; exact hi⟩
  have e := pointsTo_biUnion (Val := Elt F) (Ix := HIx 1) (Name := ℕ) (U := UU) (Lvl := ℕ) (q := fullShare) (f := g) Finset.univ (ℓ := oLoc d)
    (fun p : Fin 2 × Fin 16 => oBlk (blkNo p.1 p.2)) hd
  rw [hc] at e
  rw [← bigSep_univ_prod (fun p : Fin 2 × Fin 16 => (oLoc d ↦[oBlk (blkNo p.1 p.2)]{fullShare} g : sProp 𝕄))]
  exact e

omit [FloatOps F] in
theorem bigSep_subs (Φ : Fin 16 → sProp 𝕄) :
    (bigSep Finset.univ fun i : Fin ((sc (F := F)).nSub 0) => Φ (Fin.cast (show (sc (F := F)).nSub 0 = 16 from rfl) i)) = bigSep Finset.univ Φ :=
  bigSep_congr fun _ _ => congrArg Φ (Fin.ext rfl)
omit [FloatOps F] in
theorem bigSep_cores (Φ : Fin 2 → sProp 𝕄) :
    (bigSep Finset.univ fun i : Fin ((sc (F := F)).nCore 0) => Φ (Fin.cast (show (sc (F := F)).nCore 0 = 2 from rfl) i)) = bigSep Finset.univ Φ :=
  bigSep_congr fun _ _ => congrArg Φ (Fin.ext rfl)

omit [FloatOps F] in
theorem tileParts_eq (g : Dev nD → S1x1024x256.Idx → F .f32) (d : Dev nD) (c : Fin 2) :
    (bigSep Finset.univ fun j : Fin 16 => tilePart fi fx g d c j)
      = iprop((bigSep Finset.univ fun j : Fin 16 => iLoc d ↦{tileShare c j} fi d) ∗ (bigSep Finset.univ fun j : Fin 16 => xLoc d ↦{tileShare c j} fx d)
          ∗ bigSep Finset.univ fun j : Fin 16 => (oLoc d ↦[oBlk (blkNo c j)]{fullShare} g d : sProp 𝕄)) := by
  unfold tilePart
  rw [bigSep_sep', bigSep_sep']

/-- A SparseCore's part goes out to its tiles, and comes back from them at the gather's values. -/
theorem vecSplit : (K (F := F)).VecSplit' (P fi fx fo) 0 := by
  intro d c
  change corePart fi fx fo d (Fin.cast nCore_zero c) ⊢ |={Set.univ}=> iprop(
      (bigSep Finset.univ fun i : Fin ((K (F := F)).nSub 0) => tilePart fi fx fo d (Fin.cast nCore_zero c) (Fin.cast nSub_zero i))
      ∗ ((bigSep Finset.univ fun i : Fin ((K (F := F)).nSub 0) => tilePart fi fx (res fi fx) d (Fin.cast nCore_zero c) (Fin.cast nSub_zero i))
          -∗ corePart fi fx (res fi fx) d (Fin.cast nCore_zero c)))
  rw [bigSep_subs (F := F) (fun j => tilePart fi fx fo d (Fin.cast nCore_zero c) j),
    bigSep_subs (F := F) (fun j => tilePart fi fx (res fi fx) d (Fin.cast nCore_zero c) j), tileParts_eq, tileParts_eq]
  unfold corePart
  iintro ⟨Hi, Hx, Ho⟩
  ihave Hi' := (Transfers.pointsTo_toks_split (coreShare (Fin.cast nCore_zero c)) 16) $$ Hi
  ihave Hx' := (Transfers.pointsTo_toks_split (coreShare (Fin.cast nCore_zero c)) 16) $$ Hx
  icases Hi' with ⟨Hid, Hi⟩
  icases Hx' with ⟨Hxd, Hx⟩
  imodintro
  isplitl [Hi Hx Ho]
  · isplitl [Hi]; · iexact Hi
    isplitl [Hx]; · iexact Hx
    iexact Ho
  iintro ⟨Hi, Hx, Ho⟩
  isplitl [Hid Hi]
  · iapply (Transfers.pointsTo_toks_join (coreShare (Fin.cast nCore_zero c)) 16)
    isplitl [Hid] <;> iassumption
  isplitl [Hxd Hx]
  · iapply (Transfers.pointsTo_toks_join (coreShare (Fin.cast nCore_zero c)) 16)
    isplitl [Hxd] <;> iassumption
  iexact Ho

end Payload

end Cert.Proof.KI

end
-- ==== Proof.KI.Pipe.lean ====
/-
  What a TensorCore call meets of the SparseCore's protocol: the core still owes the starts of the SparseCore calls to come, its waits
  so far are at the levels of those behind it, and the staging transfers' waits lie below all of it.
-/
module

public import proofs.«01_k».proof.Proof.KI.Setup
public import Idealize.ShloMosaic.Lib.Pipeline.FrameBody
public import Idealize.ShloMosaic.Lib.Pipeline.RegionArrays

@[expose] public section

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-- The bound on the waits' levels before SparseCore call `n`. -/
abbrev lvl (n : ℕ) : ℕ := 8 * SparseCore.Cfg.Blocks.fst 1 1 n

/-- What the TensorCore owes before SparseCore call `n`. -/
def debt (n : ℕ) (c : Dev nD) : CellTallies nD τ sig (HIx 1) := (K (F := F)).Otc c n

/-- The waits it may have made by then. -/
def known (n : ℕ) (c : Dev nD) : Set (SemLoc sig × HIx 1) := {p | (K (F := F)).lev (SparseCore.T c, p.1) p.2 ≤ lvl n}

/-- Its debts with its waits, before SparseCore call `n`. -/
def idle (n : ℕ) (c : Dev nD) : sProp 𝕄 :=
  iprop(∃ W, ⌜(K (F := F)).WBelow (SparseCore.T c) W (lvl n)⌝ ∗ owes (SparseCore.T c) ((K (F := F)).Otc c n) W)

theorem debt_above (n : ℕ) (c : Dev nD) (g : GSem nD τ sig) (i : HIx 1) (h : 0 < debt (F := F) n c g i) :
    i ∈ (K (F := F)).L g ∧ 0 < (K (F := F)).lev g i :=
  ⟨Finset.mem_univ _, Nat.lt_of_lt_of_le (Nat.succ_pos _) (SparseCore.Cfg.lev_of_Otc_pos h)⟩

section
variable {cfg : Pipeline.Cfg sig Λ₀} {c : Dev nD} (D : Dat τ (Elt F) (HIx 1) ℕ UU ℕ cfg c) (n : ℕ)

theorem idle_in (t) (ho : D.owed t = debt (F := F) n c) (hr : D.recorded t = known (F := F) n c) : (idle (F := F) n c) ⊢ D.owesAt none t := by
  unfold idle Dat.owesAt Pipeline.owesWithin Dat.bound
  rw [ho, hr]
  iintro ⟨%W, %hW, HO⟩
  iexists W
  isplitr
  · ipureintro; exact fun p hp => Or.inl (hW p hp)
  iexact HO

theorem idle_out (t) (ho : D.owed t = debt (F := F) n c) (hr : D.recorded t = known (F := F) n c) : D.owesAt none t ⊢ (idle (F := F) n c) := by
  unfold idle Dat.owesAt Pipeline.owesWithin Dat.bound
  rw [ho, hr]
  iintro ⟨%W, %hW, HO⟩
  iexists W
  isplitr
  · ipureintro
    intro p hp
    rcases hW hp with h | ⟨w, s, rfl⟩
    · exact h
    · exact Nat.zero_le _
  iexact HO

end

end Cert.Proof.KI

end
-- ==== Proof.KI.Mean.lean ====
/-
  The TensorCore's means: the pipeline's proof data over any contents of its two arrays, and the body's triple at its eight
  points. A row of the grid is two points: the first clears the partial sums, both add their block's rows to them, the second
  also stores their mean.
-/
module

public import proofs.«01_k».proof.Proof.KI.Pipe
public import Idealize.ShloMosaic.Lib.VecWindow

@[expose] public section

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

namespace Mean

/-! ## The body -/

abbrev rA : Rect S8x2048 := Rect.unit (s := S8x2048) ![0, 0] S8x2048.size inb_S8x2048_S8x2048_0_0
abbrev rO : Rect S1x1x2048 := Rect.unit (s := S1x1x2048) ![0, 0, 0] S1x1x2048.size inb_S1x1x2048_S1x1x2048_0_0_0

theorem slab_inb (n : ℕ) (h : n < 128) : ∀ a, (![0, 8 * n, 0] : Fin 3 → ℕ) a + S1x8x2048.size a ≤ S1x1024x2048.size a := by
  intro a
  match a with
  | 0 => show 0 + 1 ≤ 1; omega
  | 1 => show 8 * n + 8 ≤ 1024; omega
  | 2 => show 0 + 2048 ≤ 2048; omega

/-- Rows `8 n` to `8 n + 7` of a block. -/
def slab (x : Vec F S1x1024x2048 .f32) (n : ℕ) (h : n < 128) : FVec F S8x2048 .f32 :=
  shapeCast S8x2048 (View.ld x (Rect.unit (s := S1x1024x2048) ![0, 8 * n, 0] S1x8x2048.size (slab_inb n h))) shapeCasts_S1x8x2048_S8x2048

/-- The partial sums after `k` more of the block's slabs, from slab `n` on. -/
def sums (x : Vec F S1x1024x2048 .f32) (n : ℕ) (a : FVec F S8x2048 .f32) : (k : ℕ) → n + k ≤ 128 → FVec F S8x2048 .f32
  | 0, _ => a
  | k + 1, h => addf (sums x n a k (Nat.le_of_succ_le h)) (slab x (n + k) h)

/-- Of a part of the body that reads only the block: it adds the `k` slabs from slab `n` on. -/
def Adds (c : Dev nD) (arg2 : Memref sig .tc .vmem S1x1024x2048 .f32) (n k : ℕ) (h : n + k ≤ 128)
    (p : FVec F S8x2048 .f32 → Prog (TpuEff nD τ sig (Elt F) Λ₀ .tc) (FVec F S8x2048 .f32)) : Prop :=
  ∀ (E : Set ℕ) (x : Vec F S1x1024x2048 .f32) (v : FVec F S8x2048 .f32) (Q : FVec F S8x2048 .f32 → sProp 𝕄),
    iprop(owns (c : Thread nD τ) arg2 fullShare x ∗ (∀ w, iprop(⌜w = sums x n v k h⌝ ∗ owns (c : Thread nD τ) arg2 fullShare x) -∗ Q w))
      ⊢ wp frame (wpE (defs₀ (F := F)) 𝒱₀ c none) E (p v) Q

section
variable (c : Dev nD) (i : grid0.Coords) (arg2 : Memref sig .tc .vmem S1x1024x2048 .f32) (harg2 : arg2.IsWhole)
  (arg3 : Memref sig .tc .vmem S1x1x2048 .f32) (harg3 : arg3.IsWhole) (arg4 : Memref sig .tc .vmem S8x2048 .f32) (harg4 : arg4.IsWhole)

theorem part2 : Adds (F := F) c arg2 8 10 (by decide) (k0_part2 i arg2 harg2 arg3 harg3 arg4 harg4) := by
  intro E x v Q
  rw [k0_part2_eq_skeleton]
  unfold owns k0_part2_skel
  iintro ⟨⟨%f0, %hf0, H0⟩, Hk⟩
  subst hf0
  sl_exec
  sl_step
  iapply Hk
  isplitr; · ipureintro; rfl
  iexists f0; isplitr; · ipureintro; rfl
  iexact H0

theorem part3 : Adds (F := F) c arg2 18 10 (by decide) (k0_part3 i arg2 harg2 arg3 harg3 arg4 harg4) := by
  intro E x v Q
  rw [k0_part3_eq_skeleton]
  unfold owns k0_part3_skel
  iintro ⟨⟨%f0, %hf0, H0⟩, Hk⟩
  subst hf0
  sl_exec
  sl_step
  iapply Hk
  isplitr; · ipureintro; rfl
  iexists f0; isplitr; · ipureintro; rfl
  iexact H0

theorem part4 : Adds (F := F) c arg2 28 10 (by decide) (k0_part4 i arg2 harg2 arg3 harg3 arg4 harg4) := by
  intro E x v Q
  rw [k0_part4_eq_skeleton]
  unfold owns k0_part4_skel
  iintro ⟨⟨%f0, %hf0, H0⟩, Hk⟩
  subst hf0
  sl_exec
  sl_step
  iapply Hk
  isplitr; · ipureintro; rfl
  iexists f0; isplitr; · ipureintro; rfl
  iexact H0

theorem part5 : Adds (F := F) c arg2 38 10 (by decide) (k0_part5 i arg2 harg2 arg3 harg3 arg4 harg4) := by
  intro E x v Q
  rw [k0_part5_eq_skeleton]
  unfold owns k0_part5_skel
  iintro ⟨⟨%f0, %hf0, H0⟩, Hk⟩
  subst hf0
  sl_exec
  sl_step
  iapply Hk
  isplitr; · ipureintro; rfl
  iexists f0; isplitr; · ipureintro; rfl
  iexact H0

theorem part6 : Adds (F := F) c arg2 48 10 (by decide) (k0_part6 i arg2 harg2 arg3 harg3 arg4 harg4) := by
  intro E x v Q
  rw [k0_part6_eq_skeleton]
  unfold owns k0_part6_skel
  iintro ⟨⟨%f0, %hf0, H0⟩, Hk⟩
  subst hf0
  sl_exec
  sl_step
  iapply Hk
  isplitr; · ipureintro; rfl
  iexists f0; isplitr; · ipureintro; rfl
  iexact H0

theorem part7 : Adds (F := F) c arg2 58 10 (by decide) (k0_part7 i arg2 harg2 arg3 harg3 arg4 harg4) := by
  intro E x v Q
  rw [k0_part7_eq_skeleton]
  unfold owns k0_part7_skel
  iintro ⟨⟨%f0, %hf0, H0⟩, Hk⟩
  subst hf0
  sl_exec
  sl_step
  iapply Hk
  isplitr; · ipureintro; rfl
  iexists f0; isplitr; · ipureintro; rfl
  iexact H0

theorem part8 : Adds (F := F) c arg2 68 10 (by decide) (k0_part8 i arg2 harg2 arg3 harg3 arg4 harg4) := by
  intro E x v Q
  rw [k0_part8_eq_skeleton]
  unfold owns k0_part8_skel
  iintro ⟨⟨%f0, %hf0, H0⟩, Hk⟩
  subst hf0
  sl_exec
  sl_step
  iapply Hk
  isplitr; · ipureintro; rfl
  iexists f0; isplitr; · ipureintro; rfl
  iexact H0

theorem part9 : Adds (F := F) c arg2 78 10 (by decide) (k0_part9 i arg2 harg2 arg3 harg3 arg4 harg4) := by
  intro E x v Q
  rw [k0_part9_eq_skeleton]
  unfold owns k0_part9_skel
  iintro ⟨⟨%f0, %hf0, H0⟩, Hk⟩
  subst hf0
  sl_exec
  sl_step
  iapply Hk
  isplitr; · ipureintro; rfl
  iexists f0; isplitr; · ipureintro; rfl
  iexact H0

theorem part10 : Adds (F := F) c arg2 88 10 (by decide) (k0_part10 i arg2 harg2 arg3 harg3 arg4 harg4) := by
  intro E x v Q
  rw [k0_part10_eq_skeleton]
  unfold owns k0_part10_skel
  iintro ⟨⟨%f0, %hf0, H0⟩, Hk⟩
  subst hf0
  sl_exec
  sl_step
  iapply Hk
  isplitr; · ipureintro; rfl
  iexists f0; isplitr; · ipureintro; rfl
  iexact H0

theorem part11 : Adds (F := F) c arg2 98 10 (by decide) (k0_part11 i arg2 harg2 arg3 harg3 arg4 harg4) := by
  intro E x v Q
  rw [k0_part11_eq_skeleton]
  unfold owns k0_part11_skel
  iintro ⟨⟨%f0, %hf0, H0⟩, Hk⟩
  subst hf0
  sl_exec
  sl_step
  iapply Hk
  isplitr; · ipureintro; rfl
  iexists f0; isplitr; · ipureintro; rfl
  iexact H0

theorem part12 : Adds (F := F) c arg2 108 10 (by decide) (k0_part12 i arg2 harg2 arg3 harg3 arg4 harg4) := by
  intro E x v Q
  rw [k0_part12_eq_skeleton]
  unfold owns k0_part12_skel
  iintro ⟨⟨%f0, %hf0, H0⟩, Hk⟩
  subst hf0
  sl_exec
  sl_step
  iapply Hk
  isplitr; · ipureintro; rfl
  iexists f0; isplitr; · ipureintro; rfl
  iexact H0

theorem part13 : Adds (F := F) c arg2 118 10 (by decide) (k0_part13 i arg2 harg2 arg3 harg3 arg4 harg4) := by
  intro E x v Q
  rw [k0_part13_eq_skeleton]
  unfold owns k0_part13_skel
  iintro ⟨⟨%f0, %hf0, H0⟩, Hk⟩
  subst hf0
  sl_exec
  sl_step
  iapply Hk
  isplitr; · ipureintro; rfl
  iexists f0; isplitr; · ipureintro; rfl
  iexact H0

/-- The first part: it clears the sums at a row's first point, and adds the first eight slabs. -/
theorem part1_first (hi : (i 1).val = 0) (E : Set ℕ) (x : Vec F S1x1024x2048 .f32)
    (Q : (Σ' (_ : BitVec 32), FVec F S8x2048 .f32) → sProp 𝕄) :
    iprop(owns (c : Thread nD τ) arg2 fullShare x ∗ (∃ a, owns (c : Thread nD τ) arg4 fullShare a)
        ∗ (∀ w, iprop(⌜w = ⟨0#32, sums x 0 k0_pay3 8 (by decide)⟩⌝ ∗ owns (c : Thread nD τ) arg2 fullShare x ∗ ∃ a, owns (c : Thread nD τ) arg4 fullShare a) -∗ Q w))
      ⊢ wp frame (wpE (defs₀ (F := F)) 𝒱₀ c none) E (k0_part1 i arg2 harg2 arg3 harg3 arg4 harg4) Q := by
  rw [k0_part1_eq_skeleton]
  unfold owns k0_part1_skel
  rw [hi]
  iintro ⟨⟨%f0, %hf0, H0⟩, ⟨%a, %f1, -, H1⟩, Hk⟩
  subst hf0
  sl_exec
  sl_step
  iapply Hk
  isplitr
  · ipureintro
    delta part1_first.sl.v3 part1_first.sl.H1_1
    rw [View.readCov_full]
    rfl
  isplitl [H0]
  · iexists f0; isplitr; · ipureintro; rfl
    iexact H0
  iexists _; iexists _; isplitr
  swap; · iexact H1
  ipureintro; rfl

/-- At a row's second point it adds them to the sums so far. -/
theorem part1_second (hi : (i 1).val = 1) (E : Set ℕ) (x : Vec F S1x1024x2048 .f32) (a : Vec F S8x2048 .f32)
    (Q : (Σ' (_ : BitVec 32), FVec F S8x2048 .f32) → sProp 𝕄) :
    iprop(owns (c : Thread nD τ) arg2 fullShare x ∗ owns (c : Thread nD τ) arg4 fullShare a
        ∗ (∀ w, iprop(⌜w = ⟨1#32, sums x 0 a 8 (by decide)⟩⌝ ∗ owns (c : Thread nD τ) arg2 fullShare x ∗ ∃ a, owns (c : Thread nD τ) arg4 fullShare a) -∗ Q w))
      ⊢ wp frame (wpE (defs₀ (F := F)) 𝒱₀ c none) E (k0_part1 i arg2 harg2 arg3 harg3 arg4 harg4) Q := by
  rw [k0_part1_eq_skeleton]
  unfold owns k0_part1_skel
  rw [hi]
  iintro ⟨⟨%f0, %hf0, H0⟩, ⟨%f1, %hf1, H1⟩, Hk⟩
  subst hf0
  subst hf1
  sl_exec
  sl_step
  iapply Hk
  isplitr
  · ipureintro
    exact congrArg (fun a => (⟨1#32, sums (arg2.view.read (Elt F) f0) 0 a 8 (by decide)⟩ : Σ' (_ : BitVec 32), FVec F S8x2048 .f32)) (View.readAt_full arg4.view f1 _)
  isplitl [H0]
  · iexists f0; isplitr; · ipureintro; rfl
    iexact H0
  iexists _; iexists _; isplitr
  swap; · iexact H1
  ipureintro; rfl

theorem slab_congr (x : Vec F S1x1024x2048 .f32) {n n' : ℕ} (e : n = n') (h : n < 128) : slab x n h = slab x n' (e ▸ h) := by
  subst e; rfl

theorem sums_sums (x : Vec F S1x1024x2048 .f32) (n : ℕ) (a : FVec F S8x2048 .f32) (k l : ℕ) (h : n + k ≤ 128) (h' : n + k + l ≤ 128) :
    sums x (n + k) (sums x n a k h) l h' = sums x n a (k + l) (by omega) := by
  induction l with
  | zero => rfl
  | succ l ih =>
    show addf (sums x (n + k) (sums x n a k h) l _) (slab x (n + k + l) _) = addf (sums x n a (k + l) _) (slab x (n + (k + l)) _)
    rw [ih (by omega)]
    exact congrArg (addf _) (slab_congr x (Nat.add_assoc n k l) _)

/-- Two parts, one after the other. -/
theorem Adds.comp {n k l : ℕ} {h : n + k ≤ 128} {h' : n + k + l ≤ 128} {p q : FVec F S8x2048 .f32 → Prog (TpuEff nD τ sig (Elt F) Λ₀ .tc) (FVec F S8x2048 .f32)}
    (hp : Adds c arg2 n k h p) (hq : Adds c arg2 (n + k) l h' q) : Adds c arg2 n (k + l) (by omega) fun v => p v >>= q := by
  intro E x v Q
  rw [wp_bind]
  iintro ⟨H0, Hk⟩
  iapply (hp E x v _)
  isplitl [H0]; · iexact H0
  iintro %w ⟨%hw, H0⟩
  subst hw
  iapply (hq E x _ Q)
  isplitl [H0]; · iexact H0
  iintro %w ⟨%hw, H0⟩
  iapply Hk
  isplitr
  · ipureintro; rw [hw, sums_sums]
  iexact H0

/-- The parts after the first, -/
def mid (v : FVec F S8x2048 .f32) : Prog (TpuEff nD τ sig (Elt F) Λ₀ .tc) (FVec F S8x2048 .f32) :=
  k0_part2 i arg2 harg2 arg3 harg3 arg4 harg4 v >>= fun x =>
    k0_part3 i arg2 harg2 arg3 harg3 arg4 harg4 x >>= fun x =>
    k0_part4 i arg2 harg2 arg3 harg3 arg4 harg4 x >>= fun x =>
    k0_part5 i arg2 harg2 arg3 harg3 arg4 harg4 x >>= fun x =>
    k0_part6 i arg2 harg2 arg3 harg3 arg4 harg4 x >>= fun x =>
    k0_part7 i arg2 harg2 arg3 harg3 arg4 harg4 x >>= fun x =>
    k0_part8 i arg2 harg2 arg3 harg3 arg4 harg4 x >>= fun x =>
    k0_part9 i arg2 harg2 arg3 harg3 arg4 harg4 x >>= fun x =>
    k0_part10 i arg2 harg2 arg3 harg3 arg4 harg4 x >>= fun x =>
    k0_part11 i arg2 harg2 arg3 harg3 arg4 harg4 x >>= fun x =>
    k0_part12 i arg2 harg2 arg3 harg3 arg4 harg4 x >>= fun x =>
    k0_part13 i arg2 harg2 arg3 harg3 arg4 harg4 x

theorem mid_adds : Adds (F := F) c arg2 8 120 (by decide) (mid i arg2 harg2 arg3 harg3 arg4 harg4) :=
  (part2 c i arg2 harg2 arg3 harg3 arg4 harg4).comp c arg2 ((part3 c i arg2 harg2 arg3 harg3 arg4 harg4).comp c arg2 ((part4 c i arg2 harg2 arg3 harg3 arg4 harg4).comp c arg2 ((part5 c i arg2 harg2 arg3 harg3 arg4 harg4).comp c arg2 ((part6 c i arg2 harg2 arg3 harg3 arg4 harg4).comp c arg2 ((part7 c i arg2 harg2 arg3 harg3 arg4 harg4).comp c arg2 ((part8 c i arg2 harg2 arg3 harg3 arg4 harg4).comp c arg2 ((part9 c i arg2 harg2 arg3 harg3 arg4 harg4).comp c arg2 ((part10 c i arg2 harg2 arg3 harg3 arg4 harg4).comp c arg2 ((part11 c i arg2 harg2 arg3 harg3 arg4 harg4).comp c arg2 ((part12 c i arg2 harg2 arg3 harg3 arg4 harg4).comp c arg2 (part13 c i arg2 harg2 arg3 harg3 arg4 harg4)))))))))))

/-- and the rest of the body: the sums are stored, and at a row's second point their mean. -/
def tail (v : FVec F S8x2048 .f32) : Prog (TpuEff nD τ sig (Elt F) Λ₀ .tc) PUnit := do
  let _a : Vec F S8x2048 .f32 ← Prog.lift (.load arg4 rA.toLoadRect (View.loadsAt_vmem h_S8x2048))
  Prog.lift (.store arg4 rA (k0_pay1 v) Finset.univ (View.stores_vmem_bits_univ h_S8x2048 rfl) (.inl rfl))
  if k0_cond2 i = 1#1 then do
    let a : Vec F S8x2048 .f32 ← Prog.lift (.load arg4 rA.toLoadRect (View.loadsAt_vmem h_S8x2048))
    let _o : Vec F S1x1x2048 .f32 ← Prog.lift (.load arg3 rO.toLoadRect (View.loadsAt_vmem h_S1x1x2048))
    Prog.lift (.store arg3 rO (k0_pay2 a) Finset.univ (View.stores_vmem_bits_univ h_S1x1x2048 rfl) (.inl rfl))
    pure ⟨⟩
  else pure ⟨⟩
  pure ⟨⟩

theorem body_eq : cc0__mean_kernel (F := F) i arg2 harg2 arg3 harg3 arg4 harg4 = (k0_part1 i arg2 harg2 arg3 harg3 arg4 harg4 >>= fun p => mid i arg2 harg2 arg3 harg3 arg4 harg4 p.2 >>= fun v => tail i arg3 arg4 v) := by
  rw [cc0__mean_kernel_eq_skeleton]
  unfold cc0__mean_kernel_skel mid tail
  simp only [bind_assoc]
  rfl

omit harg4 in
theorem tail_first (hc : ¬ k0_cond2 i = 1#1) (E : Set ℕ) (v : FVec F S8x2048 .f32) (Q : PUnit → sProp 𝕄) :
    iprop((∃ a, owns (c : Thread nD τ) arg4 fullShare a) ∗ (owns (c : Thread nD τ) arg4 fullShare v -∗ Q ⟨⟩))
      ⊢ wp frame (wpE (defs₀ (F := F)) 𝒱₀ c none) E (tail i arg3 arg4 v) Q := by
  unfold owns tail
  rw [if_neg hc]
  iintro ⟨⟨%a, %f1, -, H1⟩, Hk⟩
  sl_exec
  sl_step
  iapply Hk
  iexists _; isplitr
  swap; · iexact H1
  ipureintro
  exact (View.read_writes_full arg4.view _ inb_S8x2048_S8x2048_0_0 _ []).trans (shapeCast_self _ _)

omit harg4 in
theorem tail_second (hc : k0_cond2 i = 1#1) (E : Set ℕ) (v : FVec F S8x2048 .f32) (Q : PUnit → sProp 𝕄) :
    iprop((∃ d, owns (c : Thread nD τ) arg3 fullShare d) ∗ (∃ a, owns (c : Thread nD τ) arg4 fullShare a)
        ∗ (iprop(owns (c : Thread nD τ) arg3 fullShare (k0_pay2 v) ∗ owns (c : Thread nD τ) arg4 fullShare v) -∗ Q ⟨⟩))
      ⊢ wp frame (wpE (defs₀ (F := F)) 𝒱₀ c none) E (tail i arg3 arg4 v) Q := by
  unfold owns tail
  rw [if_pos hc]
  iintro ⟨⟨%d, %f0, -, H0⟩, ⟨%a, %f1, -, H1⟩, Hk⟩
  sl_exec
  sl_step
  iapply Hk
  isplitl [H0]
  · iexists _; isplitr
    swap; · iexact H0
    ipureintro
    rw [View.read_writes_full]
    delta tail_second.sl.a tail_second.sl.H1_1
    rw [View.readCov_full]
    exact congrArg k0_pay2 (shapeCast_self _ _)
  iexists _; isplitr
  swap; · iexact H1
  ipureintro
  exact (View.read_writes_full arg4.view _ inb_S8x2048_S8x2048_0_0 _ []).trans (shapeCast_self _ _)

/-- The body at a row's first point, on whole buffers: the block's stays, the sums are the block's own. -/
theorem sound_first (hi : (i 1).val = 0) (E : Set ℕ) (x : Vec F S1x1024x2048 .f32) (Q : PUnit → sProp 𝕄) :
    iprop(owns (c : Thread nD τ) arg2 fullShare x ∗ (∃ a, owns (c : Thread nD τ) arg4 fullShare a)
        ∗ (iprop(owns (c : Thread nD τ) arg2 fullShare x ∗ owns (c : Thread nD τ) arg4 fullShare (sums x 0 k0_pay3 128 (by decide))) -∗ Q ⟨⟩))
      ⊢ wp frame (wpE (defs₀ (F := F)) 𝒱₀ c none) E (cc0__mean_kernel i arg2 harg2 arg3 harg3 arg4 harg4) Q := by
  have hc : ¬ k0_cond2 i = 1#1 := by unfold k0_cond2; rw [hi]; decide
  rw [body_eq, wp_bind]
  iintro ⟨H0, H4, Hk⟩
  iapply (part1_first c i arg2 harg2 arg3 harg3 arg4 harg4 hi E x _)
  isplitl [H0]; · iexact H0
  isplitl [H4]; · iexact H4
  iintro %w ⟨%hw, H0, H4⟩
  subst hw
  rw [wp_bind]
  iapply (mid_adds c i arg2 harg2 arg3 harg3 arg4 harg4 E x _ _)
  isplitl [H0]; · iexact H0
  iintro %w ⟨%hw, H0⟩
  have e : w = sums x 0 k0_pay3 128 (by decide) := hw.trans (sums_sums x 0 k0_pay3 8 120 (by decide) (by decide))
  subst e
  iapply (tail_first c i arg3 arg4 hc E _ Q)
  isplitl [H4]; · iexact H4
  iintro H4
  iapply Hk
  isplitl [H0] <;> iassumption

/-- At its second point: the sums go on, and the output's buffer ends at their mean. -/
theorem sound_second (hi : (i 1).val = 1) (E : Set ℕ) (x : Vec F S1x1024x2048 .f32) (a : Vec F S8x2048 .f32) (Q : PUnit → sProp 𝕄) :
    iprop(owns (c : Thread nD τ) arg2 fullShare x ∗ (∃ d, owns (c : Thread nD τ) arg3 fullShare d) ∗ owns (c : Thread nD τ) arg4 fullShare a
        ∗ (iprop(owns (c : Thread nD τ) arg2 fullShare x ∗ owns (c : Thread nD τ) arg3 fullShare (k0_pay2 (sums x 0 a 128 (by decide)))
            ∗ ∃ a, owns (c : Thread nD τ) arg4 fullShare a) -∗ Q ⟨⟩))
      ⊢ wp frame (wpE (defs₀ (F := F)) 𝒱₀ c none) E (cc0__mean_kernel i arg2 harg2 arg3 harg3 arg4 harg4) Q := by
  have hc : k0_cond2 i = 1#1 := by unfold k0_cond2; rw [hi]; decide
  rw [body_eq, wp_bind]
  iintro ⟨H0, H3, H4, Hk⟩
  iapply (part1_second c i arg2 harg2 arg3 harg3 arg4 harg4 hi E x a _)
  isplitl [H0]; · iexact H0
  isplitl [H4]; · iexact H4
  iintro %w ⟨%hw, H0, H4⟩
  subst hw
  rw [wp_bind]
  iapply (mid_adds c i arg2 harg2 arg3 harg3 arg4 harg4 E x _ _)
  isplitl [H0]; · iexact H0
  iintro %w ⟨%hw, H0⟩
  have e : w = sums x 0 a 128 (by decide) := hw.trans (sums_sums x 0 a 8 120 (by decide) (by decide))
  subst e
  iapply (tail_second c i arg3 arg4 hc E _ Q)
  isplitl [H3]; · iexact H3
  isplitl [H4]; · iexact H4
  iintro ⟨H3, H4⟩
  iapply Hk
  isplitl [H0]; · iexact H0
  isplitl [H3]; · iexact H3
  iexists _; iexact H4

end

/-! ## The proof data -/

variable (fw : Dev nD → S4x2048x2048.Idx → F .f32) (fu : Dev nD → S4x1x2048.Idx → F .f32)

/-- The two arrays where the call begins. -/
def arr (c : Dev nD) (w : Fin cfg0.W) : Buf (Elt F) ((cfg0.win w).arr.view.loc (c.tc : Thread nD τ)) :=
  match w with
  | ⟨0, _⟩ => fw c
  | ⟨1, _⟩ => fu c

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (arr fw fu c w)

/-- The sums of a row's first block, where `t` is the row's first point, -/
def half (c : Dev nD) (t : Fin cfg0.N) : FVec F S8x2048 .f32 := sums (blk fw fu c 0 t) 0 k0_pay3 128 (by decide)

/-- the point before, -/
def prev (t : Fin cfg0.N) : Fin cfg0.N := ⟨t.val - 1, Nat.lt_of_le_of_lt (Nat.sub_le _ _) t.isLt⟩

/-- and the mean a row's second point stores. -/
def outU (c : Dev nD) (t : Fin cfg0.N) : FVec F S1x1x2048 .f32 := k0_pay2 (sums (blk fw fu c 0 t) 0 (half fw fu c (prev t)) 128 (by decide))

/-- The scoped buffers that are neither this call's staging nor its sums. -/
abbrev others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f))

/-- Before point `n`: at a row's second point the sums hold the first block's. -/
def inv (c : Dev nD) (n : ℕ) : sProp 𝕄 :=
  iprop((∃ a : Buf (Elt F) ((c : Thread nD τ).loc cc0_scratch0), ⌜∀ t : Fin cfg0.N, n = t.val + 1 → t.val % 2 = 0 → a = half fw fu c t⌝
    ∗ ((c : Thread nD τ).loc cc0_scratch0) ↦{fullShare} a) ∗ others (F := F) c)

/-- The call is before the SparseCore's. -/
def dats (c : Dev nD) : Dat τ (Elt F) (HIx 1) ℕ UU ℕ cfg0 c where
  A w := arr fw fu c w
  after w t := match w with
    | ⟨0, _⟩ => blk fw fu c 0 t
    | ⟨1, _⟩ => outU fw fu c t
  Φ t := inv fw fu c t.val
  q _ := fullShare
  owed _ := debt (F := F) 0 c
  recorded _ := known (F := F) 0 c

theorem after_w (c : Dev nD) (t : Fin cfg0.N) : (dats fw fu c).after 0 t = blk fw fu c 0 t := by dsimp only [dats]
theorem after_u (c : Dev nD) (t : Fin cfg0.N) : (dats fw fu c).after 1 t = outU fw fu c t := by dsimp only [dats]
theorem A_eq (c : Dev nD) (w : Fin cfg0.W) : (dats fw fu c).A w = arr fw fu c w := by dsimp only [dats]

/-- The input's buffer holds its block. -/
theorem before_w (c : Dev nD) (t : Fin cfg0.N) (d) : (dats fw fu c).before 0 t d = blk fw fu c 0 t :=
  ((dats fw fu c).before_in_eq_fetched 0 rfl (fun _ => rfl) (fun _ _ _ => rfl)
    (fun t => by rw [after_w]; unfold Dat.blockOf blk; rw [A_eq]) t d).trans
    (by unfold Dat.fetched Dat.blockOf blk; rw [A_eq]; try rfl)

theorem inv_in (c : Dev nD) : Pipeline.scopedRest spec0 c ⊢ (dats fw fu c).Φ 0 := by
  show _ ⊢ inv fw fu c 0
  unfold inv
  rw [scopedRest0_eq]
  iintro ⟨⟨%a, Ha⟩, Hr⟩
  isplitl [Ha]
  · iexists a
    isplitr
    · ipureintro; intro t h; exact absurd h (Nat.succ_ne_zero _).symm
    iexact Ha
  iexact Hr

theorem inv_out (c : Dev nD) (t) : (dats fw fu c).Φ t ⊢ Pipeline.scopedRest spec0 c := by
  show inv fw fu c t.val ⊢ _
  unfold inv
  rw [scopedRest0_eq]
  iintro ⟨⟨%a, -, Ha⟩, Hr⟩
  isplitl [Ha]
  · iexists a; iexact Ha
  iexact Hr

/-! ## The body at its points -/

def pre (c : Dev nD) (t : Fin cfg0.N) : sProp 𝕄 :=
  iprop((dats fw fu c).Φ t.castSucc ∗ (dats fw fu c).owesAt none t.castSucc
    ∗ (∃ d, owns (c : Thread nD τ) (st0_0 t) fullShare ((dats fw fu c).before 0 t d))
    ∗ (∃ d, owns (c : Thread nD τ) (st0_1 t) fullShare ((dats fw fu c).before 1 t d)))

def post (c : Dev nD) (t : Fin cfg0.N) : sProp 𝕄 :=
  iprop((dats fw fu c).Φ t.succ ∗ (dats fw fu c).owesAt none t.succ
    ∗ owns (c : Thread nD τ) (st0_0 t) fullShare ((dats fw fu c).after 0 t) ∗ (dats fw fu c).leavesExact 1 t)

theorem coords_first : ∀ t : Fin cfg0.N, t.val % 2 = 0 → ((grid0.coords t) 1).val = 0 := by decide +kernel
theorem coords_second : ∀ t : Fin cfg0.N, t.val % 2 = 1 → ((grid0.coords t) 1).val = 1 := by decide +kernel

theorem idle_first : ∀ t : Fin cfg0.N, t.val % 2 = 0 → cfg0.idle 1 (cfg0.grid.coords t) = true := by decide +kernel
theorem idle_second : ∀ t : Fin cfg0.N, t.val % 2 = 1 → cfg0.idle 1 (cfg0.grid.coords t) = false := by decide +kernel
theorem flush_first (t : Fin cfg0.N) (ht : t.val % 2 = 0) : (cfg0.win 1).flush t = false :=
  Bool.eq_false_iff.2 fun h => by have := (flush0_1 t).1 h; omega

/-- The sums' buffer is a whole buffer. -/
theorem owns_scratch (c : Dev nD) (a : Buf (Elt F) ((c : Thread nD τ).loc cc0_scratch0)) :
    (owns (c : Thread nD τ) (Memref.whole cc0_scratch0) fullShare a : sProp 𝕄) = (((c : Thread nD τ).loc cc0_scratch0) ↦{fullShare} a) := by
  have hs : (Memref.whole cc0_scratch0).view.set = Finset.univ := View.set_whole _
  refine BI.Entails.antisymm ?_ ?_
  · unfold owns
    rw [hs]
    show iprop(∃ f : Buf (Elt F) ((c : Thread nD τ).loc cc0_scratch0), ⌜(Memref.whole cc0_scratch0).view.read (Elt F) f = a⌝
      ∗ (((c : Thread nD τ).loc cc0_scratch0) ↦{fullShare} f : sProp 𝕄)) ⊢ _
    iintro ⟨%f, %hf, H⟩
    subst hf
    iexact H
  · unfold owns
    rw [hs]
    show _ ⊢ iprop(∃ f : Buf (Elt F) ((c : Thread nD τ).loc cc0_scratch0), ⌜(Memref.whole cc0_scratch0).view.read (Elt F) f = a⌝
      ∗ (((c : Thread nD τ).loc cc0_scratch0) ↦{fullShare} f : sProp 𝕄))
    iintro H
    iexists a; isplitr; · ipureintro; rfl
    iexact H

theorem sound_point_first (c : Dev nD) (t : Fin cfg0.N) (ht : t.val % 2 = 0) :
    pre fw fu c t ⊢ wp frame (wpE (defs₀ (F := F)) 𝒱₀ c none) Set.univ (bodyAt0 t) (fun _ => post fw fu c t) := by
  unfold pre post bodyAt0
  simp only [before_w]
  rw [(dats fw fu c).leavesExact_idle 1 t (idle_first t ht) (flush_first t ht)]
  rw [show (dats fw fu c).Φ t.succ = inv fw fu c (t.val + 1) from rfl, show (dats fw fu c).Φ t.castSucc = inv fw fu c t.val from rfl,
    show (dats fw fu c).owesAt none t.succ = (dats fw fu c).owesAt none t.castSucc from rfl, after_w]
  unfold inv
  simp only [← owns_scratch]
  iintro ⟨⟨⟨%a, -, H4⟩, Hr⟩, Ho, ⟨%d0, H0⟩, H1⟩
  iapply (sound_first c (grid0.coords t) _ _ _ _ _ _ (coords_first t ht) Set.univ (blk fw fu c 0 t) _)
  isplitl [H0]; · iexact H0
  isplitl [H4]; · iexists a; iexact H4
  iintro ⟨H0, H4⟩
  isplitl [H4 Hr]
  · isplitl [H4]
    · iexists _
      isplitr
      swap; · iexact H4
      ipureintro
      intro t' h _
      have e : t = t' := Fin.ext (Nat.succ.inj h)
      subst e
      rfl
    iexact Hr
  isplitl [Ho]; · iexact Ho
  isplitl [H0]; · iexact H0
  iexact H1

theorem sound_point_second (c : Dev nD) (t : Fin cfg0.N) (ht : t.val % 2 = 1) :
    pre fw fu c t ⊢ wp frame (wpE (defs₀ (F := F)) 𝒱₀ c none) Set.univ (bodyAt0 t) (fun _ => post fw fu c t) := by
  unfold pre post bodyAt0
  simp only [before_w]
  rw [show (dats fw fu c).leavesExact 1 t = owns (c : Thread nD τ) (st0_1 t) fullShare ((dats fw fu c).after 1 t) by
    unfold Dat.leavesExact; rw [idle_second t ht]]
  rw [show (dats fw fu c).Φ t.succ = inv fw fu c (t.val + 1) from rfl, show (dats fw fu c).Φ t.castSucc = inv fw fu c t.val from rfl,
    show (dats fw fu c).owesAt none t.succ = (dats fw fu c).owesAt none t.castSucc from rfl, after_w, after_u]
  unfold inv
  simp only [← owns_scratch]
  iintro ⟨⟨⟨%a, %ha, H4⟩, Hr⟩, Ho, ⟨%d0, H0⟩, ⟨%d1, H1⟩⟩
  have e : a = half fw fu c (prev t) := ha (prev t) (by show t.val = t.val - 1 + 1; omega) (by show (t.val - 1) % 2 = 0; omega)
  subst e
  iapply (sound_second c (grid0.coords t) _ _ _ _ _ _ (coords_second t ht) Set.univ (blk fw fu c 0 t) (half fw fu c (prev t)) _)
  isplitl [H0]; · iexact H0
  isplitl [H1]; · iexists _; iexact H1
  isplitl [H4]; · iexact H4
  iintro ⟨H0, H1, ⟨%a, H4⟩⟩
  isplitl [H4 Hr]
  · isplitl [H4]
    · iexists a
      isplitr
      swap; · iexact H4
      ipureintro
      intro t' h h'
      omega
    iexact Hr
  isplitl [Ho]; · iexact Ho
  isplitl [H0]; · iexact H0
  iexact H1

theorem defs₀_at (t : Fin cfg0.N) : defs₀ (F := F) .tc cfg0.body (cfg0.bodyArgs t (cfg0.slots t)) = bodyAt0 t := rfl

theorem body_ob (c : Dev nD) : BodyObligation (dats fw fu c) (defs₀ (F := F)) 𝒱₀ none Set.univ := fun t => by
  rw [bigSep_W0, bigSep_W0, defs₀_at]
  have h : pre fw fu c t ⊢ wp frame (wpE (defs₀ (F := F)) 𝒱₀ c none) Set.univ (bodyAt0 t) (fun _ => post fw fu c t) := by
    rcases Nat.mod_two_eq_zero_or_one t.val with ht | ht
    · exact sound_point_first fw fu c t ht
    · exact sound_point_second fw fu c t ht
  exact triple_restated h rfl .rfl fun _ => .rfl

end Mean

end Cert.Proof.KI

end
-- ==== Proof.KI.Network.lean ====
/-
  The ranking call's sorting network, in the shapes the program computes with: the 2048 positions of a batch lie in 16
  rows of 128 lanes, an exchange at distance `2 ^ s` compares every entry with the one `2 ^ s` positions away, and the whole
  network is 66 such exchanges. `st v i n` is the pair of arrays (values, positions) after `n` of them.
-/
module

public import proofs.«01_k».proof.Proof.KI.Setup

@[expose] public section

noncomputable section

namespace Cert.Proof.KI

open Cert.KernelIdeal Cert.KernelIdeal.Gen

open Idealize.ShloMosaic
open Idealize.SL.Sem

variable {F : FTy → Type}

/-- An array of a batch's 2048 entries, four batches, on the network's rows and lanes. -/
abbrev Arr (α : Type) : Type := S4x16x128.Idx → α

/-- Every position's lane. -/
def lane : IVec S4x16x128 32 := iota .tc S4x16x128 32 [2] iota_S4x16x128_d2_w32

/-- Every position's row. -/
def row : IVec S4x16x128 32 := iota .tc S4x16x128 32 [1] iota_S4x16x128_d1_w32

/-- Every position, numbered along the rows. -/
def place : IVec S4x16x128 32 := addi (muli row (broadcast S4x16x128 128#32)) lane

def bitClear (p : IVec S4x16x128 32) (d : BitVec 32) : IVec S4x16x128 1 :=
  cmpi .eq (andi p (broadcast S4x16x128 d)) (broadcast S4x16x128 0#32)

/-- Whether bit `s` of the position is clear: the lower position of its pair at distance `2 ^ s`. -/
def lo : Nat → IVec S4x16x128 1
  | 0 => bitClear lane 1#32
  | 1 => bitClear lane 2#32
  | 2 => bitClear lane 4#32
  | 3 => bitClear lane 8#32
  | 4 => bitClear lane 16#32
  | 5 => bitClear lane 32#32
  | 6 => bitClear lane 64#32
  | 7 => bitClear row 1#32
  | 8 => bitClear row 2#32
  | 9 => bitClear row 4#32
  | 10 => bitClear row 8#32
  | _ => broadcast S4x16x128 1#1

/-- Every entry of a level-`l` exchange moves in the order of its block: the first at the low end where bit `l + 1` is clear. -/
def asc : Nat → IVec S4x16x128 1
  | 10 => broadcast S4x16x128 1#1
  | l => lo (l + 1)

/-- The entry `2 ^ s` positions up, around the axis. -/
def up {α : Type} : Nat → Arr α → Arr α
  | 0, x => concatenate S4x16x128 2 [⟨S4x16x127, extractStridedSlice S4x16x127 ![0, 0, 1] x slices_S4x16x128_o0_0_1_S4x16x127⟩, ⟨S4x16x1, extractStridedSlice S4x16x1 ![0, 0, 0] x slices_S4x16x128_o0_0_0_S4x16x1⟩]
      concatenates_S4x16x127_S4x16x1_S4x16x128_d2
  | 1, x => concatenate S4x16x128 2 [⟨S4x16x126, extractStridedSlice S4x16x126 ![0, 0, 2] x slices_S4x16x128_o0_0_2_S4x16x126⟩, ⟨S4x16x2, extractStridedSlice S4x16x2 ![0, 0, 0] x slices_S4x16x128_o0_0_0_S4x16x2⟩]
      concatenates_S4x16x126_S4x16x2_S4x16x128_d2
  | 2, x => concatenate S4x16x128 2 [⟨S4x16x124, extractStridedSlice S4x16x124 ![0, 0, 4] x slices_S4x16x128_o0_0_4_S4x16x124⟩, ⟨S4x16x4, extractStridedSlice S4x16x4 ![0, 0, 0] x slices_S4x16x128_o0_0_0_S4x16x4⟩]
      concatenates_S4x16x124_S4x16x4_S4x16x128_d2
  | 3, x => concatenate S4x16x128 2 [⟨S4x16x120, extractStridedSlice S4x16x120 ![0, 0, 8] x slices_S4x16x128_o0_0_8_S4x16x120⟩, ⟨S4x16x8, extractStridedSlice S4x16x8 ![0, 0, 0] x slices_S4x16x128_o0_0_0_S4x16x8⟩]
      concatenates_S4x16x120_S4x16x8_S4x16x128_d2
  | 4, x => concatenate S4x16x128 2 [⟨S4x16x112, extractStridedSlice S4x16x112 ![0, 0, 16] x slices_S4x16x128_o0_0_16_S4x16x112⟩, ⟨S4x16x16, extractStridedSlice S4x16x16 ![0, 0, 0] x slices_S4x16x128_o0_0_0_S4x16x16⟩]
      concatenates_S4x16x112_S4x16x16_S4x16x128_d2
  | 5, x => concatenate S4x16x128 2 [⟨S4x16x96, extractStridedSlice S4x16x96 ![0, 0, 32] x slices_S4x16x128_o0_0_32_S4x16x96⟩, ⟨S4x16x32, extractStridedSlice S4x16x32 ![0, 0, 0] x slices_S4x16x128_o0_0_0_S4x16x32⟩]
      concatenates_S4x16x96_S4x16x32_S4x16x128_d2
  | 6, x => concatenate S4x16x128 2 [⟨S4x16x64, extractStridedSlice S4x16x64 ![0, 0, 64] x slices_S4x16x128_o0_0_64_S4x16x64⟩, ⟨S4x16x64, extractStridedSlice S4x16x64 ![0, 0, 0] x slices_S4x16x128_o0_0_0_S4x16x64⟩]
      concatenates_S4x16x64_S4x16x64_S4x16x128_d2
  | 7, x => concatenate S4x16x128 1 [⟨S4x15x128, extractStridedSlice S4x15x128 ![0, 1, 0] x slices_S4x16x128_o0_1_0_S4x15x128⟩, ⟨S4x1x128, extractStridedSlice S4x1x128 ![0, 0, 0] x slices_S4x16x128_o0_0_0_S4x1x128⟩]
      concatenates_S4x15x128_S4x1x128_S4x16x128_d1
  | 8, x => concatenate S4x16x128 1 [⟨S4x14x128, extractStridedSlice S4x14x128 ![0, 2, 0] x slices_S4x16x128_o0_2_0_S4x14x128⟩, ⟨S4x2x128, extractStridedSlice S4x2x128 ![0, 0, 0] x slices_S4x16x128_o0_0_0_S4x2x128⟩]
      concatenates_S4x14x128_S4x2x128_S4x16x128_d1
  | 9, x => concatenate S4x16x128 1 [⟨S4x12x128, extractStridedSlice S4x12x128 ![0, 4, 0] x slices_S4x16x128_o0_4_0_S4x12x128⟩, ⟨S4x4x128, extractStridedSlice S4x4x128 ![0, 0, 0] x slices_S4x16x128_o0_0_0_S4x4x128⟩]
      concatenates_S4x12x128_S4x4x128_S4x16x128_d1
  | 10, x => concatenate S4x16x128 1 [⟨S4x8x128, extractStridedSlice S4x8x128 ![0, 8, 0] x slices_S4x16x128_o0_8_0_S4x8x128⟩, ⟨S4x8x128, extractStridedSlice S4x8x128 ![0, 0, 0] x slices_S4x16x128_o0_0_0_S4x8x128⟩]
      concatenates_S4x8x128_S4x8x128_S4x16x128_d1
  | _, x => x

/-- The entry `2 ^ s` positions down, around the axis. -/
def down {α : Type} : Nat → Arr α → Arr α
  | 0, x => concatenate S4x16x128 2 [⟨S4x16x1, extractStridedSlice S4x16x1 ![0, 0, 127] x slices_S4x16x128_o0_0_127_S4x16x1⟩, ⟨S4x16x127, extractStridedSlice S4x16x127 ![0, 0, 0] x slices_S4x16x128_o0_0_0_S4x16x127⟩]
      concatenates_S4x16x1_S4x16x127_S4x16x128_d2
  | 1, x => concatenate S4x16x128 2 [⟨S4x16x2, extractStridedSlice S4x16x2 ![0, 0, 126] x slices_S4x16x128_o0_0_126_S4x16x2⟩, ⟨S4x16x126, extractStridedSlice S4x16x126 ![0, 0, 0] x slices_S4x16x128_o0_0_0_S4x16x126⟩]
      concatenates_S4x16x2_S4x16x126_S4x16x128_d2
  | 2, x => concatenate S4x16x128 2 [⟨S4x16x4, extractStridedSlice S4x16x4 ![0, 0, 124] x slices_S4x16x128_o0_0_124_S4x16x4⟩, ⟨S4x16x124, extractStridedSlice S4x16x124 ![0, 0, 0] x slices_S4x16x128_o0_0_0_S4x16x124⟩]
      concatenates_S4x16x4_S4x16x124_S4x16x128_d2
  | 3, x => concatenate S4x16x128 2 [⟨S4x16x8, extractStridedSlice S4x16x8 ![0, 0, 120] x slices_S4x16x128_o0_0_120_S4x16x8⟩, ⟨S4x16x120, extractStridedSlice S4x16x120 ![0, 0, 0] x slices_S4x16x128_o0_0_0_S4x16x120⟩]
      concatenates_S4x16x8_S4x16x120_S4x16x128_d2
  | 4, x => concatenate S4x16x128 2 [⟨S4x16x16, extractStridedSlice S4x16x16 ![0, 0, 112] x slices_S4x16x128_o0_0_112_S4x16x16⟩, ⟨S4x16x112, extractStridedSlice S4x16x112 ![0, 0, 0] x slices_S4x16x128_o0_0_0_S4x16x112⟩]
      concatenates_S4x16x16_S4x16x112_S4x16x128_d2
  | 5, x => concatenate S4x16x128 2 [⟨S4x16x32, extractStridedSlice S4x16x32 ![0, 0, 96] x slices_S4x16x128_o0_0_96_S4x16x32⟩, ⟨S4x16x96, extractStridedSlice S4x16x96 ![0, 0, 0] x slices_S4x16x128_o0_0_0_S4x16x96⟩]
      concatenates_S4x16x32_S4x16x96_S4x16x128_d2
  | 6, x => concatenate S4x16x128 2 [⟨S4x16x64, extractStridedSlice S4x16x64 ![0, 0, 64] x slices_S4x16x128_o0_0_64_S4x16x64⟩, ⟨S4x16x64, extractStridedSlice S4x16x64 ![0, 0, 0] x slices_S4x16x128_o0_0_0_S4x16x64⟩]
      concatenates_S4x16x64_S4x16x64_S4x16x128_d2
  | 7, x => concatenate S4x16x128 1 [⟨S4x1x128, extractStridedSlice S4x1x128 ![0, 15, 0] x slices_S4x16x128_o0_15_0_S4x1x128⟩, ⟨S4x15x128, extractStridedSlice S4x15x128 ![0, 0, 0] x slices_S4x16x128_o0_0_0_S4x15x128⟩]
      concatenates_S4x1x128_S4x15x128_S4x16x128_d1
  | 8, x => concatenate S4x16x128 1 [⟨S4x2x128, extractStridedSlice S4x2x128 ![0, 14, 0] x slices_S4x16x128_o0_14_0_S4x2x128⟩, ⟨S4x14x128, extractStridedSlice S4x14x128 ![0, 0, 0] x slices_S4x16x128_o0_0_0_S4x14x128⟩]
      concatenates_S4x2x128_S4x14x128_S4x16x128_d1
  | 9, x => concatenate S4x16x128 1 [⟨S4x4x128, extractStridedSlice S4x4x128 ![0, 12, 0] x slices_S4x16x128_o0_12_0_S4x4x128⟩, ⟨S4x12x128, extractStridedSlice S4x12x128 ![0, 0, 0] x slices_S4x16x128_o0_0_0_S4x12x128⟩]
      concatenates_S4x4x128_S4x12x128_S4x16x128_d1
  | 10, x => concatenate S4x16x128 1 [⟨S4x8x128, extractStridedSlice S4x8x128 ![0, 8, 0] x slices_S4x16x128_o0_8_0_S4x8x128⟩, ⟨S4x8x128, extractStridedSlice S4x8x128 ![0, 0, 0] x slices_S4x16x128_o0_0_0_S4x8x128⟩]
      concatenates_S4x8x128_S4x8x128_S4x16x128_d1
  | _, x => x

/-- The entry at the other position of the pair at distance `2 ^ s`. -/
def far {α : Type} (s : Nat) (x : Arr α) : Arr α := select (lo s) (up s x) (down s x)

variable [FloatOps F]

/-- Whether the entry itself comes before its partner: the greater value, or the same value at the lower position. -/
def own (s : Nat) (v : FVec F S4x16x128 .f32) (i : IVec S4x16x128 32) : IVec S4x16x128 1 :=
  ori (cmpf .ogt v (far s v)) (andi (cmpf .oeq v (far s v)) (cmpi .slt i (far s i)))

/-- Whether an exchange leaves the entry in its place. -/
def keep (l s : Nat) (v : FVec F S4x16x128 .f32) (i : IVec S4x16x128 32) : IVec S4x16x128 1 :=
  xori (xori (own s v i) (xori (xori (lo s) (asc l)) (constantI S4x16x128 1 1#1))) (constantI S4x16x128 1 1#1)

/-- The exchange of level `l` at distance `2 ^ s`. -/
def step (l s : Nat) (p : FVec F S4x16x128 .f32 × IVec S4x16x128 32) : FVec F S4x16x128 .f32 × IVec S4x16x128 32 :=
  (select (keep l s p.1 p.2) p.1 (far s p.1), select (keep l s p.1 p.2) p.2 (far s p.2))

/-- The exchanges in their order, each its level and its distance's exponent. -/
def sched : List (Nat × Nat) := (List.range 11).flatMap fun l => (List.range (l + 1)).reverse.map fun s => (l, s)

def run (L : List (Nat × Nat)) (p : FVec F S4x16x128 .f32 × IVec S4x16x128 32) : FVec F S4x16x128 .f32 × IVec S4x16x128 32 :=
  L.foldl (fun p e => step e.1 e.2 p) p

/-- The state after the first `n` exchanges. -/
def st (v : FVec F S4x16x128 .f32) (i : IVec S4x16x128 32) (n : Nat) : FVec F S4x16x128 .f32 × IVec S4x16x128 32 :=
  run (sched.take n) (v, i)

theorem st_succ (v : FVec F S4x16x128 .f32) (i : IVec S4x16x128 32) {n : Nat} {l s : Nat} (h : sched[n]? = some (l, s)) :
    st v i (n + 1) = step l s (st v i n) := by
  unfold st run
  rw [List.take_succ, h]
  simp only [Option.toList_some, List.foldl_append, List.foldl_cons, List.foldl_nil]

/-- The call's values as the network first lays them out. -/
def grid (x : FVec F S4x2048 .f32) : FVec F S4x16x128 .f32 := shapeCast S4x16x128 x shapeCasts_S4x2048_S4x16x128

/-- The call's result: the positions of the 256 first entries of every batch. -/
def ranked (x : FVec F S4x2048 .f32) : IVec S4x256 32 :=
  shapeCast S4x256 (extractStridedSlice S4x2x128 ![0, 0, 0] (st (grid x) place 66).2 slices_S4x16x128_o0_0_0_S4x2x128)
    shapeCasts_S4x2x128_S4x256

end Cert.Proof.KI
-- ==== Proof.KI.Parts.lean ====
/-
  The ranking call's program, piece by piece, is the sorting network: each piece of its body, given the state after the
  exchanges before it, returns the state after its own.
-/
module

public import proofs.«01_k».proof.Proof.KI.Network

@[expose] public section

noncomputable section

namespace Cert.Proof.KI

open Cert.KernelIdeal Cert.KernelIdeal.Gen

open Idealize.ShloMosaic
open Idealize.SL.Sem

variable {F : FTy → Type} [FloatOps F]

section
variable (a0 : Memref sig .tc .vmem S4x2048 .f32) (h0 : a0.IsWhole) (a1 : Memref sig .tc .vmem S4x256 .i32) (h1 : a1.IsWhole)
  (v : FVec F S4x16x128 .f32) (i : IVec S4x16x128 32)

theorem part1_eq : k1_part1 (F := F) a0 h0 a1 h1 = (do
      let x : Vec F S4x2048 .f32 ← Prog.lift (.load a0 (Rect.unit (s := S4x2048) ![0, 0] S4x2048.size inb_S4x2048_S4x2048_0_0).toLoadRect (View.loadsAt_vmem h_S4x2048))
      pure ⟨row, lane, (st (grid x) place 1).1, (st (grid x) place 1).2, lo 1, up 1 ((st (grid x) place 1).1), extractStridedSlice S4x16x2 ![0, 0, 126] ((st (grid x) place 1).1) slices_S4x16x128_o0_0_126_S4x16x2⟩) := by
  simp only [st_succ _ _ (n := 0) (l := 0) (s := 0) rfl]
  unfold k1_part1
  refine congrArg (Prog.lift _ >>= ·) (funext fun x => ?_)
  rw [shapeCast_self]
  rfl

theorem part2_eq : k1_part2 (F := F) a0 h0 a1 h1 lane ((st v i 1).1) ((st v i 1).2) (lo 1) (up 1 ((st v i 1).1)) (extractStridedSlice S4x16x2 ![0, 0, 126] ((st v i 1).1) slices_S4x16x128_o0_0_126_S4x16x2) =
    pure ⟨(st v i 2).1, (st v i 2).2, lo 0, far 0 ((st v i 2).1), far 0 ((st v i 2).2), lo 2, own 0 ((st v i 2).1) ((st v i 2).2)⟩ := by
  simp only [st_succ v i (n := 1) (l := 1) (s := 1) rfl]
  generalize st v i 1 = p
  rfl

theorem part3_eq : k1_part3 (F := F) a0 h0 a1 h1 lane ((st v i 2).1) ((st v i 2).2) (lo 0) (far 0 ((st v i 2).1)) (far 0 ((st v i 2).2)) (lo 2) (own 0 ((st v i 2).1) ((st v i 2).2)) =
    pure ⟨(st v i 4).1, (st v i 4).2, lo 1, far 1 ((st v i 4).1)⟩ := by
  simp only [st_succ v i (n := 3) (l := 2) (s := 2) rfl, st_succ v i (n := 2) (l := 1) (s := 0) rfl]
  generalize st v i 2 = p
  rfl

theorem part4_eq : k1_part4 (F := F) a0 h0 a1 h1 lane ((st v i 4).1) ((st v i 4).2) (lo 1) (far 1 ((st v i 4).1)) =
    pure ⟨(st v i 5).1, (st v i 5).2, far 0 ((st v i 5).1), far 0 ((st v i 5).2), own 0 ((st v i 5).1) ((st v i 5).2), xori (xori (lo 0) (lo 3)) (constantI S4x16x128 1 1#1)⟩ := by
  simp only [st_succ v i (n := 4) (l := 2) (s := 1) rfl]
  generalize st v i 4 = p
  rfl

theorem part5_eq : k1_part5 (F := F) a0 h0 a1 h1 lane ((st v i 5).1) ((st v i 5).2) (far 0 ((st v i 5).1)) (far 0 ((st v i 5).2)) (own 0 ((st v i 5).1) ((st v i 5).2)) (xori (xori (lo 0) (lo 3)) (constantI S4x16x128 1 1#1)) =
    pure ⟨(st v i 7).1, (st v i 7).2, lo 2, far 2 ((st v i 7).1), up 2 ((st v i 7).2)⟩ := by
  simp only [st_succ v i (n := 6) (l := 3) (s := 3) rfl, st_succ v i (n := 5) (l := 2) (s := 0) rfl]
  generalize st v i 5 = p
  rfl

theorem part6_eq : k1_part6 (F := F) a0 h0 a1 h1 lane ((st v i 7).1) ((st v i 7).2) (lo 2) (far 2 ((st v i 7).1)) (up 2 ((st v i 7).2)) =
    pure ⟨(st v i 8).1, (st v i 8).2, far 1 ((st v i 8).1), far 1 ((st v i 8).2), keep 3 1 ((st v i 8).1) ((st v i 8).2)⟩ := by
  simp only [st_succ v i (n := 7) (l := 3) (s := 2) rfl]
  generalize st v i 7 = p
  rfl

theorem part7_eq : k1_part7 (F := F) a0 h0 a1 h1 lane ((st v i 8).1) ((st v i 8).2) (far 1 ((st v i 8).1)) (far 1 ((st v i 8).2)) (keep 3 1 ((st v i 8).1) ((st v i 8).2)) =
    pure ⟨(st v i 10).1, (st v i 10).2, lo 4, far 4 ((st v i 10).1), up 4 ((st v i 10).2), down 4 ((st v i 10).2)⟩ := by
  simp only [st_succ v i (n := 9) (l := 3) (s := 0) rfl, st_succ v i (n := 8) (l := 3) (s := 1) rfl]
  generalize st v i 8 = p
  rfl

theorem part8_eq : k1_part8 (F := F) a0 h0 a1 h1 lane ((st v i 10).1) ((st v i 10).2) (lo 4) (far 4 ((st v i 10).1)) (up 4 ((st v i 10).2)) (down 4 ((st v i 10).2)) =
    pure ⟨(st v i 12).1, (st v i 12).2, 4#32⟩ := by
  simp only [st_succ v i (n := 11) (l := 4) (s := 3) rfl, st_succ v i (n := 10) (l := 4) (s := 4) rfl]
  generalize st v i 10 = p
  rfl

theorem part9_eq : k1_part9 (F := F) a0 h0 a1 h1 lane ((st v i 12).1) ((st v i 12).2) 4#32 =
    pure ⟨(st v i 13).1, (st v i 13).2, lo 1, far 1 ((st v i 13).1), far 1 ((st v i 13).2), broadcast S4x16x128 32#32⟩ := by
  simp only [st_succ v i (n := 12) (l := 4) (s := 2) rfl]
  generalize st v i 12 = p
  rfl

theorem part10_eq : k1_part10 (F := F) a0 h0 a1 h1 lane ((st v i 13).1) ((st v i 13).2) (lo 1) (far 1 ((st v i 13).1)) (far 1 ((st v i 13).2)) (broadcast S4x16x128 32#32) =
    pure ⟨(st v i 15).1, (st v i 15).2, andi lane (broadcast S4x16x128 32#32), 0#32⟩ := by
  simp only [st_succ v i (n := 14) (l := 4) (s := 0) rfl, st_succ v i (n := 13) (l := 4) (s := 1) rfl]
  generalize st v i 13 = p
  rfl

theorem part11_eq : k1_part11 (F := F) a0 h0 a1 h1 lane ((st v i 15).1) ((st v i 15).2) (andi lane (broadcast S4x16x128 32#32)) 0#32 =
    pure ⟨(st v i 16).1, (st v i 16).2, lo 4, far 4 ((st v i 16).1), far 4 ((st v i 16).2), andi lane (broadcast S4x16x128 64#32), broadcast S4x16x128 0#32⟩ := by
  simp only [st_succ v i (n := 15) (l := 5) (s := 5) rfl]
  generalize st v i 15 = p
  rfl

theorem part12_eq : k1_part12 (F := F) a0 h0 a1 h1 lane ((st v i 16).1) ((st v i 16).2) (lo 4) (far 4 ((st v i 16).1)) (far 4 ((st v i 16).2)) (andi lane (broadcast S4x16x128 64#32)) (broadcast S4x16x128 0#32) =
    pure ⟨(st v i 18).1, (st v i 18).2, lo 2, extractStridedSlice S4x16x124 ![0, 0, 4] ((st v i 18).1) slices_S4x16x128_o0_0_4_S4x16x124⟩ := by
  simp only [st_succ v i (n := 17) (l := 5) (s := 3) rfl, st_succ v i (n := 16) (l := 5) (s := 4) rfl]
  generalize st v i 16 = p
  rfl

theorem part13_eq : k1_part13 (F := F) a0 h0 a1 h1 lane ((st v i 18).1) ((st v i 18).2) (lo 2) (extractStridedSlice S4x16x124 ![0, 0, 4] ((st v i 18).1) slices_S4x16x128_o0_0_4_S4x16x124) =
    pure ⟨(st v i 19).1, (st v i 19).2, lo 1, far 1 ((st v i 19).1), far 1 ((st v i 19).2), lo 6, cmpf .ogt ((st v i 19).1) (far 1 ((st v i 19).1)), cmpf .oeq ((st v i 19).1) (far 1 ((st v i 19).1))⟩ := by
  simp only [st_succ v i (n := 18) (l := 5) (s := 2) rfl]
  generalize st v i 18 = p
  rfl

theorem part14_eq : k1_part14 (F := F) a0 h0 a1 h1 lane ((st v i 19).1) ((st v i 19).2) (lo 1) (far 1 ((st v i 19).1)) (far 1 ((st v i 19).2)) (lo 6) (cmpf .ogt ((st v i 19).1) (far 1 ((st v i 19).1))) (cmpf .oeq ((st v i 19).1) (far 1 ((st v i 19).1))) =
    pure ⟨(st v i 21).1, (st v i 21).2, lo 6, up 6 ((st v i 21).1), extractStridedSlice S4x16x64 ![0, 0, 64] ((st v i 21).1) slices_S4x16x128_o0_0_64_S4x16x64⟩ := by
  simp only [st_succ v i (n := 20) (l := 5) (s := 0) rfl, st_succ v i (n := 19) (l := 5) (s := 1) rfl]
  generalize st v i 19 = p
  rfl

theorem part15_eq : k1_part15 (F := F) a0 h0 a1 h1 row lane ((st v i 21).1) ((st v i 21).2) (lo 6) (up 6 ((st v i 21).1)) (extractStridedSlice S4x16x64 ![0, 0, 64] ((st v i 21).1) slices_S4x16x128_o0_0_64_S4x16x64) =
    pure ⟨(st v i 22).1, (st v i 22).2, lo 5, far 5 ((st v i 22).1), far 5 ((st v i 22).2), lo 7, own 5 ((st v i 22).1) ((st v i 22).2)⟩ := by
  simp only [st_succ v i (n := 21) (l := 6) (s := 6) rfl]
  generalize st v i 21 = p
  rfl

theorem part16_eq : k1_part16 (F := F) a0 h0 a1 h1 row lane ((st v i 22).1) ((st v i 22).2) (lo 5) (far 5 ((st v i 22).1)) (far 5 ((st v i 22).2)) (lo 7) (own 5 ((st v i 22).1) ((st v i 22).2)) =
    pure ⟨(st v i 24).1, (st v i 24).2, lo 3, far 3 ((st v i 24).1)⟩ := by
  simp only [st_succ v i (n := 23) (l := 6) (s := 4) rfl, st_succ v i (n := 22) (l := 6) (s := 5) rfl]
  generalize st v i 22 = p
  rfl

theorem part17_eq : k1_part17 (F := F) a0 h0 a1 h1 row lane ((st v i 24).1) ((st v i 24).2) (lo 3) (far 3 ((st v i 24).1)) =
    pure ⟨(st v i 25).1, (st v i 25).2, far 2 ((st v i 25).1), far 2 ((st v i 25).2), own 2 ((st v i 25).1) ((st v i 25).2), xori (xori (lo 2) (lo 7)) (constantI S4x16x128 1 1#1)⟩ := by
  simp only [st_succ v i (n := 24) (l := 6) (s := 3) rfl]
  generalize st v i 24 = p
  rfl

theorem part18_eq : k1_part18 (F := F) a0 h0 a1 h1 row lane ((st v i 25).1) ((st v i 25).2) (far 2 ((st v i 25).1)) (far 2 ((st v i 25).2)) (own 2 ((st v i 25).1) ((st v i 25).2)) (xori (xori (lo 2) (lo 7)) (constantI S4x16x128 1 1#1)) =
    pure ⟨(st v i 27).1, (st v i 27).2, lo 0, far 0 ((st v i 27).1), up 0 ((st v i 27).2)⟩ := by
  simp only [st_succ v i (n := 26) (l := 6) (s := 1) rfl, st_succ v i (n := 25) (l := 6) (s := 2) rfl]
  generalize st v i 25 = p
  rfl

theorem part19_eq : k1_part19 (F := F) a0 h0 a1 h1 row ((st v i 27).1) ((st v i 27).2) (lo 0) (far 0 ((st v i 27).1)) (up 0 ((st v i 27).2)) =
    pure ⟨(st v i 28).1, (st v i 28).2, far 7 ((st v i 28).1), far 7 ((st v i 28).2), keep 7 7 ((st v i 28).1) ((st v i 28).2)⟩ := by
  simp only [st_succ v i (n := 27) (l := 6) (s := 0) rfl]
  generalize st v i 27 = p
  rfl

theorem part20_eq : k1_part20 (F := F) a0 h0 a1 h1 row lane ((st v i 28).1) ((st v i 28).2) (far 7 ((st v i 28).1)) (far 7 ((st v i 28).2)) (keep 7 7 ((st v i 28).1) ((st v i 28).2)) =
    pure ⟨(st v i 30).1, (st v i 30).2, lo 5, far 5 ((st v i 30).1), up 5 ((st v i 30).2), down 5 ((st v i 30).2)⟩ := by
  simp only [st_succ v i (n := 29) (l := 7) (s := 6) rfl, st_succ v i (n := 28) (l := 7) (s := 7) rfl]
  generalize st v i 28 = p
  rfl

theorem part21_eq : k1_part21 (F := F) a0 h0 a1 h1 row lane ((st v i 30).1) ((st v i 30).2) (lo 5) (far 5 ((st v i 30).1)) (up 5 ((st v i 30).2)) (down 5 ((st v i 30).2)) =
    pure ⟨(st v i 32).1, (st v i 32).2, 8#32⟩ := by
  simp only [st_succ v i (n := 31) (l := 7) (s := 4) rfl, st_succ v i (n := 30) (l := 7) (s := 5) rfl]
  generalize st v i 30 = p
  rfl

theorem part22_eq : k1_part22 (F := F) a0 h0 a1 h1 row lane ((st v i 32).1) ((st v i 32).2) 8#32 =
    pure ⟨(st v i 33).1, (st v i 33).2, lo 2, far 2 ((st v i 33).1), far 2 ((st v i 33).2), broadcast S4x16x128 2#32⟩ := by
  simp only [st_succ v i (n := 32) (l := 7) (s := 3) rfl]
  generalize st v i 32 = p
  rfl

theorem part23_eq : k1_part23 (F := F) a0 h0 a1 h1 row lane ((st v i 33).1) ((st v i 33).2) (lo 2) (far 2 ((st v i 33).1)) (far 2 ((st v i 33).2)) (broadcast S4x16x128 2#32) =
    pure ⟨(st v i 35).1, (st v i 35).2, andi lane (broadcast S4x16x128 1#32), 0#32⟩ := by
  simp only [st_succ v i (n := 34) (l := 7) (s := 1) rfl, st_succ v i (n := 33) (l := 7) (s := 2) rfl]
  generalize st v i 33 = p
  rfl

theorem part24_eq : k1_part24 (F := F) a0 h0 a1 h1 row ((st v i 35).1) ((st v i 35).2) (andi lane (broadcast S4x16x128 1#32)) 0#32 =
    pure ⟨(st v i 36).1, (st v i 36).2, lo 8, far 8 ((st v i 36).1), far 8 ((st v i 36).2), andi row (broadcast S4x16x128 4#32), broadcast S4x16x128 0#32⟩ := by
  simp only [st_succ v i (n := 35) (l := 7) (s := 0) rfl]
  generalize st v i 35 = p
  rfl

theorem part25_eq : k1_part25 (F := F) a0 h0 a1 h1 row lane ((st v i 36).1) ((st v i 36).2) (lo 8) (far 8 ((st v i 36).1)) (far 8 ((st v i 36).2)) (andi row (broadcast S4x16x128 4#32)) (broadcast S4x16x128 0#32) =
    pure ⟨(st v i 38).1, (st v i 38).2, lo 6, extractStridedSlice S4x16x64 ![0, 0, 64] ((st v i 38).1) slices_S4x16x128_o0_0_64_S4x16x64⟩ := by
  simp only [st_succ v i (n := 37) (l := 8) (s := 7) rfl, st_succ v i (n := 36) (l := 8) (s := 8) rfl]
  generalize st v i 36 = p
  rfl

theorem part26_eq : k1_part26 (F := F) a0 h0 a1 h1 row lane ((st v i 38).1) ((st v i 38).2) (lo 6) (extractStridedSlice S4x16x64 ![0, 0, 64] ((st v i 38).1) slices_S4x16x128_o0_0_64_S4x16x64) =
    pure ⟨(st v i 39).1, (st v i 39).2, lo 5, far 5 ((st v i 39).1), far 5 ((st v i 39).2), lo 9, cmpf .ogt ((st v i 39).1) (far 5 ((st v i 39).1)), cmpf .oeq ((st v i 39).1) (far 5 ((st v i 39).1))⟩ := by
  simp only [st_succ v i (n := 38) (l := 8) (s := 6) rfl]
  generalize st v i 38 = p
  rfl

theorem part27_eq : k1_part27 (F := F) a0 h0 a1 h1 row lane ((st v i 39).1) ((st v i 39).2) (lo 5) (far 5 ((st v i 39).1)) (far 5 ((st v i 39).2)) (lo 9) (cmpf .ogt ((st v i 39).1) (far 5 ((st v i 39).1))) (cmpf .oeq ((st v i 39).1) (far 5 ((st v i 39).1))) =
    pure ⟨(st v i 41).1, (st v i 41).2, lo 3, up 3 ((st v i 41).1), extractStridedSlice S4x16x8 ![0, 0, 120] ((st v i 41).1) slices_S4x16x128_o0_0_120_S4x16x8⟩ := by
  simp only [st_succ v i (n := 40) (l := 8) (s := 4) rfl, st_succ v i (n := 39) (l := 8) (s := 5) rfl]
  generalize st v i 39 = p
  rfl

theorem part28_eq : k1_part28 (F := F) a0 h0 a1 h1 row lane ((st v i 41).1) ((st v i 41).2) (lo 3) (up 3 ((st v i 41).1)) (extractStridedSlice S4x16x8 ![0, 0, 120] ((st v i 41).1) slices_S4x16x128_o0_0_120_S4x16x8) =
    pure ⟨(st v i 42).1, (st v i 42).2, lo 2, far 2 ((st v i 42).1), far 2 ((st v i 42).2), lo 9, own 2 ((st v i 42).1) ((st v i 42).2)⟩ := by
  simp only [st_succ v i (n := 41) (l := 8) (s := 3) rfl]
  generalize st v i 41 = p
  rfl

theorem part29_eq : k1_part29 (F := F) a0 h0 a1 h1 row lane ((st v i 42).1) ((st v i 42).2) (lo 2) (far 2 ((st v i 42).1)) (far 2 ((st v i 42).2)) (lo 9) (own 2 ((st v i 42).1) ((st v i 42).2)) =
    pure ⟨(st v i 44).1, (st v i 44).2, lo 0, far 0 ((st v i 44).1)⟩ := by
  simp only [st_succ v i (n := 43) (l := 8) (s := 1) rfl, st_succ v i (n := 42) (l := 8) (s := 2) rfl]
  generalize st v i 42 = p
  rfl

theorem part30_eq : k1_part30 (F := F) a0 h0 a1 h1 row ((st v i 44).1) ((st v i 44).2) (lo 0) (far 0 ((st v i 44).1)) =
    pure ⟨(st v i 45).1, (st v i 45).2, far 9 ((st v i 45).1), far 9 ((st v i 45).2), own 9 ((st v i 45).1) ((st v i 45).2), xori (xori (lo 9) (lo 10)) (constantI S4x16x128 1 1#1)⟩ := by
  simp only [st_succ v i (n := 44) (l := 8) (s := 0) rfl]
  generalize st v i 44 = p
  rfl

theorem part31_eq : k1_part31 (F := F) a0 h0 a1 h1 row ((st v i 45).1) ((st v i 45).2) (far 9 ((st v i 45).1)) (far 9 ((st v i 45).2)) (own 9 ((st v i 45).1) ((st v i 45).2)) (xori (xori (lo 9) (lo 10)) (constantI S4x16x128 1 1#1)) =
    pure ⟨(st v i 47).1, (st v i 47).2, lo 7, far 7 ((st v i 47).1), up 7 ((st v i 47).2)⟩ := by
  simp only [st_succ v i (n := 46) (l := 9) (s := 8) rfl, st_succ v i (n := 45) (l := 9) (s := 9) rfl]
  generalize st v i 45 = p
  rfl

theorem part32_eq : k1_part32 (F := F) a0 h0 a1 h1 row lane ((st v i 47).1) ((st v i 47).2) (lo 7) (far 7 ((st v i 47).1)) (up 7 ((st v i 47).2)) =
    pure ⟨(st v i 48).1, (st v i 48).2, far 6 ((st v i 48).1), far 6 ((st v i 48).2), keep 9 6 ((st v i 48).1) ((st v i 48).2)⟩ := by
  simp only [st_succ v i (n := 47) (l := 9) (s := 7) rfl]
  generalize st v i 47 = p
  rfl

theorem part33_eq : k1_part33 (F := F) a0 h0 a1 h1 row lane ((st v i 48).1) ((st v i 48).2) (far 6 ((st v i 48).1)) (far 6 ((st v i 48).2)) (keep 9 6 ((st v i 48).1) ((st v i 48).2)) =
    pure ⟨(st v i 50).1, (st v i 50).2, lo 4, far 4 ((st v i 50).1), up 4 ((st v i 50).2), down 4 ((st v i 50).2)⟩ := by
  simp only [st_succ v i (n := 49) (l := 9) (s := 5) rfl, st_succ v i (n := 48) (l := 9) (s := 6) rfl]
  generalize st v i 48 = p
  rfl

theorem part34_eq : k1_part34 (F := F) a0 h0 a1 h1 row lane ((st v i 50).1) ((st v i 50).2) (lo 4) (far 4 ((st v i 50).1)) (up 4 ((st v i 50).2)) (down 4 ((st v i 50).2)) =
    pure ⟨(st v i 52).1, (st v i 52).2, 4#32⟩ := by
  simp only [st_succ v i (n := 51) (l := 9) (s := 3) rfl, st_succ v i (n := 50) (l := 9) (s := 4) rfl]
  generalize st v i 50 = p
  rfl

theorem part35_eq : k1_part35 (F := F) a0 h0 a1 h1 row lane ((st v i 52).1) ((st v i 52).2) 4#32 =
    pure ⟨(st v i 53).1, (st v i 53).2, lo 1, far 1 ((st v i 53).1), far 1 ((st v i 53).2), broadcast S4x16x128 8#32⟩ := by
  simp only [st_succ v i (n := 52) (l := 9) (s := 2) rfl]
  generalize st v i 52 = p
  rfl

theorem part36_eq : k1_part36 (F := F) a0 h0 a1 h1 row lane ((st v i 53).1) ((st v i 53).2) (lo 1) (far 1 ((st v i 53).1)) (far 1 ((st v i 53).2)) (broadcast S4x16x128 8#32) =
    pure ⟨(st v i 55).1, (st v i 55).2, andi row (broadcast S4x16x128 8#32), 0#32⟩ := by
  simp only [st_succ v i (n := 54) (l := 9) (s := 0) rfl, st_succ v i (n := 53) (l := 9) (s := 1) rfl]
  generalize st v i 53 = p
  rfl

theorem part37_eq : k1_part37 (F := F) a0 h0 a1 h1 row ((st v i 55).1) ((st v i 55).2) (andi row (broadcast S4x16x128 8#32)) 0#32 =
    pure ⟨(st v i 56).1, (st v i 56).2, far 9 ((st v i 56).1), far 9 ((st v i 56).2), own 9 ((st v i 56).1) ((st v i 56).2), xori (lo 9) (broadcast S4x16x128 1#1), constantI S4x16x128 1 1#1⟩ := by
  simp only [st_succ v i (n := 55) (l := 10) (s := 10) rfl]
  generalize st v i 55 = p
  rfl

theorem part38_eq : k1_part38 (F := F) a0 h0 a1 h1 row ((st v i 56).1) ((st v i 56).2) (far 9 ((st v i 56).1)) (far 9 ((st v i 56).2)) (own 9 ((st v i 56).1) ((st v i 56).2)) (xori (lo 9) (broadcast S4x16x128 1#1)) (constantI S4x16x128 1 1#1) =
    pure ⟨(st v i 58).1, (st v i 58).2, lo 7, far 7 ((st v i 58).1), up 7 ((st v i 58).2), down 7 ((st v i 58).2)⟩ := by
  simp only [st_succ v i (n := 57) (l := 10) (s := 8) rfl, st_succ v i (n := 56) (l := 10) (s := 9) rfl]
  generalize st v i 56 = p
  rfl

theorem part39_eq : k1_part39 (F := F) a0 h0 a1 h1 lane ((st v i 58).1) ((st v i 58).2) (lo 7) (far 7 ((st v i 58).1)) (up 7 ((st v i 58).2)) (down 7 ((st v i 58).2)) =
    pure ⟨(st v i 60).1, (st v i 60).2, lo 5, up 5 ((st v i 60).1)⟩ := by
  simp only [st_succ v i (n := 59) (l := 10) (s := 6) rfl, st_succ v i (n := 58) (l := 10) (s := 7) rfl]
  generalize st v i 58 = p
  rfl

theorem part40_eq : k1_part40 (F := F) a0 h0 a1 h1 lane ((st v i 60).1) ((st v i 60).2) (lo 5) (up 5 ((st v i 60).1)) =
    pure ⟨(st v i 61).2, far 4 ((st v i 61).2), keep 10 4 ((st v i 61).1) ((st v i 61).2), (st v i 62).1⟩ := by
  simp only [st_succ v i (n := 61) (l := 10) (s := 4) rfl, st_succ v i (n := 60) (l := 10) (s := 5) rfl]
  generalize st v i 60 = p
  rfl

theorem part41_eq : k1_part41 (F := F) a0 h0 a1 h1 lane ((st v i 61).2) (far 4 ((st v i 61).2)) (keep 10 4 ((st v i 61).1) ((st v i 61).2)) ((st v i 62).1) =
    pure ⟨(st v i 63).1, (st v i 63).2, lo 2, far 2 ((st v i 63).1), far 2 ((st v i 63).2), broadcast S4x16x128 1#1, cmpf .ogt ((st v i 63).1) (far 2 ((st v i 63).1)), cmpf .oeq ((st v i 63).1) (far 2 ((st v i 63).1))⟩ := by
  simp only [st_succ v i (n := 62) (l := 10) (s := 3) rfl, st_succ v i (n := 61) (l := 10) (s := 4) rfl]
  generalize st v i 61 = p
  rfl

theorem part42_eq : k1_part42 (F := F) a0 h0 a1 h1 lane ((st v i 63).1) ((st v i 63).2) (lo 2) (far 2 ((st v i 63).1)) (far 2 ((st v i 63).2)) (broadcast S4x16x128 1#1) (cmpf .ogt ((st v i 63).1) (far 2 ((st v i 63).1))) (cmpf .oeq ((st v i 63).1) (far 2 ((st v i 63).1))) =
    pure ⟨(st v i 65).1, (st v i 65).2, lo 0, far 0 ((st v i 65).1), extractStridedSlice S4x16x127 ![0, 0, 1] ((st v i 65).2) slices_S4x16x128_o0_0_1_S4x16x127⟩ := by
  simp only [st_succ v i (n := 64) (l := 10) (s := 1) rfl, st_succ v i (n := 63) (l := 10) (s := 2) rfl]
  generalize st v i 63 = p
  rfl

end

/-- The ranking call: it reads its values, and writes the first 256 positions. -/
theorem topk_eq (a0 : Memref sig .tc .vmem S4x2048 .f32) (h0 : a0.IsWhole) (a1 : Memref sig .tc .vmem S4x256 .i32) (h1 : a1.IsWhole) :
    cc1__topk_kernel (F := F) a0 h0 a1 h1 = (do
      let x : Vec F S4x2048 .f32 ← Prog.lift (.load a0 (Rect.unit (s := S4x2048) ![0, 0] S4x2048.size inb_S4x2048_S4x2048_0_0).toLoadRect (View.loadsAt_vmem h_S4x2048))
      let _x : Vec F S4x256 .i32 ← Prog.lift (.load a1 (Rect.unit (s := S4x256) ![0, 0] S4x256.size inb_S4x256_S4x256_0_0).toLoadRect (View.loadsAt_vmem h_S4x256))
      Prog.lift (.store a1 (Rect.unit (s := S4x256) ![0, 0] S4x256.size inb_S4x256_S4x256_0_0) (ranked x) Finset.univ (View.stores_vmem_bits_univ h_S4x256 rfl) (.inl rfl))
      pure ⟨⟩) := by
  unfold cc1__topk_kernel k1_part43
  rw [part1_eq]
  simp only [bind_assoc, pure_bind]
  refine congrArg _ (funext fun x => ?_)
  rw [part2_eq, pure_bind, part3_eq, pure_bind, part4_eq, pure_bind, part5_eq, pure_bind, part6_eq, pure_bind, part7_eq, pure_bind, part8_eq, pure_bind, part9_eq, pure_bind, part10_eq, pure_bind, part11_eq, pure_bind, part12_eq, pure_bind, part13_eq, pure_bind, part14_eq, pure_bind, part15_eq, pure_bind, part16_eq, pure_bind, part17_eq, pure_bind, part18_eq, pure_bind, part19_eq, pure_bind, part20_eq, pure_bind, part21_eq, pure_bind, part22_eq, pure_bind, part23_eq, pure_bind, part24_eq, pure_bind, part25_eq, pure_bind, part26_eq, pure_bind, part27_eq, pure_bind, part28_eq, pure_bind, part29_eq, pure_bind, part30_eq, pure_bind, part31_eq, pure_bind, part32_eq, pure_bind, part33_eq, pure_bind, part34_eq, pure_bind, part35_eq, pure_bind, part36_eq, pure_bind, part37_eq, pure_bind, part38_eq, pure_bind, part39_eq, pure_bind, part40_eq, pure_bind, part41_eq, pure_bind, part42_eq, pure_bind]
  unfold ranked
  rw [st_succ (grid x) place (n := 65) (l := 10) (s := 0) rfl]
  generalize st (grid x) place 65 = p
  rfl

end Cert.Proof.KI
-- ==== Proof.KI.Topk.lean ====
/-
  The TensorCore's ranking: the pipeline's proof data over any contents of its two arrays, and the body's triple at its one
  point.
-/
module

public import proofs.«01_k».proof.Proof.KI.Pipe
public import proofs.«01_k».proof.Proof.KI.Parts

@[expose] public section

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

namespace Topk

/-! ## The body -/

abbrev rW : Rect S4x2048 := Rect.unit (s := S4x2048) ![0, 0] S4x2048.size inb_S4x2048_S4x2048_0_0
abbrev rI : Rect S4x256 := Rect.unit (s := S4x256) ![0, 0] S4x256.size inb_S4x256_S4x256_0_0

/-- What the body leaves in the ranking's buffer, of the values: its one store. -/
def outK (x0 : Vec F S4x2048 .f32) : Vec F S4x256 .i32 := View.canon [⟨rI, ranked (View.ld x0 rW)⟩]

/-- The store covers the buffer. -/
theorem coverK (p0 : Vec F S4x256 .i32) (y : S4x256.Idx) :
    ∃ pc ∈ ([⟨rI, p0⟩] : List (View.Piece (Elt F) S4x256 .i32)), y ∈ pc.1.set :=
  View.cover_of_tiled [⟨rI, p0⟩] S4x256.size (by rfl) y

set_option maxHeartbeats 1000000 in
/-- The body, on whole buffers: the values' stays, the ranking's ends at `outK` of them. -/
theorem sound (c : Dev nD) (E : Set ℕ) (arg0 : Memref sig .tc .vmem S4x2048 .f32) (harg0 : arg0.IsWhole)
    (arg1 : Memref sig .tc .vmem S4x256 .i32) (harg1 : arg1.IsWhole) (x0 : Vec F S4x2048 .f32) (Q : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (outK x0)) -∗ Q ⟨⟩))
      ⊢ wp frame (wpE (defs₀ (F := F)) 𝒱₀ c none) E (cc1__topk_kernel arg0 harg0 arg1 harg1) Q := by
  rw [topk_eq]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverK _)

/-! ## The proof data -/

variable (fv : Dev nD → S4x2048.Idx → F .f32) (fi : Dev nD → S4x256.Idx → BitVec 32)

/-- The two arrays where the call begins. -/
def arr (c : Dev nD) (w : Fin cfg1.W) : Buf (Elt F) ((cfg1.win w).arr.view.loc (c.tc : Thread nD τ)) :=
  match w with
  | ⟨0, _⟩ => fv c
  | ⟨1, _⟩ => fi c

/-- Window `w`'s block at point `t`. -/
def blk (c : Dev nD) (w : Fin cfg1.W) (t : Fin cfg1.N) : ((cfg1.win w).xblock (cfg1.grid.coords t)).Idx → Elt F (cfg1.win w).elt :=
  ((cfg1.win w).blk t).view.read (Elt F) (arr fv fi c w)

/-- The call is before the SparseCore's. -/
def dats (c : Dev nD) : Dat τ (Elt F) (HIx 1) ℕ UU ℕ cfg1 c where
  A w := arr fv fi c w
  after w t := match w with
    | ⟨0, _⟩ => blk fv fi c 0 t
    | ⟨1, _⟩ => outK (blk fv fi c 0 t)
  Φ _ := Pipeline.scopedRest spec1 c
  q _ := fullShare
  owed _ := debt (F := F) 0 c
  recorded _ := known (F := F) 0 c

theorem after_w (c : Dev nD) (t : Fin cfg1.N) : (dats fv fi c).after 0 t = blk fv fi c 0 t := by dsimp only [dats]
theorem after_i (c : Dev nD) (t : Fin cfg1.N) : (dats fv fi c).after 1 t = outK (blk fv fi c 0 t) := by dsimp only [dats]
theorem A_eq (c : Dev nD) (w : Fin cfg1.W) : (dats fv fi c).A w = arr fv fi c w := by dsimp only [dats]

/-- The values' buffer holds its block. -/
theorem before_w (c : Dev nD) (t : Fin cfg1.N) (d) : (dats fv fi c).before 0 t d = blk fv fi c 0 t :=
  ((dats fv fi c).before_in_eq_fetched 0 rfl (fun _ => rfl) (fun _ _ _ => rfl)
    (fun t => by rw [after_w]; unfold Dat.blockOf blk; rw [A_eq]) t d).trans
    (by unfold Dat.fetched Dat.blockOf blk; rw [A_eq]; try rfl)

/-! ## The body at its point -/

def pre (c : Dev nD) (t : Fin cfg1.N) : sProp 𝕄 :=
  iprop((dats fv fi c).Φ t.castSucc ∗ (dats fv fi c).owesAt none t.castSucc
    ∗ (∃ d, owns (c : Thread nD τ) (st1_0 t) fullShare ((dats fv fi c).before 0 t d))
    ∗ (∃ d, owns (c : Thread nD τ) (st1_1 t) fullShare ((dats fv fi c).before 1 t d)))

def post (c : Dev nD) (t : Fin cfg1.N) : sProp 𝕄 :=
  iprop((dats fv fi c).Φ t.succ ∗ (dats fv fi c).owesAt none t.succ
    ∗ owns (c : Thread nD τ) (st1_0 t) fullShare ((dats fv fi c).after 0 t)
    ∗ owns (c : Thread nD τ) (st1_1 t) fullShare ((dats fv fi c).after 1 t))

theorem sound_point (c : Dev nD) (t : Fin cfg1.N) :
    pre fv fi c t ⊢ wp frame (wpE (defs₀ (F := F)) 𝒱₀ c none) Set.univ (bodyAt1 t) (fun _ => post fv fi c t) := by
  unfold pre post bodyAt1
  simp only [before_w]
  rw [show (dats fv fi c).Φ t.succ = (dats fv fi c).Φ t.castSucc from rfl,
    show (dats fv fi c).owesAt none t.succ = (dats fv fi c).owesAt none t.castSucc from rfl, after_w, after_i]
  iintro ⟨HΦ, Ho, ⟨%d0, H0⟩, ⟨%d1, H1⟩⟩
  iapply (sound c Set.univ _ _ _ _ (blk fv fi c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_at (t : Fin cfg1.N) : defs₀ (F := F) .tc cfg1.body (cfg1.bodyArgs t (cfg1.slots t)) = bodyAt1 t := rfl

theorem body_ob (c : Dev nD) : BodyObligation (dats fv fi c) (defs₀ (F := F)) 𝒱₀ none Set.univ := fun t => by
  rw [bigSep_W1, bigSep_W1, defs₀_at]
  exact triple_restated (sound_point fv fi c t) rfl .rfl fun _ => .rfl

end Topk

end Cert.Proof.KI

end
-- ==== Proof.KI.Gather.lean ====
/-
  The TensorCore's gather: the pipeline's proof data over any contents of its three arrays, and the body's triple at every
  grid point.
-/
module

public import proofs.«01_k».proof.Proof.KI.Pipe
public import Idealize.ShloMosaic.Lib.Pipeline.FrameBody
public import Idealize.ShloMosaic.Lib.Pipeline.RegionArrays

@[expose] public section

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body -/

abbrev rIdx : Rect S1x1x256 := Rect.unit (s := S1x1x256) ![0, 0, 0] S1x1x256.size inb_S1x1x256_S1x1x256_0_0_0
abbrev rX : Rect S1x1024x2048 := Rect.unit (s := S1x1024x2048) ![0, 0, 0] S1x1024x2048.size inb_S1x1024x2048_S1x1024x2048_0_0_0
abbrev rOut : Rect S1x1024x256 := Rect.unit (s := S1x1024x256) ![0, 0, 0] S1x1024x256.size inb_S1x1024x256_S1x1024x256_0_0_0

/-- What the body leaves in the output's buffer, of the block of `x` and the row of indices: its one store. -/
def outT (x0 : Vec F S1x1024x2048 .f32) (x1 : Vec F S1x1x256 .i32) : Vec F S1x1024x256 .f32 :=
  View.canon [⟨rOut, k3_pay1 (View.ld x1 rIdx) (View.ld x0 rX)⟩]

/-- The store covers the buffer. -/
theorem coverT (p0 : Vec F S1x1024x256 .f32) (y : S1x1024x256.Idx) :
    ∃ pc ∈ ([⟨rOut, p0⟩] : List (View.Piece (Elt F) S1x1024x256 .f32)), y ∈ pc.1.set :=
  View.cover_of_tiled [⟨rOut, p0⟩] S1x1024x256.size (by rfl) y

set_option maxHeartbeats 1000000 in
/-- The body, on whole buffers: the inputs' stay, the output's ends at `outT` of them. -/
theorem sound_gather (c : Dev nD) (E : Set ℕ) (i : grid3.Coords) (arg1 : Memref sig .tc .vmem S1x1024x2048 .f32) (harg1 : arg1.IsWhole)
    (arg2 : Memref sig .tc .vmem S1x1x256 .i32) (harg2 : arg2.IsWhole) (arg3 : Memref sig .tc .vmem S1x1024x256 .f32) (harg3 : arg3.IsWhole)
    (x0 : Vec F S1x1024x2048 .f32) (x1 : Vec F S1x1x256 .i32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outT x0 x1)) -∗ Q ⟨⟩))
      ⊢ wp frame (wpE (defs₀ (F := F)) 𝒱₀ c none) E (cc3__gather_tc i arg1 harg1 arg2 harg2 arg3 harg3) Q := by
  simp only [cc3__gather_tc_eq_skeleton]; unfold cc3__gather_tc_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverT _)

/-! ## The proof data -/

variable (fx : Dev nD → S4x1024x2048.Idx → F .f32) (fk : Dev nD → S4x1x256.Idx → BitVec 32) (ft : Dev nD → S3x1024x256.Idx → F .f32)

/-- The three arrays where the call begins. -/
def arr (c : Dev nD) (w : Fin cfg3.W) : Buf (Elt F) ((cfg3.win w).arr.view.loc (c.tc : Thread nD τ)) :=
  match w with
  | ⟨0, _⟩ => fx c
  | ⟨1, _⟩ => fk c
  | ⟨2, _⟩ => ft c

/-- Window `w`'s block at point `t`. -/
def blkT (c : Dev nD) (w : Fin cfg3.W) (t : Fin cfg3.N) : ((cfg3.win w).xblock (cfg3.grid.coords t)).Idx → Elt F (cfg3.win w).elt :=
  ((cfg3.win w).blk t).view.read (Elt F) (arr fx fk ft c w)

/-- The call is the one after the SparseCore's. -/
def dats (c : Dev nD) : Dat τ (Elt F) (HIx 1) ℕ UU ℕ cfg3 c where
  A w := arr fx fk ft c w
  after w t := match w with
    | ⟨0, _⟩ => blkT fx fk ft c 0 t
    | ⟨1, _⟩ => blkT fx fk ft c 1 t
    | ⟨2, _⟩ => outT (blkT fx fk ft c 0 t) (blkT fx fk ft c 1 t)
  Φ _ := Pipeline.scopedRest spec3 c
  q _ := fullShare
  owed _ := debt (F := F) 1 c
  recorded _ := known (F := F) 1 c

theorem after_x (c : Dev nD) (t : Fin cfg3.N) : (dats fx fk ft c).after 0 t = blkT fx fk ft c 0 t := by dsimp only [dats]
theorem after_k (c : Dev nD) (t : Fin cfg3.N) : (dats fx fk ft c).after 1 t = blkT fx fk ft c 1 t := by dsimp only [dats]
theorem after_t (c : Dev nD) (t : Fin cfg3.N) :
    (dats fx fk ft c).after 2 t = outT (blkT fx fk ft c 0 t) (blkT fx fk ft c 1 t) := by dsimp only [dats]
theorem A_eq (c : Dev nD) (w : Fin cfg3.W) : (dats fx fk ft c).A w = arr fx fk ft c w := by dsimp only [dats]

/-- Each input's buffer holds its block at every point. -/
theorem before_x (c : Dev nD) (t : Fin cfg3.N) (d) : (dats fx fk ft c).before 0 t d = blkT fx fk ft c 0 t :=
  ((dats fx fk ft c).before_in_eq_fetched 0 rfl (fun _ => rfl) (fun _ _ _ => rfl)
    (fun t => by rw [after_x]; unfold Dat.blockOf blkT; rw [A_eq]) t d).trans
    (by unfold Dat.fetched Dat.blockOf blkT; rw [A_eq]; try rfl)
theorem before_k (c : Dev nD) (t : Fin cfg3.N) (d) : (dats fx fk ft c).before 1 t d = blkT fx fk ft c 1 t :=
  ((dats fx fk ft c).before_in_eq_fetched 1 rfl (fun _ => rfl) (fun _ _ _ => rfl)
    (fun t => by rw [after_k]; unfold Dat.blockOf blkT; rw [A_eq]) t d).trans
    (by unfold Dat.fetched Dat.blockOf blkT; rw [A_eq]; try rfl)

/-! ## The body at a point -/

def preT (c : Dev nD) (t : Fin cfg3.N) : sProp 𝕄 :=
  iprop((dats fx fk ft c).Φ t.castSucc ∗ (dats fx fk ft c).owesAt none t.castSucc
    ∗ (∃ d, owns (c : Thread nD τ) (st3_0 t) fullShare ((dats fx fk ft c).before 0 t d))
    ∗ (∃ d, owns (c : Thread nD τ) (st3_1 t) fullShare ((dats fx fk ft c).before 1 t d))
    ∗ (∃ d, owns (c : Thread nD τ) (st3_2 t) fullShare ((dats fx fk ft c).before 2 t d)))

def postT (c : Dev nD) (t : Fin cfg3.N) : sProp 𝕄 :=
  iprop((dats fx fk ft c).Φ t.succ ∗ (dats fx fk ft c).owesAt none t.succ
    ∗ owns (c : Thread nD τ) (st3_0 t) fullShare ((dats fx fk ft c).after 0 t)
    ∗ owns (c : Thread nD τ) (st3_1 t) fullShare ((dats fx fk ft c).after 1 t)
    ∗ owns (c : Thread nD τ) (st3_2 t) fullShare ((dats fx fk ft c).after 2 t))

theorem sound_point (c : Dev nD) (t : Fin cfg3.N) :
    preT fx fk ft c t ⊢ wp frame (wpE (defs₀ (F := F)) 𝒱₀ c none) Set.univ (bodyAt3 t) (fun _ => postT fx fk ft c t) := by
  unfold preT postT bodyAt3
  simp only [before_x, before_k]
  rw [show (dats fx fk ft c).Φ t.succ = (dats fx fk ft c).Φ t.castSucc from rfl,
    show (dats fx fk ft c).owesAt none t.succ = (dats fx fk ft c).owesAt none t.castSucc from rfl,
    after_x, after_k, after_t]
  iintro ⟨HΦ, Ho, ⟨%d0, H0⟩, ⟨%d1, H1⟩, ⟨%d2, H2⟩⟩
  iapply (sound_gather c Set.univ (grid3.coords t) _ _ _ _ _ _ (blkT fx fk ft c 0 t) (blkT fx fk ft c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_at (t : Fin cfg3.N) : defs₀ (F := F) .tc cfg3.body (cfg3.bodyArgs t (cfg3.slots t)) = bodyAt3 t := rfl

theorem body_ob (c : Dev nD) : BodyObligation (dats fx fk ft c) (defs₀ (F := F)) 𝒱₀ none Set.univ := fun t => by
  rw [bigSep_W3, bigSep_W3, defs₀_at]
  exact triple_restated (sound_point fx fk ft c t) rfl .rfl fun _ => .rfl

end Cert.Proof.KI

end
-- ==== Proof.KI.Region.lean ====
/-
  The three TensorCore calls, each as one step of the TensorCore's program.
-/
module

public import proofs.«01_k».proof.Proof.KI.Mean
public import proofs.«01_k».proof.Proof.KI.Topk
public import proofs.«01_k».proof.Proof.KI.Gather

@[expose] public section

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

abbrev adm : (p : Fin 3) → (pcfgs (F := F) p).Adm := fun p => (cfgs p).toPCfg_adm

variable (fw : Dev nD → S4x2048x2048.Idx → F .f32) (fu : Dev nD → S4x1x2048.Idx → F .f32)
  (fv : Dev nD → S4x2048.Idx → F .f32) (fi : Dev nD → S4x256.Idx → BitVec 32)
  (fx : Dev nD → S4x1024x2048.Idx → F .f32) (fk : Dev nD → S4x1x256.Idx → BitVec 32) (ft : Dev nD → S3x1024x256.Idx → F .f32)

def pdats : (p : Fin 3) → (c : Dev nD) → Dat τ (Elt F) (HIx 1) ℕ UU ℕ (Pipeline.pin (pcfgs (F := F)) adm p) c
  | 0 => Mean.dats fw fu
  | 1 => Topk.dats fv fi
  | 2 => dats fx fk ft

theorem noTables (p : Fin 3) (c : Dev nD) (q) (pf) :
    (Pipeline.prefHeld (Ix := HIx 1) (Name := ℕ) (U := UU) (Lvl := ℕ) (Val := Elt F) (pcfgs (F := F) p).pre c q pf : sProp 𝕄) = BI.emp :=
  Pipeline.prefHeld_of_none _ rfl _ _ _

/-- A call that keeps what the core owes, with the staging buffers of the other call set aside. -/
def segOf (p : Fin 3) (n : ℕ) (h : Pipeline.LaunchFacts (nD := nD) (τ := τ) cfgs p)
    (hb : ∀ c, Pipeline.BodyObligationLoose (pdats fw fu fv fi fx fk ft p c) (defs₀ (F := F)) 𝒱₀ none Set.univ)
    (ho : ∀ c t, (pdats fw fu fv fi fx fk ft p c).owed t = debt (F := F) n c) (hr : ∀ c t, (pdats fw fu fv fi fx fk ft p c).recorded t = known (F := F) n c)
    (hi : ∀ c, Pipeline.scopedRest (Pipeline.pin (pcfgs (F := F)) adm p).spec c ⊢ (pdats fw fu fv fi fx fk ft p c).Φ 0)
    (he : ∀ c t, (pdats fw fu fv fi fx fk ft p c).Φ t ⊢ Pipeline.scopedRest (Pipeline.pin (pcfgs (F := F)) adm p).spec c) :
    Pipeline.RegionSeg (pcfgs (F := F)) adm (pdats fw fu fv fi fx fk ft) none defs₀ 𝒱₀ (K (F := F)).L (K (F := F)).lev p where
  win := h.win.to₀
  block_pos := h.block_pos
  stage_whole := h.stage_whole
  K := PEmpty
  osem k := k.elim
  ho := Pipeline.OwnSemFacts.none _
  hbody := hb
  hwaits c := Pipeline.cellsWaits_of_cut (Pipeline.pin (pcfgs (F := F)) adm) (pdats fw fu fv fi fx fk ft) none p c 0 (debt (F := F) n c) (ho c)
    (fun _ _ => Finset.mem_univ _) (fun _ _ => le_refl _) (debt_above n c)
  pre c := iprop((pdats fw fu fv fi fx fk ft p c).arrays ((pdats fw fu fv fi fx fk ft p c).arrAt · 0) ∗ idle n c)
  post c := iprop((pdats fw fu fv fi fx fk ft p c).arrays ((pdats fw fu fv fi fx fk ft p c).arrAt · (Pipeline.pin (pcfgs (F := F)) adm p).N) ∗ idle n c)
  X _ := iprop(emp)
  Y _ := iprop(emp)
  Z _ := iprop(emp)
  hentry c := by
    rw [Pipeline.ownSems0_none, noTables]
    iintro ⟨⟨Ha, HO⟩, -, -⟩
    imodintro
    isplitl [Ha]; · iexact Ha
    isplitr; · iempintro
    isplitl [HO]; · iapply (idle_in _ n 0 (ho c 0) (hr c 0)); iexact HO
    isplitr <;> iempintro
  hin c := by
    iintro ⟨-, -, Hs⟩
    iapply (hi c); iexact Hs
  hout c := by
    rw [Pipeline.ownSems0_none]
    iintro Hs
    isplitr; · iempintro
    isplitr; · iempintro
    iapply (he c _); iexact Hs
  hexit c := by
    iintro ⟨Ha, HO, -, -⟩
    imodintro
    isplitl [Ha]; · iexact Ha
    iapply (idle_out _ n _ (ho c _) (hr c _)); iexact HO

attribute [local irreducible] debt known Pipeline.scopedRest

/-- The means, first. -/
def segMean : Pipeline.RegionSeg (pcfgs (F := F)) adm (pdats fw fu fv fi fx fk ft) none defs₀ 𝒱₀ (K (F := F)).L (K (F := F)).lev 0 :=
  segOf fw fu fv fi fx fk ft 0 0 launch0 (fun c => (Mean.body_ob fw fu c).loose) (fun _ _ => rfl) (fun _ _ => rfl)
    (Mean.inv_in fw fu) (Mean.inv_out fw fu)

/-- Their ranking, before the SparseCore call. -/
def segTopk : Pipeline.RegionSeg (pcfgs (F := F)) adm (pdats fw fu fv fi fx fk ft) none defs₀ 𝒱₀ (K (F := F)).L (K (F := F)).lev 1 :=
  segOf fw fu fv fi fx fk ft 1 0 launch1 (fun c => (Topk.body_ob fv fi c).loose) (fun _ _ => rfl) (fun _ _ => rfl) (fun _ => .rfl) (fun _ _ => .rfl)

/-- The gather, after it. -/
def segGather : Pipeline.RegionSeg (pcfgs (F := F)) adm (pdats fw fu fv fi fx fk ft) none defs₀ 𝒱₀ (K (F := F)).L (K (F := F)).lev 2 :=
  segOf fw fu fv fi fx fk ft 2 1 launch3 (fun c => (body_ob fx fk ft c).loose) (fun _ _ => rfl) (fun _ _ => rfl) (fun _ => .rfl) (fun _ _ => .rfl)

end Cert.Proof.KI

end
-- ==== Proof.KI.TopkValue.lean ====
/-
  The ranking's array after its call: the network's result on the whole array of values, whatever the array held before.
-/
module

public import proofs.«01_k».proof.Proof.KI.Topk
public import Idealize.ShloMosaic.Lib.Pipeline.ValueKit
public import Idealize.ShloMosaic.Lib.Pipeline.Value

@[expose] public section

set_option maxRecDepth 16384

noncomputable section

namespace Cert.Proof.KI

open Cert.KernelIdeal Cert.KernelIdeal.Gen

open Idealize.ShloMosaic Idealize.ShloMosaic.TcCoe
open Idealize.SL Idealize.SL.Sem

variable {F : FTy → Type} [FloatOps F]

namespace Topk

theorem outK_eq (x : Vec F S4x2048 .f32) : outK x = ranked x := by
  unfold outK rI rW
  have z : (![0, 0] : Fin 2 → ℕ) = fun _ => 0 := by funext a; fin_cases a <;> rfl
  refine (View.canon_unit_zero (S := S4x256) z inb_S4x256_S4x256_0_0 _).trans ?_
  exact congrArg ranked (View.ld_unit_zero (S := S4x2048) z inb_S4x2048_S4x2048_0_0 x)

variable (fv : Dev nD → S4x2048.Idx → F .f32) (fi : Dev nD → S4x256.Idx → BitVec 32) (d : Dev nD)

theorem index_w : ∀ t : Fin cfg1.N, win1_0.index t = ![0, 0] := by decide +kernel
theorem index_i : ∀ t : Fin cfg1.N, win1_1.index t = ![0, 0] := by decide +kernel

/-- The one block of the values is all of them. -/
theorem blk_w (t : Fin cfg1.N) : blk fv fi d 0 t = fv d := by
  funext y
  show fv d ((win1_0.blk t).view.emb y) = _
  refine congrArg (fv d) (funext fun a => Fin.ext ?_)
  blk_simp
  rw [index_w]
  match a with
  | 0 => show 0 * 4 + (y 0).val = (y 0).val; omega
  | 1 => show 0 * 2048 + (y 1).val = (y 1).val; omega

/-- The one block of the ranking is all of it. -/
theorem emb_i (t : Fin cfg1.N) (y : S4x256.Idx) : (win1_1.blk t).view.emb y = y := by
  funext a; apply Fin.ext
  blk_simp
  rw [index_i]
  match a with
  | 0 => show 0 * 4 + (y 0).val = (y 0).val; omega
  | 1 => show 0 * 256 + (y 1).val = (y 1).val; omega

theorem array_eq : (dats fv fi d).arrAt 1 cfg1.N = ranked (fv d) := by
  refine (dats fv fi d).arrAt_eq_of_covers 1 (ranked (fv d)) (by decide +kernel) fun t hf y => ?_
  blk_simp
  rw [after_i, outK_eq, blk_w]
  exact (congrArg (ranked (fv d)) (emb_i t y)).symm

end Topk

end Cert.Proof.KI

end
-- ==== Proof.KI.Exchange.lean ====
/-
  One exchange of the network at one position: position `j` of batch `b` lies at row `j / 128`, lane `j % 128`, its
  partner at distance `2 ^ s` is the position whose number differs in bit `s` alone, and an exchange leaves there either the
  entry of the position itself or its partner's. So every position the network carries stays one of the 2048.
-/
module

public import proofs.«01_k».proof.Proof.KI.Network
public import Idealize.ShloMosaic.Lib.SortNet.Bitonic
public import Idealize.ShloMosaic.Lib.ValueIdxCore

@[expose] public section

noncomputable section

namespace Cert.Proof.KI

open Cert.KernelIdeal Cert.KernelIdeal.Gen

open Idealize.ShloMosaic
open Idealize.ShloMosaic.SortNet (partner partner_val partner_val_of_clear partner_val_of_set)
open Idealize.ShloMosaic.ValueIdx (ix2 ix3)

/-! ## Positions -/

/-- Position `j` of batch `b`. -/
def col (b : Fin 4) (j : Fin (2 ^ 11)) : S4x16x128.Idx :=
  ix3 (n0 := 4) (n1 := 16) (n2 := 128) b ⟨j.val / 128, by omega⟩ ⟨j.val % 128, by omega⟩

theorem eq_col (y : S4x16x128.Idx) : ∃ b j, y = col b j := by
  have h1 : (y 1).val < 16 := (y 1).isLt
  have h2 : (y 2).val < 128 := (y 2).isLt
  refine ⟨y 0, ⟨(y 1).val * 128 + (y 2).val, by omega⟩, ?_⟩
  funext a
  apply Fin.ext
  match a with
  | ⟨0, _⟩ => rfl
  | ⟨1, _⟩ => show (y 1).val = ((y 1).val * 128 + (y 2).val) / 128; omega
  | ⟨2, _⟩ => show (y 2).val = ((y 1).val * 128 + (y 2).val) % 128; omega

theorem lane_col (b : Fin 4) (j : Fin (2 ^ 11)) : lane (col b j) = BitVec.ofNat 32 (j.val % 128) := by
  show BitVec.ofNat 32 (0 * 128 + j.val % 128) = _
  rw [Nat.zero_mul, Nat.zero_add]

theorem row_col (b : Fin 4) (j : Fin (2 ^ 11)) : row (col b j) = BitVec.ofNat 32 (j.val / 128) := by
  show BitVec.ofNat 32 (0 * 16 + j.val / 128) = _
  rw [Nat.zero_mul, Nat.zero_add]

theorem place_col (b : Fin 4) (j : Fin (2 ^ 11)) : place (col b j) = BitVec.ofNat 32 j.val := by
  show IntOp.addi (IntOp.muli (row (col b j)) 128#32) (lane (col b j)) = _
  rw [lane_col, row_col]
  revert j
  decide +kernel

/-! ## The masks -/

/-- Whether bit `s` of the position is clear. -/
def bitOff (s : Nat) (j : Fin (2 ^ 11)) : Bool := decide (j.val &&& 2 ^ s = 0)

theorem lo_col (s : Nat) (hs : s < 11) (b : Fin 4) (j : Fin (2 ^ 11)) : lo s (col b j) = BitVec.ofBool (bitOff s j) := by
  have hl (d : BitVec 32) : bitClear lane d (col b j) = BitVec.ofBool ((BitVec.ofNat 32 (j.val % 128) &&& d) == 0#32) := by
    rw [← lane_col b j]; rfl
  have hr (d : BitVec 32) : bitClear row d (col b j) = BitVec.ofBool ((BitVec.ofNat 32 (j.val / 128) &&& d) == 0#32) := by
    rw [← row_col b j]; rfl
  interval_cases s
  all_goals first
    | (refine (hl _).trans (congrArg BitVec.ofBool ?_); clear hl hr; revert j; decide +kernel)
    | (refine (hr _).trans (congrArg BitVec.ofBool ?_); clear hl hr; revert j; decide +kernel)

theorem asc_col (l : Nat) (hl : l < 11) (b : Fin 4) (j : Fin (2 ^ 11)) : asc l (col b j) = BitVec.ofBool (bitOff (l + 1) j) := by
  by_cases h : l = 10
  · subst h
    show 1#1 = _
    have e : bitOff (10 + 1) j = true := by revert j; decide +kernel
    rw [e]; rfl
  · have e : asc l = lo (l + 1) := by
      interval_cases l
      all_goals first | rfl | exact absurd rfl h
    rw [e]
    exact lo_col (l + 1) (by omega) b j

/-! ## The partner -/

section
variable {α : Type} {n d : Nat} (x : Arr α)

theorem up_lane (h1 : S4x16x128.Slices ![0, 0, d] ⟨3, ![4, 16, n]⟩) (h2 : S4x16x128.Slices ![0, 0, 0] ⟨3, ![4, 16, d]⟩)
    (hc : Shape.Concatenates [⟨3, ![4, 16, n]⟩, ⟨3, ![4, 16, d]⟩] S4x16x128 2) (b : Fin 4) (r r' : Fin 16) (l l' : Fin 128)
    (hr : r' = r) (hl : l'.val = l.val + d) (hn : n + d = 128) :
    concatenate S4x16x128 2 [⟨⟨3, ![4, 16, n]⟩, extractStridedSlice ⟨3, ![4, 16, n]⟩ ![0, 0, d] x h1⟩,
      ⟨⟨3, ![4, 16, d]⟩, extractStridedSlice ⟨3, ![4, 16, d]⟩ ![0, 0, 0] x h2⟩] hc (ix3 b r l) = x (ix3 b r' l') := by
  subst hr
  refine (concatenate_pair_apply_left 2 _ _ hc _ rfl (ix3 b r' ⟨l.val, by omega⟩) fun a => ?_).trans
    (extractStridedSlice_apply _ _ h1 _ (ix3 b r' l') fun a => ?_)
  · match a with
    | ⟨0, _⟩ => rfl
    | ⟨1, _⟩ => rfl
    | ⟨2, _⟩ => rfl
  · match a with
    | ⟨0, _⟩ => exact (Nat.zero_add _).symm
    | ⟨1, _⟩ => exact (Nat.zero_add _).symm
    | ⟨2, _⟩ => show l'.val = d + l.val; omega

theorem down_lane (h1 : S4x16x128.Slices ![0, 0, n] ⟨3, ![4, 16, d]⟩) (h2 : S4x16x128.Slices ![0, 0, 0] ⟨3, ![4, 16, n]⟩)
    (hc : Shape.Concatenates [⟨3, ![4, 16, d]⟩, ⟨3, ![4, 16, n]⟩] S4x16x128 2) (b : Fin 4) (r r' : Fin 16) (l l' : Fin 128)
    (hr : r' = r) (hl : l.val = l'.val + d) (hn : n + d = 128) :
    concatenate S4x16x128 2 [⟨⟨3, ![4, 16, d]⟩, extractStridedSlice ⟨3, ![4, 16, d]⟩ ![0, 0, n] x h1⟩,
      ⟨⟨3, ![4, 16, n]⟩, extractStridedSlice ⟨3, ![4, 16, n]⟩ ![0, 0, 0] x h2⟩] hc (ix3 b r l) = x (ix3 b r' l') := by
  subst hr
  refine (concatenate_pair_apply_right 2 _ _ hc _ rfl rfl (ix3 b r' ⟨l'.val, by omega⟩) (fun a ha => ?_) ?_).trans
    (extractStridedSlice_apply _ _ h2 _ (ix3 b r' l') fun a => ?_)
  · match a with
    | ⟨0, _⟩ => rfl
    | ⟨1, _⟩ => rfl
    | ⟨2, _⟩ => exact absurd rfl ha
  · exact hl.symm
  · match a with
    | ⟨0, _⟩ => exact (Nat.zero_add _).symm
    | ⟨1, _⟩ => exact (Nat.zero_add _).symm
    | ⟨2, _⟩ => exact (Nat.zero_add _).symm

theorem up_row (h1 : S4x16x128.Slices ![0, d, 0] ⟨3, ![4, n, 128]⟩) (h2 : S4x16x128.Slices ![0, 0, 0] ⟨3, ![4, d, 128]⟩)
    (hc : Shape.Concatenates [⟨3, ![4, n, 128]⟩, ⟨3, ![4, d, 128]⟩] S4x16x128 1) (b : Fin 4) (r r' : Fin 16) (l l' : Fin 128)
    (hl : l' = l) (hr : r'.val = r.val + d) (hn : n + d = 16) :
    concatenate S4x16x128 1 [⟨⟨3, ![4, n, 128]⟩, extractStridedSlice ⟨3, ![4, n, 128]⟩ ![0, d, 0] x h1⟩,
      ⟨⟨3, ![4, d, 128]⟩, extractStridedSlice ⟨3, ![4, d, 128]⟩ ![0, 0, 0] x h2⟩] hc (ix3 b r l) = x (ix3 b r' l') := by
  subst hl
  refine (concatenate_pair_apply_left 1 _ _ hc _ rfl (ix3 b ⟨r.val, by omega⟩ l') fun a => ?_).trans
    (extractStridedSlice_apply _ _ h1 _ (ix3 b r' l') fun a => ?_)
  · match a with
    | ⟨0, _⟩ => rfl
    | ⟨1, _⟩ => rfl
    | ⟨2, _⟩ => rfl
  · match a with
    | ⟨0, _⟩ => exact (Nat.zero_add _).symm
    | ⟨1, _⟩ => show r'.val = d + r.val; omega
    | ⟨2, _⟩ => exact (Nat.zero_add _).symm

theorem down_row (h1 : S4x16x128.Slices ![0, n, 0] ⟨3, ![4, d, 128]⟩) (h2 : S4x16x128.Slices ![0, 0, 0] ⟨3, ![4, n, 128]⟩)
    (hc : Shape.Concatenates [⟨3, ![4, d, 128]⟩, ⟨3, ![4, n, 128]⟩] S4x16x128 1) (b : Fin 4) (r r' : Fin 16) (l l' : Fin 128)
    (hl : l' = l) (hr : r.val = r'.val + d) (hn : n + d = 16) :
    concatenate S4x16x128 1 [⟨⟨3, ![4, d, 128]⟩, extractStridedSlice ⟨3, ![4, d, 128]⟩ ![0, n, 0] x h1⟩,
      ⟨⟨3, ![4, n, 128]⟩, extractStridedSlice ⟨3, ![4, n, 128]⟩ ![0, 0, 0] x h2⟩] hc (ix3 b r l) = x (ix3 b r' l') := by
  subst hl
  refine (concatenate_pair_apply_right 1 _ _ hc _ rfl rfl (ix3 b ⟨r'.val, by omega⟩ l') (fun a ha => ?_) ?_).trans
    (extractStridedSlice_apply _ _ h2 _ (ix3 b r' l') fun a => ?_)
  · match a with
    | ⟨0, _⟩ => rfl
    | ⟨1, _⟩ => exact absurd rfl ha
    | ⟨2, _⟩ => rfl
  · exact hr.symm
  · match a with
    | ⟨0, _⟩ => exact (Nat.zero_add _).symm
    | ⟨1, _⟩ => exact (Nat.zero_add _).symm
    | ⟨2, _⟩ => exact (Nat.zero_add _).symm

end

/-- Where bit `s < 7` is clear, the position `2 ^ s` on is in the same row. -/
theorem split_lane : ∀ s : Fin 7, ∀ j : Fin 2048, j.val &&& 2 ^ s.val = 0 →
    (j.val + 2 ^ s.val) / 128 = j.val / 128 ∧ (j.val + 2 ^ s.val) % 128 = j.val % 128 + 2 ^ s.val := by decide +kernel

theorem up_col {α : Type} (x : Arr α) (s : Nat) (hs : s < 11) (b : Fin 4) (j : Fin (2 ^ 11)) (h : j.val &&& 2 ^ s = 0) :
    up s x (col b j) = x (col b (partner 11 s j)) := by
  have hp := partner_val_of_clear hs j h
  by_cases hs7 : s < 7
  · have hj := split_lane ⟨s, hs7⟩ j h
    rw [← hp] at hj
    have e1 : (⟨(partner 11 s j).val / 128, by omega⟩ : Fin 16) = ⟨j.val / 128, by omega⟩ := Fin.ext hj.1
    interval_cases s
    all_goals exact up_lane x _ _ (by decide) b _ _ _ _ e1 (by exact hj.2) (by rfl)
  · have e1 : (⟨(partner 11 s j).val % 128, by omega⟩ : Fin 128) = ⟨j.val % 128, by omega⟩ := by
      apply Fin.ext; show (partner 11 s j).val % 128 = j.val % 128; rw [hp]
      have : s = 7 ∨ s = 8 ∨ s = 9 ∨ s = 10 := by omega
      rcases this with rfl | rfl | rfl | rfl <;> omega
    have e2 : (partner 11 s j).val / 128 = j.val / 128 + 2 ^ s / 128 := by
      rw [hp]
      have : s = 7 ∨ s = 8 ∨ s = 9 ∨ s = 10 := by omega
      rcases this with rfl | rfl | rfl | rfl <;> omega
    interval_cases s
    all_goals first
      | exact absurd (by decide) hs7
      | exact up_row x _ _ (by decide) b _ _ _ _ e1 (by exact e2) (by rfl)

theorem down_col {α : Type} (x : Arr α) (s : Nat) (hs : s < 11) (b : Fin 4) (j : Fin (2 ^ 11)) (h : j.val &&& 2 ^ s ≠ 0) :
    down s x (col b j) = x (col b (partner 11 s j)) := by
  have hc : (partner 11 s j).val &&& 2 ^ s = 0 := by
    rw [partner_val hs]
    have hb : j.val.testBit s = true := by
      by_contra hb
      apply h
      apply Nat.eq_of_testBit_eq
      intro i
      by_cases e : s = i <;> simp_all [Nat.testBit_two_pow]
    apply Nat.eq_of_testBit_eq
    intro i
    by_cases e : s = i <;> simp_all [Nat.testBit_two_pow]
  have hp : j.val = (partner 11 s j).val + 2 ^ s := by
    have := partner_val_of_set hs j h
    omega
  generalize partner 11 s j = k at hc hp
  by_cases hs7 : s < 7
  · have hj := split_lane ⟨s, hs7⟩ k hc
    rw [← hp] at hj
    have e1 : (⟨k.val / 128, by omega⟩ : Fin 16) = ⟨j.val / 128, by omega⟩ := Fin.ext hj.1.symm
    interval_cases s
    all_goals exact down_lane x _ _ (by decide) b _ _ _ _ e1 (by exact hj.2) (by rfl)
  · have e1 : (⟨k.val % 128, by omega⟩ : Fin 128) = ⟨j.val % 128, by omega⟩ := by
      apply Fin.ext; show k.val % 128 = j.val % 128; rw [hp]
      have : s = 7 ∨ s = 8 ∨ s = 9 ∨ s = 10 := by omega
      rcases this with rfl | rfl | rfl | rfl <;> omega
    have e2 : j.val / 128 = k.val / 128 + 2 ^ s / 128 := by
      rw [hp]
      have : s = 7 ∨ s = 8 ∨ s = 9 ∨ s = 10 := by omega
      rcases this with rfl | rfl | rfl | rfl <;> omega
    interval_cases s
    all_goals first
      | exact absurd (by decide) hs7
      | exact down_row x _ _ (by decide) b _ _ _ _ e1 (by exact e2) (by rfl)

theorem far_col {α : Type} (x : Arr α) (s : Nat) (hs : s < 11) (b : Fin 4) (j : Fin (2 ^ 11)) :
    far s x (col b j) = x (col b (partner 11 s j)) := by
  show Scalar.select (lo s (col b j)) (up s x (col b j)) (down s x (col b j)) = _
  rw [lo_col s hs]
  by_cases h : j.val &&& 2 ^ s = 0
  · have e : bitOff s j = true := decide_eq_true h
    rw [e]
    exact up_col x s hs b j h
  · have e : bitOff s j = false := decide_eq_false h
    rw [e]
    exact down_col x s hs b j h

/-! ## The positions carried stay among the 2048 -/

variable {F : FTy → Type} [FloatOps F]

theorem sched_lt : ∀ e ∈ sched, e.1 < 11 ∧ e.2 ≤ e.1 := by decide

theorem step_lt (l s : Nat) (hs : s < 11) (p : FVec F S4x16x128 .f32 × IVec S4x16x128 32) (h : ∀ y, (p.2 y).toNat < 2048)
    (y : S4x16x128.Idx) : ((step l s p).2 y).toNat < 2048 := by
  obtain ⟨b, j, rfl⟩ := eq_col y
  show (Scalar.select (keep l s p.1 p.2 (col b j)) (p.2 (col b j)) (far s p.2 (col b j))).toNat < 2048
  rw [far_col _ s hs]
  unfold Scalar.select
  split <;> exact h _

theorem run_lt (L : List (Nat × Nat)) (hL : ∀ e ∈ L, e.2 < 11) (p : FVec F S4x16x128 .f32 × IVec S4x16x128 32)
    (h : ∀ y, (p.2 y).toNat < 2048) (y : S4x16x128.Idx) : ((run L p).2 y).toNat < 2048 := by
  induction L generalizing p with
  | nil => exact h y
  | cons e L ih =>
    exact ih (fun e he => hL e (List.mem_cons_of_mem _ he)) (step e.1 e.2 p) (step_lt e.1 e.2 (hL e List.mem_cons_self) p h)

theorem place_lt (y : S4x16x128.Idx) : (place y).toNat < 2048 := by
  obtain ⟨b, j, rfl⟩ := eq_col y
  have := j.isLt
  rw [place_col, BitVec.toNat_ofNat]
  omega

/-- Every position of the ranking is one of the 2048. -/
theorem ranked_lt (x : FVec F S4x2048 .f32) (y : S4x256.Idx) : (ranked x y).toNat < 2048 :=
  run_lt _ (fun e he => have h := sched_lt e (List.mem_of_mem_take he); Nat.lt_of_le_of_lt h.2 h.1) _ place_lt _

end Cert.Proof.KI
-- ==== Proof.KI.Launch.lean ====
/-
  The whole program: the launch of the 35 threads, the means and their ranking on the TensorCore, the SparseCore call with its indices,
  then the indices with an axis of one, the TensorCore's gather and the two results joined. Every final memory holds the two arguments as they
  were, the joined result, and every semaphore at zero.
-/
module

public import proofs.«01_k».proof.Proof.KI.Tile
public import proofs.«01_k».proof.Proof.KI.Region
public import proofs.«01_k».proof.Proof.KI.TopkValue
public import proofs.«01_k».proof.Proof.KI.Exchange

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- `w` at the launch, the means the first call leaves, the same without the axis of one, their ranking, and `x` and the
    SparseCore's output at the launch. -/
abbrev mw (d : Dev nD) : S4x2048x2048.Idx → F .f32 := m (wLoc d)
def mu (d : Dev nD) : S4x1x2048.Idx → F .f32 := (Mean.dats (mw m) (fun d => m (uLoc d)) d).arrAt 1 cfg0.N
def mv (d : Dev nD) : S4x2048.Idx → F .f32 := shapeCast S4x2048 (mu m d) shapeCasts_S4x1x2048_S4x2048
def mi (d : Dev nD) : S4x256.Idx → BitVec 32 := ranked (mv m d)
abbrev mx (d : Dev nD) : S4x1024x2048.Idx → F .f32 := m (xLoc d)
abbrev mo (d : Dev nD) : S1x1024x256.Idx → F .f32 := m (oLoc d)

/-- The ranking names columns of `x`. -/
theorem idxOK : IdxOK (mi m) := fun d y => ranked_lt _ y

abbrev Pm : (K (F := F)).Pay (nD := nD) (Val := Elt F) (Name := ℕ) (U := UU) := P (mi m) (mx m) (mo m)

/-! ## The launch's ghost state -/

abbrev pcells_inj : Function.Injective (Pipeline.cellOf (nD := nD) (τ := τ) (Pipeline.pin (pcfgs (F := F)) adm)) := cellOf_inj

def u₀ : UU := (initOf (sc (F := F)).hsCells (sc (F := F)).hsToks,
  (initOf (Pipeline.cells (Pipeline.pin (pcfgs (F := F)) adm) pcells_inj) (Pipeline.launchToks (Pipeline.pin (pcfgs (F := F)) adm) pcells_inj), 1))

omit [FloatOps F] in
theorem noneHeld {I : Type} (s : Finset I) : (bigSep s fun _ => iprop(emp)) = (iprop(emp) : sProp 𝕄) := bigSep_emp_const s

omit [FloatOps F] in
theorem threeCalls (Φ : Fin 3 → Dev nD → sProp 𝕄) :
    (bigSep Finset.univ fun d : Dev nD => bigSep Finset.univ fun p : Fin 3 => Φ p d) = bigSep Finset.univ fun d : Dev nD => iprop(Φ 0 d ∗ Φ 1 d ∗ Φ 2 d) :=
  bigSep_congr fun _ _ => bigSep_univ_eq_bigSepL [(0 : Fin 3), (1 : Fin 3), (2 : Fin 3)] (by decide) (by decide) _

/-- The TensorCore's share of it: the staging cells' of one call, -/
abbrev Gp (p : Fin 3) (d : Dev nD) : sProp 𝕄 :=
  iprop(Pipeline.cellsGhost (Pipeline.pin (pcfgs (F := F)) adm) EP p d ∗ Pipeline.toksInit (Pipeline.pin (pcfgs (F := F)) adm) EP p d)

/-- and of all three. -/
abbrev G (d : Dev nD) : sProp 𝕄 :=
  iprop(iprop(Pipeline.cellsGhost (Pipeline.pin (pcfgs (F := F)) adm) EP 0 d ∗ Pipeline.cellsGhost (Pipeline.pin (pcfgs (F := F)) adm) EP 1 d
      ∗ Pipeline.cellsGhost (Pipeline.pin (pcfgs (F := F)) adm) EP 2 d)
    ∗ iprop(Pipeline.toksInit (Pipeline.pin (pcfgs (F := F)) adm) EP 0 d ∗ Pipeline.toksInit (Pipeline.pin (pcfgs (F := F)) adm) EP 1 d
      ∗ Pipeline.toksInit (Pipeline.pin (pcfgs (F := F)) adm) EP 2 d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    ((initOf (Pipeline.cells (Pipeline.pin (pcfgs (F := F)) adm) pcells_inj) (Pipeline.launchToks (Pipeline.pin (pcfgs (F := F)) adm) pcells_inj), 1) : UP × Counters)) $$ Hu
  icases H with ⟨HH, HP⟩
  imod (Pipeline.fund_ghost (Pipeline.pin (pcfgs (F := F)) adm) EP pcells_inj) $$ [HP] with ⟨Hg, Ht⟩
  · iexact HP
  imodintro
  isplitl [HH]; · iexact HH
  isplitl [Hg Ht]
  · unfold G
    rw [bigSep_sep']
    isplitl [Hg]
    · iapply (Entails.of_eq (threeCalls fun p d => Pipeline.cellsGhost (Pipeline.pin (pcfgs (F := F)) adm) EP p d)); iexact Hg
    · iapply (Entails.of_eq (threeCalls fun p d => Pipeline.toksInit (Pipeline.pin (pcfgs (F := F)) adm) EP p d)); iexact Ht
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), noneHeld]
  iempintro

/-! ## The TensorCore's program -/

theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (uLoc d ↦{fullShare} W main_v0)
      ∗ (vLoc d ↦{fullShare} W main_v1) ∗ (iLoc d ↦{fullShare} W main_v2)
      ∗ (oLoc d ↦{fullShare} W main_v3) ∗ (kLoc d ↦{fullShare} W main_v4) ∗ (tLoc d ↦{fullShare} W main_v5) ∗ rLoc d ↦{fullShare} W main_v6) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The two SparseCores' parts. -/
theorem coreParts_eq (fi : Dev nD → S4x256.Idx → BitVec 32) (fx : Dev nD → S4x1024x2048.Idx → F .f32) (g : Dev nD → S1x1024x256.Idx → F .f32) (d : Dev nD) :
    (bigSep Finset.univ fun c : Fin 2 => corePart fi fx g d c)
      = iprop((bigSep Finset.univ fun c : Fin 2 => iLoc d ↦{coreShare c} fi d) ∗ (bigSep Finset.univ fun c : Fin 2 => xLoc d ↦{coreShare c} fx d)
          ∗ (oLoc d ↦{fullShare} g d : sProp 𝕄)) := by
  unfold corePart
  rw [bigSep_sep', bigSep_sep', oWhole_eq]

theorem st_eq (d : Dev nD) : (bigSep Finset.univ fun c : Fin ((K (F := F)).nCore 0) => (Pm m).st 0 d c)
    = bigSep Finset.univ fun c : Fin 2 => corePart (mi m) (mx m) (mo m) d c :=
  bigSep_cores (F := F) (fun c => corePart (mi m) (mx m) (mo m) d c)
theorem dn_eq (d : Dev nD) : (bigSep Finset.univ fun c : Fin ((K (F := F)).nCore 0) => (Pm m).dn 0 d c)
    = bigSep Finset.univ fun c : Fin 2 => corePart (mi m) (mx m) (res (mi m) (mx m)) d c :=
  bigSep_cores (F := F) (fun c => corePart (mi m) (mx m) (res (mi m) (mx m)) d c)

/-! ### The host's three operations -/

abbrev u' : DevRef τ sig := Proc.devRef .tc (main_v0 : Ref sig .tc)
abbrev v' : DevRef τ sig := Proc.devRef .tc (main_v1 : Ref sig .tc)
abbrev i' : DevRef τ sig := Proc.devRef .tc (main_v2 : Ref sig .tc)
abbrev o' : DevRef τ sig := Proc.devRef .tc (main_v3 : Ref sig .tc)
abbrev k' : DevRef τ sig := Proc.devRef .tc (main_v4 : Ref sig .tc)
abbrev t' : DevRef τ sig := Proc.devRef .tc (main_v5 : Ref sig .tc)
abbrev r' : DevRef τ sig := Proc.devRef .tc (main_v6 : Ref sig .tc)

/-- The indices with an axis of one. -/
def mk (d : Dev nD) : S4x1x256.Idx → BitVec 32 := shapeCast S4x1x256 (mi m d) shapeCasts_S4x256_S4x1x256
/-- What the TensorCore's gather leaves. -/
def mt (d : Dev nD) : S3x1024x256.Idx → F .f32 :=
  (dats (mx m) (mk m) (fun d => m (tLoc d)) d).arrAt 2 cfg3.N
/-- The two results joined. -/
def joined (d : Dev nD) : S4x1024x256.Idx → F .f32 :=
  concatenate S4x1024x256 0 [⟨S3x1024x256, mt m d⟩, ⟨S1x1024x256, res (mi m) (mx m) d⟩] concatenates_S3x1024x256_S1x1024x256_S4x1024x256_d0

abbrev opV : HloOp τ sig (Elt F) := StableHlo.reshape main_v0 main_v1 (rfl : (.f32 : EltTy) = .f32) shapeCasts_S4x1x2048_S4x2048
abbrev opK : HloOp τ sig (Elt F) := StableHlo.reshape main_v2 main_v4 (rfl : (.i32 : EltTy) = .i32) shapeCasts_S4x256_S4x1x256
abbrev opJ : HloOp τ sig (Elt F) := StableHlo.binary main_v5 main_v3 main_v6
  (fun a b => concatenate S4x1024x256 0 [⟨S3x1024x256, a⟩, ⟨S1x1024x256, b⟩] concatenates_S3x1024x256_S1x1024x256_S4x1024x256_d0)

abbrev SV : Finset (DevRef τ sig) := {u', v'}
abbrev SK : Finset (DevRef τ sig) := {i', k'}
abbrev SJ : Finset (DevRef τ sig) := {t', o', r'}

omit [FloatOps F] in
theorem held_SV (d : Dev nD) (W : Valuation τ sig (Elt F)) :
    (held (T d) SV W : sProp 𝕄) = iprop((uLoc d ↦{fullShare} W u') ∗ vLoc d ↦{fullShare} W v') := by
  unfold held SV
  rw [SparseCore.bigSep_insert' (by decide), bigSep_singleton]
omit [FloatOps F] in
theorem held_SK (d : Dev nD) (W : Valuation τ sig (Elt F)) :
    (held (T d) SK W : sProp 𝕄) = iprop((iLoc d ↦{fullShare} W i') ∗ kLoc d ↦{fullShare} W k') := by
  unfold held SK
  rw [SparseCore.bigSep_insert' (by decide), bigSep_singleton]
omit [FloatOps F] in
theorem held_SJ (d : Dev nD) (W : Valuation τ sig (Elt F)) :
    (held (T d) SJ W : sProp 𝕄) = iprop((tLoc d ↦{fullShare} W t') ∗ (oLoc d ↦{fullShare} W o') ∗ rLoc d ↦{fullShare} W r') := by
  unfold held SJ
  rw [SparseCore.bigSep_insert' (by decide), SparseCore.bigSep_insert' (by decide), bigSep_singleton]

def VV (d : Dev nD) : Valuation τ sig (Elt F) := Function.update (fun b => m (d, b)) u' (mu m d)
theorem VV_u (d : Dev nD) : VV m d u' = mu m d := Function.update_self _ _ _
theorem VV_v (d : Dev nD) : VV m d v' = m (vLoc d) := Function.update_of_ne (show v' ≠ u' by decide) _ _

def VK (d : Dev nD) : Valuation τ sig (Elt F) := Function.update (fun b => m (d, b)) i' (mi m d)
theorem VK_i (d : Dev nD) : VK m d i' = mi m d := Function.update_self _ _ _
theorem VK_k (d : Dev nD) : VK m d k' = m (kLoc d) := Function.update_of_ne (show k' ≠ i' by decide) _ _

def VJ (d : Dev nD) : Valuation τ sig (Elt F) := Function.update (Function.update (VK m d) o' (res (mi m) (mx m) d)) t' (mt m d)

theorem VJ_t (d : Dev nD) : VJ m d t' = mt m d := Function.update_self _ _ _
theorem VJ_o (d : Dev nD) : VJ m d o' = res (mi m) (mx m) d :=
  (Function.update_of_ne (show o' ≠ t' by decide) _ _).trans (Function.update_self _ _ _)
theorem VJ_r (d : Dev nD) : VJ m d r' = m (rLoc d) :=
  (Function.update_of_ne (show r' ≠ t' by decide) _ _).trans (Function.update_of_ne (show r' ≠ o' by decide) _ _)

theorem resV_v (d : Dev nD) : (opV (F := F)).result (VV m d) v' = mv m d :=
  (StableHlo.reshape_result main_v0 main_v1 _ _ _ _ (VV m d)).trans (by rw [VV_u]; rfl)
theorem resK_k (d : Dev nD) : (opK (F := F)).result (VK m d) k' = mk m d :=
  (StableHlo.reshape_result main_v2 main_v4 _ _ _ _ (VK m d)).trans (by rw [VK_i]; rfl)
theorem resJ_r (d : Dev nD) : (opJ (F := F)).result (VJ m d) r' = joined m d :=
  (StableHlo.binary_result main_v5 main_v3 main_v6 _ _ _ _ (VJ m d)).trans (by rw [VJ_t, VJ_o]; rfl)

theorem hV : (opV (F := F)).bufs ⊆ SV := show ({u', v'} : Finset (DevRef τ sig)) ⊆ SV by decide
theorem hK : (opK (F := F)).bufs ⊆ SK := show ({i', k'} : Finset (DevRef τ sig)) ⊆ SK by decide
theorem hJ : (opJ (F := F)).bufs ⊆ SJ := show ({t', o', r'} : Finset (DevRef τ sig)) ⊆ SJ by decide

/-! ### The TensorCore calls -/

abbrev Pds := pdats (mw m) (fun d => m (uLoc d)) (mv m) (fun d => m (iLoc d)) (mx m) (mk m) (fun d => m (tLoc d))

theorem arrays_mean (d : Dev nD) (g) : ((Pds m 0 d).arrays g : sProp 𝕄) = iprop((wLoc d ↦{fullShare} g 0) ∗ uLoc d ↦{fullShare} g 1) :=
  (Pipeline.arrays_eq (Pipeline.pin (pcfgs (F := F)) adm) (Pds m) 0 d arr_whole0 ((Pds m 0 d).share_full fun _ => rfl) g).trans (bigSep_W0 _)
theorem mean_in (d : Dev nD) : ((Pds m 0 d).arrays ((Pds m 0 d).arrAt · 0) : sProp 𝕄)
    = iprop((wLoc d ↦{fullShare} mw m d) ∗ uLoc d ↦{fullShare} m (uLoc d)) :=
  arrays_mean m d _
theorem mean_out (d : Dev nD) : ((Pds m 0 d).arrays ((Pds m 0 d).arrAt · cfg0.N) : sProp 𝕄)
    = iprop((wLoc d ↦{fullShare} mw m d) ∗ uLoc d ↦{fullShare} mu m d) := by
  rw [arrays_mean, (Pds m 0 d).arrAt_in 0 rfl]
  rfl

theorem arrays_topk (d : Dev nD) (g) : ((Pds m 1 d).arrays g : sProp 𝕄) = iprop((vLoc d ↦{fullShare} g 0) ∗ iLoc d ↦{fullShare} g 1) :=
  (Pipeline.arrays_eq (Pipeline.pin (pcfgs (F := F)) adm) (Pds m) 1 d arr_whole1 ((Pds m 1 d).share_full fun _ => rfl) g).trans (bigSep_W1 _)
theorem topk_in (d : Dev nD) : ((Pds m 1 d).arrays ((Pds m 1 d).arrAt · 0) : sProp 𝕄)
    = iprop((vLoc d ↦{fullShare} mv m d) ∗ iLoc d ↦{fullShare} m (iLoc d)) :=
  arrays_topk m d _
theorem topk_out (d : Dev nD) : ((Pds m 1 d).arrays ((Pds m 1 d).arrAt · cfg1.N) : sProp 𝕄)
    = iprop((vLoc d ↦{fullShare} mv m d) ∗ iLoc d ↦{fullShare} mi m d) := by
  rw [arrays_topk, (Pds m 1 d).arrAt_in 0 rfl, show (Pds m 1 d).arrAt 1 cfg1.N = mi m d from Topk.array_eq (mv m) (fun d => m (iLoc d)) d]
  rfl

theorem arrays_gather (d : Dev nD) (g) : ((Pds m 2 d).arrays g : sProp 𝕄)
    = iprop((xLoc d ↦{fullShare} g 0) ∗ (kLoc d ↦{fullShare} g 1) ∗ tLoc d ↦{fullShare} g 2) :=
  (Pipeline.arrays_eq (Pipeline.pin (pcfgs (F := F)) adm) (Pds m) 2 d arr_whole3 ((Pds m 2 d).share_full fun _ => rfl) g).trans (bigSep_W3 _)
theorem gather_in (d : Dev nD) : ((Pds m 2 d).arrays ((Pds m 2 d).arrAt · 0) : sProp 𝕄)
    = iprop((xLoc d ↦{fullShare} mx m d) ∗ (kLoc d ↦{fullShare} mk m d) ∗ tLoc d ↦{fullShare} m (tLoc d)) :=
  arrays_gather m d _
theorem gather_out (d : Dev nD) : ((Pds m 2 d).arrays ((Pds m 2 d).arrAt · cfg3.N) : sProp 𝕄)
    = iprop((xLoc d ↦{fullShare} mx m d) ∗ (kLoc d ↦{fullShare} mk m d) ∗ tLoc d ↦{fullShare} mt m d) := by
  rw [arrays_gather, (Pds m 2 d).arrAt_in 0 rfl, (Pds m 2 d).arrAt_in 1 rfl]
  rfl

/-- A call, from its arrays and the core's debts to its arrays and the debts. -/
theorem call (p : Fin 3) (n : ℕ) (S : Pipeline.RegionSeg (pcfgs (F := F)) adm (Pds m) none defs₀ 𝒱₀ (K (F := F)).L (K (F := F)).lev p) (d : Dev nD)
    (A B : sProp 𝕄) (hpre : S.pre d = iprop(A ∗ idle (F := F) n d)) (hpost : S.post d = iprop(B ∗ idle (F := F) n d)) (Q : PUnit → sProp 𝕄) :
    iprop((iprop(boundary (T d) ∗ B ∗ idle (F := F) n d) -∗ Q ⟨⟩)
        ∗ boundary (T d) ∗ A ∗ idle (F := F) n d ∗ levAts (K (F := F)).L (K (F := F)).lev ∗ Gp (F := F) p d)
      ⊢ wp frame (wpE ((K (F := F)).defs (D (F := F))) 𝒱 (T d) none) Set.univ
          (Prog.lift (.customCall (SparseCore.inner (Pipeline.entry p)) ())) Q := by
  refine BI.Entails.trans ?_ ((K (F := F)).wp_liftProg (D (F := F)) 𝒱 (T d) Set.univ none
    (.op (.customCall (Pipeline.entry p) ()) .ret) Q)
  refine BI.Entails.trans ?_ (Pipeline.RegionSeg.wp (pcfgs (F := F)) adm (Pds m) none pcells_inj EP defs₀ 𝒱₀
    (K (F := F)).L (K (F := F)).lev S d none (fun u hu => nomatch hu) .ret Q)
  simp only [wp_ret]
  rw [hpre, hpost]
  show _ ⊢ iprop((iprop(boundary _ ∗ iprop(B ∗ idle n d)) -∗ _) ∗ _ ∗ iprop(A ∗ idle n d) ∗ _)
  iintro ⟨Hk, Hb, Ha, HO, Hl, Hg⟩
  isplitl [Hk]
  · iintro ⟨Hb, Ha, HO⟩
    imodintro
    iapply Hk
    isplitl [Hb]; · iexact Hb
    isplitl [Ha] <;> iassumption
  isplitl [Hb]; · iexact Hb
  isplitl [Ha HO]
  · isplitl [Ha] <;> iassumption
  isplitl [Hl] <;> iassumption

theorem call_mean (d : Dev nD) (Q : PUnit → sProp 𝕄) :
    iprop((iprop(boundary (T d) ∗ ((wLoc d ↦{fullShare} mw m d) ∗ uLoc d ↦{fullShare} mu m d) ∗ idle (F := F) 0 d) -∗ Q ⟨⟩)
        ∗ boundary (T d) ∗ ((wLoc d ↦{fullShare} mw m d) ∗ uLoc d ↦{fullShare} m (uLoc d)) ∗ idle (F := F) 0 d
        ∗ levAts (K (F := F)).L (K (F := F)).lev ∗ Gp (F := F) 0 d)
      ⊢ wp frame (wpE ((K (F := F)).defs (D (F := F))) 𝒱 (T d) none) Set.univ
          (Prog.lift (.customCall (SparseCore.inner (Pipeline.entry (0 : Fin 3))) ())) Q :=
  call m 0 0 (segMean (mw m) (fun d => m (uLoc d)) (mv m) (fun d => m (iLoc d)) (mx m) (mk m) (fun d => m (tLoc d))) d _ _
    (congrArg (fun A : sProp 𝕄 => iprop(A ∗ idle (F := F) 0 d)) (mean_in m d)) (congrArg (fun A : sProp 𝕄 => iprop(A ∗ idle (F := F) 0 d)) (mean_out m d)) Q

theorem call_topk (d : Dev nD) (Q : PUnit → sProp 𝕄) :
    iprop((iprop(boundary (T d) ∗ ((vLoc d ↦{fullShare} mv m d) ∗ iLoc d ↦{fullShare} mi m d) ∗ idle (F := F) 0 d) -∗ Q ⟨⟩)
        ∗ boundary (T d) ∗ ((vLoc d ↦{fullShare} mv m d) ∗ iLoc d ↦{fullShare} m (iLoc d)) ∗ idle (F := F) 0 d
        ∗ levAts (K (F := F)).L (K (F := F)).lev ∗ Gp (F := F) 1 d)
      ⊢ wp frame (wpE ((K (F := F)).defs (D (F := F))) 𝒱 (T d) none) Set.univ
          (Prog.lift (.customCall (SparseCore.inner (Pipeline.entry (1 : Fin 3))) ())) Q :=
  call m 1 0 (segTopk (mw m) (fun d => m (uLoc d)) (mv m) (fun d => m (iLoc d)) (mx m) (mk m) (fun d => m (tLoc d))) d _ _
    (congrArg (fun A : sProp 𝕄 => iprop(A ∗ idle (F := F) 0 d)) (topk_in m d)) (congrArg (fun A : sProp 𝕄 => iprop(A ∗ idle (F := F) 0 d)) (topk_out m d)) Q

theorem call_gather (d : Dev nD) (Q : PUnit → sProp 𝕄) :
    iprop((iprop(boundary (T d) ∗ ((xLoc d ↦{fullShare} mx m d) ∗ (kLoc d ↦{fullShare} mk m d) ∗ tLoc d ↦{fullShare} mt m d) ∗ idle (F := F) 1 d) -∗ Q ⟨⟩)
        ∗ boundary (T d) ∗ ((xLoc d ↦{fullShare} mx m d) ∗ (kLoc d ↦{fullShare} mk m d) ∗ tLoc d ↦{fullShare} m (tLoc d)) ∗ idle (F := F) 1 d
        ∗ levAts (K (F := F)).L (K (F := F)).lev ∗ Gp (F := F) 2 d)
      ⊢ wp frame (wpE ((K (F := F)).defs (D (F := F))) 𝒱 (T d) none) Set.univ
          (Prog.lift (.customCall (SparseCore.inner (Pipeline.entry (2 : Fin 3))) ())) Q :=
  call m 2 1 (segGather (mw m) (fun d => m (uLoc d)) (mv m) (fun d => m (iLoc d)) (mx m) (mk m) (fun d => m (tLoc d))) d _ _
    (congrArg (fun A : sProp 𝕄 => iprop(A ∗ idle (F := F) 1 d)) (gather_in m d)) (congrArg (fun A : sProp 𝕄 => iprop(A ∗ idle (F := F) 1 d)) (gather_out m d)) Q

/-! ### From start to end -/

/-- What the TensorCore holds at its end: the arguments as they were, the joined result. -/
abbrev FIN (d : Dev nD) : sProp 𝕄 :=
  iprop((xLoc d ↦{fullShare} mx m d) ∗ (wLoc d ↦{fullShare} mw m d) ∗ rLoc d ↦{fullShare} joined m d)

theorem hmain (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hu, Hv, Hi, Ho, Hkk, Htt, Hr⟩, Hts, -⟩, ⟨⟨Hg0, Hg1, Hg2⟩, ⟨Ht0, Ht1, Ht2⟩⟩⟩
  unfold SparseCore.Cfg.tcSt
  icases Hst with ⟨HO, Hrest⟩
  iapply (call_mean m d _)
  isplitr [Hb Hw Hu HO Hg0 Ht0]
  rotate_left
  · isplitl [Hb]; · iexact Hb
    isplitl [Hw Hu]
    · isplitl [Hw] <;> iassumption
    isplitl [HO]
    · unfold idle; iexact HO
    isplitr
    · iapply ((K (F := F)).ctx_levAts κ); iexact Hctx
    isplitl [Hg0] <;> iassumption
  iintro ⟨Hb, ⟨Hw, Hu⟩, HO⟩
  iapply (wp_hlo_within 𝒱 (SparseCore.T d) none Set.univ (op := opV) (S := SV) hV (V := VV m d)) $$ [Hb Hu Hv]
  · isplitl [Hb]; · iexact Hb
    rw [held_SV, VV_u, VV_v]
    isplitl [Hu]; · iexact Hu
    iexact Hv
  iintro ⟨Hb, Hheld⟩
  ihave Hh := (Entails.of_eq (held_SV (F := F) d _)) $$ Hheld
  icases Hh with ⟨-, Hv⟩
  rw [wp_ret]; imodintro
  iapply (call_topk m d _)
  isplitr [Hb Hv Hi HO Hg1 Ht1]
  rotate_left
  · isplitl [Hb]; · iexact Hb
    isplitl [Hv Hi]
    · isplitl [Hv]
      · iapply (Entails.of_eq (congrArg (fun f => (vLoc d ↦{fullShare} f : sProp 𝕄)) (resV_v m d))); iexact Hv
      iexact Hi
    isplitl [HO]
    · unfold idle; iexact HO
    isplitr
    · iapply ((K (F := F)).ctx_levAts κ); iexact Hctx
    isplitl [Hg1] <;> iassumption
  iintro ⟨Hb, ⟨Hv, Hi⟩, HO⟩
  ihave Hi' := (Transfers.pointsTo_toks_split fullShare 2) $$ Hi
  ihave Hx' := (Transfers.pointsTo_toks_split fullShare 2) $$ Hx
  icases Hi' with ⟨Hid, Hi⟩
  icases Hx' with ⟨Hxd, Hx⟩
  iapply ((K (F := F)).wp_run (D (F := F)) 𝒱 (EH := EH) (P := Pm m) κ d 0) $$ [HO Hrest Hi Hx Ho Hb Hts Hid Hxd Hkk Htt Hr Hw Hg2 Ht2]
  isplitr; · iexact Hctx
  isplitl [HO Hrest]
  · unfold SparseCore.Cfg.tcSt
    isplitl [HO]
    · unfold idle; iexact HO
    iexact Hrest
  isplitl [Hi Hx Ho]
  · rw [st_eq, coreParts_eq]
    isplitl [Hi]; · iexact Hi
    isplitl [Hx]; · iexact Hx
    iexact Ho
  iintro ⟨Hst, Hdn⟩
  ihave Hdn' := (Entails.of_eq ((dn_eq m d).trans (coreParts_eq _ _ _ d))) $$ Hdn
  icases Hdn' with ⟨Hi, Hx, Ho⟩
  ihave Hi := (Transfers.pointsTo_toks_join fullShare 2) $$ [Hid Hi]
  · isplitl [Hid] <;> iassumption
  ihave Hx := (Transfers.pointsTo_toks_join fullShare 2) $$ [Hxd Hx]
  · isplitl [Hxd] <;> iassumption
  iapply (wp_hlo_within 𝒱 (SparseCore.T d) none Set.univ (op := opK) (S := SK) hK (V := VK m d)) $$ [Hb Hi Hkk]
  · isplitl [Hb]; · iexact Hb
    rw [held_SK, VK_i, VK_k]
    isplitl [Hi]; · iexact Hi
    iexact Hkk
  iintro ⟨Hb, Hheld⟩
  ihave Hh := (Entails.of_eq (held_SK (F := F) d _)) $$ Hheld
  icases Hh with ⟨-, Hkk⟩
  rw [wp_ret]; imodintro
  unfold SparseCore.Cfg.tcSt
  icases Hst with ⟨HO, Hrest⟩
  iapply (call_gather m d _)
  isplitr [Hb Hx Hkk Htt HO Hg2 Ht2]
  rotate_left
  · isplitl [Hb]; · iexact Hb
    isplitl [Hx Hkk Htt]
    · isplitl [Hx]; · iexact Hx
      isplitl [Hkk]
      · iapply (Entails.of_eq (congrArg (fun f => (kLoc d ↦{fullShare} f : sProp 𝕄)) (resK_k m d))); iexact Hkk
      iexact Htt
    isplitl [HO]
    · unfold idle; iexact HO
    isplitr
    · iapply ((K (F := F)).ctx_levAts κ); iexact Hctx
    isplitl [Hg2] <;> iassumption
  iintro ⟨Hb, ⟨Hx, -, Htt⟩, HO⟩
  iapply (wp_hlo_within 𝒱 (SparseCore.T d) none Set.univ (op := opJ) (S := SJ) hJ (V := VJ m d)) $$ [Hb Htt Ho Hr]
  · isplitl [Hb]; · iexact Hb
    rw [held_SJ, VJ_t, VJ_o, VJ_r]
    isplitl [Htt]; · iexact Htt
    isplitl [Ho]; · iexact Ho
    iexact Hr
  iintro ⟨Hb, Hheld⟩
  ihave Hh := (Entails.of_eq (held_SJ (F := F) d _)) $$ Hheld
  icases Hh with ⟨-, -, Hr⟩
  rw [wp_ret]; imodintro; imodintro
  isplitl [HO Hrest]
  · isplitl [HO]
    · unfold idle; iexact HO
    iexact Hrest
  isplitr [Hb Hts]
  · isplitl [Hx]; · iexact Hx
    isplitl [Hw]; · iexact Hw
    iapply (Entails.of_eq (congrArg (fun f => (rLoc d ↦{fullShare} f : sProp 𝕄)) (resJ_r m d))); iexact Hr
  isplitl [Hb] <;> iassumption

/-- What is read off a final memory. -/
def fq (d : Dev nD) (s' : Phys nD τ sig (Elt F)) : Prop :=
  s'.mem.mem (xLoc d) = m (xLoc d) ∧ s'.mem.mem (wLoc d) = m (wLoc d) ∧ s'.mem.mem (rLoc d) = joined m d

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hi]
  · isplitl [HSI] <;> iassumption
  icases H with ⟨%h2, HSI, -⟩
  ihave H := (SI_pointsTo_agree (st := s') (ℓ := rLoc d) (I := Finset.univ) (q := fullShare) (f := joined m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (xLoc c) = m (xLoc c) ∧ r.2.mem (wLoc c) = m (wLoc c) ∧ r.2.mem (rLoc c) = joined m c) ∧ r.2.sem = fun _ => 0

/-- Every execution from `m` ends, with the arguments unchanged, the joined result and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) scFacts v₀
    (fun q hq => match q with | 0 => nomatch hq)
    (fun q _ => match q with | 0 => tileObl (mi m) (mx m) (mo m) scFacts (idxOK m))
    (fun q _ => match q with | 0 => SparseCore.Cfg.VecSplit.of_plain (vecSplit (mi m) (mx m) (mo m)))
    m ρ main (G (F := F)) (FIN m) (u₀ (F := F)) (sep_elim_left.trans (hu₀ m)) (hmain m ρ) (fq m) (hfin m) (QC m) (fun _ h hz => ⟨h, hz⟩)

end Cert.Proof.KI

end
-- ==== Proof.KI.Values.lean ====
/-
  The gathers' results over the reals. The TensorCore call multiplies each block of `x`, cut into three summands, by the
  matrix whose column for an index is 1 at that index and 0 elsewhere: where `x` is finite the second and third summand
  are 0, and the product picks the column of `x` that the index names.
-/
module

public import proofs.«01_k».proof.Proof.KI.Launch
public import Idealize.ShloMosaic.Lib.Pipeline.ValueKit
public import Idealize.ShloMosaic.Lib.Pipeline.Value
public import Idealize.ShloMosaic.Lib.ValueIdxCore
public import Idealize.ShloMosaic.Lib.MatmulPlain

@[expose] public section

set_option maxRecDepth 16384

noncomputable section

namespace Cert.Proof.KI

open Cert.KernelIdeal Cert.KernelIdeal.Gen

open Idealize.ShloMosaic Idealize.ShloMosaic.TcCoe
open Idealize.SL Idealize.SL.Sem
open scoped BigOperators

/-- An extended real that is no infinity. -/
def Fin1 (v : EReal) : Prop := v ≠ ⊤ ∧ v ≠ ⊥

theorem sub_self_of_fin {v : EReal} (h : Fin1 v) : v - v = 0 := EReal.sub_self h.1 h.2

/-! ## The matrix of ones and zeros -/

/-- The 1-bit answer of an equality test, widened and read as a number. -/
theorem hot_val (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  have e : IntOp.cmpi .eq a b = BitVec.ofBool (a == b) := rfl
  rw [e]
  by_cases h : a = b
  · rw [if_pos h, beq_iff_eq.2 h]
    have : ((BitVec.ofBool true).setWidth 32).toInt = 1 := by decide
    rw [this]; norm_num
  · rw [if_neg h, beq_eq_false_iff_ne.2 h]
    have : ((BitVec.ofBool false).setWidth 32).toInt = 0 := by decide
    rw [this]; norm_num

/-- The matrix, of the row of indices. -/
def hot (v0 : Vec Ideal S1x1x256 .i32) : FVec Ideal S2048x256 .bf16 :=
  truncf .bf16 (sitofp .f32 (extui 32 (cmpi .eq (iota .tc S2048x256 32 [0] iota_S2048x256_d0_w32)
    (broadcastTo S2048x256 (shapeCast S1x256 v0 shapeCasts_S1x1x256_S1x256) broadcasts_S1x256_S2048x256)) natLt_1_32)) bitsLt_bf16_f32

theorem hot_apply (v0 : Vec Ideal S1x1x256 .i32) (k : Fin 2048) (c : Fin 256) :
    hot v0 (ix2 k c) = if k.val = (v0 (ix3 (0 : Fin 1) (0 : Fin 1) c)).toNat then (1 : EReal) else 0 := by
  have hb : broadcastTo S2048x256 (shapeCast S1x256 v0 shapeCasts_S1x1x256_S1x256) broadcasts_S1x256_S2048x256 (ix2 k c)
      = v0 (ix3 (0 : Fin 1) (0 : Fin 1) c) := by
    refine (broadcastTo_apply _ broadcasts_S1x256_S2048x256 (ix2 k c) (ix2 (0 : Fin 1) c) fun a => ?_).trans ?_
    · match a with
      | 0 => rfl
      | 1 => rfl
    · refine shapeCast_apply _ shapeCasts_S1x1x256_S1x256 _ _ ?_
      rw [Shape.rowMajor_val_three, Shape.rowMajor_val_two]
      show (0 * 1 + 0) * 256 + c.val = 0 * 256 + c.val
      omega
  show FloatOps.sitofp (F := Ideal) .f32 ((IntOp.cmpi .eq (iota .tc S2048x256 32 [0] iota_S2048x256_d0_w32 (ix2 k c)) _).setWidth 32) = _
  rw [hb, iota_single_apply, hot_val]
  have hk : (ix2 k c : S2048x256.Idx) 0 = k := rfl
  rw [hk]
  have hlt := k.isLt
  refine if_congr ?_ rfl rfl
  rw [← BitVec.toNat_inj, BitVec.toNat_ofNat, Nat.mod_eq_of_lt (by omega)]

/-- A product with it picks one column. -/
theorem pick (L : FVec Ideal S1024x2048 .bf16) (v0 : Vec Ideal S1x1x256 .i32) (r : Fin 1024) (c : Fin 256)
    (hc : (v0 (ix3 (0 : Fin 1) (0 : Fin 1) c)).toNat < 2048) :
    FloatOps.matmul dot_S1024x2048_S2048x256_S1024x256_1_0_0_1_n_n none L (hot v0) (constant (F := Ideal) S1024x256 .f32 0x00000000#32) (ix2 r c)
      = (L (ix2 r ⟨(v0 (ix3 (0 : Fin 1) (0 : Fin 1) c)).toNat, hc⟩) : EReal) := by
  refine (Ideal.matmul_plain_apply (M := 1024) (K := 2048) (N := 256) none L (hot v0) (constant (F := Ideal) S1024x256 .f32 0x00000000#32) r c).trans ?_
  have z : constant (F := Ideal) S1024x256 .f32 0x00000000#32 (ix2 r c) = (0 : EReal) := Ideal.ofBits_zero_f32
  show constant (F := Ideal) S1024x256 .f32 0x00000000#32 (ix2 r c) + ∑ k : Fin 2048, L (ix2 r k) * hot v0 (ix2 k c) = _
  rw [z, zero_add, Finset.sum_eq_single (⟨(v0 (ix3 (0 : Fin 1) (0 : Fin 1) c)).toNat, hc⟩ : Fin 2048)]
  · rw [hot_apply, if_pos rfl, mul_one]
  · intro k _ hk
    rw [hot_apply, if_neg fun h => hk (Fin.ext h), mul_zero]
  · exact fun h => absurd (Finset.mem_univ _) h

/-! ## The body's payload -/

theorem pay_apply (v0 : Vec Ideal S1x1x256 .i32) (v8 : Vec Ideal S1x1024x2048 .f32) (hi : ∀ j, (v0 j).toNat < 2048)
    (hx : ∀ j, Fin1 (v8 j)) (y : S1x1024x256.Idx) :
    k3_pay1 v0 v8 y = v8 (ix3 (0 : Fin 1) (y 1) ⟨(v0 (ix3 (0 : Fin 1) (0 : Fin 1) (y 2))).toNat, hi _⟩) := by
  have h0 : (y 0).val < 1 := (y 0).isLt
  -- the block of `x`, without its unit axis
  have hv (r : Fin 1024) (k : Fin 2048) : shapeCast S1024x2048 v8 shapeCasts_S1x1024x2048_S1024x2048 (ix2 r k) = v8 (ix3 (0 : Fin 1) r k) := by
    refine shapeCast_apply _ shapeCasts_S1x1024x2048_S1024x2048 _ _ ?_
    rw [Shape.rowMajor_val_three, Shape.rowMajor_val_two]
    show (0 * 1024 + r.val) * 2048 + k.val = r.val * 2048 + k.val
    omega
  unfold k3_pay1
  refine (shapeCast_apply _ shapeCasts_S1024x256_S1x1024x256 y (ix2 (y 1) (y 2)) ?_).trans ?_
  · rw [Shape.rowMajor_val_three, Shape.rowMajor_val_two]
    show (y 1).val * 256 + (y 2).val = ((y 0).val * 1024 + (y 1).val) * 256 + (y 2).val
    omega
  refine (congrArg₂ (· + ·) (congrArg₂ (· + ·) (pick _ v0 (y 1) (y 2) (hi _)) (pick _ v0 (y 1) (y 2) (hi _))) (pick _ v0 (y 1) (y 2) (hi _))).trans ?_
  have e := hv (y 1) ⟨(v0 (ix3 (0 : Fin 1) (0 : Fin 1) (y 2))).toNat, hi _⟩
  generalize shapeCast S1024x2048 v8 shapeCasts_S1x1024x2048_S1024x2048 = X at e ⊢
  show (X _ + (X _ - X _) + ((X _ - X _) - (X _ - X _)) : EReal) = _
  rw [e, sub_self_of_fin (hx _), sub_zero, add_zero, add_zero]

/-! ## The TensorCore call's array -/

theorem outT_eq (x0 : Vec Ideal S1x1024x2048 .f32) (x1 : Vec Ideal S1x1x256 .i32) : outT x0 x1 = k3_pay1 x1 x0 := by
  unfold outT rOut rIdx rX
  have z : (![0, 0, 0] : Fin 3 → ℕ) = fun _ => 0 := by funext a; fin_cases a <;> rfl
  refine (View.canon_unit_zero (S := S1x1024x256) z inb_S1x1024x256_S1x1024x256_0_0_0 _).trans ?_
  exact congrArg₂ k3_pay1 (View.ld_unit_zero (S := S1x1x256) z inb_S1x1x256_S1x1x256_0_0_0 x1)
    (View.ld_unit_zero (S := S1x1024x2048) z inb_S1x1024x2048_S1x1024x2048_0_0_0 x0)

theorem index_x : ∀ t : Fin cfg3.N, win3_0.index t = ![t.val, 0, 0] := by decide +kernel
theorem index_k : ∀ t : Fin cfg3.N, win3_1.index t = ![t.val, 0, 0] := by decide +kernel
theorem index_t : ∀ t : Fin cfg3.N, win3_2.index t = ![t.val, 0, 0] := by decide +kernel

variable (m : (l : Loc nD τ sig) → Buf (Elt Ideal) l) (d : Dev nD) (hx : ∀ y, Fin1 (mx m d y))

/-- The gather of the first three batches. -/
def gatTc (y : S3x1024x256.Idx) : Ideal .f32 :=
  gatAll (mi m d) (mx m d) (ix3 (n0 := 4) ⟨(y 0).val, Nat.lt_trans (y 0).isLt (by decide)⟩ (y 1) (y 2))

/-- Point `t`'s block of the indices is their row `t`. -/
theorem blk_idx (t : Fin cfg3.N) (c : Fin 256) :
    blkT (mx m) (mk m) (fun d => m (tLoc d)) d 1 t (ix3 (n0 := 1) (n1 := 1) 0 0 c)
      = mi m d (ix2 (n0 := 4) ⟨t.val, Nat.lt_trans t.isLt (by decide)⟩ c) := by
  show mk m d ((win3_1.blk t).view.emb (ix3 (n0 := 1) (n1 := 1) 0 0 c)) = _
  have e : (win3_1.blk t).view.emb (ix3 (n0 := 1) (n1 := 1) 0 0 c)
      = (ix3 (n0 := 4) (n1 := 1) ⟨t.val, Nat.lt_trans t.isLt (by decide)⟩ 0 c : S4x1x256.Idx) := by
    funext a; apply Fin.ext
    blk_simp
    rw [index_k]
    match a with
    | 0 => show t.val * 1 + 0 = t.val; omega
    | 1 => show 0 * 1 + 0 = 0; omega
    | 2 => show 0 * 256 + c.val = c.val; omega
  refine (congrArg (mk m d) e).trans (shapeCast_apply _ shapeCasts_S4x256_S4x1x256 _ _ ?_)
  rw [Shape.rowMajor_val_three, Shape.rowMajor_val_two]
  show t.val * 256 + c.val = (t.val * 1 + 0) * 256 + c.val
  omega

/-- Point `t`'s block of `x` is its batch `t`. -/
theorem blk_x (t : Fin cfg3.N) (r : Fin 1024) (k : Fin 2048) :
    blkT (mx m) (mk m) (fun d => m (tLoc d)) d 0 t (ix3 (n0 := 1) 0 r k)
      = mx m d (ix3 (n0 := 4) ⟨t.val, Nat.lt_trans t.isLt (by decide)⟩ r k) := by
  show mx m d ((win3_0.blk t).view.emb (ix3 (n0 := 1) 0 r k)) = _
  refine congrArg (mx m d) (funext fun a => Fin.ext ?_)
  blk_simp
  rw [index_x]
  match a with
  | 0 => show t.val * 1 + 0 = t.val; omega
  | 1 => show 0 * 1024 + r.val = r.val; omega
  | 2 => show 0 * 2048 + k.val = k.val; omega

/-- Point `t`'s block of the result is its batch `t`. -/
theorem emb_t (t : Fin cfg3.N) (y : S1x1024x256.Idx) :
    (win3_2.blk t).view.emb y = (ix3 (n0 := 3) ⟨t.val, t.isLt⟩ (y 1) (y 2) : S3x1024x256.Idx) := by
  have h0 : (y 0).val < 1 := (y 0).isLt
  funext a; apply Fin.ext
  blk_simp
  rw [index_t]
  match a with
  | 0 => show t.val * 1 + (y 0).val = t.val; omega
  | 1 => show 0 * 1024 + (y 1).val = (y 1).val; omega
  | 2 => show 0 * 256 + (y 2).val = (y 2).val; omega

include hx

theorem mt_eq : mt m d = gatTc m d := by
  unfold mt
  refine (dats (mx m) (mk m) (fun d => m (tLoc d)) d).arrAt_eq_of_covers 2 (gatTc m d) (by decide +kernel) fun t hf y => ?_
  blk_simp
  rw [after_t, outT_eq]
  have hi : ∀ j : S1x1x256.Idx, (blkT (mx m) (mk m) (fun d => m (tLoc d)) d 1 t j).toNat < 2048 := fun j => idxOK m d _
  have hf : ∀ j : S1x1024x2048.Idx, Fin1 (blkT (mx m) (mk m) (fun d => m (tLoc d)) d 0 t j) := fun j => hx _
  refine (pay_apply _ _ hi hf y).trans ?_
  refine (blk_x m d t (y 1) _).trans ?_
  refine Eq.trans ?_ (congrArg (gatTc m d) (emb_t t y)).symm
  unfold gatTc gatAll
  refine congrArg (mx m d) (funext fun a => Fin.ext ?_)
  match a with
  | 0 => rfl
  | 1 => rfl
  | 2 =>
    have e := congrArg BitVec.toNat (blk_idx m d t (y 2))
    have hlt := hi (ix3 (n0 := 1) (n1 := 1) 0 0 (y 2))
    exact (Nat.mod_eq_of_lt hlt).symm.trans (congrArg (· % 2048) e)

/-- The joined result is the gather of all four batches. -/
theorem joined_eq : joined m d = gatAll (mi m d) (mx m d) := by
  funext y
  unfold joined
  by_cases h : (y 0).val < 3
  · refine (concatenate_pair_apply_left (s₁ := S3x1024x256) (s₂ := S1x1024x256) (t := S4x1024x256) 0 _ _
      concatenates_S3x1024x256_S1x1024x256_S4x1024x256_d0 y rfl (ix3 (n0 := 3) ⟨(y 0).val, h⟩ (y 1) (y 2)) fun b => ?_).trans ?_
    · match b with
      | 0 => rfl
      | 1 => rfl
      | 2 => rfl
    · rw [mt_eq m d hx]
      rfl
  · have h3 : (y 0).val = 3 := by have h4 : (y 0).val < 4 := (y 0).isLt; omega
    refine (concatenate_pair_apply_right (s₁ := S3x1024x256) (s₂ := S1x1024x256) (t := S4x1024x256) 0 _ _
      concatenates_S3x1024x256_S1x1024x256_S4x1024x256_d0 y rfl rfl (ix3 (n0 := 1) 0 (y 1) (y 2)) (fun b hb => ?_) ?_).trans ?_
    · match b, hb with
      | 0, hb => exact absurd rfl hb
      | 1, _ => rfl
      | 2, _ => rfl
    · show 0 + 3 = (y 0).val
      omega
    · have e : ∀ b : Fin 4, b = y 0 → mx m d (ValueIdx.ix3 b (y 1) ⟨(mi m d (ValueIdx.ix2 b (y 2))).toNat % 2048, Nat.mod_lt _ (by decide)⟩)
          = gatAll (mi m d) (mx m d) y := by
        rintro b rfl
        rfl
      exact e 3 (Fin.ext h3.symm)

end Cert.Proof.KI

end
-- ==== Proof.KF.Setup.lean ====
/-
  The program as the launch theorem of the SparseCore library sees it: its labels, its body table, the fixed facts about
  its handshake semaphores, the ghost state of the certificate (the handshakes' rounds, the rounds of the
  TensorCore calls' staging transfers, the counters of the local copies), and names for the arrays and the scratch buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.Kernel
public import proofs.«01_k».proof.Proof.Gen.Kernel.Skeleton
public import proofs.«01_k».proof.Proof.Gen.Kernel.Launch
public import proofs.«01_k».proof.Proof.Gen.Kernel.Points

@[expose] public section

noncomputable section

namespace Cert.Proof.KF

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K [BitOps F] : SparseCore.Cfg τ sig (ΛP (F := F)) 1 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [BitOps F] : (K (F := F)).nSub 0 = 16 := rfl
theorem nCore_zero [BitOps F] : (K (F := F)).nCore 0 = 2 := rfl

theorem scFacts [BitOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, the staging transfers' rounds, the copies' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

abbrev xLoc (d : Dev nD) : Loc nD τ sig := (SparseCore.T d).loc main_arg0
/-- `w`, its means over the second axis, the means without the axis of one, and their ranking: the positions of the first entries. -/
abbrev wLoc (d : Dev nD) : Loc nD τ sig := (SparseCore.T d).loc main_arg1
abbrev uLoc (d : Dev nD) : Loc nD τ sig := (SparseCore.T d).loc main_v0
abbrev vLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3
/-- The indices with an axis of one, the TensorCore call's result, the joined result. -/
abbrev kLoc (d : Dev nD) : Loc nD τ sig := (SparseCore.T d).loc main_v4
abbrev tLoc (d : Dev nD) : Loc nD τ sig := (SparseCore.T d).loc main_v5
abbrev rLoc (d : Dev nD) : Loc nD τ sig := (SparseCore.T d).loc main_v6

end Cert.Proof.KF

end
-- ==== Proof.KF.Units.lean ====
module

public import proofs.«01_k».proof.Proof.KF.Run

@[expose] public section

noncomputable section

namespace Cert.Proof.KF

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [BitOps F]

set_option maxHeartbeats 400000000 in
set_option maxRecDepth 1000000 in
/-- The body is the two copies in, then a run from an empty output block to a full one, then the copy out. -/
theorem run_units (d : Dev nD) (L : grid2.Coords) (R : sProp (MT nD τ sig (HIx 1) (Elt F) ℕ UU ℕ))
    (fI : S256.Idx → BitVec 32) (hI : ∀ y, (fI y).toNat < 2048) (fX : S32x2048.Idx → F .f32)
    (Φ : PUnit.{1} → sProp (MT nD τ sig (HIx 1) (Elt F) ℕ UU ℕ))
    (hout : Tri d (cV L) (jV L) R fI fX Φ 8192 (copyOut L)) :
    ∃ k, cc2__gather_sc (F := F) L xH (Memref.isWhole_whole _) iH (Memref.isWhole_whole _) oH (Memref.isWhole_whole _)
        sI (Memref.isWhole_whole _) sX (Memref.isWhole_whole _) sO (Memref.isWhole_whole _) cc2_scratch3 cc2_scoped0 cc2_scoped1 cc2_scoped2
        = copiesIn L k ∧ Tri d (cV L) (jV L) R fI fX Φ 0 (k ⟨⟩) := by
  refine ⟨fun _ => ?k, ?_, ?_⟩
  rotate_left
  · conv => lhs; whnf
    conv => rhs; whnf
    refine congrArg (Prog.op _) (funext fun ⟨⟩ => ?_)
    conv => lhs; whnf
    conv => rhs; whnf
    refine congrArg (Prog.op _) (funext fun ⟨⟩ => ?_)
    conv => lhs; whnf
    conv => rhs; whnf
    refine congrArg (Prog.op _) (funext fun ⟨⟩ => ?_)
    conv => lhs; whnf
    conv => rhs; whnf
    refine congrArg (Prog.op _) (funext fun ⟨⟩ => ?_)
    exact rfl
  iterate 512
    (conv => arg 9; whnf)
    with_reducible refine Tri.loadI (F := F) ?_
    (conv => arg 9; whnf)
    refine Tri.check (F := F) (by refine check_ok (F := F) ?_ hI; decide) ?_
    (conv => arg 9; whnf)
    with_reducible refine Tri.loadX (F := F) ?_
    (conv => arg 9; whnf)
    with_reducible refine Tri.loadO (F := F) ?_
    intro v
    (conv => arg 9; whnf)
    clear v
    with_reducible refine Tri.storeO (F := F) rfl rfl rfl ?_
  exact hout

end Cert.Proof.KF

end
-- ==== Proof.KF.Pipe.lean ====
/-
  What a TensorCore call meets of the SparseCore's protocol: the core still owes the starts of the SparseCore calls to come, its waits
  so far are at the levels of those behind it, and the staging transfers' waits lie below all of it.
-/
module

public import proofs.«01_k».proof.Proof.KF.Setup
public import Idealize.ShloMosaic.Lib.Pipeline.FrameBody
public import Idealize.ShloMosaic.Lib.Pipeline.RegionArrays

@[expose] public section

noncomputable section

namespace Cert.Proof.KF

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [BitOps F]

local notation "𝕄" => MT nD τ sig (HIx 1) (Elt F) ℕ UU ℕ

/-- The bound on the waits' levels before SparseCore call `n`. -/
abbrev lvl (n : ℕ) : ℕ := 8 * SparseCore.Cfg.Blocks.fst 1 1 n

/-- What the TensorCore owes before SparseCore call `n`. -/
def debt (n : ℕ) (c : Dev nD) : CellTallies nD τ sig (HIx 1) := (K (F := F)).Otc c n

/-- The waits it may have made by then. -/
def known (n : ℕ) (c : Dev nD) : Set (SemLoc sig × HIx 1) := {p | (K (F := F)).lev (SparseCore.T c, p.1) p.2 ≤ lvl n}

/-- Its debts with its waits, before SparseCore call `n`. -/
def idle (n : ℕ) (c : Dev nD) : sProp 𝕄 :=
  iprop(∃ W, ⌜(K (F := F)).WBelow (SparseCore.T c) W (lvl n)⌝ ∗ owes (SparseCore.T c) ((K (F := F)).Otc c n) W)

theorem debt_above (n : ℕ) (c : Dev nD) (g : GSem nD τ sig) (i : HIx 1) (h : 0 < debt (F := F) n c g i) :
    i ∈ (K (F := F)).L g ∧ 0 < (K (F := F)).lev g i :=
  ⟨Finset.mem_univ _, Nat.lt_of_lt_of_le (Nat.succ_pos _) (SparseCore.Cfg.lev_of_Otc_pos h)⟩

section
variable {cfg : Pipeline.Cfg sig Λ₀} {c : Dev nD} (D : Dat τ (Elt F) (HIx 1) ℕ UU ℕ cfg c) (n : ℕ)

theorem idle_in (t) (ho : D.owed t = debt (F := F) n c) (hr : D.recorded t = known (F := F) n c) : (idle (F := F) n c) ⊢ D.owesAt none t := by
  unfold idle Dat.owesAt Pipeline.owesWithin Dat.bound
  rw [ho, hr]
  iintro ⟨%W, %hW, HO⟩
  iexists W
  isplitr
  · ipureintro; exact fun p hp => Or.inl (hW p hp)
  iexact HO

theorem idle_out (t) (ho : D.owed t = debt (F := F) n c) (hr : D.recorded t = known (F := F) n c) : D.owesAt none t ⊢ (idle (F := F) n c) := by
  unfold idle Dat.owesAt Pipeline.owesWithin Dat.bound
  rw [ho, hr]
  iintro ⟨%W, %hW, HO⟩
  iexists W
  isplitr
  · ipureintro
    intro p hp
    rcases hW hp with h | ⟨w, s, rfl⟩
    · exact h
    · exact Nat.zero_le _
  iexact HO

end

end Cert.Proof.KF

end
-- ==== Proof.KF.TopkValue.lean ====
/-
  The ranking's array after its call: the network's result on the whole array of values, whatever the array held before.
-/
module

public import proofs.«01_k».proof.Proof.KF.Topk
public import Idealize.ShloMosaic.Lib.Pipeline.ValueKit
public import Idealize.ShloMosaic.Lib.Pipeline.Value

@[expose] public section

set_option maxRecDepth 16384

noncomputable section

namespace Cert.Proof.KF

open Cert.Kernel Cert.Kernel.Gen

open Idealize.ShloMosaic Idealize.ShloMosaic.TcCoe
open Idealize.SL Idealize.SL.Sem

variable {F : FTy → Type} [BitOps F]

namespace Topk

theorem outK_eq (x : Vec F S4x2048 .f32) : outK x = ranked x := by
  unfold outK rI rW
  have z : (![0, 0] : Fin 2 → ℕ) = fun _ => 0 := by funext a; fin_cases a <;> rfl
  refine (View.canon_unit_zero (S := S4x256) z inb_S4x256_S4x256_0_0 _).trans ?_
  exact congrArg ranked (View.ld_unit_zero (S := S4x2048) z inb_S4x2048_S4x2048_0_0 x)

variable (fv : Dev nD → S4x2048.Idx → F .f32) (fi : Dev nD → S4x256.Idx → BitVec 32) (d : Dev nD)

theorem index_w : ∀ t : Fin cfg1.N, win1_0.index t = ![0, 0] := by decide +kernel
theorem index_i : ∀ t : Fin cfg1.N, win1_1.index t = ![0, 0] := by decide +kernel

/-- The one block of the values is all of them. -/
theorem blk_w (t : Fin cfg1.N) : blk fv fi d 0 t = fv d := by
  funext y
  show fv d ((win1_0.blk t).view.emb y) = _
  refine congrArg (fv d) (funext fun a => Fin.ext ?_)
  blk_simp
  rw [index_w]
  match a with
  | 0 => show 0 * 4 + (y 0).val = (y 0).val; omega
  | 1 => show 0 * 2048 + (y 1).val = (y 1).val; omega

/-- The one block of the ranking is all of it. -/
theorem emb_i (t : Fin cfg1.N) (y : S4x256.Idx) : (win1_1.blk t).view.emb y = y := by
  funext a; apply Fin.ext
  blk_simp
  rw [index_i]
  match a with
  | 0 => show 0 * 4 + (y 0).val = (y 0).val; omega
  | 1 => show 0 * 256 + (y 1).val = (y 1).val; omega

theorem array_eq : (dats fv fi d).arrAt 1 cfg1.N = ranked (fv d) := by
  refine (dats fv fi d).arrAt_eq_of_covers 1 (ranked (fv d)) (by decide +kernel) fun t hf y => ?_
  blk_simp
  rw [after_i, outK_eq, blk_w]
  exact (congrArg (ranked (fv d)) (emb_i t y)).symm

end Topk

end Cert.Proof.KF

end
-- ==== Proof.KI.Ranking.lean ====
/-
  What the ranking computes over the extended reals. An entry is a value with its position, and an entry is greater
  when its value is, or at equal values when its position is lower. One exchange is then one stage of Batcher's network on a
  batch's 2048 entries, the 66 of them are the whole network, and so the first 256 positions are those of the
  256 greatest values in order, equal values by their position: what a stable descending sort of the positions lists first.
-/
module

public import proofs.«01_k».proof.Proof.KI.Exchange
public import Idealize.ShloMosaic.Lib.SortNet.Sorts
public import Idealize.ShloMosaic.Lib.SortNet.Positions
public import Idealize.ShloMosaic.Lib.SortFacts
public import Idealize.ShloMosaic.PureOps.Ideal.Laws

@[expose] public section

noncomputable section

namespace Cert.Proof.KI

open Cert.KernelIdeal Cert.KernelIdeal.Gen

open Idealize.ShloMosaic
open Idealize.ShloMosaic.SortNet
open Idealize.ShloMosaic.ValueIdx (ix2 ix3)

/-- A value with its position; at equal values the lower position is the greater entry. -/
abbrev Ent : Type := EReal ×ₗ ℕᵒᵈ

abbrev State : Type := FVec Ideal S4x16x128 .f32 × IVec S4x16x128 32

/-- The entries of batch `b`. -/
def ent (p : State) (b : Fin 4) (j : Fin (2 ^ 11)) : Ent := toLex ((p.1 (col b j) : EReal), OrderDual.toDual (p.2 (col b j)).toNat)

theorem ent_lt (p : State) (b : Fin 4) (k j : Fin (2 ^ 11)) :
    ent p b k < ent p b j ↔ (p.1 (col b k) : EReal) < p.1 (col b j)
      ∨ (p.1 (col b k) : EReal) = p.1 (col b j) ∧ (p.2 (col b j)).toNat < (p.2 (col b k)).toNat := by
  unfold ent
  rw [Prod.Lex.toLex_lt_toLex]
  exact Iff.rfl

/-! ## One exchange is one stage -/

theorem bitOff_eq (s : Nat) (j : Fin (2 ^ 11)) : bitOff s j = !j.val.testBit s := by
  unfold bitOff
  cases h : j.val.testBit s
  · refine decide_eq_true (Nat.eq_of_testBit_eq fun i => ?_)
    rw [Nat.testBit_and, Nat.testBit_two_pow, Nat.zero_testBit]
    by_cases e : s = i
    · subst e; rw [h]; rfl
    · rw [decide_eq_false e, Bool.and_false]
  · refine decide_eq_false fun e => ?_
    have e' := congrArg (fun n => Nat.testBit n s) e
    simp only [Nat.testBit_and, Nat.testBit_two_pow, Nat.zero_testBit, h] at e'
    simp at e'

theorem bitOff_partner (s : Nat) (hs : s < 11) (t : Nat) (j : Fin (2 ^ 11)) :
    bitOff t (partner 11 s j) = if t = s then !bitOff t j else bitOff t j := by
  rw [bitOff_eq, bitOff_eq, partner_val hs, Nat.testBit_xor, Nat.testBit_two_pow]
  by_cases h : t = s
  · subst h; simp
  · have h' : ¬ s = t := fun e => h e.symm
    simp [h, h']

theorem slt_small (a b : BitVec 32) (ha : a.toNat < 2048) (hb : b.toNat < 2048) :
    IntOp.cmpi .slt a b = BitVec.ofBool (decide (a.toNat < b.toNat)) := by
  show BitVec.ofBool (a.slt b) = _
  rw [BitVec.slt_eq_decide, BitVec.toInt_eq_toNat_of_lt (by omega), BitVec.toInt_eq_toNat_of_lt (by omega)]
  simp only [Int.ofNat_lt, Nat.cast_lt]

theorem own_bits (v w : EReal) (i k : Nat) :
    IntOp.ori (Ideal.cmp .ogt v w) (IntOp.andi (Ideal.cmp .oeq v w) (BitVec.ofBool (decide (i < k))))
      = BitVec.ofBool (decide (w < v ∨ w = v ∧ i < k)) := by
  have e : (v = w) = (w = v) := propext eq_comm
  show IntOp.ori (BitVec.ofBool (decide (w < v))) (IntOp.andi (BitVec.ofBool (decide (v = w))) (BitVec.ofBool (decide (i < k)))) = _
  simp only [e, Bool.decide_or, Bool.decide_and]
  generalize decide (w < v) = a
  generalize decide (w = v) = c
  generalize decide (i < k) = d
  cases a <;> cases c <;> cases d <;> rfl

theorem own_col (p : State) (hp : ∀ y, (p.2 y).toNat < 2048) (s : Nat) (hs : s < 11) (b : Fin 4) (j : Fin (2 ^ 11)) :
    own s p.1 p.2 (col b j) = BitVec.ofBool (decide (ent p b (partner 11 s j) < ent p b j)) := by
  show IntOp.ori (Ideal.cmp .ogt (p.1 (col b j)) (far s p.1 (col b j)))
    (IntOp.andi (Ideal.cmp .oeq (p.1 (col b j)) (far s p.1 (col b j))) (IntOp.cmpi .slt (p.2 (col b j)) (far s p.2 (col b j)))) = _
  rw [far_col _ s hs, far_col _ s hs, slt_small _ _ (hp _) (hp _)]
  rw [decide_eq_decide.mpr (ent_lt p b (partner 11 s j) j)]
  exact own_bits _ _ _ _

theorem keep_bits : ∀ o s a : Bool, IntOp.xori (IntOp.xori (BitVec.ofBool o) (IntOp.xori (IntOp.xori (BitVec.ofBool s) (BitVec.ofBool a)) 1#1)) 1#1
    = BitVec.ofBool (o == (s == a)) := by decide

theorem keep_col (p : State) (hp : ∀ y, (p.2 y).toNat < 2048) (l s : Nat) (hl : l < 11) (hs : s < 11) (b : Fin 4) (j : Fin (2 ^ 11)) :
    keep l s p.1 p.2 (col b j)
      = BitVec.ofBool (decide (ent p b (partner 11 s j) < ent p b j) == (bitOff s j == bitOff (l + 1) j)) := by
  show IntOp.xori (IntOp.xori (own s p.1 p.2 (col b j)) (IntOp.xori (IntOp.xori (lo s (col b j)) (asc l (col b j))) 1#1)) 1#1 = _
  rw [own_col p hp s hs, lo_col s hs, asc_col l hl, keep_bits]

/-- The winners of a level-`l` exchange at distance `2 ^ s`: the greater entry at the end of the pair the block's order asks for. -/
def wins (l s : Nat) (j : Fin (2 ^ 11)) : Bool := bitOff s j == bitOff (l + 1) j

theorem step_ent (p : State) (hp : ∀ y, (p.2 y).toNat < 2048) (l s : Nat) (hl : l < 11) (hs : s ≤ l) (b : Fin 4) :
    ent (step l s p) b = Network.apply (stage 11 s (wins l s)) (ent p b) := by
  have hs' : s < 11 := by omega
  funext j
  rw [apply_stage_select hs' (wins l s) (fun j => by
    unfold wins
    rw [bitOff_partner s hs', bitOff_partner s hs', if_pos rfl, if_neg (by omega)]
    cases bitOff s j <;> cases bitOff (l + 1) j <;> rfl)]
  have h1 : (step l s p).1 (col b j) = Scalar.select (keep l s p.1 p.2 (col b j)) (p.1 (col b j)) (p.1 (col b (partner 11 s j))) := by
    rw [← far_col p.1 s hs' b j]; rfl
  have h2 : (step l s p).2 (col b j) = Scalar.select (keep l s p.1 p.2 (col b j)) (p.2 (col b j)) (p.2 (col b (partner 11 s j))) := by
    rw [← far_col p.2 s hs' b j]; rfl
  rw [keep_col p hp l s hl hs'] at h1 h2
  show toLex (((step l s p).1 (col b j) : EReal), OrderDual.toDual ((step l s p).2 (col b j)).toNat) = _
  rw [h1, h2]
  by_cases h : decide (ent p b (partner 11 s j) < ent p b j) = wins l s j
  · rw [if_pos h]
    have e : (decide (ent p b (partner 11 s j) < ent p b j) == (bitOff s j == bitOff (l + 1) j)) = true := beq_iff_eq.mpr h
    rw [e]; rfl
  · rw [if_neg h]
    have e : (decide (ent p b (partner 11 s j) < ent p b j) == (bitOff s j == bitOff (l + 1) j)) = false := beq_eq_false_iff_ne.mpr h
    rw [e]; rfl

/-! ## The exchanges are the network -/

theorem run_ent (L : List (Nat × Nat)) (hL : ∀ e ∈ L, e.1 < 11 ∧ e.2 ≤ e.1) (p : State) (hp : ∀ y, (p.2 y).toNat < 2048) (b : Fin 4) :
    ent (run L p) b = Network.apply (L.flatMap fun e => stage 11 e.2 (wins e.1 e.2)) (ent p b) := by
  induction L generalizing p with
  | nil => rfl
  | cons e L ih =>
    have he := hL e List.mem_cons_self
    have hs : e.2 < 11 := by omega
    rw [List.flatMap_cons, Network.apply_append, ← step_ent p hp e.1 e.2 he.1 he.2 b]
    exact ih (fun e' h => hL e' (List.mem_cons_of_mem _ h)) (step e.1 e.2 p) (step_lt e.1 e.2 hs p hp)

theorem sched_net : (sched.flatMap fun e => stage 11 e.2 (wins e.1 e.2)) = sortNet 11 true := by
  unfold sched sortNet
  rw [List.flatMap_assoc]
  refine congrArg (fun f => (List.range 11).flatMap f) (funext fun l => ?_)
  rw [List.flatMap_map]
  refine congrArg (fun f => (List.range (l + 1)).reverse.flatMap f) (funext fun s => ?_)
  refine stage_congr fun i hi => ?_
  show (bitOff s i == bitOff (l + 1) i) = (bitOff (l + 1) i == true)
  rw [show bitOff s i = true from decide_eq_true hi]
  cases bitOff (l + 1) i <;> rfl

theorem st_all (v : FVec Ideal S4x16x128 .f32) (i : IVec S4x16x128 32) : st v i 66 = run sched (v, i) :=
  congrArg (fun L => run L (v, i)) (List.take_of_length_le (show sched.length ≤ 66 by decide))

/-! ## The ranking is the stable sort's -/

/-- A batch's values by their position. -/
def vals (x : FVec Ideal S4x2048 .f32) (b : Fin 4) (j : Fin (2 ^ 11)) : EReal := x (ix2 (n0 := 4) (n1 := 2048) b j)

/-- The entries the network starts from. -/
def keyed (x : FVec Ideal S4x2048 .f32) (b : Fin 4) (j : Fin (2 ^ 11)) : Ent := toLex (vals x b j, OrderDual.toDual j.val)

theorem keyed_injective (x : FVec Ideal S4x2048 .f32) (b : Fin 4) : Function.Injective (keyed x b) := by
  intro j k h
  have h2 := congrArg (fun e : Ent => OrderDual.ofDual (ofLex e).2) h
  exact Fin.ext h2

theorem ent_start (x : FVec Ideal S4x2048 .f32) (b : Fin 4) : ent (grid x, place) b = keyed x b := by
  funext j
  have hj := j.isLt
  have e1 : grid x (col b j) = x (ix2 (n0 := 4) (n1 := 2048) b j) := by
    refine shapeCast_apply x shapeCasts_S4x2048_S4x16x128 _ _ ?_
    rw [Shape.rowMajor_val_three, Shape.rowMajor_val_two]
    show b.val * 2048 + j.val = (b.val * 16 + j.val / 128) * 128 + j.val % 128
    omega
  unfold ent keyed vals
  rw [← e1]
  show toLex ((grid x (col b j) : EReal), OrderDual.toDual (place (col b j)).toNat) = _
  rw [place_col, BitVec.toNat_ofNat, Nat.mod_eq_of_lt (by omega)]

/-- A stable sort by the values alone is the sort by the entries: of two equal values it takes the lower position first. -/
theorem stableSort_keyed (x : FVec Ideal S4x2048 .f32) (b : Fin 4) (L : List (Fin (2 ^ 11))) (hL : L.Pairwise (· < ·)) :
    stableSort (fun k k' => decide (vals x b k' < vals x b k)) L = stableSort (greaterFirst (keyed x b)) L := by
  induction L with
  | nil => rfl
  | cons a L ih =>
    obtain ⟨ha, hL'⟩ := List.pairwise_cons.mp hL
    unfold stableSort
    rw [ih hL']
    refine insertBefore_congr _ _ a _ fun c hc => ?_
    have hac : a < c := ha c ((perm_stableSort _ L).mem_iff.mp hc)
    unfold greaterFirst keyed
    refine decide_eq_decide.mpr ?_
    rw [Prod.Lex.toLex_lt_toLex]
    constructor
    · exact Or.inl
    · rintro (h | ⟨_, h⟩)
      · exact h
      · exact absurd (show c.val < a.val from h) (Nat.lt_asymm hac)

theorem sortedFrom_of_positions {n : Nat} (before : Fin n → Fin n → Bool) (σ : Fin n → Fin n)
    (e : sortPositions n before = List.ofFn fun i => σ i) (k : Fin n) : sortedFrom before k = σ k := by
  unfold sortedFrom
  rw [List.get_of_eq e]
  simp

theorem sortedFrom_keyed (x : FVec Ideal S4x2048 .f32) (b : Fin 4) (σ : Equiv.Perm (Fin (2 ^ 11))) (hσ : Antitone (keyed x b ∘ σ))
    (k : Fin (2 ^ 11)) : sortedFrom (fun k k' => decide (vals x b k' < vals x b k)) k = σ k := by
  have hL : (List.ofFn fun i => σ i) = stableSort (greaterFirst (keyed x b)) (List.finRange (2 ^ 11)) := by
    refine (strictTotalBefore_greaterFirst (keyed x b) (keyed_injective x b)).eq_stableSort_of_sorted
      (Equiv.Perm.ofFn_comp_perm σ (fun i => i)) ?_
    rw [List.pairwise_ofFn]
    exact fun i j hij => decide_eq_false (not_lt.mpr (hσ (le_of_lt hij)))
  have e : sortPositions (2 ^ 11) (fun k k' => decide (vals x b k' < vals x b k)) = List.ofFn fun i => σ i :=
    (stableSort_keyed x b _ (List.pairwise_lt_finRange _)).trans hL.symm
  exact sortedFrom_of_positions _ σ e k

/-- Place `k` of the network's result is the stable descending sort's. -/
theorem st_place (x : FVec Ideal S4x2048 .f32) (b : Fin 4) (k : Fin (2 ^ 11)) :
    ((st (grid x) place 66).2 (col b k)).toNat = (sortedFrom (fun k k' => decide (vals x b k' < vals x b k)) k).val := by
  have e : ent (st (grid x) place 66) b = Network.apply (sortNet 11 true) (keyed x b) := by
    rw [st_all, run_ent sched sched_lt (grid x, place) place_lt b, sched_net, ent_start]
  obtain ⟨σ, hσ⟩ := Network.exists_perm (sortNet 11 true) (keyed x b)
  have hA : Antitone (keyed x b ∘ σ) := hσ ▸ sortNet_apply_antitone 11 (keyed x b)
  rw [sortedFrom_keyed x b σ hA]
  have h := congrFun (e.trans hσ) k
  exact congrArg (fun e : Ent => OrderDual.ofDual (ofLex e).2) h

/-- The ranking over the extended reals: the positions of a stable descending sort's first 256. -/
theorem ranked_apply (x : FVec Ideal S4x2048 .f32) (b : Fin 4) (c : Fin 256) :
    (ranked x (ix2 (n0 := 4) (n1 := 256) b c)).toNat
      = (sortedFrom (fun k k' => decide (vals x b k' < vals x b k)) (⟨c.val, by omega⟩ : Fin (2 ^ 11))).val := by
  rw [← st_place]
  have hc := c.isLt
  refine congrArg BitVec.toNat ?_
  unfold ranked
  refine (shapeCast_apply _ shapeCasts_S4x2x128_S4x256 _
    (ix3 (n0 := 4) (n1 := 2) (n2 := 128) b ⟨c.val / 128, by omega⟩ ⟨c.val % 128, by omega⟩) ?_).trans
    (extractStridedSlice_apply _ _ _ _ (col b ⟨c.val, by omega⟩) fun a => ?_)
  · rw [Shape.rowMajor_val_three, Shape.rowMajor_val_two]
    show (b.val * 2 + c.val / 128) * 128 + c.val % 128 = b.val * 256 + c.val
    omega
  · match a with
    | ⟨0, _⟩ => exact (Nat.zero_add _).symm
    | ⟨1, _⟩ => exact (Nat.zero_add _).symm
    | ⟨2, _⟩ => exact (Nat.zero_add _).symm

end Cert.Proof.KI
-- ==== Proof.ReferenceRun.lean ====
/-
  The reference's run: its operations as one list, and the result read back as one term of the arguments. The first five operations
  are the means, `means` below; the next two are the top-k's two results; the columns' numbers are `columns` below.
-/
module

public import proofs.«01_k».proof.Proof.Gen.ReferenceIdeal
public import Idealize.ShloMosaic.Lib.StableHlo.Run

@[expose] public section

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-- The means of the columns of each batch. -/
def means (w : FVec F S4x2048x2048 .f32) : FVec F S4x2048 .f32 :=
  Host.divf (Host.reduceAdd w (constant S_ .f32 0x00000000#32) reducesTo_S4x2048x2048_S4x2048_d1 h_S_)
    (broadcastInDim S4x2048 ![] bcast_S_S4x2048 (constant S_ .f32 0x45000000#32))

/-- The columns that the reference reads: the places of each row's 256 largest elements, the largest first. -/
def columns (x : FVec F S4x2048 .f32) : IVec S4x256 32 := (Host.topK S4x256 1 (FloatOps.cmpfTotal .gt) x sliceFits_S4x2048_S4x256).2

/-- The reference's operations, in order. -/
abbrev ops : List (HloOp τ sig (Elt F)) :=
  [ nullary main_cst (constant S_ .f32 0x00000000#32),
    binary main_arg1 main_cst main_v0 ((fun x v => Host.reduceAdd x v reducesTo_S4x2048x2048_S4x2048_d1 h_S_) : (⟨S4x2048x2048, .f32⟩ : BufTy).Contents (Elt F) → (⟨S_, .f32⟩ : BufTy).Contents (Elt F) → (⟨S4x2048, .f32⟩ : BufTy).Contents (Elt F)),
    nullary main_cst_0 (constant S_ .f32 0x45000000#32),
    unary main_cst_0 main_v1 (broadcastInDim S4x2048 ![] bcast_S_S4x2048 : (⟨S_, .f32⟩ : BufTy).Contents (Elt F) → (⟨S4x2048, .f32⟩ : BufTy).Contents (Elt F)),
    binary main_v0 main_v1 main_v2 (Host.divf : (⟨S4x2048, .f32⟩ : BufTy).Contents (Elt F) → (⟨S4x2048, .f32⟩ : BufTy).Contents (Elt F) → (⟨S4x2048, .f32⟩ : BufTy).Contents (Elt F)),
    unary main_v2 main_values ((fun x => (Host.topK S4x256 1 (FloatOps.cmpfTotal .gt) x sliceFits_S4x2048_S4x256).1) : (⟨S4x2048, .f32⟩ : BufTy).Contents (Elt F) → (⟨S4x256, .f32⟩ : BufTy).Contents (Elt F)),
    unary main_v2 main_indices (columns : (⟨S4x2048, .f32⟩ : BufTy).Contents (Elt F) → (⟨S4x256, .i32⟩ : BufTy).Contents (Elt F)),
    unary main_indices main_v3 (broadcastInDim S4x1x256 ![0, 2] bcast_S4x256_S4x1x256_0_2 : (⟨S4x256, .i32⟩ : BufTy).Contents (Elt F) → (⟨S4x1x256, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x1x256, .i32⟩) main_call0_v0) (broadcastInDim S4x1x256 ![] bcast_S_S4x1x256),
    TRef.binary (TRef.of (T := ⟨S4x1x256, .i32⟩) main_v3) (TRef.of (T := ⟨S4x1x256, .i32⟩) main_call0_v0) (TRef.of (T := ⟨S4x1x256, .i1⟩) main_call0_v1) (cmpi .slt),
    TRef.nullary (TRef.of (T := ⟨S_, .i32⟩) main_call0_c_0) (constantI S_ 32 2048#32),
    TRef.unary (TRef.of (T := ⟨S_, .i32⟩) main_call0_c_0) (TRef.of (T := ⟨S4x1x256, .i32⟩) main_call0_v2) (broadcastInDim S4x1x256 ![] bcast_S_S4x1x256),
    TRef.binary (TRef.of (T := ⟨S4x1x256, .i32⟩) main_v3) (TRef.of (T := ⟨S4x1x256, .i32⟩) main_call0_v2) (TRef.of (T := ⟨S4x1x256, .i32⟩) main_call0_v3) addi,
    TRef.ternary (TRef.of (T := ⟨S4x1x256, .i1⟩) main_call0_v1) (TRef.of (T := ⟨S4x1x256, .i32⟩) main_call0_v3) (TRef.of (T := ⟨S4x1x256, .i32⟩) main_v3) (TRef.of (T := ⟨S4x1x256, .i32⟩) main_call0_v4) select,
    TRef.reshape (TRef.of (T := ⟨S4x1x256, .i32⟩) main_call0_v4) (TRef.of (T := ⟨S4x256x1, .i32⟩) main_call0_v5) (rfl : (.i32 : EltTy) = .i32) shapeCasts_S4x1x256_S4x256x1,
    TRef.nullary (TRef.of (T := ⟨S1, .i32⟩) main_call0_c_1) (constantI S1 32 2047#32),
    TRef.nullary (TRef.of (T := ⟨S_, .i32⟩) main_call0_c_2) (constantI S_ 32 0#32),
    TRef.unary (TRef.of (T := ⟨S_, .i32⟩) main_call0_c_2) (TRef.of (T := ⟨S4x256x1, .i32⟩) main_call0_v6) (broadcastInDim S4x256x1 ![] bcast_S_S4x256x1),
    TRef.binary (TRef.of (T := ⟨S4x256x1, .i32⟩) main_call0_v5) (TRef.of (T := ⟨S4x256x1, .i32⟩) main_call0_v6) (TRef.of (T := ⟨S4x256x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S4x256x1, .i32⟩) main_call0_v9) (broadcastInDim S4x256x1 ![0, 1, 2] bcast_S1x1x1_S4x256x1_0_1_2),
    TRef.binary (TRef.of (T := ⟨S4x256x1, .i32⟩) main_call0_v5) (TRef.of (T := ⟨S4x256x1, .i32⟩) main_call0_v9) (TRef.of (T := ⟨S4x256x1, .i1⟩) main_call0_v10) (cmpi .sle),
    TRef.binary (TRef.of (T := ⟨S4x256x1, .i1⟩) main_call0_v7) (TRef.of (T := ⟨S4x256x1, .i1⟩) main_call0_v10) (TRef.of (T := ⟨S4x256x1, .i1⟩) main_call0_v11) andi,
    TRef.nullary (TRef.of (T := ⟨S_, .i1⟩) main_call0_c_3) (constantI S_ 1 1#1),
    TRef.binary (TRef.of (T := ⟨S4x256x1, .i1⟩) main_call0_v11) (TRef.of (T := ⟨S_, .i1⟩) main_call0_c_3) (TRef.of (T := ⟨S4x256, .i1⟩) main_call0_v12) (fun x v => Host.reduce IntOp.andi x v reducesTo_S4x256x1_S4x256_d2 h_S_),
    TRef.binary (TRef.of (T := ⟨S4x1024x2048, .f32⟩) main_arg0) (TRef.of (T := ⟨S4x256x1, .i32⟩) main_call0_v5) (TRef.of (T := ⟨S4x1024x256, .f32⟩) main_call0_v13) (fun x i => Host.gather gather_S4x1024x2048_S4x256x1_S4x1024x256_1_2_0_0_2_2_110241 x i),
    TRef.unary (TRef.of (T := ⟨S4x256, .i1⟩) main_call0_v12) (TRef.of (T := ⟨S4x1024x256, .i1⟩) main_call0_v14) (broadcastInDim S4x1024x256 ![0, 2] bcast_S4x256_S4x1024x256_0_2),
    TRef.nullary (TRef.of (T := ⟨S_, .f32⟩) main_call0_cst) (constant S_ .f32 0x7FC00000#32),
    TRef.unary (TRef.of (T := ⟨S_, .f32⟩) main_call0_cst) (TRef.of (T := ⟨S4x1024x256, .f32⟩) main_call0_v15) (broadcastInDim S4x1024x256 ![] bcast_S_S4x1024x256),
    TRef.ternary (TRef.of (T := ⟨S4x1024x256, .i1⟩) main_call0_v14) (TRef.of (T := ⟨S4x1024x256, .f32⟩) main_call0_v13) (TRef.of (T := ⟨S4x1024x256, .f32⟩) main_call0_v15) (TRef.of (T := ⟨S4x1024x256, .f32⟩) main_v4) select ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxHeartbeats 2000000 in
/-- From any memory with zero counters the reference ends with its result, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = select (broadcastInDim S4x1024x256 ![0, 2] bcast_S4x256_S4x1024x256_0_2 (Host.reduce IntOp.andi (andi (cmpi .sge (shapeCast _ (select (cmpi .slt (broadcastInDim S4x1x256 ![0, 2] bcast_S4x256_S4x1x256_0_2 (columns (means (m ((c.tc : Thread nD τ).loc main_arg1))))) (broadcastInDim S4x1x256 ![] bcast_S_S4x1x256 (constantI S_ 32 0#32))) (addi (broadcastInDim S4x1x256 ![0, 2] bcast_S4x256_S4x1x256_0_2 (columns (means (m ((c.tc : Thread nD τ).loc main_arg1))))) (broadcastInDim S4x1x256 ![] bcast_S_S4x1x256 (constantI S_ 32 2048#32))) (broadcastInDim S4x1x256 ![0, 2] bcast_S4x256_S4x1x256_0_2 (columns (means (m ((c.tc : Thread nD τ).loc main_arg1)))))) shapeCasts_S4x1x256_S4x256x1) (broadcastInDim S4x256x1 ![] bcast_S_S4x256x1 (constantI S_ 32 0#32))) (cmpi .sle (shapeCast _ (select (cmpi .slt (broadcastInDim S4x1x256 ![0, 2] bcast_S4x256_S4x1x256_0_2 (columns (means (m ((c.tc : Thread nD τ).loc main_arg1))))) (broadcastInDim S4x1x256 ![] bcast_S_S4x1x256 (constantI S_ 32 0#32))) (addi (broadcastInDim S4x1x256 ![0, 2] bcast_S4x256_S4x1x256_0_2 (columns (means (m ((c.tc : Thread nD τ).loc main_arg1))))) (broadcastInDim S4x1x256 ![] bcast_S_S4x1x256 (constantI S_ 32 2048#32))) (broadcastInDim S4x1x256 ![0, 2] bcast_S4x256_S4x1x256_0_2 (columns (means (m ((c.tc : Thread nD τ).loc main_arg1)))))) shapeCasts_S4x1x256_S4x256x1) (broadcastInDim S4x256x1 ![0, 1, 2] bcast_S1x1x1_S4x256x1_0_1_2 (broadcastInDim S1x1x1 ![2] bcast_S1_S1x1x1_2 (constantI S1 32 2047#32))))) (constantI S_ 1 1#1) reducesTo_S4x256x1_S4x256_d2 h_S_)) (Host.gather gather_S4x1024x2048_S4x256x1_S4x1024x256_1_2_0_0_2_2_110241 (m ((c.tc : Thread nD τ).loc main_arg0)) (shapeCast _ (select (cmpi .slt (broadcastInDim S4x1x256 ![0, 2] bcast_S4x256_S4x1x256_0_2 (columns (means (m ((c.tc : Thread nD τ).loc main_arg1))))) (broadcastInDim S4x1x256 ![] bcast_S_S4x1x256 (constantI S_ 32 0#32))) (addi (broadcastInDim S4x1x256 ![0, 2] bcast_S4x256_S4x1x256_0_2 (columns (means (m ((c.tc : Thread nD τ).loc main_arg1))))) (broadcastInDim S4x1x256 ![] bcast_S_S4x1x256 (constantI S_ 32 2048#32))) (broadcastInDim S4x1x256 ![0, 2] bcast_S4x256_S4x1x256_0_2 (columns (means (m ((c.tc : Thread nD τ).loc main_arg1)))))) shapeCasts_S4x1x256_S4x256x1)) (broadcastInDim S4x1024x256 ![] bcast_S_S4x1024x256 (constant S_ .f32 0x7FC00000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (by simp only [ops, TRef.binary, TRef.nullary, TRef.reshape, TRef.ternary, TRef.unary, TRef.toBuf, TRef.ofBuf, cast_eq]; after_results <;> rfl),
      (h c main_arg0).trans (by simp only [ops, TRef.binary, TRef.nullary, TRef.reshape, TRef.ternary, TRef.unary, TRef.toBuf, TRef.ofBuf, cast_eq]; after_results <;> rfl),
      (h c main_arg1).trans (by simp only [ops, TRef.binary, TRef.nullary, TRef.reshape, TRef.ternary, TRef.unary, TRef.toBuf, TRef.ofBuf, cast_eq]; after_results <;> rfl)⟩)
    (run_seq scopedRefs_eq scopedSems_eq defs main (fun _ => ops) main_eq (fun _ => ops_sub) m ρ)

end Cert.Proof.Reference

end
-- ==== Proof.Columns.lean ====
/-
  The reference's top-k and the kernel's are the same columns: both are a stable descending sort's first 256 positions.
-/
module

public import proofs.«01_k».proof.Proof.KI.Ranking
public import proofs.«01_k».proof.Proof.ReferenceRun

@[expose] public section

noncomputable section

namespace Cert.Proof.Reference

open Cert.ReferenceIdeal Cert.ReferenceIdeal.Gen
open Idealize.ShloMosaic
open Idealize.ShloMosaic.ValueIdx (ix2)

/-- A test of an order's bit is the order. -/
theorem greater_bit (a b : EReal) : (Ideal.cmp .ogt a b == 1#1) = decide (b < a) := by
  show (BitVec.ofBool (decide (b < a)) == 1#1) = decide (b < a)
  cases decide (b < a) <;> rfl

/-- The carried positions of a sort along the last axis of two, read at an index: the position that a row's stable sort lists there. -/
theorem sorted_positions {p q : Nat} (gt : EReal → EReal → BitVec 1) (before : EReal → EReal → Bool) (h : ∀ a b, (gt a b == 1#1) = before a b)
    (x : (⟨2, ![p, q]⟩ : Shape).Idx → EReal) (b : Fin p) (c : Fin q) :
    (Host.sort2 ⟨2, ![p, q]⟩ 1 (fun l r => gt l.1 r.1) x (iotaInDim ⟨2, ![p, q]⟩ 32 1)).2 (ix2 b c)
      = BitVec.ofNat 32 (sortedFrom (fun k k' => before (x (ix2 b k)) (x (ix2 b k'))) c).val := by
  have along (k : Fin q) : (ix2 b c).along (s := ⟨2, ![p, q]⟩) 1 k = ix2 b k := by
    funext a
    match a with
    | 0 => rfl
    | 1 => rfl
  show BitVec.ofNat 32 (sortedFrom (n := q) (fun k k' => gt (x ((ix2 b c).along (s := ⟨2, ![p, q]⟩) 1 k))
      (x ((ix2 b c).along (s := ⟨2, ![p, q]⟩) 1 k')) == 1#1) c).val = _
  refine congrArg (fun f : Fin q → Fin q → Bool => BitVec.ofNat 32 (sortedFrom f c).val) (funext fun k => funext fun k' => ?_)
  rw [along, along]
  exact h _ _

/-- The reference reads the columns that the kernel's ranking names. -/
theorem columns_apply (x : FVec Ideal S4x2048 .f32) (b : Fin 4) (c : Fin 256) :
    columns x (ix2 (n0 := 4) (n1 := 256) b c) = KI.ranked x (ix2 (n0 := 4) (n1 := 256) b c) := by
  have hc : c.val < 2048 := by omega
  show extractStridedSlice S4x256 (fun _ => 0) (Host.sort2 S4x2048 1 (fun l r => FloatOps.cmpfTotal (F := Ideal) .gt l.1 r.1) x
    (iotaInDim S4x2048 32 1)).2 sliceFits_S4x2048_S4x256 (ix2 (n0 := 4) (n1 := 256) b c) = _
  refine (extractStridedSlice_apply (fun _ => 0) _ sliceFits_S4x2048_S4x256 (ix2 (n0 := 4) (n1 := 256) b c)
    (ix2 (n0 := 4) (n1 := 2048) b ⟨c.val, hc⟩) ?_).trans ?_
  · intro a
    match a with
    | 0 => exact (Nat.zero_add _).symm
    | 1 => exact (Nat.zero_add _).symm
  · refine (sorted_positions (Ideal.cmp .ogt) (fun a b => decide (b < a)) greater_bit x b ⟨c.val, hc⟩).trans ?_
    apply BitVec.eq_of_toNat_eq
    rw [KI.ranked_apply, BitVec.toNat_ofNat, Nat.mod_eq_of_lt (lt_trans (Fin.isLt _) (by decide))]
    rfl

theorem columns_eq (x : FVec Ideal S4x2048 .f32) : columns x = KI.ranked x := by
  funext y
  have e : ix2 (n0 := 4) (n1 := 256) (y 0) (y 1) = y := by
    funext a
    match a with
    | 0 => rfl
    | 1 => rfl
  have h := columns_apply x (y 0) (y 1)
  rw [e] at h
  exact h

end Cert.Proof.Reference

end
-- ==== Proof.KI.MeanValue.lean ====
/-
  The means over the reals. A row of the grid adds a batch's 2048 rows, the first 1024 at its first point and the others at its
  second, into eight partial sums by the row's place among eight; the mean is the eight sums' sum times 1/2048. The order of
  the additions does not matter, so it is the sum of all rows times 1/2048.
-/
module

public import proofs.«01_k».proof.Proof.KI.Launch
public import Idealize.ShloMosaic.Lib.Pipeline.ValueKit
public import Idealize.ShloMosaic.Lib.Pipeline.Value
public import Idealize.ShloMosaic.Lib.ValueIdxCore

@[expose] public section

set_option maxRecDepth 16384

noncomputable section

namespace Cert.Proof.KI

open Cert.KernelIdeal Cert.KernelIdeal.Gen

open Idealize.ShloMosaic Idealize.ShloMosaic.TcCoe
open Idealize.SL Idealize.SL.Sem
open scoped BigOperators

namespace Mean

/-! ## Sums -/

/-- A sum by the place among eight is the sum. -/
theorem sum_by_eight (f : ℕ → EReal) : ∀ n : ℕ, (∑ r ∈ Finset.range 8, ∑ g ∈ Finset.range n, f (8 * g + r)) = ∑ i ∈ Finset.range (8 * n), f i
  | 0 => by simp
  | n + 1 => by
    have e (r : ℕ) : (∑ g ∈ Finset.range (n + 1), f (8 * g + r)) = (∑ g ∈ Finset.range n, f (8 * g + r)) + f (8 * n + r) := Finset.sum_range_succ _ _
    rw [Finset.sum_congr rfl fun r _ => e r, Finset.sum_add_distrib, sum_by_eight f n, show 8 * (n + 1) = 8 * n + 8 from rfl,
      Finset.sum_range_add]

theorem slab_apply (x : Vec Ideal S1x1024x2048 .f32) (n : ℕ) (h : n < 128) (r : Fin 8) (c : Fin 2048) :
    slab x n h (ix2 r c) = x (ix3 (0 : Fin 1) ⟨8 * n + r.val, by omega⟩ c) := by
  unfold slab
  refine (shapeCast_apply _ shapeCasts_S1x8x2048_S8x2048 _ (ix3 (0 : Fin 1) r c) ?_).trans ?_
  · rw [Shape.rowMajor_val_three, Shape.rowMajor_val_two]
    show (0 * 8 + r.val) * 2048 + c.val = r.val * 2048 + c.val
    omega
  · refine congrArg x (funext fun a => Fin.ext ?_)
    match a with
    | 0 => rfl
    | 1 => show 8 * n + 1 * r.val = 8 * n + r.val; omega
    | 2 => show 0 + 1 * c.val = c.val; omega

/-- The partial sums, of a block whose column is given. -/
theorem sums_apply (x : Vec Ideal S1x1024x2048 .f32) (a : FVec Ideal S8x2048 .f32) (c : Fin 2048) (f : ℕ → EReal)
    (hf : ∀ (i : ℕ) (h : i < 1024), x (ix3 (0 : Fin 1) ⟨i, h⟩ c) = f i) (r : Fin 8) (n : ℕ) :
    ∀ (k : ℕ) (h : n + k ≤ 128), (sums x n a k h (ix2 r c) : EReal) = a (ix2 r c) + ∑ g ∈ Finset.range k, f (8 * (n + g) + r.val)
  | 0, _ => by
    show (a (ix2 r c) : EReal) = _
    simp
  | k + 1, h => by
    show (sums x n a k _ (ix2 r c) : EReal) + slab x (n + k) _ (ix2 r c) = _
    rw [sums_apply x a c f hf r n k, slab_apply, hf, Finset.sum_range_succ, add_assoc]

theorem slice_apply {p q : ℕ} (o : ℕ) (x : FVec Ideal ⟨2, ![p, 2048]⟩ .f32) (h : Shape.Slices ⟨2, ![p, 2048]⟩ ![o, 0] ⟨2, ![q, 2048]⟩)
    (r : Fin q) (c : Fin 2048) (hr : o + r.val < p) :
    extractStridedSlice ⟨2, ![q, 2048]⟩ ![o, 0] x h (ix2 r c) = x (ix2 ⟨o + r.val, hr⟩ c) := by
  refine extractStridedSlice_apply _ _ _ _ _ fun a => ?_
  match a with
  | 0 => rfl
  | 1 => show c.val = 0 + c.val; omega

/-- What the second point stores, of the eight sums. -/
theorem pay_apply (a : FVec Ideal S8x2048 .f32) (y : S1x1x2048.Idx) :
    (k0_pay2 (F := Ideal) a y : EReal) = (∑ r : Fin 8, (a (ix2 r (y 2)) : EReal)) * Ideal.ofBits .f32 0x3A000000#32 := by
  unfold k0_pay2
  refine (shapeCast_apply _ shapeCasts_S1x2048_S1x1x2048 y (ix2 (0 : Fin 1) (y 2)) ?_).trans ?_
  · have h0 : (y 0).val < 1 := (y 0).isLt
    have h1 : (y 1).val < 1 := (y 1).isLt
    rw [Shape.rowMajor_val_three, Shape.rowMajor_val_two]
    show 0 * 2048 + (y 2).val = ((y 0).val * 1 + (y 1).val) * 2048 + (y 2).val
    omega
  generalize y 2 = c
  have h4 (r : Fin 4) : (addf (extractStridedSlice S4x2048 ![0, 0] a slices_S8x2048_o0_0_S4x2048)
      (extractStridedSlice S4x2048 ![4, 0] a slices_S8x2048_o4_0_S4x2048) (ix2 r c) : EReal)
      = (a (ix2 ⟨0 + r.val, by omega⟩ c) : EReal) + a (ix2 ⟨4 + r.val, by omega⟩ c) :=
    congrArg₂ (fun u v : EReal => u + v) (slice_apply (p := 8) (q := 4) 0 a _ r c _) (slice_apply (p := 8) (q := 4) 4 a _ r c _)
  generalize addf (extractStridedSlice S4x2048 ![0, 0] a slices_S8x2048_o0_0_S4x2048)
      (extractStridedSlice S4x2048 ![4, 0] a slices_S8x2048_o4_0_S4x2048) = A at h4 ⊢
  have h2 (r : Fin 2) : (addf (extractStridedSlice S2x2048 ![0, 0] A slices_S4x2048_o0_0_S2x2048)
      (extractStridedSlice S2x2048 ![2, 0] A slices_S4x2048_o2_0_S2x2048) (ix2 r c) : EReal)
      = (A (ix2 ⟨0 + r.val, by omega⟩ c) : EReal) + A (ix2 ⟨2 + r.val, by omega⟩ c) :=
    congrArg₂ (fun u v : EReal => u + v) (slice_apply (p := 4) (q := 2) 0 A _ r c _) (slice_apply (p := 4) (q := 2) 2 A _ r c _)
  generalize addf (extractStridedSlice S2x2048 ![0, 0] A slices_S4x2048_o0_0_S2x2048)
      (extractStridedSlice S2x2048 ![2, 0] A slices_S4x2048_o2_0_S2x2048) = B at h2 ⊢
  have h1 : (addf (extractStridedSlice S1x2048 ![0, 0] B slices_S2x2048_o0_0_S1x2048)
      (extractStridedSlice S1x2048 ![1, 0] B slices_S2x2048_o1_0_S1x2048) (ix2 (0 : Fin 1) c) : EReal)
      = (B (ix2 ⟨0, by omega⟩ c) : EReal) + B (ix2 ⟨1, by omega⟩ c) :=
    congrArg₂ (fun u v : EReal => u + v) (slice_apply (p := 2) (q := 1) 0 B _ 0 c (by decide)) (slice_apply (p := 2) (q := 1) 1 B _ 0 c (by decide))
  refine congrArg (fun u : EReal => u * Ideal.ofBits .f32 0x3A000000#32) (h1.trans ?_)
  have e0 := (h2 ⟨0, by omega⟩).trans (congrArg₂ (fun u v : EReal => u + v) (h4 ⟨0, by omega⟩) (h4 ⟨2, by omega⟩))
  have e1 := (h2 ⟨1, by omega⟩).trans (congrArg₂ (fun u v : EReal => u + v) (h4 ⟨1, by omega⟩) (h4 ⟨3, by omega⟩))
  refine (congrArg₂ (fun u v : EReal => u + v) e0 e1).trans ?_
  rw [Fin.sum_univ_eight]
  show ((a (ix2 0 c) : EReal) + a (ix2 4 c)) + (a (ix2 2 c) + a (ix2 6 c)) + ((a (ix2 1 c) + a (ix2 5 c)) + (a (ix2 3 c) + a (ix2 7 c))) = _
  abel

/-! ## The call's array -/

theorem index_w : ∀ t : Fin cfg0.N, win0_0.index t = ![t.val / 2, t.val % 2, 0] := by decide +kernel
theorem index_u : ∀ t : Fin cfg0.N, win0_1.index t = ![t.val / 2, 0, 0] := by decide +kernel
theorem batch_lt (t : Fin cfg0.N) : t.val / 2 < 4 := by
  have h : t.val < 8 := t.isLt
  omega

variable (fw : Dev nD → S4x2048x2048.Idx → Ideal .f32) (fu : Dev nD → S4x1x2048.Idx → Ideal .f32) (d : Dev nD)

/-- A column of a batch of `w`, by the number of the row. -/
def column (w : S4x2048x2048.Idx → Ideal .f32) (b : Fin 4) (c : Fin 2048) (i : ℕ) : EReal := if h : i < 2048 then w (ix3 b ⟨i, h⟩ c) else 0

/-- Point `t`'s block holds rows `1024 (t % 2)` and on of batch `t / 2`. -/
theorem blk_apply (t : Fin cfg0.N) (c : Fin 2048) (i : ℕ) (h : i < 1024) :
    blk fw fu d 0 t (ix3 (n0 := 1) (n1 := 1024) (n2 := 2048) 0 ⟨i, h⟩ c) = column (fw d) ⟨t.val / 2, batch_lt t⟩ c (1024 * (t.val % 2) + i) := by
  unfold column
  rw [dif_pos (by omega)]
  show fw d ((win0_0.blk t).view.emb (ix3 (n0 := 1) (n1 := 1024) (n2 := 2048) 0 ⟨i, h⟩ c)) = _
  refine congrArg (fw d) (funext fun a => Fin.ext ?_)
  blk_simp
  rw [index_w]
  match a with
  | 0 => show t.val / 2 * 1 + 0 = t.val / 2; omega
  | 1 => show t.val % 2 * 1024 + i = 1024 * (t.val % 2) + i; omega
  | 2 => show 0 * 2048 + c.val = c.val; omega

/-- Point `t`'s block of the means is its batch's row. -/
theorem emb_u (t : Fin cfg0.N) (y : S1x1x2048.Idx) :
    (win0_1.blk t).view.emb y = (ix3 (n0 := 4) (n1 := 1) (n2 := 2048) ⟨t.val / 2, batch_lt t⟩ 0 (y 2) : S4x1x2048.Idx) := by
  have h0 : (y 0).val < 1 := (y 0).isLt
  have h1 : (y 1).val < 1 := (y 1).isLt
  funext a; apply Fin.ext
  blk_simp
  rw [index_u]
  match a with
  | 0 => show t.val / 2 * 1 + (y 0).val = t.val / 2; omega
  | 1 => show 0 * 1 + (y 1).val = 0; omega
  | 2 => show 0 * 2048 + (y 2).val = (y 2).val; omega

theorem cleared (r : Fin 8) (c : Fin 2048) : (k0_pay3 (F := Ideal) (ix2 r c) : EReal) = 0 := by
  unfold k0_pay3
  rw [shapeCast_self]
  exact Ideal.ofBits_zero_f32

/-- A batch's mean at a column. -/
def meanAt (w : S4x2048x2048.Idx → Ideal .f32) (b : Fin 4) (c : Fin 2048) : EReal :=
  (∑ r : Fin 2048, (w (ix3 b r c) : EReal)) * Ideal.ofBits .f32 0x3A000000#32

/-- What a row's second point stores is the batch's means. -/
theorem outU_apply (t : Fin cfg0.N) (ht : t.val % 2 = 1) (y : S1x1x2048.Idx) :
    (outU fw fu d t y : EReal) = meanAt (fw d) ⟨t.val / 2, batch_lt t⟩ (y 2) := by
  unfold outU meanAt
  rw [pay_apply]
  refine congrArg (fun u : EReal => u * Ideal.ofBits .f32 0x3A000000#32) ?_
  suffices h : ∀ c : Fin 2048, (∑ r : Fin 8, (sums (blk fw fu d 0 t) 0 (half fw fu d (prev t)) 128 (by decide) (ix2 r c) : EReal))
      = ∑ r : Fin 2048, (fw d (ix3 ⟨t.val / 2, batch_lt t⟩ r c) : EReal) from h (y 2)
  intro c
  have hp : (prev t).val = t.val - 1 := rfl
  have hb : (⟨(prev t).val / 2, batch_lt (prev t)⟩ : Fin 4) = ⟨t.val / 2, batch_lt t⟩ := Fin.ext (by show (prev t).val / 2 = t.val / 2; omega)
  -- the two points' rows of the column
  have f0 (i : ℕ) (h : i < 1024) : blk fw fu d 0 (prev t) (ix3 (n0 := 1) (n1 := 1024) (n2 := 2048) 0 ⟨i, h⟩ c) = column (fw d) ⟨t.val / 2, batch_lt t⟩ c i := by
    refine (blk_apply fw fu d (prev t) c i h).trans ?_
    rw [hb, show 1024 * ((prev t).val % 2) + i = i by omega]
  have f1 (i : ℕ) (h : i < 1024) : blk fw fu d 0 t (ix3 (n0 := 1) (n1 := 1024) (n2 := 2048) 0 ⟨i, h⟩ c) = column (fw d) ⟨t.val / 2, batch_lt t⟩ c (1024 + i) := by
    refine (blk_apply fw fu d t c i h).trans ?_
    rw [show 1024 * (t.val % 2) + i = 1024 + i by omega]
  have hf (r : Fin 2048) : column (fw d) ⟨t.val / 2, batch_lt t⟩ c r.val = fw d (ix3 ⟨t.val / 2, batch_lt t⟩ r c) := dif_pos r.isLt
  generalize column (fw d) ⟨t.val / 2, batch_lt t⟩ c = f at f0 f1 hf
  have e (r : Fin 8) : (sums (blk fw fu d 0 t) 0 (half fw fu d (prev t)) 128 (by decide) (ix2 r c) : EReal)
      = (∑ g ∈ Finset.range 128, f (8 * g + r.val)) + ∑ g ∈ Finset.range 128, f (1024 + (8 * g + r.val)) := by
    rw [sums_apply _ _ c (fun i => f (1024 + i)) f1 r 0 128 (by decide)]
    unfold half
    rw [sums_apply _ _ c f f0 r 0 128 (by decide), cleared, zero_add]
    simp only [Nat.zero_add]
  rw [Finset.sum_congr rfl fun r _ => e r, Finset.sum_add_distrib,
    Fin.sum_univ_eq_sum_range (fun r => ∑ g ∈ Finset.range 128, f (8 * g + r)) 8,
    Fin.sum_univ_eq_sum_range (fun r => ∑ g ∈ Finset.range 128, f (1024 + (8 * g + r))) 8,
    sum_by_eight f 128, sum_by_eight (fun i => f (1024 + i)) 128]
  refine (Finset.sum_range_add f 1024 1024).symm.trans ?_
  rw [Finset.sum_range]
  exact Finset.sum_congr rfl fun r _ => hf r

/-- The call's array holds each batch's means. -/
theorem array_eq : (dats fw fu d).arrAt 1 cfg0.N = fun y : S4x1x2048.Idx => meanAt (fw d) (y 0) (y 2) := by
  refine (dats fw fu d).arrAt_eq_of_covers 1 (fun y : S4x1x2048.Idx => meanAt (fw d) (y 0) (y 2)) (by decide +kernel) fun t hf y => ?_
  have ht : t.val % 2 = 1 := (flush0_1 t).1 hf
  blk_simp
  rw [after_u]
  refine (outU_apply fw fu d t ht y).trans ?_
  exact (congrArg (fun y : S4x1x2048.Idx => meanAt (fw d) (y 0) (y 2)) (emb_u t y)).symm

end Mean

/-- The means that the ranking reads. -/
theorem mv_apply (m : (l : Loc nD τ sig) → Buf (Elt Ideal) l) (d : Dev nD) (y : S4x2048.Idx) :
    mv m d y = Mean.meanAt (mw m d) (y 0) (y 1) := by
  unfold mv mu
  rw [Mean.array_eq]
  refine (shapeCast_apply _ shapeCasts_S4x1x2048_S4x2048 y (ix3 (y 0) (0 : Fin 1) (y 1)) ?_).trans rfl
  rw [Shape.rowMajor_val_three, Shape.rowMajor_val_two]
  show ((y 0).val * 1 + 0) * 2048 + (y 1).val = (y 0).val * 2048 + (y 1).val
  omega

end Cert.Proof.KI

end
-- ==== Proof.Means.lean ====
/-
  The reference's means and the kernel's are the same numbers.
-/
module

public import proofs.«01_k».proof.Proof.KI.MeanValue
public import proofs.«01_k».proof.Proof.ReferenceRun
public import Idealize.ShloMosaic.Lib.IdealHost
public import Idealize.ShloMosaic.Lib.Pointwise.Reduce

@[expose] public section

noncomputable section

namespace Cert.Proof.Reference

open Cert.ReferenceIdeal Cert.ReferenceIdeal.Gen
open Idealize.ShloMosaic
open Idealize.ShloMosaic.ValueIdx (hostDivf_apply hostReduceAdd_apply broadcastInDim_scalar_apply)

theorem two_pow : Ideal.ofBits .f32 0x45000000#32 = ((2048 : ℝ) : EReal) := by
  simp [Ideal.ofBits, Ideal.ieee, -EReal.coe_mul]; norm_num
theorem inv_two_pow : Ideal.ofBits .f32 0x3A000000#32 = ((1 / 2048 : ℝ) : EReal) := by
  simp [Ideal.ofBits, Ideal.ieee, -EReal.coe_mul]; norm_num

/-- The reference divides a column's sum by 2048, the kernel multiplies it by 1/2048. -/
theorem means_apply (w : FVec Ideal S4x2048x2048 .f32) (y : S4x2048.Idx) : means w y = Cert.Proof.KI.Mean.meanAt w (y 0) (y 1) := by
  unfold means Cert.Proof.KI.Mean.meanAt
  rw [hostDivf_apply, hostReduceAdd_apply, Ideal.hostReduceAdd_r3_a1, broadcastInDim_scalar_apply]
  show Ideal.div (Ideal.ofBits .f32 0x00000000#32 + _) (Ideal.ofBits .f32 0x45000000#32) = _
  rw [Ideal.ofBits_zero_f32, zero_add, two_pow, inv_two_pow, Ideal.div_coe (by norm_num)]
  rfl

end Cert.Proof.Reference

end
-- ==== Proof.Reference.lean ====
/-
  What the reference computes where every index names a column: no index is wrapped, none is out of range, and its gather
  reads the column that the index names. So its result is the gather of all four batches (`Proof/KI/Geometry.lean`, `gatAll`).
-/
module

public import proofs.«01_k».proof.Proof.KI.Geometry
public import proofs.«01_k».proof.Proof.ReferenceRun
public import Idealize.ShloMosaic.Lib.ReduceAll
public import Idealize.ShloMosaic.Lib.ValueIdxCore

@[expose] public section

noncomputable section

namespace Cert.Proof.Reference

open Cert.ReferenceIdeal Cert.ReferenceIdeal.Gen
open Idealize.ShloMosaic Idealize.ShloMosaic.ValueIdx

/-! ## Words below 2048 -/

theorem toInt_small (v : BitVec 32) (h : v.toNat < 2048) : v.toInt = v.toNat := by
  rw [BitVec.toInt_eq_toNat_cond, if_pos (by omega)]

theorem not_slt_zero (v : BitVec 32) (h : v.toNat < 2048) : IntOp.cmpi .slt v 0#32 = 0#1 := by
  have : v.slt 0#32 = false := by
    rw [BitVec.slt_eq_decide, toInt_small v h]
    simp
  simp only [IntOp.cmpi, this]
  rfl

theorem inside (v : BitVec 32) (h : v.toNat < 2048) : IntOp.andi (IntOp.cmpi .sge v 0#32) (IntOp.cmpi .sle v 2047#32) = 1#1 := by
  have h0 : (0#32).sle v = true := by
    rw [BitVec.sle_eq_decide, toInt_small v h]
    simp
  have h1 : v.sle 2047#32 = true := by
    rw [BitVec.sle_eq_decide, toInt_small v h, toInt_small 2047#32 (by decide)]
    have : (2047#32).toNat = 2047 := rfl
    rw [this]
    simp only [decide_eq_true_eq]
    omega
  simp only [IntOp.cmpi, h0, h1]
  rfl

variable {F : FTy → Type} [FloatOps F]
variable (fi : S4x256.Idx → BitVec 32) (fx : S4x1024x2048.Idx → F .f32)

/-! ## The start indices -/

/-- The index array, as the reference lays it out. -/
def idxs : IVec S4x1x256 32 := broadcastInDim S4x1x256 ![0, 2] bcast_S4x256_S4x1x256_0_2 fi

theorem idxs_apply (j : S4x1x256.Idx) : idxs fi j = fi (ix2 (j 0) (j 2)) := by
  unfold idxs
  refine broadcastInDim_apply ![0, 2] bcast_S4x256_S4x1x256_0_2 _ j (ix2 (j 0) (j 2)) fun a => ?_
  match a with
  | 0 => rfl
  | 1 => rfl

/-- The start indices: a negative index wrapped, one component for each batch and column. -/
def starts : IVec S4x256x1 32 :=
  shapeCast S4x256x1 (select (cmpi .slt (idxs fi) (broadcastInDim S4x1x256 ![] bcast_S_S4x1x256 (constantI S_ 32 0#32)))
    (addi (idxs fi) (broadcastInDim S4x1x256 ![] bcast_S_S4x1x256 (constantI S_ 32 2048#32))) (idxs fi)) shapeCasts_S4x1x256_S4x256x1

variable (hfi : ∀ y, (fi y).toNat < 2048)
include hfi

theorem starts_apply (j : S4x256x1.Idx) : starts fi j = fi (ix2 (j 0) (j 1)) := by
  unfold starts
  have h2 : (j 2).val < 1 := (j 2).isLt
  refine (shapeCast_apply _ shapeCasts_S4x1x256_S4x256x1 j (ix3 (j 0) (0 : Fin 1) (j 1)) ?_).trans ?_
  · rw [Shape.rowMajor_val_three, Shape.rowMajor_val_three]
    show ((j 0).val * 1 + 0) * 256 + (j 1).val = ((j 0).val * 256 + (j 1).val) * 1 + (j 2).val
    omega
  · have e := idxs_apply fi (ix3 (j 0) (0 : Fin 1) (j 1))
    show Scalar.select (IntOp.cmpi .slt (idxs fi _) 0#32) (IntOp.addi (idxs fi _) 2048#32) (idxs fi _) = _
    rw [e, not_slt_zero _ (hfi _)]
    rfl

/-- No index is out of range. -/
theorem inRange (j : S4x256.Idx) :
    Host.reduce IntOp.andi (andi (cmpi .sge (starts fi) (broadcastInDim S4x256x1 ![] bcast_S_S4x256x1 (constantI S_ 32 0#32)))
        (cmpi .sle (starts fi) (broadcastInDim S4x256x1 ![0, 1, 2] bcast_S1x1x1_S4x256x1_0_1_2 (broadcastInDim S1x1x1 ![2] bcast_S1_S1x1x1_2 (constantI S1 32 2047#32)))))
      (constantI S_ 1 1#1) reducesTo_S4x256x1_S4x256_d2 h_S_ j = 1#1 := by
  refine Host.reduce_andi_one _ _ _ _ j rfl fun i => ?_
  show IntOp.andi (IntOp.cmpi .sge (starts fi i) 0#32) (IntOp.cmpi .sle (starts fi i) 2047#32) = 1#1
  rw [starts_apply fi hfi]
  exact inside _ (hfi _)

/-! ## The gather -/

/-- The gather read at an index: that batch and row of the operand, at the start index of that column. -/
theorem gather_apply (y : S4x1024x256.Idx) :
    Host.gather gather_S4x1024x2048_S4x256x1_S4x1024x256_1_2_0_0_2_2_110241 fx (starts fi) y = Cert.Proof.KI.gatAll fi fx y := by
  unfold Host.gather Cert.Proof.KI.gatAll
  refine congrArg fx (funext fun a => Fin.ext ?_)
  show GatherDims.start _ y (starts fi) a + GatherDims.batchCoord _ y a + GatherDims.offCoord _ y a = _
  match a with
  | 0 =>
    rw [GatherDims.offCoord_eq_zero _ _ _ (by decide)]
    unfold GatherDims.start
    rw [dif_neg (by decide)]
    unfold GatherDims.batchCoord
    rw [dif_pos (by decide)]
    exact Nat.zero_add _
  | 1 =>
    rw [GatherDims.batchCoord_eq_zero _ _ _ (by decide)]
    unfold GatherDims.start
    rw [dif_neg (by decide)]
    exact Nat.zero_add _
  | 2 =>
    rw [GatherDims.batchCoord_eq_zero _ _ _ (by decide), GatherDims.offCoord_eq_zero _ _ _ (by decide)]
    unfold GatherDims.start
    rw [dif_pos (by decide)]
    rw [starts_apply fi hfi]
    have h := hfi (ix2 (y 0) (y 2))
    show min (fi (ix2 (y 0) (y 2))).toInt.toNat (2048 - 1) + 0 + 0 = (fi (ix2 (y 0) (y 2))).toNat % 2048
    rw [toInt_small _ h, Nat.mod_eq_of_lt h, Int.toNat_natCast]
    omega

/-- The reference's result. -/
theorem result_eq :
    select (broadcastInDim S4x1024x256 ![0, 2] bcast_S4x256_S4x1024x256_0_2 (Host.reduce IntOp.andi
        (andi (cmpi .sge (starts fi) (broadcastInDim S4x256x1 ![] bcast_S_S4x256x1 (constantI S_ 32 0#32)))
          (cmpi .sle (starts fi) (broadcastInDim S4x256x1 ![0, 1, 2] bcast_S1x1x1_S4x256x1_0_1_2 (broadcastInDim S1x1x1 ![2] bcast_S1_S1x1x1_2 (constantI S1 32 2047#32)))))
        (constantI S_ 1 1#1) reducesTo_S4x256x1_S4x256_d2 h_S_))
      (Host.gather gather_S4x1024x2048_S4x256x1_S4x1024x256_1_2_0_0_2_2_110241 fx (starts fi))
      (broadcastInDim S4x1024x256 ![] bcast_S_S4x1024x256 (constant (F := F) S_ .f32 0x7FC00000#32))
      = Cert.Proof.KI.gatAll fi fx := by
  funext y
  unfold select
  beta_reduce
  rw [show broadcastInDim S4x1024x256 ![0, 2] bcast_S4x256_S4x1024x256_0_2 (Host.reduce IntOp.andi
        (andi (cmpi .sge (starts fi) (broadcastInDim S4x256x1 ![] bcast_S_S4x256x1 (constantI S_ 32 0#32)))
          (cmpi .sle (starts fi) (broadcastInDim S4x256x1 ![0, 1, 2] bcast_S1x1x1_S4x256x1_0_1_2 (broadcastInDim S1x1x1 ![2] bcast_S1_S1x1x1_2 (constantI S1 32 2047#32)))))
        (constantI S_ 1 1#1) reducesTo_S4x256x1_S4x256_d2 h_S_) y = 1#1 from inRange fi hfi _]
  exact (if_pos rfl).trans (gather_apply fi fx hfi y)

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_columns
public import proofs.«01_k».proof.Proof.KI.Values
public import proofs.«01_k».proof.Proof.KF.Launch
public import proofs.«01_k».proof.Proof.Columns
public import proofs.«01_k».proof.Proof.Means
public import proofs.«01_k».proof.Proof.Reference
public import Idealize.ShloMosaic.Adequacy
public import Idealize.ShloMosaic.Init

@[expose] public section

noncomputable section

namespace Cert.Proof

open Idealize.ShloMosaic Idealize.SL.Sem

/-! ## The precondition -/

/-- An extended real whose absolute value is below the infinity of the precondition's constant is no infinity. -/
theorem fin_of_below (v : EReal) (h : Ideal.cmp .olt (max v (-v)) (Ideal.ofBits .f32 0x7F800000#32) = 1#1) : KI.Fin1 v := by
  have t : Ideal.ofBits .f32 0x7F800000#32 = (⊤ : EReal) := by
    simp [Ideal.ofBits, Ideal.ieee]
  rw [t] at h
  refine ⟨?_, ?_⟩
  · rintro rfl
    simp [Ideal.cmp] at h
  · rintro rfl
    simp [Ideal.cmp] at h

/-- The precondition says that no element of `x` is an infinity. -/
theorem finite_ok (x : FVec Ideal Cert.Pre_finite_columns.S4x1024x2048 .f32) (w : FVec Ideal Cert.Pre_finite_columns.S4x2048x2048 .f32)
    (h : Cert.Pre_finite_columns.fn (F := Ideal) x w = fun _ => 1#1) (y : Cert.Pre_finite_columns.S4x1024x2048.Idx) : KI.Fin1 (x y) := by
  have : Subsingleton Cert.Pre_finite_columns.S_.Idx := ⟨fun a b => funext fun i => i.elim0⟩
  have hx : Host.reduce IntOp.andi (cmpf (F := Ideal) .olt (Host.absf x)
      (broadcastInDim Cert.Pre_finite_columns.S4x1024x2048 ![] Cert.Pre_finite_columns.Gen.facts.bcast_S_S4x1024x2048
        (constant Cert.Pre_finite_columns.S_ .f32 0x7F800000#32)))
      (constantI Cert.Pre_finite_columns.S_ 1 1#1) Cert.Pre_finite_columns.Gen.facts.reducesTo_S4x1024x2048_S_d0_1_2
      Cert.Pre_finite_columns.Gen.facts.h_S_ (fun i => i.elim0) = 1#1 := congrFun h (fun i => i.elim0)
  have e : Ideal.cmp .olt (max (x y) (-(x y))) (Ideal.ofBits .f32 0x7F800000#32) = 1#1 := Host.reduce_andi_all _ _ _ _ _ hx y
  exact fin_of_below _ e

/-! ## The claims -/

/-- The kernel at its float words: it ends, its arguments unchanged, every semaphore at zero. -/
theorem frame_kernel : Cert.quiescent_Kernel := fun m ρ _ =>
  (θ_run Cert.Kernel.defs _ _).mono (fun _ h => ⟨fun c => ⟨(h.1 c).1, (h.1 c).2.1⟩, h.2⟩) (KF.run_main (F := Bits) m ρ)

/-- The idealized kernel over the reals. -/
theorem frame_kernel_ideal : Cert.quiescent_KernelIdeal := fun m ρ _ =>
  (θ_run Cert.KernelIdeal.defs _ _).mono (fun _ h => ⟨fun c => ⟨(h.1 c).1, (h.1 c).2.1⟩, h.2⟩) (KI.run_main (F := Ideal) m ρ)

/-- The same under the value claim's precondition. -/
theorem frame_kernel_ideal_finite : Cert.quiescent_KernelIdeal_pre_finite_columns := fun m ρ _ => frame_kernel_ideal m ρ trivial

/-- The reference ends, its arguments unchanged; it has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Reference.run (F := Ideal) m ρ)

/-- The same under the value claim's precondition. -/
theorem frame_reference_finite : Cert.quiescent_ReferenceIdeal_pre_finite_columns := fun m ρ _ => frame_reference m ρ trivial

/-- The rewrite's statement at the block's shape. -/
theorem rewrites : Cert.preserves_Kernel_KernelIdeal := IdealRules.bf16_pack.statement _

/-- The kernel's means are the reference's. -/
theorem means_eq (m : (l : Loc Cert.KernelIdeal.nD Cert.KernelIdeal.τ Cert.KernelIdeal.sig) → Buf (Elt Ideal) l) (c : Dev Cert.KernelIdeal.nD) :
    Reference.means (KI.mw m c) = KI.mv m c := funext fun y => (Reference.means_apply _ y).trans (KI.mv_apply m c y).symm

/-- The kernel's output is the reference's: of each batch of `x`, the columns of the 256 greatest means in order. -/
theorem values : Cert.algebraic_KernelIdeal_ReferenceIdeal_pre_finite_columns := fun m ρ m' ρ' hpre heq => by
  refine ⟨fun c => KI.gatAll (KI.mi m c) (KI.mx m c), ?_, ?_⟩
  · refine (θ_run Cert.KernelIdeal.defs _ _).mono (fun _ h c => ⟨(h.1 c).2.2.trans ?_, (h.1 c).1, (h.1 c).2.1⟩) (KI.run_main (F := Ideal) m ρ)
    exact KI.joined_eq m c fun y => finite_ok _ _ (hpre c) y
  · refine (θ_run Cert.ReferenceIdeal.defs _ _).mono (fun r h c => ⟨(h c).1.trans ?_, (h c).2⟩) (Reference.run (F := Ideal) m' ρ')
    rw [(heq c).1, (heq c).2, means_eq, Reference.columns_eq]
    exact Reference.result_eq (F := Ideal) (KI.mi m c) (KI.mx m c) (KI.idxOK m c)

theorem claim : Cert.Claim := ⟨Cert.Kernel.Gen.facts, Cert.KernelIdeal.Gen.facts, Cert.ReferenceIdeal.Gen.facts, Cert.Pre_finite_columns.Gen.facts,
  frame_kernel, frame_kernel_ideal, frame_kernel_ideal_finite, frame_reference, frame_reference_finite, rewrites, values⟩

end Cert.Proof

end
